-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Hid (m : (ℓ : Loc Cert.Hid.nD Cert.Hid.τ Cert.Hid.sig) → Buf (Elt Bits) ℓ) : Prop :=
  True

def Pre_HidIdeal (m : (ℓ : Loc Cert.HidIdeal.nD Cert.HidIdeal.τ Cert.HidIdeal.sig) → Buf (Elt Ideal) ℓ) : Prop :=
  True

def Pre_HidRefIdeal (m : (ℓ : Loc Cert.HidRefIdeal.nD Cert.HidRefIdeal.τ Cert.HidRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wmix (m : (ℓ : Loc Cert.Wmix.nD Cert.Wmix.τ Cert.Wmix.sig) → Buf (Elt Bits) ℓ) : Prop :=
  True

def Pre_WmixIdeal (m : (ℓ : Loc Cert.WmixIdeal.nD Cert.WmixIdeal.τ Cert.WmixIdeal.sig) → Buf (Elt Ideal) ℓ) : Prop :=
  True

def Pre_WmixRefIdeal (m : (ℓ : Loc Cert.WmixRefIdeal.nD Cert.WmixRefIdeal.τ Cert.WmixRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleRefIdeal (m : (ℓ : Loc Cert.AdamPleRefIdeal.nD Cert.AdamPleRefIdeal.τ Cert.AdamPleRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamGains (m : (ℓ : Loc Cert.AdamGains.nD Cert.AdamGains.τ Cert.AdamGains.sig) → Buf (Elt Bits) ℓ) : Prop :=
  True

def Pre_AdamGainsIdeal (m : (ℓ : Loc Cert.AdamGainsIdeal.nD Cert.AdamGainsIdeal.τ Cert.AdamGainsIdeal.sig) → Buf (Elt Ideal) ℓ) : Prop :=
  True

def Pre_AdamGainsRefIdeal (m : (ℓ : Loc Cert.AdamGainsRefIdeal.nD Cert.AdamGainsRefIdeal.τ Cert.AdamGainsRefIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixRefIdeal (m : (ℓ : Loc Cert.AdamMixRefIdeal.nD Cert.AdamMixRefIdeal.τ Cert.AdamMixRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Wgate (m : (ℓ : Loc Cert.Wgate.nD Cert.Wgate.τ Cert.Wgate.sig) → Buf (Elt Bits) ℓ) : Prop :=
  True

def Pre_WgateIdeal (m : (ℓ : Loc Cert.WgateIdeal.nD Cert.WgateIdeal.τ Cert.WgateIdeal.sig) → Buf (Elt Ideal) ℓ) : Prop :=
  True

def Pre_WgateRefIdeal (m : (ℓ : Loc Cert.WgateRefIdeal.nD Cert.WgateRefIdeal.τ Cert.WgateRefIdeal.sig) → Buf (Elt Ideal) ℓ) : Prop :=
  True

def Pre_Wple (m : (ℓ : Loc Cert.Wple.nD Cert.Wple.τ Cert.Wple.sig) → Buf (Elt Bits) ℓ) : Prop :=
  True

def Pre_WpleIdeal (m : (ℓ : Loc Cert.WpleIdeal.nD Cert.WpleIdeal.τ Cert.WpleIdeal.sig) → Buf (Elt Ideal) ℓ) : Prop :=
  True

def Pre_WpleRefIdeal (m : (ℓ : Loc Cert.WpleRefIdeal.nD Cert.WpleRefIdeal.τ Cert.WpleRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def quiescent_Hid [hHid : Cert.Hid.Facts] : Prop :=
  ∀ (m : (ℓ : Loc Cert.Hid.nD Cert.Hid.τ Cert.Hid.sig) → Buf (Elt Bits) ℓ) (g : Dev Cert.Hid.nD → PrngReg), Pre_Hid m →
    θ_run (Cert.Hid.defs (F := Bits)) (onTc (τ := Cert.Hid.τ) (Cert.Hid.main (F := Bits))) ⟨m, fun _ => 0, g⟩ (fun r => (∀ c : Dev Cert.Hid.nD,
      r.2.mem ((c.tc : Thread Cert.Hid.nD Cert.Hid.τ).loc Cert.Hid.main_arg0) = m ((c.tc : Thread Cert.Hid.nD Cert.Hid.τ).loc Cert.Hid.main_arg0)
      ∧ r.2.mem ((c.tc : Thread Cert.Hid.nD Cert.Hid.τ).loc Cert.Hid.main_arg1) = m ((c.tc : Thread Cert.Hid.nD Cert.Hid.τ).loc Cert.Hid.main_arg1)
      ∧ r.2.mem ((c.tc : Thread Cert.Hid.nD Cert.Hid.τ).loc Cert.Hid.main_arg2) = m ((c.tc : Thread Cert.Hid.nD Cert.Hid.τ).loc Cert.Hid.main_arg2)
      ∧ r.2.mem ((c.tc : Thread Cert.Hid.nD Cert.Hid.τ).loc Cert.Hid.main_arg3) = m ((c.tc : Thread Cert.Hid.nD Cert.Hid.τ).loc Cert.Hid.main_arg3))
      ∧ r.2.sem = fun _ => 0)

def quiescent_HidIdeal [hHidIdeal : Cert.HidIdeal.Facts] : Prop :=
  ∀ (m : (ℓ : Loc Cert.HidIdeal.nD Cert.HidIdeal.τ Cert.HidIdeal.sig) → Buf (Elt Ideal) ℓ) (g : Dev Cert.HidIdeal.nD → PrngReg), Pre_HidIdeal m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
      ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
      ∧ r.2.mem ((c.tc : Thread Cert.HidIdeal.nD Cert.HidIdeal.τ).loc Cert.HidIdeal.main_arg3) = m ((c.tc : Thread Cert.HidIdeal.nD Cert.HidIdeal.τ).loc Cert.HidIdeal.main_arg3))
      ∧ r.2.sem = fun _ => 0)

def quiescent_HidRefIdeal [hHidRefIdeal : Cert.HidRefIdeal.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1)
      ∧ r.2.mem ((c.tc : Thread Cert.HidRefIdeal.nD Cert.HidRefIdeal.τ).loc Cert.HidRefIdeal.main_arg2) = m ((c.tc : Thread Cert.HidRefIdeal.nD Cert.HidRefIdeal.τ).loc Cert.HidRefIdeal.main_arg2)
      ∧ r.2.mem ((c.tc : Thread Cert.HidRefIdeal.nD Cert.HidRefIdeal.τ).loc Cert.HidRefIdeal.main_arg3) = m ((c.tc : Thread Cert.HidRefIdeal.nD Cert.HidRefIdeal.τ).loc Cert.HidRefIdeal.main_arg3))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_Wmix [hWmix : Cert.Wmix.Facts] : Prop :=
  ∀ (m : (ℓ : Loc Cert.Wmix.nD Cert.Wmix.τ Cert.Wmix.sig) → Buf (Elt Bits) ℓ) (g : Dev Cert.Wmix.nD → PrngReg), Pre_Wmix m →
    θ_run (Cert.Wmix.defs (F := Bits)) (onTc (τ := Cert.Wmix.τ) (Cert.Wmix.main (F := Bits))) ⟨m, fun _ => 0, g⟩ (fun r => (∀ c : Dev Cert.Wmix.nD,
      r.2.mem ((c.tc : Thread Cert.Wmix.nD Cert.Wmix.τ).loc Cert.Wmix.main_arg0) = m ((c.tc : Thread Cert.Wmix.nD Cert.Wmix.τ).loc Cert.Wmix.main_arg0)
      ∧ r.2.mem ((c.tc : Thread Cert.Wmix.nD Cert.Wmix.τ).loc Cert.Wmix.main_arg1) = m ((c.tc : Thread Cert.Wmix.nD Cert.Wmix.τ).loc Cert.Wmix.main_arg1)
      ∧ r.2.mem ((c.tc : Thread Cert.Wmix.nD Cert.Wmix.τ).loc Cert.Wmix.main_arg2) = m ((c.tc : Thread Cert.Wmix.nD Cert.Wmix.τ).loc Cert.Wmix.main_arg2)
      ∧ r.2.mem ((c.tc : Thread Cert.Wmix.nD Cert.Wmix.τ).loc Cert.Wmix.main_arg3) = m ((c.tc : Thread Cert.Wmix.nD Cert.Wmix.τ).loc Cert.Wmix.main_arg3)
      ∧ r.2.mem ((c.tc : Thread Cert.Wmix.nD Cert.Wmix.τ).loc Cert.Wmix.main_arg4) = m ((c.tc : Thread Cert.Wmix.nD Cert.Wmix.τ).loc Cert.Wmix.main_arg4))
      ∧ r.2.sem = fun _ => 0)

def quiescent_WmixIdeal [hWmixIdeal : Cert.WmixIdeal.Facts] : Prop :=
  ∀ (m : (ℓ : Loc Cert.WmixIdeal.nD Cert.WmixIdeal.τ Cert.WmixIdeal.sig) → Buf (Elt Ideal) ℓ) (g : Dev Cert.WmixIdeal.nD → PrngReg), Pre_WmixIdeal m →
    θ_run (Cert.WmixIdeal.defs (F := Ideal)) (onTc (τ := Cert.WmixIdeal.τ) (Cert.WmixIdeal.main (F := Ideal))) ⟨m, fun _ => 0, g⟩ (fun r => (∀ c : Dev Cert.WmixIdeal.nD,
      r.2.mem ((c.tc : Thread Cert.WmixIdeal.nD Cert.WmixIdeal.τ).loc Cert.WmixIdeal.main_arg0) = m ((c.tc : Thread Cert.WmixIdeal.nD Cert.WmixIdeal.τ).loc Cert.WmixIdeal.main_arg0)
      ∧ r.2.mem ((c.tc : Thread Cert.WmixIdeal.nD Cert.WmixIdeal.τ).loc Cert.WmixIdeal.main_arg1) = m ((c.tc : Thread Cert.WmixIdeal.nD Cert.WmixIdeal.τ).loc Cert.WmixIdeal.main_arg1)
      ∧ r.2.mem ((c.tc : Thread Cert.WmixIdeal.nD Cert.WmixIdeal.τ).loc Cert.WmixIdeal.main_arg2) = m ((c.tc : Thread Cert.WmixIdeal.nD Cert.WmixIdeal.τ).loc Cert.WmixIdeal.main_arg2)
      ∧ r.2.mem ((c.tc : Thread Cert.WmixIdeal.nD Cert.WmixIdeal.τ).loc Cert.WmixIdeal.main_arg3) = m ((c.tc : Thread Cert.WmixIdeal.nD Cert.WmixIdeal.τ).loc Cert.WmixIdeal.main_arg3)
      ∧ r.2.mem ((c.tc : Thread Cert.WmixIdeal.nD Cert.WmixIdeal.τ).loc Cert.WmixIdeal.main_arg4) = m ((c.tc : Thread Cert.WmixIdeal.nD Cert.WmixIdeal.τ).loc Cert.WmixIdeal.main_arg4))
      ∧ r.2.sem = fun _ => 0)

def quiescent_WmixRefIdeal [hWmixRefIdeal : Cert.WmixRefIdeal.Facts] : Prop :=
  ∀ (m : (ℓ : Loc Cert.WmixRefIdeal.nD Cert.WmixRefIdeal.τ Cert.WmixRefIdeal.sig) → Buf (Elt Ideal) ℓ) (g : Dev Cert.WmixRefIdeal.nD → PrngReg), Pre_WmixRefIdeal m →
    θ_run (Cert.WmixRefIdeal.defs (F := Ideal)) (onTc (τ := Cert.WmixRefIdeal.τ) (Cert.WmixRefIdeal.main (F := Ideal))) ⟨m, fun _ => 0, g⟩ (fun r => (∀ c : Dev Cert.WmixRefIdeal.nD,
      r.2.mem ((c.tc : Thread Cert.WmixRefIdeal.nD Cert.WmixRefIdeal.τ).loc Cert.WmixRefIdeal.main_arg0) = m ((c.tc : Thread Cert.WmixRefIdeal.nD Cert.WmixRefIdeal.τ).loc Cert.WmixRefIdeal.main_arg0)
      ∧ r.2.mem ((c.tc : Thread Cert.WmixRefIdeal.nD Cert.WmixRefIdeal.τ).loc Cert.WmixRefIdeal.main_arg1) = m ((c.tc : Thread Cert.WmixRefIdeal.nD Cert.WmixRefIdeal.τ).loc Cert.WmixRefIdeal.main_arg1)
      ∧ r.2.mem ((c.tc : Thread Cert.WmixRefIdeal.nD Cert.WmixRefIdeal.τ).loc Cert.WmixRefIdeal.main_arg2) = m ((c.tc : Thread Cert.WmixRefIdeal.nD Cert.WmixRefIdeal.τ).loc Cert.WmixRefIdeal.main_arg2)
      ∧ r.2.mem ((c.tc : Thread Cert.WmixRefIdeal.nD Cert.WmixRefIdeal.τ).loc Cert.WmixRefIdeal.main_arg3) = m ((c.tc : Thread Cert.WmixRefIdeal.nD Cert.WmixRefIdeal.τ).loc Cert.WmixRefIdeal.main_arg3)
      ∧ r.2.mem ((c.tc : Thread Cert.WmixRefIdeal.nD Cert.WmixRefIdeal.τ).loc Cert.WmixRefIdeal.main_arg4) = m ((c.tc : Thread Cert.WmixRefIdeal.nD Cert.WmixRefIdeal.τ).loc Cert.WmixRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ r.2.sem = fun _ => 0)

def quiescent_AdamPleRefIdeal [hAdamPleRefIdeal : Cert.AdamPleRefIdeal.Facts] : Prop :=
  ∀ (m : (ℓ : Loc Cert.AdamPleRefIdeal.nD Cert.AdamPleRefIdeal.τ Cert.AdamPleRefIdeal.sig) → Buf (Elt Ideal) ℓ) (g : Dev Cert.AdamPleRefIdeal.nD → PrngReg), Pre_AdamPleRefIdeal m →
    θ_run (Cert.AdamPleRefIdeal.defs (F := Ideal)) (onTc (τ := Cert.AdamPleRefIdeal.τ) (Cert.AdamPleRefIdeal.main (F := Ideal))) ⟨m, fun _ => 0, g⟩ (fun r => (∀ c : Dev Cert.AdamPleRefIdeal.nD,
      r.2.mem ((c.tc : Thread Cert.AdamPleRefIdeal.nD Cert.AdamPleRefIdeal.τ).loc Cert.AdamPleRefIdeal.main_arg0) = m ((c.tc : Thread Cert.AdamPleRefIdeal.nD Cert.AdamPleRefIdeal.τ).loc Cert.AdamPleRefIdeal.main_arg0)
      ∧ r.2.mem ((c.tc : Thread Cert.AdamPleRefIdeal.nD Cert.AdamPleRefIdeal.τ).loc Cert.AdamPleRefIdeal.main_arg1) = m ((c.tc : Thread Cert.AdamPleRefIdeal.nD Cert.AdamPleRefIdeal.τ).loc Cert.AdamPleRefIdeal.main_arg1)
      ∧ r.2.mem ((c.tc : Thread Cert.AdamPleRefIdeal.nD Cert.AdamPleRefIdeal.τ).loc Cert.AdamPleRefIdeal.main_arg2) = m ((c.tc : Thread Cert.AdamPleRefIdeal.nD Cert.AdamPleRefIdeal.τ).loc Cert.AdamPleRefIdeal.main_arg2)
      ∧ r.2.mem ((c.tc : Thread Cert.AdamPleRefIdeal.nD Cert.AdamPleRefIdeal.τ).loc Cert.AdamPleRefIdeal.main_arg3) = m ((c.tc : Thread Cert.AdamPleRefIdeal.nD Cert.AdamPleRefIdeal.τ).loc Cert.AdamPleRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamGains [hAdamGains : Cert.AdamGains.Facts] : Prop :=
  ∀ (m : (ℓ : Loc Cert.AdamGains.nD Cert.AdamGains.τ Cert.AdamGains.sig) → Buf (Elt Bits) ℓ) (g : Dev Cert.AdamGains.nD → PrngReg), Pre_AdamGains m →
    θ_run (Cert.AdamGains.defs (F := Bits)) (onTc (τ := Cert.AdamGains.τ) (Cert.AdamGains.main (F := Bits))) ⟨m, fun _ => 0, g⟩ (fun r => (∀ c : Dev Cert.AdamGains.nD,
      r.2.mem ((c.tc : Thread Cert.AdamGains.nD Cert.AdamGains.τ).loc Cert.AdamGains.main_arg0) = m ((c.tc : Thread Cert.AdamGains.nD Cert.AdamGains.τ).loc Cert.AdamGains.main_arg0)
      ∧ r.2.mem ((c.tc : Thread Cert.AdamGains.nD Cert.AdamGains.τ).loc Cert.AdamGains.main_arg1) = m ((c.tc : Thread Cert.AdamGains.nD Cert.AdamGains.τ).loc Cert.AdamGains.main_arg1)
      ∧ r.2.mem ((c.tc : Thread Cert.AdamGains.nD Cert.AdamGains.τ).loc Cert.AdamGains.main_arg2) = m ((c.tc : Thread Cert.AdamGains.nD Cert.AdamGains.τ).loc Cert.AdamGains.main_arg2)
      ∧ r.2.mem ((c.tc : Thread Cert.AdamGains.nD Cert.AdamGains.τ).loc Cert.AdamGains.main_arg3) = m ((c.tc : Thread Cert.AdamGains.nD Cert.AdamGains.τ).loc Cert.AdamGains.main_arg3))
      ∧ r.2.sem = fun _ => 0)

def quiescent_AdamGainsIdeal [hAdamGainsIdeal : Cert.AdamGainsIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg), Pre_AdamGainsIdeal m →
    θ_run (Cert.AdamGainsIdeal.defs (F := Ideal)) (onTc (τ := Cert.AdamGainsIdeal.τ) (Cert.AdamGainsIdeal.main (F := Ideal))) ⟨m, fun _ => 0, g⟩ (fun r => (∀ c : Dev Cert.AdamGainsIdeal.nD,
      r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
      ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
      ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
      ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ r.2.sem = fun _ => 0)

def quiescent_AdamGainsRefIdeal [hAdamGainsRefIdeal : Cert.AdamGainsRefIdeal.Facts] : Prop :=
  ∀ (m : (ℓ : Loc Cert.AdamGainsRefIdeal.nD Cert.AdamGainsRefIdeal.τ Cert.AdamGainsRefIdeal.sig) → Buf (Elt Ideal) ℓ) (g : Dev Cert.AdamGainsRefIdeal.nD → PrngReg), Pre_AdamGainsRefIdeal m →
    θ_run (Cert.AdamGainsRefIdeal.defs (F := Ideal)) (onTc (τ := Cert.AdamGainsRefIdeal.τ) (Cert.AdamGainsRefIdeal.main (F := Ideal))) ⟨m, fun _ => 0, g⟩ (fun r => (∀ c : Dev Cert.AdamGainsRefIdeal.nD,
      r.2.mem ((c.tc : Thread Cert.AdamGainsRefIdeal.nD Cert.AdamGainsRefIdeal.τ).loc Cert.AdamGainsRefIdeal.main_arg0) = m ((c.tc : Thread Cert.AdamGainsRefIdeal.nD Cert.AdamGainsRefIdeal.τ).loc Cert.AdamGainsRefIdeal.main_arg0)
      ∧ r.2.mem ((c.tc : Thread Cert.AdamGainsRefIdeal.nD Cert.AdamGainsRefIdeal.τ).loc Cert.AdamGainsRefIdeal.main_arg1) = m ((c.tc : Thread Cert.AdamGainsRefIdeal.nD Cert.AdamGainsRefIdeal.τ).loc Cert.AdamGainsRefIdeal.main_arg1)
      ∧ r.2.mem ((c.tc : Thread Cert.AdamGainsRefIdeal.nD Cert.AdamGainsRefIdeal.τ).loc Cert.AdamGainsRefIdeal.main_arg2) = m ((c.tc : Thread Cert.AdamGainsRefIdeal.nD Cert.AdamGainsRefIdeal.τ).loc Cert.AdamGainsRefIdeal.main_arg2)
      ∧ r.2.mem ((c.tc : Thread Cert.AdamGainsRefIdeal.nD Cert.AdamGainsRefIdeal.τ).loc Cert.AdamGainsRefIdeal.main_arg3) = m ((c.tc : Thread Cert.AdamGainsRefIdeal.nD Cert.AdamGainsRefIdeal.τ).loc Cert.AdamGainsRefIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3)
      ∧ r.2.mem ((c.tc : Thread Cert.AdamMix.nD Cert.AdamMix.τ).loc Cert.AdamMix.main_arg4) = m ((c.tc : Thread Cert.AdamMix.nD Cert.AdamMix.τ).loc Cert.AdamMix.main_arg4))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3)
      ∧ r.2.mem ((c.tc : Thread Cert.AdamMixIdeal.nD Cert.AdamMixIdeal.τ).loc Cert.AdamMixIdeal.main_arg4) = m ((c.tc : Thread Cert.AdamMixIdeal.nD Cert.AdamMixIdeal.τ).loc Cert.AdamMixIdeal.main_arg4))
      ∧ r.2.sem = fun _ => 0)

def quiescent_AdamMixRefIdeal [hAdamMixRefIdeal : Cert.AdamMixRefIdeal.Facts] : Prop :=
  ∀ (m : (ℓ : Loc Cert.AdamMixRefIdeal.nD Cert.AdamMixRefIdeal.τ Cert.AdamMixRefIdeal.sig) → Buf (Elt Ideal) ℓ) (g : Dev Cert.AdamMixRefIdeal.nD → PrngReg), Pre_AdamMixRefIdeal m →
    θ_run (Cert.AdamMixRefIdeal.defs (F := Ideal)) (onTc (τ := Cert.AdamMixRefIdeal.τ) (Cert.AdamMixRefIdeal.main (F := Ideal))) ⟨m, fun _ => 0, g⟩ (fun r => (∀ c : Dev Cert.AdamMixRefIdeal.nD,
      r.2.mem ((c.tc : Thread Cert.AdamMixRefIdeal.nD Cert.AdamMixRefIdeal.τ).loc Cert.AdamMixRefIdeal.main_arg0) = m ((c.tc : Thread Cert.AdamMixRefIdeal.nD Cert.AdamMixRefIdeal.τ).loc Cert.AdamMixRefIdeal.main_arg0)
      ∧ r.2.mem ((c.tc : Thread Cert.AdamMixRefIdeal.nD Cert.AdamMixRefIdeal.τ).loc Cert.AdamMixRefIdeal.main_arg1) = m ((c.tc : Thread Cert.AdamMixRefIdeal.nD Cert.AdamMixRefIdeal.τ).loc Cert.AdamMixRefIdeal.main_arg1)
      ∧ r.2.mem ((c.tc : Thread Cert.AdamMixRefIdeal.nD Cert.AdamMixRefIdeal.τ).loc Cert.AdamMixRefIdeal.main_arg2) = m ((c.tc : Thread Cert.AdamMixRefIdeal.nD Cert.AdamMixRefIdeal.τ).loc Cert.AdamMixRefIdeal.main_arg2)
      ∧ r.2.mem ((c.tc : Thread Cert.AdamMixRefIdeal.nD Cert.AdamMixRefIdeal.τ).loc Cert.AdamMixRefIdeal.main_arg3) = m ((c.tc : Thread Cert.AdamMixRefIdeal.nD Cert.AdamMixRefIdeal.τ).loc Cert.AdamMixRefIdeal.main_arg3)
      ∧ r.2.mem ((c.tc : Thread Cert.AdamMixRefIdeal.nD Cert.AdamMixRefIdeal.τ).loc Cert.AdamMixRefIdeal.main_arg4) = m ((c.tc : Thread Cert.AdamMixRefIdeal.nD Cert.AdamMixRefIdeal.τ).loc Cert.AdamMixRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7))
      ∧ r.2.sem = fun _ => 0)

def quiescent_Wgate [hWgate : Cert.Wgate.Facts] : Prop :=
  ∀ (m : (ℓ : Loc Cert.Wgate.nD Cert.Wgate.τ Cert.Wgate.sig) → Buf (Elt Bits) ℓ) (g : Dev Cert.Wgate.nD → PrngReg), Pre_Wgate m →
    θ_run (Cert.Wgate.defs (F := Bits)) (onTc (τ := Cert.Wgate.τ) (Cert.Wgate.main (F := Bits))) ⟨m, fun _ => 0, g⟩ (fun r => (∀ c : Dev Cert.Wgate.nD,
      r.2.mem ((c.tc : Thread Cert.Wgate.nD Cert.Wgate.τ).loc Cert.Wgate.main_arg0) = m ((c.tc : Thread Cert.Wgate.nD Cert.Wgate.τ).loc Cert.Wgate.main_arg0)
      ∧ r.2.mem ((c.tc : Thread Cert.Wgate.nD Cert.Wgate.τ).loc Cert.Wgate.main_arg1) = m ((c.tc : Thread Cert.Wgate.nD Cert.Wgate.τ).loc Cert.Wgate.main_arg1))
      ∧ r.2.sem = fun _ => 0)

def quiescent_WgateIdeal [hWgateIdeal : Cert.WgateIdeal.Facts] : Prop :=
  ∀ (m : (ℓ : Loc Cert.WgateIdeal.nD Cert.WgateIdeal.τ Cert.WgateIdeal.sig) → Buf (Elt Ideal) ℓ) (g : Dev Cert.WgateIdeal.nD → PrngReg), Pre_WgateIdeal m →
    θ_run (Cert.WgateIdeal.defs (F := Ideal)) (onTc (τ := Cert.WgateIdeal.τ) (Cert.WgateIdeal.main (F := Ideal))) ⟨m, fun _ => 0, g⟩ (fun r => (∀ c : Dev Cert.WgateIdeal.nD,
      r.2.mem ((c.tc : Thread Cert.WgateIdeal.nD Cert.WgateIdeal.τ).loc Cert.WgateIdeal.main_arg0) = m ((c.tc : Thread Cert.WgateIdeal.nD Cert.WgateIdeal.τ).loc Cert.WgateIdeal.main_arg0)
      ∧ r.2.mem ((c.tc : Thread Cert.WgateIdeal.nD Cert.WgateIdeal.τ).loc Cert.WgateIdeal.main_arg1) = m ((c.tc : Thread Cert.WgateIdeal.nD Cert.WgateIdeal.τ).loc Cert.WgateIdeal.main_arg1))
      ∧ r.2.sem = fun _ => 0)

def quiescent_WgateRefIdeal [hWgateRefIdeal : Cert.WgateRefIdeal.Facts] : Prop :=
  ∀ (m : (ℓ : Loc Cert.WgateRefIdeal.nD Cert.WgateRefIdeal.τ Cert.WgateRefIdeal.sig) → Buf (Elt Ideal) ℓ) (g : Dev Cert.WgateRefIdeal.nD → PrngReg), Pre_WgateRefIdeal m →
    θ_run (Cert.WgateRefIdeal.defs (F := Ideal)) (onTc (τ := Cert.WgateRefIdeal.τ) (Cert.WgateRefIdeal.main (F := Ideal))) ⟨m, fun _ => 0, g⟩ (fun r => (∀ c : Dev Cert.WgateRefIdeal.nD,
      r.2.mem ((c.tc : Thread Cert.WgateRefIdeal.nD Cert.WgateRefIdeal.τ).loc Cert.WgateRefIdeal.main_arg0) = m ((c.tc : Thread Cert.WgateRefIdeal.nD Cert.WgateRefIdeal.τ).loc Cert.WgateRefIdeal.main_arg0)
      ∧ r.2.mem ((c.tc : Thread Cert.WgateRefIdeal.nD Cert.WgateRefIdeal.τ).loc Cert.WgateRefIdeal.main_arg1) = m ((c.tc : Thread Cert.WgateRefIdeal.nD Cert.WgateRefIdeal.τ).loc Cert.WgateRefIdeal.main_arg1))
      ∧ r.2.sem = fun _ => 0)

def quiescent_Wple [hWple : Cert.Wple.Facts] : Prop :=
  ∀ (m : (ℓ : Loc Cert.Wple.nD Cert.Wple.τ Cert.Wple.sig) → Buf (Elt Bits) ℓ) (g : Dev Cert.Wple.nD → PrngReg), Pre_Wple m →
    θ_run (Cert.Wple.defs (F := Bits)) (onTc (τ := Cert.Wple.τ) (Cert.Wple.main (F := Bits))) ⟨m, fun _ => 0, g⟩ (fun r => (∀ c : Dev Cert.Wple.nD,
      r.2.mem ((c.tc : Thread Cert.Wple.nD Cert.Wple.τ).loc Cert.Wple.main_arg0) = m ((c.tc : Thread Cert.Wple.nD Cert.Wple.τ).loc Cert.Wple.main_arg0)
      ∧ r.2.mem ((c.tc : Thread Cert.Wple.nD Cert.Wple.τ).loc Cert.Wple.main_arg1) = m ((c.tc : Thread Cert.Wple.nD Cert.Wple.τ).loc Cert.Wple.main_arg1))
      ∧ r.2.sem = fun _ => 0)

def quiescent_WpleIdeal [hWpleIdeal : Cert.WpleIdeal.Facts] : Prop :=
  ∀ (m : (ℓ : Loc Cert.WpleIdeal.nD Cert.WpleIdeal.τ Cert.WpleIdeal.sig) → Buf (Elt Ideal) ℓ) (g : Dev Cert.WpleIdeal.nD → PrngReg), Pre_WpleIdeal m →
    θ_run (Cert.WpleIdeal.defs (F := Ideal)) (onTc (τ := Cert.WpleIdeal.τ) (Cert.WpleIdeal.main (F := Ideal))) ⟨m, fun _ => 0, g⟩ (fun r => (∀ c : Dev Cert.WpleIdeal.nD,
      r.2.mem ((c.tc : Thread Cert.WpleIdeal.nD Cert.WpleIdeal.τ).loc Cert.WpleIdeal.main_arg0) = m ((c.tc : Thread Cert.WpleIdeal.nD Cert.WpleIdeal.τ).loc Cert.WpleIdeal.main_arg0)
      ∧ r.2.mem ((c.tc : Thread Cert.WpleIdeal.nD Cert.WpleIdeal.τ).loc Cert.WpleIdeal.main_arg1) = m ((c.tc : Thread Cert.WpleIdeal.nD Cert.WpleIdeal.τ).loc Cert.WpleIdeal.main_arg1))
      ∧ r.2.sem = fun _ => 0)

def quiescent_WpleRefIdeal [hWpleRefIdeal : Cert.WpleRefIdeal.Facts] : Prop :=
  ∀ (m : (ℓ : Loc Cert.WpleRefIdeal.nD Cert.WpleRefIdeal.τ Cert.WpleRefIdeal.sig) → Buf (Elt Ideal) ℓ) (g : Dev Cert.WpleRefIdeal.nD → PrngReg), Pre_WpleRefIdeal m →
    θ_run (Cert.WpleRefIdeal.defs (F := Ideal)) (onTc (τ := Cert.WpleRefIdeal.τ) (Cert.WpleRefIdeal.main (F := Ideal))) ⟨m, fun _ => 0, g⟩ (fun r => (∀ c : Dev Cert.WpleRefIdeal.nD,
      r.2.mem ((c.tc : Thread Cert.WpleRefIdeal.nD Cert.WpleRefIdeal.τ).loc Cert.WpleRefIdeal.main_arg0) = m ((c.tc : Thread Cert.WpleRefIdeal.nD Cert.WpleRefIdeal.τ).loc Cert.WpleRefIdeal.main_arg0)
      ∧ r.2.mem ((c.tc : Thread Cert.WpleRefIdeal.nD Cert.WpleRefIdeal.τ).loc Cert.WpleRefIdeal.main_arg1) = m ((c.tc : Thread Cert.WpleRefIdeal.nD Cert.WpleRefIdeal.τ).loc Cert.WpleRefIdeal.main_arg1))
      ∧ r.2.sem = fun _ => 0)

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v39_0)) (v1 : (c : Dev Cert.MixerIdeal.nD) → Buf (Elt Ideal) ((c.tc : Thread Cert.MixerIdeal.nD Cert.MixerIdeal.τ).loc Cert.MixerIdeal.main_v39_1)) (v2 : (c : Dev Cert.MixerIdeal.nD) → Buf (Elt Ideal) ((c.tc : Thread Cert.MixerIdeal.nD Cert.MixerIdeal.τ).loc Cert.MixerIdeal.main_v39_2)) (v3 : (c : Dev Cert.MixerIdeal.nD) → Buf (Elt Ideal) ((c.tc : Thread Cert.MixerIdeal.nD Cert.MixerIdeal.τ).loc Cert.MixerIdeal.main_v39_3)) (v4 : (c : Dev Cert.MixerIdeal.nD) → Buf (Elt Ideal) ((c.tc : Thread Cert.MixerIdeal.nD Cert.MixerIdeal.τ).loc Cert.MixerIdeal.main_v39_4)) (v5 : (c : Dev Cert.MixerIdeal.nD) → Buf (Elt Ideal) ((c.tc : Thread Cert.MixerIdeal.nD Cert.MixerIdeal.τ).loc Cert.MixerIdeal.main_v39_5)) (v6 : (c : Dev Cert.MixerIdeal.nD) → Buf (Elt Ideal) ((c.tc : Thread Cert.MixerIdeal.nD Cert.MixerIdeal.τ).loc Cert.MixerIdeal.main_v39_6)) (v7 : (c : Dev Cert.MixerIdeal.nD) → Buf (Elt Ideal) ((c.tc : Thread Cert.MixerIdeal.nD Cert.MixerIdeal.τ).loc Cert.MixerIdeal.main_v39_7)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v39_0) = v0 c
          ∧ r.2.mem ((c.tc : Thread Cert.MixerIdeal.nD Cert.MixerIdeal.τ).loc Cert.MixerIdeal.main_v39_1) = v1 c
          ∧ r.2.mem ((c.tc : Thread Cert.MixerIdeal.nD Cert.MixerIdeal.τ).loc Cert.MixerIdeal.main_v39_2) = v2 c
          ∧ r.2.mem ((c.tc : Thread Cert.MixerIdeal.nD Cert.MixerIdeal.τ).loc Cert.MixerIdeal.main_v39_3) = v3 c
          ∧ r.2.mem ((c.tc : Thread Cert.MixerIdeal.nD Cert.MixerIdeal.τ).loc Cert.MixerIdeal.main_v39_4) = v4 c
          ∧ r.2.mem ((c.tc : Thread Cert.MixerIdeal.nD Cert.MixerIdeal.τ).loc Cert.MixerIdeal.main_v39_5) = v5 c
          ∧ r.2.mem ((c.tc : Thread Cert.MixerIdeal.nD Cert.MixerIdeal.τ).loc Cert.MixerIdeal.main_v39_6) = v6 c
          ∧ r.2.mem ((c.tc : Thread Cert.MixerIdeal.nD Cert.MixerIdeal.τ).loc Cert.MixerIdeal.main_v39_7) = v7 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v86) = v0 c
          ∧ r.2.mem ((c.tc : Thread Cert.MixerRefIdeal.nD Cert.MixerRefIdeal.τ).loc Cert.MixerRefIdeal.main_v87) = v1 c
          ∧ r.2.mem ((c.tc : Thread Cert.MixerRefIdeal.nD Cert.MixerRefIdeal.τ).loc Cert.MixerRefIdeal.main_v88) = v2 c
          ∧ r.2.mem ((c.tc : Thread Cert.MixerRefIdeal.nD Cert.MixerRefIdeal.τ).loc Cert.MixerRefIdeal.main_v89) = v3 c
          ∧ r.2.mem ((c.tc : Thread Cert.MixerRefIdeal.nD Cert.MixerRefIdeal.τ).loc Cert.MixerRefIdeal.main_v90) = v4 c
          ∧ r.2.mem ((c.tc : Thread Cert.MixerRefIdeal.nD Cert.MixerRefIdeal.τ).loc Cert.MixerRefIdeal.main_v91) = v5 c
          ∧ r.2.mem ((c.tc : Thread Cert.MixerRefIdeal.nD Cert.MixerRefIdeal.τ).loc Cert.MixerRefIdeal.main_v92) = v6 c
          ∧ r.2.mem ((c.tc : Thread Cert.MixerRefIdeal.nD Cert.MixerRefIdeal.τ).loc Cert.MixerRefIdeal.main_v93) = v7 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v64) = v0 c
          ∧ r.2.mem ((c.tc : Thread Cert.ConvRefIdeal.nD Cert.ConvRefIdeal.τ).loc Cert.ConvRefIdeal.main_v65) = v1 c
          ∧ r.2.mem ((c.tc : Thread Cert.ConvRefIdeal.nD Cert.ConvRefIdeal.τ).loc Cert.ConvRefIdeal.main_v66) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v46) = v0 c
          ∧ r.2.mem ((c.tc : Thread Cert.InRefIdeal.nD Cert.InRefIdeal.τ).loc Cert.InRefIdeal.main_v29) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v48) = v0 c
          ∧ r.2.mem ((c.tc : Thread Cert.ProjRefIdeal.nD Cert.ProjRefIdeal.τ).loc Cert.ProjRefIdeal.main_v31) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11))

def preserves_Hid_HidIdeal : Prop :=
  True

def algebraic_HidIdeal_HidRefIdeal [hHidIdeal : Cert.HidIdeal.Facts] [hHidRefIdeal : Cert.HidRefIdeal.Facts] : Prop :=
  ∀ (m : (ℓ : Loc Cert.HidIdeal.nD Cert.HidIdeal.τ Cert.HidIdeal.sig) → Buf (Elt Ideal) ℓ) (g : Dev Cert.HidIdeal.nD → PrngReg)
    (m' : (ℓ : Loc Cert.HidRefIdeal.nD Cert.HidRefIdeal.τ Cert.HidRefIdeal.sig) → Buf (Elt Ideal) ℓ) (g' : Dev Cert.HidRefIdeal.nD → PrngReg), Pre_HidIdeal m →
    (∀ c : Dev Cert.HidIdeal.nD,
      m' ((c.tc : Thread Cert.HidRefIdeal.nD Cert.HidRefIdeal.τ).loc Cert.HidRefIdeal.main_arg0) = m ((c.tc : Thread Cert.HidIdeal.nD Cert.HidIdeal.τ).loc Cert.HidIdeal.main_arg0)
      ∧ m' ((c.tc : Thread Cert.HidRefIdeal.nD Cert.HidRefIdeal.τ).loc Cert.HidRefIdeal.main_arg1) = m ((c.tc : Thread Cert.HidIdeal.nD Cert.HidIdeal.τ).loc Cert.HidIdeal.main_arg1)
      ∧ m' ((c.tc : Thread Cert.HidRefIdeal.nD Cert.HidRefIdeal.τ).loc Cert.HidRefIdeal.main_arg2) = m ((c.tc : Thread Cert.HidIdeal.nD Cert.HidIdeal.τ).loc Cert.HidIdeal.main_arg2)
      ∧ m' ((c.tc : Thread Cert.HidRefIdeal.nD Cert.HidRefIdeal.τ).loc Cert.HidRefIdeal.main_arg3) = m ((c.tc : Thread Cert.HidIdeal.nD Cert.HidIdeal.τ).loc Cert.HidIdeal.main_arg3)) →
    ∃ (v0 : (c : Dev Cert.HidIdeal.nD) → Buf (Elt Ideal) ((c.tc : Thread Cert.HidIdeal.nD Cert.HidIdeal.τ).loc Cert.HidIdeal.main_v11_0)) (v1 : (c : Dev Cert.HidIdeal.nD) → Buf (Elt Ideal) ((c.tc : Thread Cert.HidIdeal.nD Cert.HidIdeal.τ).loc Cert.HidIdeal.main_v11_1)) (v2 : (c : Dev Cert.HidIdeal.nD) → Buf (Elt Ideal) ((c.tc : Thread Cert.HidIdeal.nD Cert.HidIdeal.τ).loc Cert.HidIdeal.main_v11_2)),
      θ_run (Cert.HidIdeal.defs (F := Ideal)) (onTc (τ := Cert.HidIdeal.τ) (Cert.HidIdeal.main (F := Ideal))) ⟨m, fun _ => 0, g⟩ (fun r => ∀ c : Dev Cert.HidIdeal.nD,
          r.2.mem ((c.tc : Thread Cert.HidIdeal.nD Cert.HidIdeal.τ).loc Cert.HidIdeal.main_v11_0) = v0 c
          ∧ r.2.mem ((c.tc : Thread Cert.HidIdeal.nD Cert.HidIdeal.τ).loc Cert.HidIdeal.main_v11_1) = v1 c
          ∧ r.2.mem ((c.tc : Thread Cert.HidIdeal.nD Cert.HidIdeal.τ).loc Cert.HidIdeal.main_v11_2) = v2 c
          ∧ r.2.mem ((c.tc : Thread Cert.HidIdeal.nD Cert.HidIdeal.τ).loc Cert.HidIdeal.main_arg0) = m ((c.tc : Thread Cert.HidIdeal.nD Cert.HidIdeal.τ).loc Cert.HidIdeal.main_arg0)
          ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
          ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
          ∧ r.2.mem ((c.tc : Thread Cert.HidIdeal.nD Cert.HidIdeal.τ).loc Cert.HidIdeal.main_arg3) = m ((c.tc : Thread Cert.HidIdeal.nD Cert.HidIdeal.τ).loc Cert.HidIdeal.main_arg3))
      ∧ θ_run (Cert.HidRefIdeal.defs (F := Ideal)) (onTc (τ := Cert.HidRefIdeal.τ) (Cert.HidRefIdeal.main (F := Ideal))) ⟨m', fun _ => 0, g'⟩ (fun r => ∀ c : Dev Cert.HidRefIdeal.nD,
          r.2.mem ((c.tc : Thread Cert.HidRefIdeal.nD Cert.HidRefIdeal.τ).loc Cert.HidRefIdeal.main_v14) = v0 c
          ∧ r.2.mem ((c.tc : Thread Cert.HidRefIdeal.nD Cert.HidRefIdeal.τ).loc Cert.HidRefIdeal.main_v17) = v1 c
          ∧ r.2.mem ((c.tc : Thread Cert.HidRefIdeal.nD Cert.HidRefIdeal.τ).loc Cert.HidRefIdeal.main_v20) = v2 c
          ∧ r.2.mem ((c.tc : Thread Cert.HidRefIdeal.nD Cert.HidRefIdeal.τ).loc Cert.HidRefIdeal.main_arg0) = m' ((c.tc : Thread Cert.HidRefIdeal.nD Cert.HidRefIdeal.τ).loc Cert.HidRefIdeal.main_arg0)
          ∧ r.2.mem ((c.tc : Thread Cert.HidRefIdeal.nD Cert.HidRefIdeal.τ).loc Cert.HidRefIdeal.main_arg1) = m' ((c.tc : Thread Cert.HidRefIdeal.nD Cert.HidRefIdeal.τ).loc Cert.HidRefIdeal.main_arg1)
          ∧ r.2.mem ((c.tc : Thread Cert.HidRefIdeal.nD Cert.HidRefIdeal.τ).loc Cert.HidRefIdeal.main_arg2) = m' ((c.tc : Thread Cert.HidRefIdeal.nD Cert.HidRefIdeal.τ).loc Cert.HidRefIdeal.main_arg2)
          ∧ r.2.mem ((c.tc : Thread Cert.HidRefIdeal.nD Cert.HidRefIdeal.τ).loc Cert.HidRefIdeal.main_arg3) = m' ((c.tc : Thread Cert.HidRefIdeal.nD Cert.HidRefIdeal.τ).loc Cert.HidRefIdeal.main_arg3))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v10) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v14) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_Wmix_WmixIdeal : Prop :=
  True

def algebraic_WmixIdeal_WmixRefIdeal [hWmixIdeal : Cert.WmixIdeal.Facts] [hWmixRefIdeal : Cert.WmixRefIdeal.Facts] : Prop :=
  ∀ (m : (ℓ : Loc Cert.WmixIdeal.nD Cert.WmixIdeal.τ Cert.WmixIdeal.sig) → Buf (Elt Ideal) ℓ) (g : Dev Cert.WmixIdeal.nD → PrngReg)
    (m' : (ℓ : Loc Cert.WmixRefIdeal.nD Cert.WmixRefIdeal.τ Cert.WmixRefIdeal.sig) → Buf (Elt Ideal) ℓ) (g' : Dev Cert.WmixRefIdeal.nD → PrngReg), Pre_WmixIdeal m →
    (∀ c : Dev Cert.WmixIdeal.nD,
      m' ((c.tc : Thread Cert.WmixRefIdeal.nD Cert.WmixRefIdeal.τ).loc Cert.WmixRefIdeal.main_arg0) = m ((c.tc : Thread Cert.WmixIdeal.nD Cert.WmixIdeal.τ).loc Cert.WmixIdeal.main_arg0)
      ∧ m' ((c.tc : Thread Cert.WmixRefIdeal.nD Cert.WmixRefIdeal.τ).loc Cert.WmixRefIdeal.main_arg1) = m ((c.tc : Thread Cert.WmixIdeal.nD Cert.WmixIdeal.τ).loc Cert.WmixIdeal.main_arg1)
      ∧ m' ((c.tc : Thread Cert.WmixRefIdeal.nD Cert.WmixRefIdeal.τ).loc Cert.WmixRefIdeal.main_arg2) = m ((c.tc : Thread Cert.WmixIdeal.nD Cert.WmixIdeal.τ).loc Cert.WmixIdeal.main_arg2)
      ∧ m' ((c.tc : Thread Cert.WmixRefIdeal.nD Cert.WmixRefIdeal.τ).loc Cert.WmixRefIdeal.main_arg3) = m ((c.tc : Thread Cert.WmixIdeal.nD Cert.WmixIdeal.τ).loc Cert.WmixIdeal.main_arg3)
      ∧ m' ((c.tc : Thread Cert.WmixRefIdeal.nD Cert.WmixRefIdeal.τ).loc Cert.WmixRefIdeal.main_arg4) = m ((c.tc : Thread Cert.WmixIdeal.nD Cert.WmixIdeal.τ).loc Cert.WmixIdeal.main_arg4)) →
    ∃ (v0 : (c : Dev Cert.WmixIdeal.nD) → Buf (Elt Ideal) ((c.tc : Thread Cert.WmixIdeal.nD Cert.WmixIdeal.τ).loc Cert.WmixIdeal.main_v4_0)) (v1 : (c : Dev Cert.WmixIdeal.nD) → Buf (Elt Ideal) ((c.tc : Thread Cert.WmixIdeal.nD Cert.WmixIdeal.τ).loc Cert.WmixIdeal.main_v4_1)),
      θ_run (Cert.WmixIdeal.defs (F := Ideal)) (onTc (τ := Cert.WmixIdeal.τ) (Cert.WmixIdeal.main (F := Ideal))) ⟨m, fun _ => 0, g⟩ (fun r => ∀ c : Dev Cert.WmixIdeal.nD,
          r.2.mem ((c.tc : Thread Cert.WmixIdeal.nD Cert.WmixIdeal.τ).loc Cert.WmixIdeal.main_v4_0) = v0 c
          ∧ r.2.mem ((c.tc : Thread Cert.WmixIdeal.nD Cert.WmixIdeal.τ).loc Cert.WmixIdeal.main_v4_1) = v1 c
          ∧ r.2.mem ((c.tc : Thread Cert.WmixIdeal.nD Cert.WmixIdeal.τ).loc Cert.WmixIdeal.main_arg0) = m ((c.tc : Thread Cert.WmixIdeal.nD Cert.WmixIdeal.τ).loc Cert.WmixIdeal.main_arg0)
          ∧ r.2.mem ((c.tc : Thread Cert.WmixIdeal.nD Cert.WmixIdeal.τ).loc Cert.WmixIdeal.main_arg1) = m ((c.tc : Thread Cert.WmixIdeal.nD Cert.WmixIdeal.τ).loc Cert.WmixIdeal.main_arg1)
          ∧ r.2.mem ((c.tc : Thread Cert.WmixIdeal.nD Cert.WmixIdeal.τ).loc Cert.WmixIdeal.main_arg2) = m ((c.tc : Thread Cert.WmixIdeal.nD Cert.WmixIdeal.τ).loc Cert.WmixIdeal.main_arg2)
          ∧ r.2.mem ((c.tc : Thread Cert.WmixIdeal.nD Cert.WmixIdeal.τ).loc Cert.WmixIdeal.main_arg3) = m ((c.tc : Thread Cert.WmixIdeal.nD Cert.WmixIdeal.τ).loc Cert.WmixIdeal.main_arg3)
          ∧ r.2.mem ((c.tc : Thread Cert.WmixIdeal.nD Cert.WmixIdeal.τ).loc Cert.WmixIdeal.main_arg4) = m ((c.tc : Thread Cert.WmixIdeal.nD Cert.WmixIdeal.τ).loc Cert.WmixIdeal.main_arg4))
      ∧ θ_run (Cert.WmixRefIdeal.defs (F := Ideal)) (onTc (τ := Cert.WmixRefIdeal.τ) (Cert.WmixRefIdeal.main (F := Ideal))) ⟨m', fun _ => 0, g'⟩ (fun r => ∀ c : Dev Cert.WmixRefIdeal.nD,
          r.2.mem ((c.tc : Thread Cert.WmixRefIdeal.nD Cert.WmixRefIdeal.τ).loc Cert.WmixRefIdeal.main_v13) = v0 c
          ∧ r.2.mem ((c.tc : Thread Cert.WmixRefIdeal.nD Cert.WmixRefIdeal.τ).loc Cert.WmixRefIdeal.main_v14) = v1 c
          ∧ r.2.mem ((c.tc : Thread Cert.WmixRefIdeal.nD Cert.WmixRefIdeal.τ).loc Cert.WmixRefIdeal.main_arg0) = m' ((c.tc : Thread Cert.WmixRefIdeal.nD Cert.WmixRefIdeal.τ).loc Cert.WmixRefIdeal.main_arg0)
          ∧ r.2.mem ((c.tc : Thread Cert.WmixRefIdeal.nD Cert.WmixRefIdeal.τ).loc Cert.WmixRefIdeal.main_arg1) = m' ((c.tc : Thread Cert.WmixRefIdeal.nD Cert.WmixRefIdeal.τ).loc Cert.WmixRefIdeal.main_arg1)
          ∧ r.2.mem ((c.tc : Thread Cert.WmixRefIdeal.nD Cert.WmixRefIdeal.τ).loc Cert.WmixRefIdeal.main_arg2) = m' ((c.tc : Thread Cert.WmixRefIdeal.nD Cert.WmixRefIdeal.τ).loc Cert.WmixRefIdeal.main_arg2)
          ∧ r.2.mem ((c.tc : Thread Cert.WmixRefIdeal.nD Cert.WmixRefIdeal.τ).loc Cert.WmixRefIdeal.main_arg3) = m' ((c.tc : Thread Cert.WmixRefIdeal.nD Cert.WmixRefIdeal.τ).loc Cert.WmixRefIdeal.main_arg3)
          ∧ r.2.mem ((c.tc : Thread Cert.WmixRefIdeal.nD Cert.WmixRefIdeal.τ).loc Cert.WmixRefIdeal.main_arg4) = m' ((c.tc : Thread Cert.WmixRefIdeal.nD Cert.WmixRefIdeal.τ).loc Cert.WmixRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v14) = v0 c
          ∧ r.2.mem ((c.tc : Thread Cert.UpRefIdeal.nD Cert.UpRefIdeal.τ).loc Cert.UpRefIdeal.main_v17) = v1 c
          ∧ r.2.mem ((c.tc : Thread Cert.UpRefIdeal.nD Cert.UpRefIdeal.τ).loc Cert.UpRefIdeal.main_v20) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v8) = v0 c
          ∧ r.2.mem ((c.tc : Thread Cert.DownRefIdeal.nD Cert.DownRefIdeal.τ).loc Cert.DownRefIdeal.main_v21) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v7) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v69) = v0 c
          ∧ r.2.mem ((c.tc : Thread Cert.MergeRefIdeal.nD Cert.MergeRefIdeal.τ).loc Cert.MergeRefIdeal.main_v82) = v1 c
          ∧ r.2.mem ((c.tc : Thread Cert.MergeRefIdeal.nD Cert.MergeRefIdeal.τ).loc Cert.MergeRefIdeal.main_v83) = v2 c
          ∧ r.2.mem ((c.tc : Thread Cert.MergeRefIdeal.nD Cert.MergeRefIdeal.τ).loc Cert.MergeRefIdeal.main_v84) = v3 c
          ∧ r.2.mem ((c.tc : Thread Cert.MergeRefIdeal.nD Cert.MergeRefIdeal.τ).loc Cert.MergeRefIdeal.main_v85) = v4 c
          ∧ r.2.mem ((c.tc : Thread Cert.MergeRefIdeal.nD Cert.MergeRefIdeal.τ).loc Cert.MergeRefIdeal.main_v86) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)) →
    ∃ (v0 : (c : Dev Cert.PrenormIdeal.nD) → Buf (Elt Ideal) ((c.tc : Thread Cert.PrenormIdeal.nD Cert.PrenormIdeal.τ).loc Cert.PrenormIdeal.main_v0)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v12) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v1) = v0 c
          ∧ r.2.mem ((c.tc : Thread Cert.AdamSquareRefIdeal.nD Cert.AdamSquareRefIdeal.τ).loc Cert.AdamSquareRefIdeal.main_v25) = v1 c
          ∧ r.2.mem ((c.tc : Thread Cert.AdamSquareRefIdeal.nD Cert.AdamSquareRefIdeal.τ).loc Cert.AdamSquareRefIdeal.main_v6) = v2 c
          ∧ r.2.mem ((c.tc : Thread Cert.AdamSquareRefIdeal.nD Cert.AdamSquareRefIdeal.τ).loc Cert.AdamSquareRefIdeal.main_v12) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamPle_AdamPleIdeal : Prop :=
  True

def algebraic_AdamPleIdeal_AdamPleRefIdeal [hAdamPleIdeal : Cert.AdamPleIdeal.Facts] [hAdamPleRefIdeal : Cert.AdamPleRefIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleRefIdeal.nD Cert.AdamPleRefIdeal.τ Cert.AdamPleRefIdeal.sig) → Buf (Elt Ideal) ℓ) (g' : Dev Cert.AdamPleRefIdeal.nD → PrngReg), Pre_AdamPleIdeal m →
    (∀ c : Dev Cert.AdamPleIdeal.nD,
      m' ((c.tc : Thread Cert.AdamPleRefIdeal.nD Cert.AdamPleRefIdeal.τ).loc Cert.AdamPleRefIdeal.main_arg0) = m ((c.tc : Thread Cert.AdamPleIdeal.nD Cert.AdamPleIdeal.τ).loc Cert.AdamPleIdeal.main_arg0)
      ∧ m' ((c.tc : Thread Cert.AdamPleRefIdeal.nD Cert.AdamPleRefIdeal.τ).loc Cert.AdamPleRefIdeal.main_arg1) = m ((c.tc : Thread Cert.AdamPleIdeal.nD Cert.AdamPleIdeal.τ).loc Cert.AdamPleIdeal.main_arg1)
      ∧ m' ((c.tc : Thread Cert.AdamPleRefIdeal.nD Cert.AdamPleRefIdeal.τ).loc Cert.AdamPleRefIdeal.main_arg2) = m ((c.tc : Thread Cert.AdamPleIdeal.nD Cert.AdamPleIdeal.τ).loc Cert.AdamPleIdeal.main_arg2)
      ∧ m' ((c.tc : Thread Cert.AdamPleRefIdeal.nD Cert.AdamPleRefIdeal.τ).loc Cert.AdamPleRefIdeal.main_arg3) = m ((c.tc : Thread Cert.AdamPleIdeal.nD Cert.AdamPleIdeal.τ).loc Cert.AdamPleIdeal.main_arg3)) →
    ∃ (v0 : (c : Dev Cert.AdamPleIdeal.nD) → Buf (Elt Ideal) ((c.tc : Thread Cert.AdamPleIdeal.nD Cert.AdamPleIdeal.τ).loc Cert.AdamPleIdeal.main_v0_0)) (v1 : (c : Dev Cert.AdamPleIdeal.nD) → Buf (Elt Ideal) ((c.tc : Thread Cert.AdamPleIdeal.nD Cert.AdamPleIdeal.τ).loc Cert.AdamPleIdeal.main_v0_1)) (v2 : (c : Dev Cert.AdamPleIdeal.nD) → Buf (Elt Ideal) ((c.tc : Thread Cert.AdamPleIdeal.nD Cert.AdamPleIdeal.τ).loc Cert.AdamPleIdeal.main_v0_2)) (v3 : (c : Dev Cert.AdamPleIdeal.nD) → Buf (Elt Ideal) ((c.tc : Thread Cert.AdamPleIdeal.nD Cert.AdamPleIdeal.τ).loc Cert.AdamPleIdeal.main_v0_3)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v0_0) = v0 c
          ∧ r.2.mem ((c.tc : Thread Cert.AdamPleIdeal.nD Cert.AdamPleIdeal.τ).loc Cert.AdamPleIdeal.main_v0_1) = v1 c
          ∧ r.2.mem ((c.tc : Thread Cert.AdamPleIdeal.nD Cert.AdamPleIdeal.τ).loc Cert.AdamPleIdeal.main_v0_2) = v2 c
          ∧ r.2.mem ((c.tc : Thread Cert.AdamPleIdeal.nD Cert.AdamPleIdeal.τ).loc Cert.AdamPleIdeal.main_v0_3) = v3 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ θ_run (Cert.AdamPleRefIdeal.defs (F := Ideal)) (onTc (τ := Cert.AdamPleRefIdeal.τ) (Cert.AdamPleRefIdeal.main (F := Ideal))) ⟨m', fun _ => 0, g'⟩ (fun r => ∀ c : Dev Cert.AdamPleRefIdeal.nD,
          r.2.mem ((c.tc : Thread Cert.AdamPleRefIdeal.nD Cert.AdamPleRefIdeal.τ).loc Cert.AdamPleRefIdeal.main_v1) = v0 c
          ∧ r.2.mem ((c.tc : Thread Cert.AdamPleRefIdeal.nD Cert.AdamPleRefIdeal.τ).loc Cert.AdamPleRefIdeal.main_v25) = v1 c
          ∧ r.2.mem ((c.tc : Thread Cert.AdamPleRefIdeal.nD Cert.AdamPleRefIdeal.τ).loc Cert.AdamPleRefIdeal.main_v6) = v2 c
          ∧ r.2.mem ((c.tc : Thread Cert.AdamPleRefIdeal.nD Cert.AdamPleRefIdeal.τ).loc Cert.AdamPleRefIdeal.main_v12) = v3 c
          ∧ r.2.mem ((c.tc : Thread Cert.AdamPleRefIdeal.nD Cert.AdamPleRefIdeal.τ).loc Cert.AdamPleRefIdeal.main_arg0) = m' ((c.tc : Thread Cert.AdamPleRefIdeal.nD Cert.AdamPleRefIdeal.τ).loc Cert.AdamPleRefIdeal.main_arg0)
          ∧ r.2.mem ((c.tc : Thread Cert.AdamPleRefIdeal.nD Cert.AdamPleRefIdeal.τ).loc Cert.AdamPleRefIdeal.main_arg1) = m' ((c.tc : Thread Cert.AdamPleRefIdeal.nD Cert.AdamPleRefIdeal.τ).loc Cert.AdamPleRefIdeal.main_arg1)
          ∧ r.2.mem ((c.tc : Thread Cert.AdamPleRefIdeal.nD Cert.AdamPleRefIdeal.τ).loc Cert.AdamPleRefIdeal.main_arg2) = m' ((c.tc : Thread Cert.AdamPleRefIdeal.nD Cert.AdamPleRefIdeal.τ).loc Cert.AdamPleRefIdeal.main_arg2)
          ∧ r.2.mem ((c.tc : Thread Cert.AdamPleRefIdeal.nD Cert.AdamPleRefIdeal.τ).loc Cert.AdamPleRefIdeal.main_arg3) = m' ((c.tc : Thread Cert.AdamPleRefIdeal.nD Cert.AdamPleRefIdeal.τ).loc Cert.AdamPleRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamGains_AdamGainsIdeal : Prop :=
  True

def algebraic_AdamGainsIdeal_AdamGainsRefIdeal [hAdamGainsIdeal : Cert.AdamGainsIdeal.Facts] [hAdamGainsRefIdeal : Cert.AdamGainsRefIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg)
    (m' : (ℓ : Loc Cert.AdamGainsRefIdeal.nD Cert.AdamGainsRefIdeal.τ Cert.AdamGainsRefIdeal.sig) → Buf (Elt Ideal) ℓ) (g' : Dev Cert.AdamGainsRefIdeal.nD → PrngReg), Pre_AdamGainsIdeal m →
    (∀ c : Dev Cert.AdamGainsIdeal.nD,
      m' ((c.tc : Thread Cert.AdamGainsRefIdeal.nD Cert.AdamGainsRefIdeal.τ).loc Cert.AdamGainsRefIdeal.main_arg0) = m ((c.tc : Thread Cert.AdamGainsIdeal.nD Cert.AdamGainsIdeal.τ).loc Cert.AdamGainsIdeal.main_arg0)
      ∧ m' ((c.tc : Thread Cert.AdamGainsRefIdeal.nD Cert.AdamGainsRefIdeal.τ).loc Cert.AdamGainsRefIdeal.main_arg1) = m ((c.tc : Thread Cert.AdamGainsIdeal.nD Cert.AdamGainsIdeal.τ).loc Cert.AdamGainsIdeal.main_arg1)
      ∧ m' ((c.tc : Thread Cert.AdamGainsRefIdeal.nD Cert.AdamGainsRefIdeal.τ).loc Cert.AdamGainsRefIdeal.main_arg2) = m ((c.tc : Thread Cert.AdamGainsIdeal.nD Cert.AdamGainsIdeal.τ).loc Cert.AdamGainsIdeal.main_arg2)
      ∧ m' ((c.tc : Thread Cert.AdamGainsRefIdeal.nD Cert.AdamGainsRefIdeal.τ).loc Cert.AdamGainsRefIdeal.main_arg3) = m ((c.tc : Thread Cert.AdamGainsIdeal.nD Cert.AdamGainsIdeal.τ).loc Cert.AdamGainsIdeal.main_arg3)) →
    ∃ (v0 : (c : Dev Cert.AdamGainsIdeal.nD) → Buf (Elt Ideal) ((c.tc : Thread Cert.AdamGainsIdeal.nD Cert.AdamGainsIdeal.τ).loc Cert.AdamGainsIdeal.main_v0_0)) (v1 : (c : Dev Cert.AdamGainsIdeal.nD) → Buf (Elt Ideal) ((c.tc : Thread Cert.AdamGainsIdeal.nD Cert.AdamGainsIdeal.τ).loc Cert.AdamGainsIdeal.main_v0_1)) (v2 : (c : Dev Cert.AdamGainsIdeal.nD) → Buf (Elt Ideal) ((c.tc : Thread Cert.AdamGainsIdeal.nD Cert.AdamGainsIdeal.τ).loc Cert.AdamGainsIdeal.main_v0_2)) (v3 : (c : Dev Cert.AdamGainsIdeal.nD) → Buf (Elt Ideal) ((c.tc : Thread Cert.AdamGainsIdeal.nD Cert.AdamGainsIdeal.τ).loc Cert.AdamGainsIdeal.main_v0_3)),
      θ_run (Cert.AdamGainsIdeal.defs (F := Ideal)) (onTc (τ := Cert.AdamGainsIdeal.τ) (Cert.AdamGainsIdeal.main (F := Ideal))) ⟨m, fun _ => 0, g⟩ (fun r => ∀ c : Dev Cert.AdamGainsIdeal.nD,
          r.2.mem ((c.tc : Thread Cert.AdamGainsIdeal.nD Cert.AdamGainsIdeal.τ).loc Cert.AdamGainsIdeal.main_v0_0) = v0 c
          ∧ r.2.mem ((c.tc : Thread Cert.AdamGainsIdeal.nD Cert.AdamGainsIdeal.τ).loc Cert.AdamGainsIdeal.main_v0_1) = v1 c
          ∧ r.2.mem ((c.tc : Thread Cert.AdamGainsIdeal.nD Cert.AdamGainsIdeal.τ).loc Cert.AdamGainsIdeal.main_v0_2) = v2 c
          ∧ r.2.mem ((c.tc : Thread Cert.AdamGainsIdeal.nD Cert.AdamGainsIdeal.τ).loc Cert.AdamGainsIdeal.main_v0_3) = v3 c
          ∧ r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
          ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
          ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
          ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ θ_run (Cert.AdamGainsRefIdeal.defs (F := Ideal)) (onTc (τ := Cert.AdamGainsRefIdeal.τ) (Cert.AdamGainsRefIdeal.main (F := Ideal))) ⟨m', fun _ => 0, g'⟩ (fun r => ∀ c : Dev Cert.AdamGainsRefIdeal.nD,
          r.2.mem ((c.tc : Thread Cert.AdamGainsRefIdeal.nD Cert.AdamGainsRefIdeal.τ).loc Cert.AdamGainsRefIdeal.main_v0) = v0 c
          ∧ r.2.mem ((c.tc : Thread Cert.AdamGainsRefIdeal.nD Cert.AdamGainsRefIdeal.τ).loc Cert.AdamGainsRefIdeal.main_v24) = v1 c
          ∧ r.2.mem ((c.tc : Thread Cert.AdamGainsRefIdeal.nD Cert.AdamGainsRefIdeal.τ).loc Cert.AdamGainsRefIdeal.main_v5) = v2 c
          ∧ r.2.mem ((c.tc : Thread Cert.AdamGainsRefIdeal.nD Cert.AdamGainsRefIdeal.τ).loc Cert.AdamGainsRefIdeal.main_v11) = v3 c
          ∧ r.2.mem ((c.tc : Thread Cert.AdamGainsRefIdeal.nD Cert.AdamGainsRefIdeal.τ).loc Cert.AdamGainsRefIdeal.main_arg0) = m' ((c.tc : Thread Cert.AdamGainsRefIdeal.nD Cert.AdamGainsRefIdeal.τ).loc Cert.AdamGainsRefIdeal.main_arg0)
          ∧ r.2.mem ((c.tc : Thread Cert.AdamGainsRefIdeal.nD Cert.AdamGainsRefIdeal.τ).loc Cert.AdamGainsRefIdeal.main_arg1) = m' ((c.tc : Thread Cert.AdamGainsRefIdeal.nD Cert.AdamGainsRefIdeal.τ).loc Cert.AdamGainsRefIdeal.main_arg1)
          ∧ r.2.mem ((c.tc : Thread Cert.AdamGainsRefIdeal.nD Cert.AdamGainsRefIdeal.τ).loc Cert.AdamGainsRefIdeal.main_arg2) = m' ((c.tc : Thread Cert.AdamGainsRefIdeal.nD Cert.AdamGainsRefIdeal.τ).loc Cert.AdamGainsRefIdeal.main_arg2)
          ∧ r.2.mem ((c.tc : Thread Cert.AdamGainsRefIdeal.nD Cert.AdamGainsRefIdeal.τ).loc Cert.AdamGainsRefIdeal.main_arg3) = m' ((c.tc : Thread Cert.AdamGainsRefIdeal.nD Cert.AdamGainsRefIdeal.τ).loc Cert.AdamGainsRefIdeal.main_arg3))

def preserves_AdamMix_AdamMixIdeal : Prop :=
  True

def algebraic_AdamMixIdeal_AdamMixRefIdeal [hAdamMixIdeal : Cert.AdamMixIdeal.Facts] [hAdamMixRefIdeal : Cert.AdamMixRefIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixRefIdeal.nD Cert.AdamMixRefIdeal.τ Cert.AdamMixRefIdeal.sig) → Buf (Elt Ideal) ℓ) (g' : Dev Cert.AdamMixRefIdeal.nD → PrngReg), Pre_AdamMixIdeal m →
    (∀ c : Dev Cert.AdamMixIdeal.nD,
      m' ((c.tc : Thread Cert.AdamMixRefIdeal.nD Cert.AdamMixRefIdeal.τ).loc Cert.AdamMixRefIdeal.main_arg0) = m ((c.tc : Thread Cert.AdamMixIdeal.nD Cert.AdamMixIdeal.τ).loc Cert.AdamMixIdeal.main_arg0)
      ∧ m' ((c.tc : Thread Cert.AdamMixRefIdeal.nD Cert.AdamMixRefIdeal.τ).loc Cert.AdamMixRefIdeal.main_arg1) = m ((c.tc : Thread Cert.AdamMixIdeal.nD Cert.AdamMixIdeal.τ).loc Cert.AdamMixIdeal.main_arg1)
      ∧ m' ((c.tc : Thread Cert.AdamMixRefIdeal.nD Cert.AdamMixRefIdeal.τ).loc Cert.AdamMixRefIdeal.main_arg2) = m ((c.tc : Thread Cert.AdamMixIdeal.nD Cert.AdamMixIdeal.τ).loc Cert.AdamMixIdeal.main_arg2)
      ∧ m' ((c.tc : Thread Cert.AdamMixRefIdeal.nD Cert.AdamMixRefIdeal.τ).loc Cert.AdamMixRefIdeal.main_arg3) = m ((c.tc : Thread Cert.AdamMixIdeal.nD Cert.AdamMixIdeal.τ).loc Cert.AdamMixIdeal.main_arg3)
      ∧ m' ((c.tc : Thread Cert.AdamMixRefIdeal.nD Cert.AdamMixRefIdeal.τ).loc Cert.AdamMixRefIdeal.main_arg4) = m ((c.tc : Thread Cert.AdamMixIdeal.nD Cert.AdamMixIdeal.τ).loc Cert.AdamMixIdeal.main_arg4)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)) (v3 : (c : Dev Cert.AdamMixIdeal.nD) → Buf (Elt Ideal) ((c.tc : Thread Cert.AdamMixIdeal.nD Cert.AdamMixIdeal.τ).loc Cert.AdamMixIdeal.main_v0_3)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_v0_3) = v3 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3)
          ∧ r.2.mem ((c.tc : Thread Cert.AdamMixIdeal.nD Cert.AdamMixIdeal.τ).loc Cert.AdamMixIdeal.main_arg4) = m ((c.tc : Thread Cert.AdamMixIdeal.nD Cert.AdamMixIdeal.τ).loc Cert.AdamMixIdeal.main_arg4))
      ∧ θ_run (Cert.AdamMixRefIdeal.defs (F := Ideal)) (onTc (τ := Cert.AdamMixRefIdeal.τ) (Cert.AdamMixRefIdeal.main (F := Ideal))) ⟨m', fun _ => 0, g'⟩ (fun r => ∀ c : Dev Cert.AdamMixRefIdeal.nD,
          r.2.mem ((c.tc : Thread Cert.AdamMixRefIdeal.nD Cert.AdamMixRefIdeal.τ).loc Cert.AdamMixRefIdeal.main_v2) = v0 c
          ∧ r.2.mem ((c.tc : Thread Cert.AdamMixRefIdeal.nD Cert.AdamMixRefIdeal.τ).loc Cert.AdamMixRefIdeal.main_v26) = v1 c
          ∧ r.2.mem ((c.tc : Thread Cert.AdamMixRefIdeal.nD Cert.AdamMixRefIdeal.τ).loc Cert.AdamMixRefIdeal.main_v7) = v2 c
          ∧ r.2.mem ((c.tc : Thread Cert.AdamMixRefIdeal.nD Cert.AdamMixRefIdeal.τ).loc Cert.AdamMixRefIdeal.main_v13) = v3 c
          ∧ r.2.mem ((c.tc : Thread Cert.AdamMixRefIdeal.nD Cert.AdamMixRefIdeal.τ).loc Cert.AdamMixRefIdeal.main_arg0) = m' ((c.tc : Thread Cert.AdamMixRefIdeal.nD Cert.AdamMixRefIdeal.τ).loc Cert.AdamMixRefIdeal.main_arg0)
          ∧ r.2.mem ((c.tc : Thread Cert.AdamMixRefIdeal.nD Cert.AdamMixRefIdeal.τ).loc Cert.AdamMixRefIdeal.main_arg1) = m' ((c.tc : Thread Cert.AdamMixRefIdeal.nD Cert.AdamMixRefIdeal.τ).loc Cert.AdamMixRefIdeal.main_arg1)
          ∧ r.2.mem ((c.tc : Thread Cert.AdamMixRefIdeal.nD Cert.AdamMixRefIdeal.τ).loc Cert.AdamMixRefIdeal.main_arg2) = m' ((c.tc : Thread Cert.AdamMixRefIdeal.nD Cert.AdamMixRefIdeal.τ).loc Cert.AdamMixRefIdeal.main_arg2)
          ∧ r.2.mem ((c.tc : Thread Cert.AdamMixRefIdeal.nD Cert.AdamMixRefIdeal.τ).loc Cert.AdamMixRefIdeal.main_arg3) = m' ((c.tc : Thread Cert.AdamMixRefIdeal.nD Cert.AdamMixRefIdeal.τ).loc Cert.AdamMixRefIdeal.main_arg3)
          ∧ r.2.mem ((c.tc : Thread Cert.AdamMixRefIdeal.nD Cert.AdamMixRefIdeal.τ).loc Cert.AdamMixRefIdeal.main_arg4) = m' ((c.tc : Thread Cert.AdamMixRefIdeal.nD Cert.AdamMixRefIdeal.τ).loc Cert.AdamMixRefIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)) (v4 : (c : Dev Cert.TailIdeal.nD) → Buf (Elt Ideal) ((c.tc : Thread Cert.TailIdeal.nD Cert.TailIdeal.τ).loc Cert.TailIdeal.main_v0_4)) (v5 : (c : Dev Cert.TailIdeal.nD) → Buf (Elt Ideal) ((c.tc : Thread Cert.TailIdeal.nD Cert.TailIdeal.τ).loc Cert.TailIdeal.main_v0_5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_v0_4) = v4 c
          ∧ r.2.mem ((c.tc : Thread Cert.TailIdeal.nD Cert.TailIdeal.τ).loc Cert.TailIdeal.main_v0_5) = v5 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v106) = v0 c
          ∧ r.2.mem ((c.tc : Thread Cert.TailRefIdeal.nD Cert.TailRefIdeal.τ).loc Cert.TailRefIdeal.main_v68) = v1 c
          ∧ r.2.mem ((c.tc : Thread Cert.TailRefIdeal.nD Cert.TailRefIdeal.τ).loc Cert.TailRefIdeal.main_v107) = v2 c
          ∧ r.2.mem ((c.tc : Thread Cert.TailRefIdeal.nD Cert.TailRefIdeal.τ).loc Cert.TailRefIdeal.main_v108) = v3 c
          ∧ r.2.mem ((c.tc : Thread Cert.TailRefIdeal.nD Cert.TailRefIdeal.τ).loc Cert.TailRefIdeal.main_v48) = v4 c
          ∧ r.2.mem ((c.tc : Thread Cert.TailRefIdeal.nD Cert.TailRefIdeal.τ).loc Cert.TailRefIdeal.main_v89) = v5 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7))

def preserves_Wgate_WgateIdeal : Prop :=
  True

def algebraic_WgateIdeal_WgateRefIdeal [hWgateIdeal : Cert.WgateIdeal.Facts] [hWgateRefIdeal : Cert.WgateRefIdeal.Facts] : Prop :=
  ∀ (m : (ℓ : Loc Cert.WgateIdeal.nD Cert.WgateIdeal.τ Cert.WgateIdeal.sig) → Buf (Elt Ideal) ℓ) (g : Dev Cert.WgateIdeal.nD → PrngReg)
    (m' : (ℓ : Loc Cert.WgateRefIdeal.nD Cert.WgateRefIdeal.τ Cert.WgateRefIdeal.sig) → Buf (Elt Ideal) ℓ) (g' : Dev Cert.WgateRefIdeal.nD → PrngReg), Pre_WgateIdeal m →
    (∀ c : Dev Cert.WgateIdeal.nD,
      m' ((c.tc : Thread Cert.WgateRefIdeal.nD Cert.WgateRefIdeal.τ).loc Cert.WgateRefIdeal.main_arg0) = m ((c.tc : Thread Cert.WgateIdeal.nD Cert.WgateIdeal.τ).loc Cert.WgateIdeal.main_arg0)
      ∧ m' ((c.tc : Thread Cert.WgateRefIdeal.nD Cert.WgateRefIdeal.τ).loc Cert.WgateRefIdeal.main_arg1) = m ((c.tc : Thread Cert.WgateIdeal.nD Cert.WgateIdeal.τ).loc Cert.WgateIdeal.main_arg1)) →
    ∃ (v0 : (c : Dev Cert.WgateIdeal.nD) → Buf (Elt Ideal) ((c.tc : Thread Cert.WgateIdeal.nD Cert.WgateIdeal.τ).loc Cert.WgateIdeal.main_v0)),
      θ_run (Cert.WgateIdeal.defs (F := Ideal)) (onTc (τ := Cert.WgateIdeal.τ) (Cert.WgateIdeal.main (F := Ideal))) ⟨m, fun _ => 0, g⟩ (fun r => ∀ c : Dev Cert.WgateIdeal.nD,
          r.2.mem ((c.tc : Thread Cert.WgateIdeal.nD Cert.WgateIdeal.τ).loc Cert.WgateIdeal.main_v0) = v0 c
          ∧ r.2.mem ((c.tc : Thread Cert.WgateIdeal.nD Cert.WgateIdeal.τ).loc Cert.WgateIdeal.main_arg0) = m ((c.tc : Thread Cert.WgateIdeal.nD Cert.WgateIdeal.τ).loc Cert.WgateIdeal.main_arg0)
          ∧ r.2.mem ((c.tc : Thread Cert.WgateIdeal.nD Cert.WgateIdeal.τ).loc Cert.WgateIdeal.main_arg1) = m ((c.tc : Thread Cert.WgateIdeal.nD Cert.WgateIdeal.τ).loc Cert.WgateIdeal.main_arg1))
      ∧ θ_run (Cert.WgateRefIdeal.defs (F := Ideal)) (onTc (τ := Cert.WgateRefIdeal.τ) (Cert.WgateRefIdeal.main (F := Ideal))) ⟨m', fun _ => 0, g'⟩ (fun r => ∀ c : Dev Cert.WgateRefIdeal.nD,
          r.2.mem ((c.tc : Thread Cert.WgateRefIdeal.nD Cert.WgateRefIdeal.τ).loc Cert.WgateRefIdeal.main_v9) = v0 c
          ∧ r.2.mem ((c.tc : Thread Cert.WgateRefIdeal.nD Cert.WgateRefIdeal.τ).loc Cert.WgateRefIdeal.main_arg0) = m' ((c.tc : Thread Cert.WgateRefIdeal.nD Cert.WgateRefIdeal.τ).loc Cert.WgateRefIdeal.main_arg0)
          ∧ r.2.mem ((c.tc : Thread Cert.WgateRefIdeal.nD Cert.WgateRefIdeal.τ).loc Cert.WgateRefIdeal.main_arg1) = m' ((c.tc : Thread Cert.WgateRefIdeal.nD Cert.WgateRefIdeal.τ).loc Cert.WgateRefIdeal.main_arg1))

def preserves_Wple_WpleIdeal : Prop :=
  True

def algebraic_WpleIdeal_WpleRefIdeal [hWpleIdeal : Cert.WpleIdeal.Facts] [hWpleRefIdeal : Cert.WpleRefIdeal.Facts] : Prop :=
  ∀ (m : (ℓ : Loc Cert.WpleIdeal.nD Cert.WpleIdeal.τ Cert.WpleIdeal.sig) → Buf (Elt Ideal) ℓ) (g : Dev Cert.WpleIdeal.nD → PrngReg)
    (m' : (ℓ : Loc Cert.WpleRefIdeal.nD Cert.WpleRefIdeal.τ Cert.WpleRefIdeal.sig) → Buf (Elt Ideal) ℓ) (g' : Dev Cert.WpleRefIdeal.nD → PrngReg), Pre_WpleIdeal m →
    (∀ c : Dev Cert.WpleIdeal.nD,
      m' ((c.tc : Thread Cert.WpleRefIdeal.nD Cert.WpleRefIdeal.τ).loc Cert.WpleRefIdeal.main_arg0) = m ((c.tc : Thread Cert.WpleIdeal.nD Cert.WpleIdeal.τ).loc Cert.WpleIdeal.main_arg0)
      ∧ m' ((c.tc : Thread Cert.WpleRefIdeal.nD Cert.WpleRefIdeal.τ).loc Cert.WpleRefIdeal.main_arg1) = m ((c.tc : Thread Cert.WpleIdeal.nD Cert.WpleIdeal.τ).loc Cert.WpleIdeal.main_arg1)) →
    ∃ (v0 : (c : Dev Cert.WpleIdeal.nD) → Buf (Elt Ideal) ((c.tc : Thread Cert.WpleIdeal.nD Cert.WpleIdeal.τ).loc Cert.WpleIdeal.main_v0)),
      θ_run (Cert.WpleIdeal.defs (F := Ideal)) (onTc (τ := Cert.WpleIdeal.τ) (Cert.WpleIdeal.main (F := Ideal))) ⟨m, fun _ => 0, g⟩ (fun r => ∀ c : Dev Cert.WpleIdeal.nD,
          r.2.mem ((c.tc : Thread Cert.WpleIdeal.nD Cert.WpleIdeal.τ).loc Cert.WpleIdeal.main_v0) = v0 c
          ∧ r.2.mem ((c.tc : Thread Cert.WpleIdeal.nD Cert.WpleIdeal.τ).loc Cert.WpleIdeal.main_arg0) = m ((c.tc : Thread Cert.WpleIdeal.nD Cert.WpleIdeal.τ).loc Cert.WpleIdeal.main_arg0)
          ∧ r.2.mem ((c.tc : Thread Cert.WpleIdeal.nD Cert.WpleIdeal.τ).loc Cert.WpleIdeal.main_arg1) = m ((c.tc : Thread Cert.WpleIdeal.nD Cert.WpleIdeal.τ).loc Cert.WpleIdeal.main_arg1))
      ∧ θ_run (Cert.WpleRefIdeal.defs (F := Ideal)) (onTc (τ := Cert.WpleRefIdeal.τ) (Cert.WpleRefIdeal.main (F := Ideal))) ⟨m', fun _ => 0, g'⟩ (fun r => ∀ c : Dev Cert.WpleRefIdeal.nD,
          r.2.mem ((c.tc : Thread Cert.WpleRefIdeal.nD Cert.WpleRefIdeal.τ).loc Cert.WpleRefIdeal.main_v8) = v0 c
          ∧ r.2.mem ((c.tc : Thread Cert.WpleRefIdeal.nD Cert.WpleRefIdeal.τ).loc Cert.WpleRefIdeal.main_arg0) = m' ((c.tc : Thread Cert.WpleRefIdeal.nD Cert.WpleRefIdeal.τ).loc Cert.WpleRefIdeal.main_arg0)
          ∧ r.2.mem ((c.tc : Thread Cert.WpleRefIdeal.nD Cert.WpleRefIdeal.τ).loc Cert.WpleRefIdeal.main_arg1) = m' ((c.tc : Thread Cert.WpleRefIdeal.nD Cert.WpleRefIdeal.τ).loc Cert.WpleRefIdeal.main_arg1))

def Claim : Prop :=
  ∃ (hMixer : Cert.Mixer.Facts) (hMixerIdeal : Cert.MixerIdeal.Facts) (hMixerRefIdeal : Cert.MixerRefIdeal.Facts) (hConv : Cert.Conv.Facts) (hConvIdeal : Cert.ConvIdeal.Facts) (hConvRefIdeal : Cert.ConvRefIdeal.Facts) (hIn : Cert.In.Facts) (hInIdeal : Cert.InIdeal.Facts) (hInRefIdeal : Cert.InRefIdeal.Facts) (hProj : Cert.Proj.Facts) (hProjIdeal : Cert.ProjIdeal.Facts) (hProjRefIdeal : Cert.ProjRefIdeal.Facts) (hHid : Cert.Hid.Facts) (hHidIdeal : Cert.HidIdeal.Facts) (hHidRefIdeal : Cert.HidRefIdeal.Facts) (hWout : Cert.Wout.Facts) (hWoutIdeal : Cert.WoutIdeal.Facts) (hWoutRefIdeal : Cert.WoutRefIdeal.Facts) (hWin : Cert.Win.Facts) (hWinIdeal : Cert.WinIdeal.Facts) (hWinRefIdeal : Cert.WinRefIdeal.Facts) (hWmix : Cert.Wmix.Facts) (hWmixIdeal : Cert.WmixIdeal.Facts) (hWmixRefIdeal : Cert.WmixRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMix : Cert.Mix.Facts) (hMixIdeal : Cert.MixIdeal.Facts) (hMixRefIdeal : Cert.MixRefIdeal.Facts) (hMerge : Cert.Merge.Facts) (hMergeIdeal : Cert.MergeIdeal.Facts) (hMergeRefIdeal : Cert.MergeRefIdeal.Facts) (hPrenorm : Cert.Prenorm.Facts) (hPrenormIdeal : Cert.PrenormIdeal.Facts) (hPrenormRefIdeal : Cert.PrenormRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamSquare : Cert.AdamSquare.Facts) (hAdamSquareIdeal : Cert.AdamSquareIdeal.Facts) (hAdamSquareRefIdeal : Cert.AdamSquareRefIdeal.Facts) (hAdamPle : Cert.AdamPle.Facts) (hAdamPleIdeal : Cert.AdamPleIdeal.Facts) (hAdamPleRefIdeal : Cert.AdamPleRefIdeal.Facts) (hAdamConv : Cert.AdamConv.Facts) (hAdamConvIdeal : Cert.AdamConvIdeal.Facts) (hAdamConvRefIdeal : Cert.AdamConvRefIdeal.Facts) (hAdamGains : Cert.AdamGains.Facts) (hAdamGainsIdeal : Cert.AdamGainsIdeal.Facts) (hAdamGainsRefIdeal : Cert.AdamGainsRefIdeal.Facts) (hAdamMix : Cert.AdamMix.Facts) (hAdamMixIdeal : Cert.AdamMixIdeal.Facts) (hAdamMixRefIdeal : Cert.AdamMixRefIdeal.Facts) (hTail : Cert.Tail.Facts) (hTailIdeal : Cert.TailIdeal.Facts) (hTailRefIdeal : Cert.TailRefIdeal.Facts) (hWgate : Cert.Wgate.Facts) (hWgateIdeal : Cert.WgateIdeal.Facts) (hWgateRefIdeal : Cert.WgateRefIdeal.Facts) (hWple : Cert.Wple.Facts) (hWpleIdeal : Cert.WpleIdeal.Facts) (hWpleRefIdeal : Cert.WpleRefIdeal.Facts),
    quiescent_Mixer (hMixer := hMixer)
    ∧ quiescent_MixerIdeal (hMixerIdeal := hMixerIdeal)
    ∧ quiescent_MixerRefIdeal (hMixerRefIdeal := hMixerRefIdeal)
    ∧ quiescent_Conv (hConv := hConv)
    ∧ quiescent_ConvIdeal (hConvIdeal := hConvIdeal)
    ∧ quiescent_ConvRefIdeal (hConvRefIdeal := hConvRefIdeal)
    ∧ quiescent_In (hIn := hIn)
    ∧ quiescent_InIdeal (hInIdeal := hInIdeal)
    ∧ quiescent_InRefIdeal (hInRefIdeal := hInRefIdeal)
    ∧ quiescent_Proj (hProj := hProj)
    ∧ quiescent_ProjIdeal (hProjIdeal := hProjIdeal)
    ∧ quiescent_ProjRefIdeal (hProjRefIdeal := hProjRefIdeal)
    ∧ quiescent_Hid (hHid := hHid)
    ∧ quiescent_HidIdeal (hHidIdeal := hHidIdeal)
    ∧ quiescent_HidRefIdeal (hHidRefIdeal := hHidRefIdeal)
    ∧ quiescent_Wout (hWout := hWout)
    ∧ quiescent_WoutIdeal (hWoutIdeal := hWoutIdeal)
    ∧ quiescent_WoutRefIdeal (hWoutRefIdeal := hWoutRefIdeal)
    ∧ quiescent_Win (hWin := hWin)
    ∧ quiescent_WinIdeal (hWinIdeal := hWinIdeal)
    ∧ quiescent_WinRefIdeal (hWinRefIdeal := hWinRefIdeal)
    ∧ quiescent_Wmix (hWmix := hWmix)
    ∧ quiescent_WmixIdeal (hWmixIdeal := hWmixIdeal)
    ∧ quiescent_WmixRefIdeal (hWmixRefIdeal := hWmixRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Mix (hMix := hMix)
    ∧ quiescent_MixIdeal (hMixIdeal := hMixIdeal)
    ∧ quiescent_MixRefIdeal (hMixRefIdeal := hMixRefIdeal)
    ∧ quiescent_Merge (hMerge := hMerge)
    ∧ quiescent_MergeIdeal (hMergeIdeal := hMergeIdeal)
    ∧ quiescent_MergeRefIdeal (hMergeRefIdeal := hMergeRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamPle (hAdamPle := hAdamPle)
    ∧ quiescent_AdamPleIdeal (hAdamPleIdeal := hAdamPleIdeal)
    ∧ quiescent_AdamPleRefIdeal (hAdamPleRefIdeal := hAdamPleRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamGains (hAdamGains := hAdamGains)
    ∧ quiescent_AdamGainsIdeal (hAdamGainsIdeal := hAdamGainsIdeal)
    ∧ quiescent_AdamGainsRefIdeal (hAdamGainsRefIdeal := hAdamGainsRefIdeal)
    ∧ quiescent_AdamMix (hAdamMix := hAdamMix)
    ∧ quiescent_AdamMixIdeal (hAdamMixIdeal := hAdamMixIdeal)
    ∧ quiescent_AdamMixRefIdeal (hAdamMixRefIdeal := hAdamMixRefIdeal)
    ∧ quiescent_Tail (hTail := hTail)
    ∧ quiescent_TailIdeal (hTailIdeal := hTailIdeal)
    ∧ quiescent_TailRefIdeal (hTailRefIdeal := hTailRefIdeal)
    ∧ quiescent_Wgate (hWgate := hWgate)
    ∧ quiescent_WgateIdeal (hWgateIdeal := hWgateIdeal)
    ∧ quiescent_WgateRefIdeal (hWgateRefIdeal := hWgateRefIdeal)
    ∧ quiescent_Wple (hWple := hWple)
    ∧ quiescent_WpleIdeal (hWpleIdeal := hWpleIdeal)
    ∧ quiescent_WpleRefIdeal (hWpleRefIdeal := hWpleRefIdeal)
    ∧ preserves_Mixer_MixerIdeal
    ∧ algebraic_MixerIdeal_MixerRefIdeal (hMixerIdeal := hMixerIdeal) (hMixerRefIdeal := hMixerRefIdeal)
    ∧ preserves_Conv_ConvIdeal
    ∧ algebraic_ConvIdeal_ConvRefIdeal (hConvIdeal := hConvIdeal) (hConvRefIdeal := hConvRefIdeal)
    ∧ preserves_In_InIdeal
    ∧ algebraic_InIdeal_InRefIdeal (hInIdeal := hInIdeal) (hInRefIdeal := hInRefIdeal)
    ∧ preserves_Proj_ProjIdeal
    ∧ algebraic_ProjIdeal_ProjRefIdeal (hProjIdeal := hProjIdeal) (hProjRefIdeal := hProjRefIdeal)
    ∧ preserves_Hid_HidIdeal
    ∧ algebraic_HidIdeal_HidRefIdeal (hHidIdeal := hHidIdeal) (hHidRefIdeal := hHidRefIdeal)
    ∧ preserves_Wout_WoutIdeal
    ∧ algebraic_WoutIdeal_WoutRefIdeal (hWoutIdeal := hWoutIdeal) (hWoutRefIdeal := hWoutRefIdeal)
    ∧ preserves_Win_WinIdeal
    ∧ algebraic_WinIdeal_WinRefIdeal (hWinIdeal := hWinIdeal) (hWinRefIdeal := hWinRefIdeal)
    ∧ preserves_Wmix_WmixIdeal
    ∧ algebraic_WmixIdeal_WmixRefIdeal (hWmixIdeal := hWmixIdeal) (hWmixRefIdeal := hWmixRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Mix_MixIdeal
    ∧ algebraic_MixIdeal_MixRefIdeal (hMixIdeal := hMixIdeal) (hMixRefIdeal := hMixRefIdeal)
    ∧ preserves_Merge_MergeIdeal
    ∧ algebraic_MergeIdeal_MergeRefIdeal (hMergeIdeal := hMergeIdeal) (hMergeRefIdeal := hMergeRefIdeal)
    ∧ preserves_Prenorm_PrenormIdeal
    ∧ algebraic_PrenormIdeal_PrenormRefIdeal (hPrenormIdeal := hPrenormIdeal) (hPrenormRefIdeal := hPrenormRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamPle_AdamPleIdeal
    ∧ algebraic_AdamPleIdeal_AdamPleRefIdeal (hAdamPleIdeal := hAdamPleIdeal) (hAdamPleRefIdeal := hAdamPleRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamGains_AdamGainsIdeal
    ∧ algebraic_AdamGainsIdeal_AdamGainsRefIdeal (hAdamGainsIdeal := hAdamGainsIdeal) (hAdamGainsRefIdeal := hAdamGainsRefIdeal)
    ∧ preserves_AdamMix_AdamMixIdeal
    ∧ algebraic_AdamMixIdeal_AdamMixRefIdeal (hAdamMixIdeal := hAdamMixIdeal) (hAdamMixRefIdeal := hAdamMixRefIdeal)
    ∧ preserves_Tail_TailIdeal
    ∧ algebraic_TailIdeal_TailRefIdeal (hTailIdeal := hTailIdeal) (hTailRefIdeal := hTailRefIdeal)
    ∧ preserves_Wgate_WgateIdeal
    ∧ algebraic_WgateIdeal_WgateRefIdeal (hWgateIdeal := hWgateIdeal) (hWgateRefIdeal := hWgateRefIdeal)
    ∧ preserves_Wple_WpleIdeal
    ∧ algebraic_WpleIdeal_WpleRefIdeal (hWpleIdeal := hWpleIdeal) (hWpleRefIdeal := hWpleRefIdeal)
-- ==== Mixer.lean ====
abbrev S8192x1024 : Shape := ⟨2, ![8192, 1024]⟩
abbrev S8x8192x1024 : Shape := ⟨3, ![8, 8192, 1024]⟩
abbrev S3x1024 : Shape := ⟨2, ![3, 1024]⟩
abbrev S1024x1024 : Shape := ⟨2, ![1024, 1024]⟩
abbrev S1x8192x1024 : Shape := ⟨3, ![1, 8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S512x1024 : Shape := ⟨2, ![512, 1024]⟩
abbrev S1x512x1024 : Shape := ⟨3, ![1, 512, 1024]⟩
abbrev S1x16x1024 : Shape := ⟨3, ![1, 16, 1024]⟩
abbrev S16x1024 : Shape := ⟨2, ![16, 1024]⟩
abbrev S512x1 : Shape := ⟨2, ![512, 1]⟩

abbrev nBuf : Space → Nat
  | .hbm => 55
  | .vmem => 40
  | .smem => 0
  | _ => 0

abbrev bufTy : (tb : Table) → Fin (tcTables nBuf tb) → BufTy
  | .hbm, ⟨0, _⟩ => ⟨S8192x1024, .f32⟩
  | .hbm, ⟨1, _⟩ => ⟨S8x8192x1024, .bf16⟩
  | .hbm, ⟨2, _⟩ => ⟨S8192x1024, .bf16⟩
  | .hbm, ⟨3, _⟩ => ⟨S3x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x8192x1024, .bf16⟩
  | .hbm, ⟨8, _⟩ => ⟨S8192x1024, .bf16⟩
  | .hbm, ⟨9, _⟩ => ⟨S8192x1024, .f32⟩
  | .hbm, ⟨10, _⟩ => ⟨S1x8192x1024, .bf16⟩
  | .hbm, ⟨11, _⟩ => ⟨S8192x1024, .bf16⟩
  | .hbm, ⟨12, _⟩ => ⟨S8192x1024, .f32⟩
  | .hbm, ⟨13, _⟩ => ⟨S1x8192x1024, .bf16⟩
  | .hbm, ⟨14, _⟩ => ⟨S8192x1024, .bf16⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S2x1024, .f32⟩
  | .hbm, ⟨19, _⟩ => ⟨S8194x1024, .f32⟩
  | .hbm, ⟨20, _⟩ => ⟨S1x1024, .f32⟩
  | .hbm, ⟨21, _⟩ => ⟨S1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S8192x1024, .bf16⟩
  | .hbm, ⟨46, _⟩ => ⟨S8192x1024, .bf16⟩
  | .hbm, ⟨47, _⟩ => ⟨S8192x1024, .bf16⟩
  | .hbm, ⟨48, _⟩ => ⟨S8192x1024, .bf16⟩
  | .hbm, ⟨49, _⟩ => ⟨S8192x1024, .bf16⟩
  | .hbm, ⟨50, _⟩ => ⟨S8192x1024, .bf16⟩
  | .hbm, ⟨51, _⟩ => ⟨S8192x1024, .bf16⟩
  | .hbm, ⟨52, _⟩ => ⟨S8192x1024, .bf16⟩
  | .hbm, ⟨53, _⟩ => ⟨S8192x1024, .bf16⟩
  | .hbm, ⟨54, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x16x1024, .bf16⟩
  | .local _ .vmem, ⟨13, _⟩ => ⟨S1x16x1024, .bf16⟩
  | .local _ .vmem, ⟨14, _⟩ => ⟨S1x16x1024, .bf16⟩
  | .local _ .vmem, ⟨15, _⟩ => ⟨S1x16x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S3x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39_0 : Ref sig .tc := ⟨.hbm, 47, rfl⟩
abbrev main_v39_1 : Ref sig .tc := ⟨.hbm, 48, rfl⟩
abbrev main_v39_2 : Ref sig .tc := ⟨.hbm, 49, rfl⟩
abbrev main_v39_3 : Ref sig .tc := ⟨.hbm, 50, rfl⟩
abbrev main_v39_4 : Ref sig .tc := ⟨.hbm, 51, rfl⟩
abbrev main_v39_5 : Ref sig .tc := ⟨.hbm, 52, rfl⟩
abbrev main_v39_6 : Ref sig .tc := ⟨.hbm, 53, rfl⟩
abbrev main_v39_7 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_5 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_6 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, v2.toNat, c0_i32_1.toNat]

def cc0_transform_7 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MixerRefIdeal.lean ====
abbrev S8192x1024 : Shape := ⟨2, ![8192, 1024]⟩
abbrev S8x8192x1024 : Shape := ⟨3, ![8, 8192, 1024]⟩
abbrev S3x1024 : Shape := ⟨2, ![3, 1024]⟩
abbrev S1024x1024 : Shape := ⟨2, ![1024, 1024]⟩
abbrev S1x8192x1024 : Shape := ⟨3, ![1, 8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x8192x1024, .bf16⟩
  | .hbm, ⟨2, _⟩ => ⟨S8192x1024, .bf16⟩
  | .hbm, ⟨3, _⟩ => ⟨S3x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x8192x1024, .bf16⟩
  | .hbm, ⟨8, _⟩ => ⟨S8192x1024, .bf16⟩
  | .hbm, ⟨9, _⟩ => ⟨S8192x1024, .f32⟩
  | .hbm, ⟨10, _⟩ => ⟨S1x8192x1024, .bf16⟩
  | .hbm, ⟨11, _⟩ => ⟨S8192x1024, .bf16⟩
  | .hbm, ⟨12, _⟩ => ⟨S8192x1024, .f32⟩
  | .hbm, ⟨13, _⟩ => ⟨S1x8192x1024, .bf16⟩
  | .hbm, ⟨14, _⟩ => ⟨S8192x1024, .bf16⟩
  | .hbm, ⟨15, _⟩ => ⟨S8192x1024, .f32⟩
  | .hbm, ⟨16, _⟩ => ⟨S1x8192x1024, .bf16⟩
  | .hbm, ⟨17, _⟩ => ⟨S8192x1024, .bf16⟩
  | .hbm, ⟨18, _⟩ => ⟨S8192x1024, .f32⟩
  | .hbm, ⟨19, _⟩ => ⟨S1x8192x1024, .bf16⟩
  | .hbm, ⟨20, _⟩ => ⟨S8192x1024, .bf16⟩
  | .hbm, ⟨21, _⟩ => ⟨S8192x1024, .f32⟩
  | .hbm, ⟨22, _⟩ => ⟨S1x8192x1024, .bf16⟩
  | .hbm, ⟨23, _⟩ => ⟨S8192x1024, .bf16⟩
  | .hbm, ⟨24, _⟩ => ⟨S8192x1024, .f32⟩
  | .hbm, ⟨25, _⟩ => ⟨S1x8192x1024, .bf16⟩
  | .hbm, ⟨26, _⟩ => ⟨S8192x1024, .bf16⟩
  | .hbm, ⟨27, _⟩ => ⟨S8192x1024, .f32⟩
  | .hbm, ⟨28, _⟩ => ⟨S1x8192x1024, .bf16⟩
  | .hbm, ⟨29, _⟩ => ⟨S8192x1024, .bf16⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S2x1024, .f32⟩
  | .hbm, ⟨34, _⟩ => ⟨S8194x1024, .f32⟩
  | .hbm, ⟨35, _⟩ => ⟨S1x1024, .f32⟩
  | .hbm, ⟨36, _⟩ => ⟨S1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | .hbm, ⟨101, _⟩ => ⟨S8192x1024, .bf16⟩
  | .hbm, ⟨102, _⟩ => ⟨S8192x1024, .bf16⟩
  | .hbm, ⟨103, _⟩ => ⟨S8192x1024, .bf16⟩
  | .hbm, ⟨104, _⟩ => ⟨S8192x1024, .bf16⟩
  | .hbm, ⟨105, _⟩ => ⟨S8192x1024, .bf16⟩
  | .hbm, ⟨106, _⟩ => ⟨S8192x1024, .bf16⟩
  | .hbm, ⟨107, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_0 : Ref sig .tc := ⟨.hbm, 63, rfl⟩
abbrev main_v55 : Ref sig .tc := ⟨.hbm, 64, rfl⟩
abbrev main_v56 : Ref sig .tc := ⟨.hbm, 65, rfl⟩
abbrev main_cst_1 : Ref sig .tc := ⟨.hbm, 66, rfl⟩
abbrev main_v57 : Ref sig .tc := ⟨.hbm, 67, rfl⟩
abbrev main_v58 : Ref sig .tc := ⟨.hbm, 68, rfl⟩
abbrev main_cst_2 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_3 : Ref sig .tc := ⟨.hbm, 76, rfl⟩
abbrev main_v65 : Ref sig .tc := ⟨.hbm, 77, rfl⟩
abbrev main_v66 : Ref sig .tc := ⟨.hbm, 78, rfl⟩
abbrev main_cst_4 : Ref sig .tc := ⟨.hbm, 79, rfl⟩
abbrev main_v67 : Ref sig .tc := ⟨.hbm, 80, rfl⟩
abbrev main_v68 : Ref sig .tc := ⟨.hbm, 81, rfl⟩
abbrev main_cst_5 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩

abbrev nD : Nat := 1
abbrev τ : Topo := Topo.v7x

variable {F : FTy → Type} [FloatOps F]
-- ==== Conv.lean ====
abbrev S8192x1024 : Shape := ⟨2, ![8192, 1024]⟩
abbrev S8x8192x1024 : Shape := ⟨3, ![8, 8192, 1024]⟩
abbrev S3x1024 : Shape := ⟨2, ![3, 1024]⟩
abbrev S8x1024 : Shape := ⟨2, ![8, 1024]⟩
abbrev S512x1024 : Shape := ⟨2, ![512, 1024]⟩
abbrev S16x1024 : Shape := ⟨2, ![16, 1024]⟩
abbrev S1x512x1024 : Shape := ⟨3, ![1, 512, 1024]⟩
abbrev S1x16x1024 : Shape := ⟨3, ![1, 16, 1024]⟩
abbrev S512x1 : Shape := ⟨2, ![512, 1]⟩
abbrev S1x1024 : Shape := ⟨2, ![1, 1024]⟩
abbrev S8x1 : Shape := ⟨2, ![8, 1]⟩
abbrev S1024 : Shape := ⟨1, ![1024]⟩

abbrev nBuf : Space → Nat
  | .hbm => 6
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8x8192x1024, .bf16⟩
  | .hbm, ⟨2, _⟩ => ⟨S3x1024, .f32⟩
  | .hbm, ⟨3, _⟩ => ⟨S8192x1024, .bf16⟩
  | .hbm, ⟨4, _⟩ => ⟨S8192x1024, .bf16⟩
  | .hbm, ⟨5, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S3x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, v2.toNat, c0_i32_1.toNat]

def cc0_transform_5 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvRefIdeal.lean ====
abbrev S8192x1024 : Shape := ⟨2, ![8192, 1024]⟩
abbrev S8x8192x1024 : Shape := ⟨3, ![8, 8192, 1024]⟩
abbrev S3x1024 : Shape := ⟨2, ![3, 1024]⟩
abbrev S1x8192x1024 : Shape := ⟨3, ![1, 8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x8192x1024, .bf16⟩
  | .hbm, ⟨2, _⟩ => ⟨S3x1024, .f32⟩
  | .hbm, ⟨3, _⟩ => ⟨S1x8192x1024, .bf16⟩
  | .hbm, ⟨4, _⟩ => ⟨S8192x1024, .bf16⟩
  | .hbm, ⟨5, _⟩ => ⟨S8192x1024, .f32⟩
  | .hbm, ⟨6, _⟩ => ⟨S1x8192x1024, .bf16⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S2x1024, .f32⟩
  | .hbm, ⟨12, _⟩ => ⟨S8194x1024, .f32⟩
  | .hbm, ⟨13, _⟩ => ⟨S_, .f32⟩
  | .hbm, ⟨14, _⟩ => ⟨S2x1024, .f32⟩
  | .hbm, ⟨15, _⟩ => ⟨S1x1024, .f32⟩
  | .hbm, ⟨16, _⟩ => ⟨S1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S3x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S_, .f32⟩
  | .hbm, ⟨55, _⟩ => ⟨S8194x1024, .f32⟩
  | .hbm, ⟨56, _⟩ => ⟨S1x1024, .f32⟩
  | .hbm, ⟨57, _⟩ => ⟨S_, .f32⟩
  | .hbm, ⟨58, _⟩ => ⟨S3x1024, .f32⟩
  | .hbm, ⟨59, _⟩ => ⟨S3x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S_, .f32⟩
  | .hbm, ⟨69, _⟩ => ⟨S8194x1024, .f32⟩
  | .hbm, ⟨70, _⟩ => ⟨S8194x1024, .f32⟩
  | .hbm, ⟨71, _⟩ => ⟨S1x1024, .f32⟩
  | .hbm, ⟨72, _⟩ => ⟨S_, .f32⟩
  | .hbm, ⟨73, _⟩ => ⟨S3x1024, .f32⟩
  | .hbm, ⟨74, _⟩ => ⟨S3x1024, .f32⟩
  | .hbm, ⟨75, _⟩ => ⟨S2x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .bf16⟩
  | .hbm, ⟨81, _⟩ => ⟨S8192x1024, .bf16⟩
  | .hbm, ⟨82, _⟩ => ⟨S_, .i32⟩
  | .hbm, ⟨83, _⟩ => ⟨S_, .f32⟩
  | .hbm, ⟨84, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c : Ref sig .tc := ⟨.hbm, 82, rfl⟩
abbrev main_call0_v0 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== In.lean ====
abbrev S8192x1024 : Shape := ⟨2, ![8192, 1024]⟩
abbrev S1x1024 : Shape := ⟨2, ![1, 1024]⟩
abbrev S4x8192x704 : Shape := ⟨3, ![4, 8192, 704]⟩
abbrev S8x1024x704 : Shape := ⟨3, ![8, 1024, 704]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x8192x704, .bf16⟩
  | .hbm, ⟨4, _⟩ => ⟨S4x8192x704, .bf16⟩
  | .hbm, ⟨5, _⟩ => ⟨S8x1024x704, .bf16⟩
  | .hbm, ⟨6, _⟩ => ⟨S8192x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S8x1024x704, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InRefIdeal.lean ====
abbrev S8192x1024 : Shape := ⟨2, ![8192, 1024]⟩
abbrev S1x1024 : Shape := ⟨2, ![1, 1024]⟩
abbrev S4x8192x704 : Shape := ⟨3, ![4, 8192, 704]⟩
abbrev S8x1024x704 : Shape := ⟨3, ![8, 1024, 704]⟩
abbrev S_ : Shape := ⟨0, ![]⟩
abbrev S8192 : Shape := ⟨1, ![8192]⟩
abbrev S8192x1 : Shape := ⟨2, ![8192, 1]⟩
abbrev S1024x8x704 : Shape := ⟨3, ![1024, 8, 704]⟩
abbrev S1024x5632 : Shape := ⟨2, ![1024, 5632]⟩
abbrev S8192x5632 : Shape := ⟨2, ![8192, 5632]⟩
abbrev S8192x4x704 : Shape := ⟨3, ![8192, 4, 704]⟩
abbrev S8192x2816 : Shape := ⟨2, ![8192, 2816]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S4x8192x704, .bf16⟩
  | .hbm, ⟨4, _⟩ => ⟨S4x8192x704, .bf16⟩
  | .hbm, ⟨5, _⟩ => ⟨S8x1024x704, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8x1024x704, .f32⟩
  | .hbm, ⟨26, _⟩ => ⟨S1024x8x704, .f32⟩
  | .hbm, ⟨27, _⟩ => ⟨S1024x5632, .f32⟩
  | .hbm, ⟨28, _⟩ => ⟨S8192x5632, .f32⟩
  | .hbm, ⟨29, _⟩ => ⟨S4x8192x704, .f32⟩
  | .hbm, ⟨30, _⟩ => ⟨S8192x4x704, .f32⟩
  | .hbm, ⟨31, _⟩ => ⟨S8192x2816, .f32⟩
  | .hbm, ⟨32, _⟩ => ⟨S4x8192x704, .f32⟩
  | .hbm, ⟨33, _⟩ => ⟨S8192x4x704, .f32⟩
  | .hbm, ⟨34, _⟩ => ⟨S8192x2816, .f32⟩
  | .hbm, ⟨35, _⟩ => ⟨S8192x5632, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Proj.lean ====
abbrev S8192x1024 : Shape := ⟨2, ![8192, 1024]⟩
abbrev S8x1024x1024 : Shape := ⟨3, ![8, 1024, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8x1024x1024, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S8x1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ProjRefIdeal.lean ====
abbrev S8192x1024 : Shape := ⟨2, ![8192, 1024]⟩
abbrev S8x1024x1024 : Shape := ⟨3, ![8, 1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8x1024 : Shape := ⟨3, ![1024, 8, 1024]⟩
abbrev S1024x8192 : Shape := ⟨2, ![1024, 8192]⟩
abbrev S8192x8192 : Shape := ⟨2, ![8192, 8192]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8x1024x1024, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8x1024x1024, .f32⟩
  | .hbm, ⟨32, _⟩ => ⟨S1024x8x1024, .f32⟩
  | .hbm, ⟨33, _⟩ => ⟨S1024x8192, .f32⟩
  | .hbm, ⟨34, _⟩ => ⟨S8192x8192, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x8192, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Hid.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩
abbrev S8192x4x704 : Shape := ⟨3, ![8192, 4, 704]⟩
abbrev S4x8192x704 : Shape := ⟨3, ![4, 8192, 704]⟩
abbrev S4x704x1024 : Shape := ⟨3, ![4, 704, 1024]⟩
abbrev S512x1024 : Shape := ⟨2, ![512, 1024]⟩
abbrev S4x512x704 : Shape := ⟨3, ![4, 512, 704]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 34
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S2816x1024, .bf16⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x4x704, .f32⟩
  | .hbm, ⟨25, _⟩ => ⟨S4x8192x704, .f32⟩
  | .hbm, ⟨26, _⟩ => ⟨S4x8192x704, .bf16⟩
  | .hbm, ⟨27, _⟩ => ⟨S8192x4x704, .f32⟩
  | .hbm, ⟨28, _⟩ => ⟨S4x8192x704, .f32⟩
  | .hbm, ⟨29, _⟩ => ⟨S4x8192x704, .bf16⟩
  | .hbm, ⟨30, _⟩ => ⟨S4x704x1024, .bf16⟩
  | .hbm, ⟨31, _⟩ => ⟨S8192x1024, .bf16⟩
  | .hbm, ⟨32, _⟩ => ⟨S4x8192x704, .bf16⟩
  | .hbm, ⟨33, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x704x1024, .bf16⟩
  | .local _ .vmem, ⟨7, _⟩ => ⟨S512x1024, .bf16⟩
  | .local _ .vmem, ⟨8, _⟩ => ⟨S512x1024, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_cst : Ref sig .tc := ⟨.hbm, 17, rfl⟩
abbrev main_v1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_v11_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HidRefIdeal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S2816x1024, .bf16⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x4x704, .f32⟩
  | .hbm, ⟨38, _⟩ => ⟨S4x8192x704, .f32⟩
  | .hbm, ⟨39, _⟩ => ⟨S4x8192x704, .bf16⟩
  | .hbm, ⟨40, _⟩ => ⟨S8192x4x704, .f32⟩
  | .hbm, ⟨41, _⟩ => ⟨S4x8192x704, .f32⟩
  | .hbm, ⟨42, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩

abbrev nD : Nat := 1
abbrev τ : Topo := Topo.v7x

variable {F : FTy → Type} [FloatOps F]
-- ==== Wout.lean ====
abbrev S4x8192x704 : Shape := ⟨3, ![4, 8192, 704]⟩
abbrev S1x8192x1024 : Shape := ⟨3, ![1, 8192, 1024]⟩
abbrev S4x704x1024 : Shape := ⟨3, ![4, 704, 1024]⟩
abbrev S1x4096x704 : Shape := ⟨3, ![1, 4096, 704]⟩
abbrev S1x4096x1024 : Shape := ⟨3, ![1, 4096, 1024]⟩
abbrev S1x704x1024 : Shape := ⟨3, ![1, 704, 1024]⟩
abbrev S704x1024 : Shape := ⟨2, ![704, 1024]⟩
abbrev S4096x704 : Shape := ⟨2, ![4096, 704]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S1x8192x1024, .bf16⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WoutRefIdeal.lean ====
abbrev S4x8192x704 : Shape := ⟨3, ![4, 8192, 704]⟩
abbrev S1x8192x1024 : Shape := ⟨3, ![1, 8192, 1024]⟩
abbrev S8192x4x704 : Shape := ⟨3, ![8192, 4, 704]⟩
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S1x8192x1024, .bf16⟩
  | .hbm, ⟨2, _⟩ => ⟨S4x8192x704, .f32⟩
  | .hbm, ⟨3, _⟩ => ⟨S8192x4x704, .f32⟩
  | .hbm, ⟨4, _⟩ => ⟨S8192x2816, .f32⟩
  | .hbm, ⟨5, _⟩ => ⟨S8192x1024, .bf16⟩
  | .hbm, ⟨6, _⟩ => ⟨S8192x1024, .f32⟩
  | .hbm, ⟨7, _⟩ => ⟨S_, .f32⟩
  | .hbm, ⟨8, _⟩ => ⟨S2816x1024, .f32⟩
  | .hbm, ⟨9, _⟩ => ⟨S8192x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Win.lean ====
abbrev S8192x1024 : Shape := ⟨2, ![8192, 1024]⟩
abbrev S4x8192x704 : Shape := ⟨3, ![4, 8192, 704]⟩
abbrev S8x704x1024 : Shape := ⟨3, ![8, 704, 1024]⟩
abbrev S4096x1024 : Shape := ⟨2, ![4096, 1024]⟩
abbrev S1x4096x704 : Shape := ⟨3, ![1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x8192x704, .bf16⟩
  | .hbm, ⟨3, _⟩ => ⟨S8x704x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x4096x704, .bf16⟩
  | .local _ .vmem, ⟨5, _⟩ => ⟨S1x4096x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S704x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond4 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 1 := Scalar.cmpi .slt arg0 c0_i32_1
  let c4_i32 : BitVec 32 := 4#32
  let v4 : BitVec 1 := Scalar.cmpi .sge arg0 c4_i32
  let c1_i32 : BitVec 32 := 1#32
  let v5 : BitVec 32 := Scalar.select v4 c1_i32 arg1
  let c0_i32_2 : BitVec 32 := 0#32
  let v6 : BitVec 32 := Scalar.select v3 c0_i32_2 v5
  let c0_i32_3 : BitVec 32 := 0#32
  let c0_i32_4 : BitVec 32 := 0#32
  ![v2.toNat, v6.toNat, c0_i32_3.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c4_i32_0 : BitVec 32 := 4#32
  let v3 : BitVec 1 := Scalar.cmpi .slt arg0 c4_i32_0
  let c8_i32 : BitVec 32 := 8#32
  let v4 : BitVec 1 := Scalar.cmpi .sge arg0 c8_i32
  let c1_i32 : BitVec 32 := 1#32
  let v5 : BitVec 32 := Scalar.select v4 c1_i32 arg1
  let c0_i32_1 : BitVec 32 := 0#32
  let v6 : BitVec 32 := Scalar.select v3 c0_i32_1 v5
  let c0_i32_2 : BitVec 32 := 0#32
  let c0_i32_3 : BitVec 32 := 0#32
  ![v2.toNat, v6.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WinRefIdeal.lean ====
abbrev S8192x1024 : Shape := ⟨2, ![8192, 1024]⟩
abbrev S4x8192x704 : Shape := ⟨3, ![4, 8192, 704]⟩
abbrev S8192x4x704 : Shape := ⟨3, ![8192, 4, 704]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x8192x704, .bf16⟩
  | .hbm, ⟨3, _⟩ => ⟨S8192x1024, .f32⟩
  | .hbm, ⟨4, _⟩ => ⟨S4x8192x704, .f32⟩
  | .hbm, ⟨5, _⟩ => ⟨S8192x4x704, .f32⟩
  | .hbm, ⟨6, _⟩ => ⟨S8192x2816, .f32⟩
  | .hbm, ⟨7, _⟩ => ⟨S4x8192x704, .f32⟩
  | .hbm, ⟨8, _⟩ => ⟨S8192x4x704, .f32⟩
  | .hbm, ⟨9, _⟩ => ⟨S8192x2816, .f32⟩
  | .hbm, ⟨10, _⟩ => ⟨S8192x5632, .f32⟩
  | .hbm, ⟨11, _⟩ => ⟨S_, .f32⟩
  | .hbm, ⟨12, _⟩ => ⟨S1024x5632, .f32⟩
  | .hbm, ⟨13, _⟩ => ⟨S8192x5632, .f32⟩
  | .hbm, ⟨14, _⟩ => ⟨S5632x1024, .f32⟩
  | .hbm, ⟨15, _⟩ => ⟨S1024x5632, .f32⟩
  | .hbm, ⟨16, _⟩ => ⟨S1024x5632, .bf16⟩
  | .hbm, ⟨17, _⟩ => ⟨S5632x1024, .bf16⟩
  | .hbm, ⟨18, _⟩ => ⟨S8x704x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Wmix.lean ====
abbrev S8192x1024 : Shape := ⟨2, ![8192, 1024]⟩
abbrev S1x8192x1024 : Shape := ⟨3, ![1, 8192, 1024]⟩
abbrev S4x512x1024 : Shape := ⟨3, ![4, 512, 1024]⟩
abbrev S2048x1024 : Shape := ⟨2, ![2048, 1024]⟩
abbrev S1x2048x1024 : Shape := ⟨3, ![1, 2048, 1024]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1x8192x1024, .bf16⟩
  | .hbm, ⟨6, _⟩ => ⟨S1x8192x1024, .bf16⟩
  | .hbm, ⟨7, _⟩ => ⟨S1x8192x1024, .bf16⟩
  | .hbm, ⟨8, _⟩ => ⟨S1x8192x1024, .bf16⟩
  | .hbm, ⟨9, _⟩ => ⟨S4x512x1024, .bf16⟩
  | .hbm, ⟨10, _⟩ => ⟨S4x512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond6 (i : grid0.Coords) : BitVec 1 :=
  let arg1 : BitVec 32 := BitVec.ofNat 32 (i 1).val
  let c3_i32_9 : BitVec 32 := 3#32
  let v23 : BitVec 1 := Scalar.cmpi .eq arg1 c3_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 1 := Scalar.cmpi .slt arg0 c0_i32_2
  let c1_i32 : BitVec 32 := 1#32
  let v4 : BitVec 1 := Scalar.cmpi .sge arg0 c1_i32
  let c3_i32 : BitVec 32 := 3#32
  let v5 : BitVec 32 := Scalar.select v4 c3_i32 arg1
  let c0_i32_3 : BitVec 32 := 0#32
  let v6 : BitVec 32 := Scalar.select v3 c0_i32_3 v5
  let c0_i32_4 : BitVec 32 := 0#32
  let c0_i32_5 : BitVec 32 := 0#32
  ![v2.toNat, v6.toNat, c0_i32_4.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c1_i32_1 : BitVec 32 := 1#32
  let v3 : BitVec 1 := Scalar.cmpi .slt arg0 c1_i32_1
  let c2_i32 : BitVec 32 := 2#32
  let v4 : BitVec 1 := Scalar.cmpi .sge arg0 c2_i32
  let c3_i32 : BitVec 32 := 3#32
  let v5 : BitVec 32 := Scalar.select v4 c3_i32 arg1
  let c0_i32_2 : BitVec 32 := 0#32
  let v6 : BitVec 32 := Scalar.select v3 c0_i32_2 v5
  let c0_i32_3 : BitVec 32 := 0#32
  let c0_i32_4 : BitVec 32 := 0#32
  ![v2.toNat, v6.toNat, c0_i32_3.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c2_i32_1 : BitVec 32 := 2#32
  let v3 : BitVec 1 := Scalar.cmpi .slt arg0 c2_i32_1
  let c3_i32 : BitVec 32 := 3#32
  let v4 : BitVec 1 := Scalar.cmpi .sge arg0 c3_i32
  let c3_i32_2 : BitVec 32 := 3#32
  let v5 : BitVec 32 := Scalar.select v4 c3_i32_2 arg1
  let c0_i32_3 : BitVec 32 := 0#32
  let v6 : BitVec 32 := Scalar.select v3 c0_i32_3 v5
  let c0_i32_4 : BitVec 32 := 0#32
  let c0_i32_5 : BitVec 32 := 0#32
  ![v2.toNat, v6.toNat, c0_i32_4.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c0_i32 : BitVec 32 := 0#32
  let c0_i32_0 : BitVec 32 := 0#32
  let v1 : BitVec 32 := Scalar.maxsi c0_i32 v0
  let v2 : BitVec 32 := Scalar.minsi c0_i32_0 v1
  let c3_i32_1 : BitVec 32 := 3#32
  let v3 : BitVec 1 := Scalar.cmpi .slt arg0 c3_i32_1
  let c4_i32 : BitVec 32 := 4#32
  let v4 : BitVec 1 := Scalar.cmpi .sge arg0 c4_i32
  let c3_i32_2 : BitVec 32 := 3#32
  let v5 : BitVec 32 := Scalar.select v4 c3_i32_2 arg1
  let c0_i32_3 : BitVec 32 := 0#32
  let v6 : BitVec 32 := Scalar.select v3 c0_i32_3 v5
  let c0_i32_4 : BitVec 32 := 0#32
  let c0_i32_5 : BitVec 32 := 0#32
  ![v2.toNat, v6.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== WmixRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x512x1024 : Shape := ⟨3, ![4, 512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x4096, .f32⟩
  | .hbm, ⟨11, _⟩ => ⟨S_, .f32⟩
  | .hbm, ⟨12, _⟩ => ⟨S1024x4096, .f32⟩
  | .hbm, ⟨13, _⟩ => ⟨S8192x4096, .f32⟩
  | .hbm, ⟨14, _⟩ => ⟨S4096x1024, .f32⟩
  | .hbm, ⟨15, _⟩ => ⟨S1024x4096, .f32⟩
  | .hbm, ⟨16, _⟩ => ⟨S1024x4096, .bf16⟩
  | .hbm, ⟨17, _⟩ => ⟨S1024x4x1024, .bf16⟩
  | .hbm, ⟨18, _⟩ => ⟨S4x1024x1024, .bf16⟩
  | .hbm, ⟨19, _⟩ => ⟨S4x512x1024, .bf16⟩
  | .hbm, ⟨20, _⟩ => ⟨S4x512x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Up.lean ====
abbrev S8192x1024 : Shape := ⟨2, ![8192, 1024]⟩
abbrev S8x1024x704 : Shape := ⟨3, ![8, 1024, 704]⟩
abbrev S4x8192x704 : Shape := ⟨3, ![4, 8192, 704]⟩
abbrev S512x1024 : Shape := ⟨2, ![512, 1024]⟩
abbrev S4x512x704 : Shape := ⟨3, ![4, 512, 704]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S4x8192x704, .bf16⟩
  | .hbm, ⟨3, _⟩ => ⟨S4x8192x704, .bf16⟩
  | .hbm, ⟨4, _⟩ => ⟨S4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S8x1024x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpRefIdeal.lean ====
abbrev S8192x1024 : Shape := ⟨2, ![8192, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S8192x1024, .f32⟩
  | .hbm, ⟨3, _⟩ => ⟨S8x1024x704, .f32⟩
  | .hbm, ⟨4, _⟩ => ⟨S1024x8x704, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x4x704, .f32⟩
  | .hbm, ⟨31, _⟩ => ⟨S4x8192x704, .f32⟩
  | .hbm, ⟨32, _⟩ => ⟨S4x8192x704, .bf16⟩
  | .hbm, ⟨33, _⟩ => ⟨S8192x4x704, .f32⟩
  | .hbm, ⟨34, _⟩ => ⟨S4x8192x704, .f32⟩
  | .hbm, ⟨35, _⟩ => ⟨S4x8192x704, .bf16⟩
  | .hbm, ⟨36, _⟩ => ⟨S8192x4x704, .f32⟩
  | .hbm, ⟨37, _⟩ => ⟨S4x8192x704, .f32⟩
  | .hbm, ⟨38, _⟩ => ⟨S4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v7_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v7_1 : Ref sig .tc := ⟨.hbm, 20, rfl⟩
abbrev main_v7_0 : Ref sig .tc := ⟨.hbm, 21, rfl⟩
abbrev main_cst : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Down.lean ====
abbrev S8192x1024 : Shape := ⟨2, ![8192, 1024]⟩
abbrev S4x8192x704 : Shape := ⟨3, ![4, 8192, 704]⟩
abbrev S4x704x1024 : Shape := ⟨3, ![4, 704, 1024]⟩
abbrev S1x1024 : Shape := ⟨2, ![1, 1024]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S4x8192x704, .bf16⟩
  | .hbm, ⟨2, _⟩ => ⟨S4x704x1024, .bf16⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S8192x1024 : Shape := ⟨2, ![8192, 1024]⟩
abbrev S4x8192x704 : Shape := ⟨3, ![4, 8192, 704]⟩
abbrev S4x704x1024 : Shape := ⟨3, ![4, 704, 1024]⟩
abbrev S1x1024 : Shape := ⟨2, ![1, 1024]⟩
abbrev S8192x4x704 : Shape := ⟨3, ![8192, 4, 704]⟩
abbrev S8192x2816 : Shape := ⟨2, ![8192, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8192x704, .bf16⟩
  | .hbm, ⟨2, _⟩ => ⟨S4x704x1024, .bf16⟩
  | .hbm, ⟨3, _⟩ => ⟨S1x1024, .f32⟩
  | .hbm, ⟨4, _⟩ => ⟨S4x8192x704, .f32⟩
  | .hbm, ⟨5, _⟩ => ⟨S8192x4x704, .f32⟩
  | .hbm, ⟨6, _⟩ => ⟨S8192x2816, .f32⟩
  | .hbm, ⟨7, _⟩ => ⟨S4x704x1024, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Mix.lean ====
abbrev S8192x1024 : Shape := ⟨2, ![8192, 1024]⟩
abbrev S8x1024x1024 : Shape := ⟨3, ![8, 1024, 1024]⟩
abbrev S8x8192x1024 : Shape := ⟨3, ![8, 8192, 1024]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8x1024x1024, .bf16⟩
  | .hbm, ⟨2, _⟩ => ⟨S8x8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixRefIdeal.lean ====
abbrev S8192x1024 : Shape := ⟨2, ![8192, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S8192x8192 : Shape := ⟨2, ![8192, 8192]⟩
abbrev S8192x8x1024 : Shape := ⟨3, ![8192, 8, 1024]⟩
abbrev S8x8192x1024 : Shape := ⟨3, ![8, 8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x1024, .bf16⟩
  | .hbm, ⟨2, _⟩ => ⟨S8192x1024, .f32⟩
  | .hbm, ⟨3, _⟩ => ⟨S8x1024x1024, .f32⟩
  | .hbm, ⟨4, _⟩ => ⟨S1024x8x1024, .f32⟩
  | .hbm, ⟨5, _⟩ => ⟨S1024x8192, .f32⟩
  | .hbm, ⟨6, _⟩ => ⟨S8192x8192, .f32⟩
  | .hbm, ⟨7, _⟩ => ⟨S8192x8x1024, .f32⟩
  | .hbm, ⟨8, _⟩ => ⟨S8x8192x1024, .f32⟩
  | .hbm, ⟨9, _⟩ => ⟨S8x8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Merge.lean ====
abbrev S8x8192x1024 : Shape := ⟨3, ![8, 8192, 1024]⟩
abbrev S8192x1024 : Shape := ⟨2, ![8192, 1024]⟩
abbrev S3x1024 : Shape := ⟨2, ![3, 1024]⟩
abbrev S1024x1024 : Shape := ⟨2, ![1024, 1024]⟩
abbrev S1x1024 : Shape := ⟨2, ![1, 1024]⟩
abbrev S1x512x1024 : Shape := ⟨3, ![1, 512, 1024]⟩
abbrev S1x16x1024 : Shape := ⟨3, ![1, 16, 1024]⟩
abbrev S512x1024 : Shape := ⟨2, ![512, 1024]⟩
abbrev S16x1024 : Shape := ⟨2, ![16, 1024]⟩
abbrev S512x1 : Shape := ⟨2, ![512, 1]⟩
abbrev S512 : Shape := ⟨1, ![512]⟩

abbrev nBuf : Space → Nat
  | .hbm => 14
  | .vmem => 35
  | .smem => 0
  | _ => 0

abbrev bufTy : (tb : Table) → Fin (tcTables nBuf tb) → BufTy
  | .hbm, ⟨0, _⟩ => ⟨S8x8192x1024, .bf16⟩
  | .hbm, ⟨1, _⟩ => ⟨S8192x1024, .bf16⟩
  | .hbm, ⟨2, _⟩ => ⟨S8192x1024, .f32⟩
  | .hbm, ⟨3, _⟩ => ⟨S3x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x16x1024, .bf16⟩
  | .local _ .vmem, ⟨13, _⟩ => ⟨S1x16x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S3x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_4 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_5 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  let c0_i32_2 : BitVec 32 := 0#32
  ![c1_i32_0.toNat, v2.toNat, c0_i32_1.toNat]

def cc0_transform_6 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  let c0_i32_1 : BitVec 32 := 0#32
  ![c2_i32.toNat, v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeRefIdeal.lean ====
abbrev S8x8192x1024 : Shape := ⟨3, ![8, 8192, 1024]⟩
abbrev S8192x1024 : Shape := ⟨2, ![8192, 1024]⟩
abbrev S3x1024 : Shape := ⟨2, ![3, 1024]⟩
abbrev S1024x1024 : Shape := ⟨2, ![1024, 1024]⟩
abbrev S1x1024 : Shape := ⟨2, ![1, 1024]⟩
abbrev S1x8192x1024 : Shape := ⟨3, ![1, 8192, 1024]⟩
abbrev S_ : Shape := ⟨0, ![]⟩
abbrev S2x1024 : Shape := ⟨2, ![2, 1024]⟩
abbrev S8194x1024 : Shape := ⟨2, ![8194, 1024]⟩
abbrev S1024 : Shape := ⟨1, ![1024]⟩
abbrev S8192 : Shape := ⟨1, ![8192]⟩
abbrev S8192x1 : Shape := ⟨2, ![8192, 1]⟩

abbrev nBuf : Space → Nat
  | .hbm => 103
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8192x1024, .bf16⟩
  | .hbm, ⟨2, _⟩ => ⟨S8192x1024, .f32⟩
  | .hbm, ⟨3, _⟩ => ⟨S3x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x8192x1024, .bf16⟩
  | .hbm, ⟨9, _⟩ => ⟨S8192x1024, .bf16⟩
  | .hbm, ⟨10, _⟩ => ⟨S8192x1024, .f32⟩
  | .hbm, ⟨11, _⟩ => ⟨S1x8192x1024, .bf16⟩
  | .hbm, ⟨12, _⟩ => ⟨S8192x1024, .bf16⟩
  | .hbm, ⟨13, _⟩ => ⟨S8192x1024, .f32⟩
  | .hbm, ⟨14, _⟩ => ⟨S1x8192x1024, .bf16⟩
  | .hbm, ⟨15, _⟩ => ⟨S8192x1024, .bf16⟩
  | .hbm, ⟨16, _⟩ => ⟨S8192x1024, .f32⟩
  | .hbm, ⟨17, _⟩ => ⟨S1x8192x1024, .bf16⟩
  | .hbm, ⟨18, _⟩ => ⟨S8192x1024, .bf16⟩
  | .hbm, ⟨19, _⟩ => ⟨S8192x1024, .f32⟩
  | .hbm, ⟨20, _⟩ => ⟨S1x8192x1024, .bf16⟩
  | .hbm, ⟨21, _⟩ => ⟨S8192x1024, .bf16⟩
  | .hbm, ⟨22, _⟩ => ⟨S8192x1024, .f32⟩
  | .hbm, ⟨23, _⟩ => ⟨S1x8192x1024, .bf16⟩
  | .hbm, ⟨24, _⟩ => ⟨S8192x1024, .bf16⟩
  | .hbm, ⟨25, _⟩ => ⟨S8192x1024, .f32⟩
  | .hbm, ⟨26, _⟩ => ⟨S1x8192x1024, .bf16⟩
  | .hbm, ⟨27, _⟩ => ⟨S8192x1024, .bf16⟩
  | .hbm, ⟨28, _⟩ => ⟨S8192x1024, .f32⟩
  | .hbm, ⟨29, _⟩ => ⟨S1x8192x1024, .bf16⟩
  | .hbm, ⟨30, _⟩ => ⟨S8192x1024, .bf16⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S2x1024, .f32⟩
  | .hbm, ⟨35, _⟩ => ⟨S8194x1024, .f32⟩
  | .hbm, ⟨36, _⟩ => ⟨S1x1024, .f32⟩
  | .hbm, ⟨37, _⟩ => ⟨S1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1024x1024, .f32⟩
  | .hbm, ⟨57, _⟩ => ⟨S8192x1024, .f32⟩
  | .hbm, ⟨58, _⟩ => ⟨S8192x1024, .f32⟩
  | .hbm, ⟨59, _⟩ => ⟨S1024x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1024x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .bf16⟩
  | .hbm, ⟨99, _⟩ => ⟨S8192x1024, .bf16⟩
  | .hbm, ⟨100, _⟩ => ⟨S8192x1024, .bf16⟩
  | .hbm, ⟨101, _⟩ => ⟨S8192x1024, .bf16⟩
  | .hbm, ⟨102, _⟩ => ⟨S8192x1024, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_0 : Ref sig .tc := ⟨.hbm, 63, rfl⟩
abbrev main_v54 : Ref sig .tc := ⟨.hbm, 64, rfl⟩
abbrev main_v55 : Ref sig .tc := ⟨.hbm, 65, rfl⟩
abbrev main_cst_1 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_2 : Ref sig .tc := ⟨.hbm, 72, rfl⟩
abbrev main_v61 : Ref sig .tc := ⟨.hbm, 73, rfl⟩
abbrev main_v62 : Ref sig .tc := ⟨.hbm, 74, rfl⟩
abbrev main_cst_3 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_4 : Ref sig .tc := ⟨.hbm, 84, rfl⟩
abbrev main_v71 : Ref sig .tc := ⟨.hbm, 85, rfl⟩
abbrev main_v72 : Ref sig .tc := ⟨.hbm, 86, rfl⟩
abbrev main_cst_5 : Ref sig .tc := ⟨.hbm, 87, rfl⟩
abbrev main_v73 : Ref sig .tc := ⟨.hbm, 88, rfl⟩
abbrev main_v74 : Ref sig .tc := ⟨.hbm, 89, rfl⟩
abbrev main_cst_6 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩

abbrev nD : Nat := 1
abbrev τ : Topo := Topo.v7x

variable {F : FTy → Type} [FloatOps F]
-- ==== Prenorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrenormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AdamIn.lean ====
abbrev S8x704x1024 : Shape := ⟨3, ![8, 704, 1024]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x704x1024 : Shape := ⟨3, ![8, 704, 1024]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSquare.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSquareIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSquareRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamPle.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S8x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPleIdeal.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S8x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPleRefIdeal.lean ====
abbrev S8x256x128 : Shape := ⟨3, ![8, 256, 128]⟩
abbrev S256x128 : Shape := ⟨2, ![256, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvIdeal.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGains.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainsRefIdeal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamMix.lean ====
abbrev S8x512x1024 : Shape := ⟨3, ![8, 512, 1024]⟩
abbrev S1024x1024 : Shape := ⟨2, ![1024, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamMixRefIdeal.lean ====
abbrev S8x512x1024 : Shape := ⟨3, ![8, 512, 1024]⟩
abbrev S1024x1024 : Shape := ⟨2, ![1024, 1024]⟩
abbrev S8x1024x1024 : Shape := ⟨3, ![8, 1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x1024x1024, .bf16⟩
  | .hbm, ⟨6, _⟩ => ⟨S8x1024x1024, .f32⟩
  | .hbm, ⟨7, _⟩ => ⟨S_, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Tail.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x256, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x1024, .bf16⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== TailRefIdeal.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 144
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x256, .f32⟩
  | 3 => ⟨S1024x1024, .bf16⟩
  | 4 => ⟨S256x1024, .bf16⟩
  | 5 => ⟨S1x1024, .f32⟩
  | 6 => ⟨S1x1024, .f32⟩
  | 7 => ⟨S8192x1024, .f32⟩
  | 8 => ⟨S1024x1024, .f32⟩
  | 9 => ⟨S8192x1024, .f32⟩
  | 10 => ⟨S8192x1024, .f32⟩
  | 11 => ⟨S256x1024, .f32⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192, .f32⟩
  | 53 => ⟨S_, .f32⟩
  | 54 => ⟨S8192, .f32⟩
  | 55 => ⟨S8192, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S8192, .f32⟩
  | 64 => ⟨S_, .f32⟩
  | 65 => ⟨S8192, .f32⟩
  | 66 => ⟨S8192, .f32⟩
  | 67 => ⟨S8192x1024, .f32⟩
  | 68 => ⟨S8192x1024, .f32⟩
  | 69 => ⟨S8192x1024, .f32⟩
  | 70 => ⟨S_, .f32⟩
  | 71 => ⟨S1024, .f32⟩
  | 72 => ⟨S1x1024, .f32⟩
  | 73 => ⟨S8192x1024, .f32⟩
  | 74 => ⟨S8192x1024, .f32⟩
  | 75 => ⟨S8192x1024, .f32⟩
  | 76 => ⟨S_, .f32⟩
  | 77 => ⟨S8192, .f32⟩
  | 78 => ⟨S8192x1, .f32⟩
  | 79 => ⟨S8192x1024, .f32⟩
  | 80 => ⟨S8192x1024, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .bf16⟩
  | 96 => ⟨S8192x1024, .f32⟩
  | 97 => ⟨S_, .f32⟩
  | 98 => ⟨S8192, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S8192x1024, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1, .f32⟩
  | 4 => ⟨S_, .f32⟩
  | 5 => ⟨S8192x1, .f32⟩
  | 6 => ⟨S8192x1, .f32⟩
  | 7 => ⟨S_, .f32⟩
  | 8 => ⟨S8192, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .bf16⟩
  | 15 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_cst_11 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_cst_17 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_18 : Ref sig .tc := ⟨.hbm, 97, rfl⟩
abbrev main_v70 : Ref sig .tc := ⟨.hbm, 98, rfl⟩
abbrev main_v71 : Ref sig .tc := ⟨.hbm, 99, rfl⟩
abbrev main_cst_19 : Ref sig .tc := ⟨.hbm, 100, rfl⟩
abbrev main_v72 : Ref sig .tc := ⟨.hbm, 101, rfl⟩
abbrev main_v73 : Ref sig .tc := ⟨.hbm, 102, rfl⟩
abbrev main_cst_20 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_21 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_22 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_23 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_24 : Ref sig .tc := ⟨.hbm, 132, rfl⟩
abbrev main_v99 : Ref sig .tc := ⟨.hbm, 133, rfl⟩
abbrev main_v100 : Ref sig .tc := ⟨.hbm, 134, rfl⟩
abbrev main_cst_25 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩

abbrev nD : Nat := 1
abbrev τ : Topo := Topo.v7x

variable {F : FTy → Type} [FloatOps F]
-- ==== Wgate.lean ====
abbrev S1x8192x1024 : Shape := ⟨3, ![1, 8192, 1024]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x1024, .bf16⟩
  | .hbm, ⟨2, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1024x1024, .f32⟩
  | _, _ => ⟨S1x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgateRefIdeal.lean ====
abbrev S1x8192x1024 : Shape := ⟨3, ![1, 8192, 1024]⟩
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x8192x1024, .bf16⟩
  | .hbm, ⟨1, _⟩ => ⟨S1x8192x1024, .bf16⟩
  | .hbm, ⟨2, _⟩ => ⟨S8192x1024, .bf16⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1x1024x1024, .bf16⟩
  | _, _ => ⟨S1x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Wple.lean ====
abbrev S1x8192x256 : Shape := ⟨3, ![1, 8192, 256]⟩
abbrev S1x8192x1024 : Shape := ⟨3, ![1, 8192, 1024]⟩
abbrev S1x256x1024 : Shape := ⟨3, ![1, 256, 1024]⟩
abbrev S1x2048x256 : Shape := ⟨3, ![1, 2048, 256]⟩
abbrev S1x2048x1024 : Shape := ⟨3, ![1, 2048, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x8192x256, .f32⟩
  | .hbm, ⟨1, _⟩ => ⟨S1x8192x1024, .bf16⟩
  | .hbm, ⟨2, _⟩ => ⟨S1x256x1024, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x256x1024, .bf16⟩
  | .local _ .vmem, ⟨5, _⟩ => ⟨S256x1024, .f32⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WpleRefIdeal.lean ====
abbrev S1x8192x256 : Shape := ⟨3, ![1, 8192, 256]⟩
abbrev S1x8192x1024 : Shape := ⟨3, ![1, 8192, 1024]⟩
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩
abbrev S1x256x1024 : Shape := ⟨3, ![1, 256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x8192x256, .f32⟩
  | .hbm, ⟨1, _⟩ => ⟨S1x8192x1024, .bf16⟩
  | .hbm, ⟨2, _⟩ => ⟨S8192x256, .f32⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S256x1024, .f32⟩
  | .hbm, ⟨7, _⟩ => ⟨S8192x1024, .f32⟩
  | .hbm, ⟨8, _⟩ => ⟨S1024x256, .f32⟩
  | .hbm, ⟨9, _⟩ => ⟨S256x1024, .f32⟩
  | .hbm, ⟨10, _⟩ => ⟨S256x1024, .bf16⟩
  | .hbm, ⟨11, _⟩ => ⟨S1x256x1024, .bf16⟩
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Common.lean ====
/- A choice by a comparison of two counts, as a choice by the counts themselves. Used by every program's reading. -/
module

public import Idealize.ShloMosaic.Lib.Pointwise
public import Idealize.ShloMosaic.Lib.WordCmp

@[expose] public section

set_option maxRecDepth 16384

noncomputable section

namespace Cert.Common

open Idealize.ShloMosaic

/-- A 32-bit word picks its first value exactly when the two counts that it compares are the same. -/
theorem select_ofNat {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [h, Scalar.select]

/-- The same where the comparison is one of two scalars. -/
theorem select_scalar_ofNat {α : Type} (a b : ℕ) (ha : a < 2 ^ 32) (hb : b < 2 ^ 32) (x y : α) :
    Scalar.select (Scalar.cmpi .eq (BitVec.ofNat 32 a) (BitVec.ofNat 32 b)) x y = if a = b then x else y :=
  select_ofNat a b ha hb x y

/-- A sum over `a * b` rows is a sum over `a` blocks of `b` rows each. -/
theorem sum_blocks {M : Type} [AddCommMonoid M] (a b n : ℕ) (h : n = a * b) (f : Fin n → M) :
    ∑ t : Fin a, ∑ x : Fin b, f ⟨b * t.val + x.val, by
        subst h
        calc b * t.val + x.val < b * t.val + b := by have := x.isLt; omega
          _ = b * (t.val + 1) := by ring
          _ ≤ b * a := Nat.mul_le_mul_left _ t.isLt
          _ = a * b := Nat.mul_comm _ _⟩ = ∑ r : Fin n, f r := by
  subst h
  rw [← finProdFinEquiv.sum_comp, Fintype.sum_prod_type]
  refine Finset.sum_congr rfl fun t _ => Finset.sum_congr rfl fun x _ => congrArg f (Fin.ext ?_)
  show b * t.val + x.val = x.val + b * t.val
  omega

end Cert.Common

end
-- ==== Proof.Mixer.Blocks.lean ====
/- What the mixer's backward kernel holds in its input windows at one grid point: rows 512 t … 512 t + 511 of each
   array, the sixteen rows before them for the convolution, and the whole weight matrices. -/
module

public import proofs.«01_k».proof.Proof.Gen.MixerIdeal.Value
public import proofs.«01_k».proof.Proof.Gen.MixerRefIdeal.Read
public import proofs.«01_k».proof.Proof.Common
public import Idealize.ShloMosaic.Lib.Pipeline.ValueKit
public import Idealize.ShloMosaic.Lib.Pointwise
public import Idealize.ShloMosaic.Lib.Claim

@[expose] public section

set_option maxRecDepth 16384

noncomputable section

namespace Cert.MixerIdeal.RefValue

open Cert.MixerIdeal Cert.MixerIdeal.Gen Idealize.ShloMosaic Idealize.ShloMosaic.TcCoe Idealize.SL.Sem
open Idealize.ShloMosaic.Pipeline (Dat)

variable (m : (ℓ : Loc nD τ sig) → Buf (Elt Ideal) ℓ)

/-- The block each window holds at grid point `t`. -/
theorem idx : ∀ t : Fin grid0.N, (grid0.coords t 0).val = t.val ∧ win0_0.index t = ![t.val, 0]
    ∧ win0_1.index t = ![0, t.val, 0] ∧ win0_2.index t = ![1, t.val, 0] ∧ win0_3.index t = ![2, t.val, 0]
    ∧ win0_4.index t = ![6, t.val, 0] ∧ win0_5.index t = ![7, t.val, 0] ∧ win0_6.index t = ![1, 32 * t.val - 1, 0]
    ∧ win0_7.index t = ![2, 32 * t.val - 1, 0] ∧ win0_8.index t = ![t.val, 0] ∧ win0_9.index t = ![t.val, 0]
    ∧ win0_10.index t = ![0, 0] ∧ win0_11.index t = ![0, 0] ∧ win0_12.index t = ![0, 0] ∧ win0_13.index t = ![0, 0] := by
  decide +kernel

/-- The block each output window writes at grid point `t`. -/
theorem oidx : ∀ t : Fin grid0.N, win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] := by
  decide +kernel

/-- Row `p` of block `t`, among all rows. -/
def row (t : Fin cfg0.N) (p : Fin 512) : Fin 8192 :=
  ⟨512 * t.val + p.val, by have := t.isLt; have h : cfg0.N = 16 := N_0; omega⟩

theorem blk0 (c : Dev nD) (t : Fin cfg0.N) (p : Fin 512) (k : Fin 1024) :
    (iblk m c 0 t : Vec Ideal S512x1024 .f32) (ix2 p k) = m ((c : Thread nD τ).loc main_arg0) (ix2 (row t p) k) := by
  blk_ext [iblk, V, idx t, row]

theorem blk1 (c : Dev nD) (t : Fin cfg0.N) (p : Fin 512) (k : Fin 1024) :
    (iblk m c 1 t : Vec Ideal S1x512x1024 .bf16) (ix3 0 p k)
      = m ((c : Thread nD τ).loc main_arg1) (ix3 0 (row t p) k) := by
  blk_ext [iblk, V, idx t, row]

theorem blk2 (c : Dev nD) (t : Fin cfg0.N) (p : Fin 512) (k : Fin 1024) :
    (iblk m c 2 t : Vec Ideal S1x512x1024 .bf16) (ix3 0 p k)
      = m ((c : Thread nD τ).loc main_arg1) (ix3 1 (row t p) k) := by
  blk_ext [iblk, V, idx t, row]

theorem blk3 (c : Dev nD) (t : Fin cfg0.N) (p : Fin 512) (k : Fin 1024) :
    (iblk m c 3 t : Vec Ideal S1x512x1024 .bf16) (ix3 0 p k)
      = m ((c : Thread nD τ).loc main_arg1) (ix3 2 (row t p) k) := by
  blk_ext [iblk, V, idx t, row]

theorem blk4 (c : Dev nD) (t : Fin cfg0.N) (p : Fin 512) (k : Fin 1024) :
    (iblk m c 4 t : Vec Ideal S1x512x1024 .bf16) (ix3 0 p k)
      = m ((c : Thread nD τ).loc main_arg1) (ix3 6 (row t p) k) := by
  blk_ext [iblk, V, idx t, row]

theorem blk5 (c : Dev nD) (t : Fin cfg0.N) (p : Fin 512) (k : Fin 1024) :
    (iblk m c 5 t : Vec Ideal S1x512x1024 .bf16) (ix3 0 p k)
      = m ((c : Thread nD τ).loc main_arg1) (ix3 7 (row t p) k) := by
  blk_ext [iblk, V, idx t, row]

/-- The sixteen rows before block `t`, which has a block before it. -/
theorem blk6 (c : Dev nD) (t : Fin cfg0.N) (ht : t.val ≠ 0) (p : Fin 16) (k : Fin 1024) (R : Fin 8192)
    (hR : R.val + 16 = 512 * t.val + p.val) :
    (iblk m c 6 t : Vec Ideal S1x16x1024 .bf16) (ix3 0 p k)
      = m ((c : Thread nD τ).loc main_arg1) (ix3 1 R k) := by
  blk_ext [iblk, V, idx t]

/-- The sixteen rows before block `t`, which has a block before it. -/
theorem blk7 (c : Dev nD) (t : Fin cfg0.N) (ht : t.val ≠ 0) (p : Fin 16) (k : Fin 1024) (R : Fin 8192)
    (hR : R.val + 16 = 512 * t.val + p.val) :
    (iblk m c 7 t : Vec Ideal S1x16x1024 .bf16) (ix3 0 p k)
      = m ((c : Thread nD τ).loc main_arg1) (ix3 2 R k) := by
  blk_ext [iblk, V, idx t]

/-- The saved forward product of window 8: the host computes it as the reference does. -/
theorem blk8 (c : Dev nD) (t : Fin cfg0.N) (p : Fin 512) (k : Fin 1024) :
    (iblk m c 8 t : Vec Ideal S512x1024 .bf16) (ix2 p k)
      = Cert.MixerRefIdeal.Read.val_main_v50 (F := Ideal) (m ((c : Thread nD τ).loc main_arg1)) (m ((c : Thread nD τ).loc main_arg3)) (m ((c : Thread nD τ).loc main_arg4)) (ix2 (row t p) k) := by
  have e : V m c main_v37 = Cert.MixerRefIdeal.Read.val_main_v50 (F := Ideal) (m ((c : Thread nD τ).loc main_arg1)) (m ((c : Thread nD τ).loc main_arg3)) (m ((c : Thread nD τ).loc main_arg4)) := by
    entry_read
    rfl
  rw [← e]
  blk_ext [iblk, idx t, row]

/-- The saved forward product of window 9: the host computes it as the reference does. -/
theorem blk9 (c : Dev nD) (t : Fin cfg0.N) (p : Fin 512) (k : Fin 1024) :
    (iblk m c 9 t : Vec Ideal S512x1024 .bf16) (ix2 p k)
      = Cert.MixerRefIdeal.Read.val_main_v52 (F := Ideal) (m ((c : Thread nD τ).loc main_arg2)) (m ((c : Thread nD τ).loc main_arg5)) (ix2 (row t p) k) := by
  have e : V m c main_v38 = Cert.MixerRefIdeal.Read.val_main_v52 (F := Ideal) (m ((c : Thread nD τ).loc main_arg2)) (m ((c : Thread nD τ).loc main_arg5)) := by
    entry_read
    rfl
  rw [← e]
  blk_ext [iblk, idx t, row]

theorem blk10 (c : Dev nD) (t : Fin cfg0.N) (p : Fin 3) (k : Fin 1024) :
    (iblk m c 10 t : Vec Ideal S3x1024 .f32) (ix2 p k) = m ((c : Thread nD τ).loc main_arg3) (ix2 p k) := by
  blk_ext [iblk, V, idx t]

theorem blk11 (c : Dev nD) (t : Fin cfg0.N) (p : Fin 1024) (k : Fin 1024) :
    (iblk m c 11 t : Vec Ideal S1024x1024 .bf16) (ix2 p k) = m ((c : Thread nD τ).loc main_arg4) (ix2 p k) := by
  blk_ext [iblk, V, idx t, row]

theorem blk12 (c : Dev nD) (t : Fin cfg0.N) (p : Fin 1024) (k : Fin 1024) :
    (iblk m c 12 t : Vec Ideal S1024x1024 .bf16) (ix2 p k) = m ((c : Thread nD τ).loc main_arg5) (ix2 p k) := by
  blk_ext [iblk, V, idx t, row]

theorem blk13 (c : Dev nD) (t : Fin cfg0.N) (p : Fin 1024) (k : Fin 1024) :
    (iblk m c 13 t : Vec Ideal S1024x1024 .bf16) (ix2 p k) = m ((c : Thread nD τ).loc main_arg6) (ix2 p k) := by
  blk_ext [iblk, V, idx t, row]

end Cert.MixerIdeal.RefValue

end
-- ==== Proof.Mixer.Formulas.lean ====
/- The reference's results at one index, as formulas: the derivative of the mixer's merge and of its convolution branch,
   with each gate 1 / (1 + exp (-x)) of its own projection. -/
module

public import proofs.«01_k».proof.Proof.Gen.MixerRefIdeal.Read
public import Idealize.ShloMosaic.Lib.Pipeline.ValueKit
public import Idealize.ShloMosaic.Lib.Pointwise

@[expose] public section

set_option maxRecDepth 16384

noncomputable section

namespace Cert.MixerRefIdeal.Formulas

open Cert.MixerRefIdeal Cert.MixerRefIdeal.Read Idealize.ShloMosaic Idealize.ShloMosaic.TcCoe

variable (x0 : (⟨S8192x1024, .f32⟩ : BufTy).Contents (Elt Ideal))
  (x1 : (⟨S8x8192x1024, .bf16⟩ : BufTy).Contents (Elt Ideal))
  (x2 : (⟨S8192x1024, .bf16⟩ : BufTy).Contents (Elt Ideal))
  (x3 : (⟨S3x1024, .f32⟩ : BufTy).Contents (Elt Ideal))
  (x4 : (⟨S1024x1024, .bf16⟩ : BufTy).Contents (Elt Ideal)) (x5 : (⟨S1024x1024, .bf16⟩ : BufTy).Contents (Elt Ideal)) (x6 : (⟨S1024x1024, .bf16⟩ : BufTy).Contents (Elt Ideal))

/-- The gradient of the merged branches: the incoming gradient times the transposed output matrix. -/
def merged (r : Fin 8192) (k : Fin 1024) : EReal := ∑ l : Fin 1024, x0 (ix2 r l) * x6 (ix2 k l)
/-- The gate of projection `g`. -/
def gate (g : Fin 8) (r : Fin 8192) (k : Fin 1024) : EReal := Ideal.logistic (x1 (ix3 g r k))
/-- The gradient of the convolution branch's product with its output matrix. -/
def toConv (r : Fin 8192) (k : Fin 1024) : EReal := ∑ l : Fin 1024, gate x1 6 r l * merged x0 x6 r l * x4 (ix2 k l)
/-- The product of two projections that the convolution takes. -/
def fed (r : Fin 8192) (k : Fin 1024) : EReal := x1 (ix3 1 r k) * x1 (ix3 2 r k)
/-- The causal convolution with three taps: rows before the first count as zero. -/
def convolved (r : Fin 8192) (k : Fin 1024) : EReal :=
  x3 (ix2 0 k) * (if _h : r.val < 2 then 0 else fed x1 ⟨r.val - 2, by omega⟩ k)
    + x3 (ix2 1 k) * (if _h : r.val < 1 then 0 else fed x1 ⟨r.val - 1, by omega⟩ k)
    + x3 (ix2 2 k) * fed x1 r k

theorem val86_apply (r : Fin 8192) (k : Fin 1024) :
    val_main_v86 (F := Ideal) x0 (ix2 r k) = x0 (ix2 r k) := by
  pointwise [val_main_v86]

theorem val75_apply (r : Fin 8192) (k : Fin 1024) :
    val_main_v75 (F := Ideal) x0 x6 (ix2 r k) = merged x0 x6 r k := by
  pointwise [val_main_v75, val_main_v48, merged]

theorem val58_apply (r : Fin 8192) (k : Fin 1024) :
    val_main_v58 (F := Ideal) x1 (ix2 r k) = gate x1 6 r k := by
  pointwise [val_main_v58, val_main_v57, val_main_v56, val_main_v55, val_main_v54, val_main_v53, val_main_cst_0, val_main_cst_1, val_main_v20, val_main_v19, val_main_v18, gate, Ideal.logistic]

theorem val68_apply (r : Fin 8192) (k : Fin 1024) :
    val_main_v68 (F := Ideal) x1 (ix2 r k) = gate x1 7 r k := by
  pointwise [val_main_v68, val_main_v67, val_main_v66, val_main_v65, val_main_v64, val_main_v63, val_main_cst_3, val_main_cst_4, val_main_v23, val_main_v22, val_main_v21, gate, Ideal.logistic]

theorem val87_apply (r : Fin 8192) (k : Fin 1024) :
    val_main_v87 (F := Ideal) x0 x1 x6 (ix2 r k) = gate x1 6 r k * merged x0 x6 r k := by
  pointwise [val_main_v87, val_main_v79, val58_apply, val75_apply]

theorem val88_apply (r : Fin 8192) (k : Fin 1024) :
    val_main_v88 (F := Ideal) x0 x1 x6 (ix2 r k) = gate x1 7 r k * merged x0 x6 r k := by
  pointwise [val_main_v88, val_main_v76, val68_apply, val75_apply]

theorem val89_apply (r : Fin 8192) (k : Fin 1024) :
    val_main_v89 (F := Ideal) x0 x1 x3 x4 x6 (ix2 r k) = merged x0 x6 r k * val_main_v50 (F := Ideal) x1 x3 x4 (ix2 r k) * (gate x1 6 r k * (1 - gate x1 6 r k)) := by
  pointwise [val_main_v89, val_main_v81, val_main_v80, val_main_v61, val_main_v60, val_main_v59, val_main_cst_2, val58_apply, val75_apply]

theorem val90_apply (r : Fin 8192) (k : Fin 1024) :
    val_main_v90 (F := Ideal) x0 x1 x2 x5 x6 (ix2 r k) = merged x0 x6 r k * val_main_v52 (F := Ideal) x2 x5 (ix2 r k) * (gate x1 7 r k * (1 - gate x1 7 r k)) := by
  pointwise [val_main_v90, val_main_v78, val_main_v77, val_main_v71, val_main_v70, val_main_v69, val_main_cst_5, val68_apply, val75_apply]

theorem val82_apply (r : Fin 8192) (k : Fin 1024) :
    val_main_v82 (F := Ideal) x0 x1 x4 x6 (ix2 r k) = toConv x0 x1 x4 x6 r k := by
  pointwise [val_main_v82, val_main_v79, val_main_v46, toConv, val58_apply, val75_apply]

theorem val45_apply (r : Fin 8192) (k : Fin 1024) : val_main_v45 (F := Ideal) x1 x3 (ix2 r k) = convolved x1 x3 r k := by
  have e : ∀ h : 1 + r.val - 2 < 8192, (⟨1 + r.val - 2, h⟩ : Fin 8192) = ⟨r.val - 1, by omega⟩ := fun h =>
    Fin.ext (by show 1 + r.val - 2 = r.val - 1; omega)
  pointwise [val_main_v45, val_main_v44, val_main_v43, val_main_v42, val_main_v41, val_main_v40, val_main_v39,
    val_main_v38, val_main_v37, val_main_v36, val_main_v35, val_main_v34, val_main_v33, val_main_v32, val_main_v31,
    val_main_v30, val_main_v29, val_main_v28, val_main_v27, val_main_v24, val_main_v8, val_main_v7, val_main_v6,
    val_main_v5, val_main_v4, val_main_v3, val_main_v26, val_main_v25, val_main_cst, Cert.MixerRefIdeal.Value.fn_main_v26,
    convolved, fed]
  have e1 : (1 + r.val < 2) = (r.val < 1) := propext (by omega)
  simp only [e, e1]

theorem val91_apply (r : Fin 8192) (k : Fin 1024) :
    val_main_v91 (F := Ideal) x0 x1 x3 x4 x6 (ix2 r k) = toConv x0 x1 x4 x6 r k * convolved x1 x3 r k := by
  pointwise [val_main_v91, val_main_v84, val82_apply, val45_apply]

theorem val92_apply (r : Fin 8192) (k : Fin 1024) :
    val_main_v92 (F := Ideal) x0 x1 x4 x6 (ix2 r k) = x1 (ix3 0 r k) * toConv x0 x1 x4 x6 r k := by
  pointwise [val_main_v92, val_main_v83, val_main_v2, val_main_v1, val_main_v0, val82_apply]

theorem val93_apply (r : Fin 8192) (k : Fin 1024) :
    val_main_v93 (F := Ideal) x0 x1 x5 x6 (ix2 r k) = ∑ l : Fin 1024, gate x1 7 r l * merged x0 x6 r l * x5 (ix2 k l) := by
  pointwise [val_main_v93, val_main_v85, val_main_v76, val_main_v47, val68_apply, val75_apply]

end Cert.MixerRefIdeal.Formulas

end
-- ==== Proof.Mixer.Rows.lean ====
/- The rows of one block that the mixer's backward kernel convolves: each row and the two before it, which for the
   first rows of a block come from the sixteen rows before the block, and count as zero at the sequence's start.
   Then the payloads of the kernel's eight stores at one index. -/
module

public import proofs.«01_k».proof.Proof.Mixer.Blocks
public import proofs.«01_k».proof.Proof.Mixer.Formulas

@[expose] public section

set_option maxRecDepth 16384

noncomputable section

namespace Cert.MixerIdeal.RefValue

open Cert.MixerIdeal Cert.MixerIdeal.Gen Idealize.ShloMosaic Idealize.ShloMosaic.TcCoe Idealize.SL.Sem
open Idealize.ShloMosaic.Pipeline (Dat)
open Cert.MixerRefIdeal.Formulas

/-- The product of two blocks at one index. -/
def rowProd {s : Shape} (x g : Vec Ideal s .bf16) (i : s.Idx) : EReal := x i * g i

theorem pay2_apply (x : Vec Ideal S512x1024 .f32) (w : Vec Ideal S1024x1024 .bf16) (r : Fin 512) (l : Fin 1024) :
    k0_pay2 x w (ix2 r l) = ∑ k : Fin 1024, x (ix2 r k) * w (ix2 l k) := by
  pointwise [k0_pay2, k0_pay1]

theorem pay3_apply (g : Vec Ideal S1x512x1024 .bf16) (r : Fin 512) (l : Fin 1024) :
    k0_pay3 g (ix2 r l) = Ideal.logistic (g (ix3 0 r l)) := by
  pointwise [k0_pay3]

theorem pay4_apply (g : Vec Ideal S1x512x1024 .bf16) (r : Fin 512) (l : Fin 1024) :
    k0_pay4 g (ix2 r l) = Ideal.logistic (g (ix3 0 r l)) := by
  pointwise [k0_pay4]

/-- The rows one before: the row above, or the last row of the rows before the block. -/
theorem pay12_apply (a : BitVec 32) (x g : Vec Ideal S1x512x1024 .bf16) (hx hg : Vec Ideal S1x16x1024 .bf16)
    (r : Fin 512) (l : Fin 1024) : k0_pay12 a x g hx hg (ix2 r l)
      = if r.val = 0 then (Scalar.select (Scalar.cmpi .eq a 0#32) 0 (rowProd hx hg (ix3 0 15 l)))
        else rowProd x g (ix3 0 ⟨(r.val + 512 - 1) % 512, Nat.mod_lt _ (by omega)⟩ l) := by
  rw [← Cert.Common.select_ofNat r.val 0 (by have := r.isLt; omega) (by omega)]
  pointwise [k0_pay12, k0_pay11, k0_pay10, rowProd]

/-- The convolution over one block, times the gradient of its branch. -/
theorem pay16_apply (v : FVec Ideal S512x1024 .bf16) (a : BitVec 32) (x g : Vec Ideal S1x512x1024 .bf16)
    (hx hg : Vec Ideal S1x16x1024 .bf16) (cw : Vec Ideal S3x1024 .f32) (w : Vec Ideal S1024x1024 .bf16)
    (r : Fin 512) (l : Fin 1024) :
    k0_pay16 v (k0_pay10 x g) (k0_pay11 a hx hg) (k0_pay12 a x g hx hg) (k0_pay13 x g)
        (iota .tc S512x1 32 [0] iota_S512x1_d0_w32) k0_pay14 cw w (ix2 r l)
      = (∑ k : Fin 1024, v (ix2 r k) * w (ix2 l k))
        * (cw (ix2 0 l) * (if r.val = 1 then (Scalar.select (Scalar.cmpi .eq a 0#32) 0 (rowProd hx hg (ix3 0 15 l)))
            else if r.val = 0 then (Scalar.select (Scalar.cmpi .eq a 0#32) 0 (rowProd hx hg (ix3 0 14 l)))
            else rowProd x g (ix3 0 ⟨(r.val + 512 - 2) % 512, Nat.mod_lt _ (by omega)⟩ l))
          + cw (ix2 1 l) * k0_pay12 a x g hx hg (ix2 r l) + cw (ix2 2 l) * rowProd x g (ix3 0 r l)) := by
  rw [← Cert.Common.select_ofNat r.val 0 (by have := r.isLt; omega) (by omega),
    ← Cert.Common.select_ofNat r.val 1 (by have := r.isLt; omega) (by omega)]
  pointwise [k0_pay16, k0_pay15, k0_pay13, k0_pay14, k0_pay10, k0_pay11, rowProd]

variable (m : (ℓ : Loc nD τ sig) → Buf (Elt Ideal) ℓ)

/-- A row before the block: zero for the first block, else row `512 t + p - 16` of all rows. -/
theorem before (c : Dev nD) (t : Fin cfg0.N) (p : Fin 16) (l : Fin 1024) :
    Scalar.select (Scalar.cmpi .eq (BitVec.ofNat 32 (grid0.coords t 0).val) 0#32) (0 : EReal)
        (rowProd (iblk m c 6 t) (iblk m c 7 t) (ix3 0 p l))
      = if h : t.val = 0 then 0 else fed (m ((c : Thread nD τ).loc main_arg1))
          ⟨512 * t.val + p.val - 16, by have := t.isLt; have h : cfg0.N = 16 := N_0; omega⟩ l := by
  have ht := t.isLt
  have h16 : cfg0.N = 16 := N_0
  rw [(idx t).1, Cert.Common.select_scalar_ofNat t.val 0 (by omega) (by omega)]
  by_cases h : t.val = 0
  · simp [h]
  · rw [if_neg h, dif_neg h, fed, rowProd,
      blk6 m c t h p l ⟨512 * t.val + p.val - 16, by omega⟩ (by show 512 * t.val + p.val - 16 + 16 = _; omega),
      blk7 m c t h p l ⟨512 * t.val + p.val - 16, by omega⟩ (by show 512 * t.val + p.val - 16 + 16 = _; omega)]

/-- The convolution's rows one before. -/
theorem one_before (c : Dev nD) (t : Fin cfg0.N) (r : Fin 512) (l : Fin 1024) :
    k0_pay12 (BitVec.ofNat 32 (grid0.coords t 0).val) (iblk m c 2 t) (iblk m c 3 t) (iblk m c 6 t) (iblk m c 7 t) (ix2 r l)
      = if _h : (row t r).val < 1 then (0 : EReal)
        else fed (m ((c : Thread nD τ).loc main_arg1)) ⟨(row t r).val - 1, by have := (row t r).isLt; omega⟩ l := by
  have hr : (row t r).val = 512 * t.val + r.val := rfl
  have hr' := r.isLt
  rw [pay12_apply, before m c t 15 l]
  by_cases h0 : r.val = 0
  · rw [if_pos h0]
    by_cases ht : t.val = 0
    · rw [dif_pos ht, dif_pos (by omega)]
    · rw [dif_neg ht, dif_neg (by omega)]
      congr 1
      exact Fin.ext (by show 512 * t.val + 15 - 16 = (row t r).val - 1; omega)
  · rw [if_neg h0, dif_neg (by omega), rowProd, blk2 m c t, blk3 m c t, fed]
    have e : row t ⟨(r.val + 512 - 1) % 512, Nat.mod_lt _ (by omega)⟩ = ⟨(row t r).val - 1, by have := (row t r).isLt; omega⟩ :=
      Fin.ext (by show 512 * t.val + (r.val + 512 - 1) % 512 = (row t r).val - 1; omega)
    rw [e]

/-- The convolution's rows two before. -/
theorem two_before (c : Dev nD) (t : Fin cfg0.N) (r : Fin 512) (l : Fin 1024) :
    (if r.val = 1 then (Scalar.select (Scalar.cmpi .eq (BitVec.ofNat 32 (grid0.coords t 0).val) 0#32) (0 : EReal)
          (rowProd (iblk m c 6 t) (iblk m c 7 t) (ix3 0 15 l)))
      else if r.val = 0 then (Scalar.select (Scalar.cmpi .eq (BitVec.ofNat 32 (grid0.coords t 0).val) 0#32) (0 : EReal)
          (rowProd (iblk m c 6 t) (iblk m c 7 t) (ix3 0 14 l)))
      else rowProd (iblk m c 2 t) (iblk m c 3 t) (ix3 0 ⟨(r.val + 512 - 2) % 512, Nat.mod_lt _ (by omega)⟩ l))
      = if _h : (row t r).val < 2 then (0 : EReal)
        else fed (m ((c : Thread nD τ).loc main_arg1)) ⟨(row t r).val - 2, by have := (row t r).isLt; omega⟩ l := by
  have hr : (row t r).val = 512 * t.val + r.val := rfl
  have hr' := r.isLt
  rw [before m c t 15 l, before m c t 14 l]
  by_cases h1 : r.val = 1
  · rw [if_pos h1]
    by_cases ht : t.val = 0
    · rw [dif_pos ht, dif_pos (by omega)]
    · rw [dif_neg ht, dif_neg (by omega)]
      congr 1
      exact Fin.ext (by show 512 * t.val + 15 - 16 = (row t r).val - 2; omega)
  rw [if_neg h1]
  by_cases h0 : r.val = 0
  · rw [if_pos h0]
    by_cases ht : t.val = 0
    · rw [dif_pos ht, dif_pos (by omega)]
    · rw [dif_neg ht, dif_neg (by omega)]
      congr 1
      exact Fin.ext (by show 512 * t.val + 14 - 16 = (row t r).val - 2; omega)
  · rw [if_neg h0, dif_neg (by omega), rowProd, blk2 m c t, blk3 m c t, fed]
    have e : row t ⟨(r.val + 512 - 2) % 512, Nat.mod_lt _ (by omega)⟩ = ⟨(row t r).val - 2, by have := (row t r).isLt; omega⟩ :=
      Fin.ext (by show 512 * t.val + (r.val + 512 - 2) % 512 = (row t r).val - 2; omega)
    rw [e]

end Cert.MixerIdeal.RefValue

end
-- ==== Proof.Mixer.Arrays.lean ====
/- What each of the eight result arrays holds after the run: the reference's result, at every index. -/
module

public import proofs.«01_k».proof.Proof.Mixer.Rows

@[expose] public section

set_option maxRecDepth 16384

noncomputable section

namespace Cert.MixerIdeal.RefValue

open Cert.MixerIdeal Cert.MixerIdeal.Gen Idealize.ShloMosaic Idealize.ShloMosaic.TcCoe Idealize.SL.Sem
open Idealize.ShloMosaic.Pipeline (Dat)
open Cert.MixerRefIdeal.Formulas

variable (m : (ℓ : Loc nD τ sig) → Buf (Elt Ideal) ℓ)

theorem arr14 (c : Dev nD) : (dats m 0 c).arrAt 14 cfg0.N
    = Cert.MixerRefIdeal.Read.val_main_v86 (F := Ideal) (m ((c : Thread nD τ).loc main_arg0)) := by
  refine (dats m 0 c).arrAt_eq_of_covers 14 _ (by decide +kernel) fun t hf y => ?_
  obtain ⟨r, l, rfl⟩ : ∃ (r : Fin 512) (l : Fin 1024), y = ix2 r l := ⟨y 0, y 1, eq_ix2 y⟩
  have e : (((cfg0.win 14).blk t).view.emb (ix2 r l)) = ix2 (row t r) l := by blk_ext [oidx t, row]
  rw [e, val86_apply]
  blk_simp
  rw [after0_14]
  frame_out
  pointwise [k0_pay1, blk0 m c t]
theorem arr15 (c : Dev nD) : (dats m 0 c).arrAt 15 cfg0.N
    = Cert.MixerRefIdeal.Read.val_main_v87 (F := Ideal) (m ((c : Thread nD τ).loc main_arg0)) (m ((c : Thread nD τ).loc main_arg1)) (m ((c : Thread nD τ).loc main_arg6)) := by
  refine (dats m 0 c).arrAt_eq_of_covers 15 _ (by decide +kernel) fun t hf y => ?_
  obtain ⟨r, l, rfl⟩ : ∃ (r : Fin 512) (l : Fin 1024), y = ix2 r l := ⟨y 0, y 1, eq_ix2 y⟩
  have e : (((cfg0.win 15).blk t).view.emb (ix2 r l)) = ix2 (row t r) l := by blk_ext [oidx t, row]
  rw [e, val87_apply]
  blk_simp
  rw [after0_15]
  frame_out
  pointwise [k0_pay5, pay3_apply, pay2_apply, blk0 m c t, blk4 m c t, blk13 m c t, gate, merged]
  rw [mul_comm]
theorem arr16 (c : Dev nD) : (dats m 0 c).arrAt 16 cfg0.N
    = Cert.MixerRefIdeal.Read.val_main_v88 (F := Ideal) (m ((c : Thread nD τ).loc main_arg0)) (m ((c : Thread nD τ).loc main_arg1)) (m ((c : Thread nD τ).loc main_arg6)) := by
  refine (dats m 0 c).arrAt_eq_of_covers 16 _ (by decide +kernel) fun t hf y => ?_
  obtain ⟨r, l, rfl⟩ : ∃ (r : Fin 512) (l : Fin 1024), y = ix2 r l := ⟨y 0, y 1, eq_ix2 y⟩
  have e : (((cfg0.win 16).blk t).view.emb (ix2 r l)) = ix2 (row t r) l := by blk_ext [oidx t, row]
  rw [e, val88_apply]
  blk_simp
  rw [after0_16]
  frame_out
  pointwise [k0_pay6, pay4_apply, pay2_apply, blk0 m c t, blk5 m c t, blk13 m c t, gate, merged]
  rw [mul_comm]
theorem arr17 (c : Dev nD) : (dats m 0 c).arrAt 17 cfg0.N
    = Cert.MixerRefIdeal.Read.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg6)) := by
  refine (dats m 0 c).arrAt_eq_of_covers 17 _ (by decide +kernel) fun t hf y => ?_
  obtain ⟨r, l, rfl⟩ : ∃ (r : Fin 512) (l : Fin 1024), y = ix2 r l := ⟨y 0, y 1, eq_ix2 y⟩
  have e : (((cfg0.win 17).blk t).view.emb (ix2 r l)) = ix2 (row t r) l := by blk_ext [oidx t, row]
  rw [e, val89_apply]
  blk_simp
  rw [after0_17]
  frame_out
  pointwise [k0_pay7, pay3_apply, pay2_apply, blk0 m c t, blk4 m c t, blk8 m c t, blk13 m c t, gate, merged]
  try rw [mul_assoc]
theorem arr18 (c : Dev nD) : (dats m 0 c).arrAt 18 cfg0.N
    = Cert.MixerRefIdeal.Read.val_main_v90 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 18 _ (by decide +kernel) fun t hf y => ?_
  obtain ⟨r, l, rfl⟩ : ∃ (r : Fin 512) (l : Fin 1024), y = ix2 r l := ⟨y 0, y 1, eq_ix2 y⟩
  have e : (((cfg0.win 18).blk t).view.emb (ix2 r l)) = ix2 (row t r) l := by blk_ext [oidx t, row]
  rw [e, val90_apply]
  blk_simp
  rw [after0_18]
  frame_out
  pointwise [k0_pay9, k0_pay8, pay4_apply, pay2_apply, blk0 m c t, blk5 m c t, blk9 m c t, blk13 m c t, gate, merged]
  try rw [mul_assoc]
theorem arr19 (c : Dev nD) : (dats m 0 c).arrAt 19 cfg0.N
    = Cert.MixerRefIdeal.Read.val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg6)) := by
  refine (dats m 0 c).arrAt_eq_of_covers 19 _ (by decide +kernel) fun t hf y => ?_
  obtain ⟨r, l, rfl⟩ : ∃ (r : Fin 512) (l : Fin 1024), y = ix2 r l := ⟨y 0, y 1, eq_ix2 y⟩
  have e : (((cfg0.win 19).blk t).view.emb (ix2 r l)) = ix2 (row t r) l := by blk_ext [oidx t, row]
  rw [e, val91_apply]
  blk_simp
  rw [after0_19]
  frame_out
  rw [pay16_apply, one_before m c t r l, two_before m c t r l]
  pointwise [k0_pay19, k0_pay5, pay3_apply, pay2_apply, blk0 m c t, blk2 m c t, blk3 m c t, blk4 m c t, blk10 m c t,
    blk11 m c t, blk13 m c t, gate, merged, toConv, convolved, fed, rowProd]
  simp only [mul_comm (Ideal.logistic _)]
theorem arr20 (c : Dev nD) : (dats m 0 c).arrAt 20 cfg0.N
    = Cert.MixerRefIdeal.Read.val_main_v92 (F := Ideal) (m ((c : Thread nD τ).loc main_arg0)) (m ((c : Thread nD τ).loc main_arg1)) (m ((c : Thread nD τ).loc main_arg4)) (m ((c : Thread nD τ).loc main_arg6)) := by
  refine (dats m 0 c).arrAt_eq_of_covers 20 _ (by decide +kernel) fun t hf y => ?_
  obtain ⟨r, l, rfl⟩ : ∃ (r : Fin 512) (l : Fin 1024), y = ix2 r l := ⟨y 0, y 1, eq_ix2 y⟩
  have e : (((cfg0.win 20).blk t).view.emb (ix2 r l)) = ix2 (row t r) l := by blk_ext [oidx t, row]
  rw [e, val92_apply]
  blk_simp
  rw [after0_20]
  frame_out
  pointwise [k0_pay17, k0_pay15, k0_pay19, k0_pay5, pay3_apply, pay2_apply, blk0 m c t, blk1 m c t, blk4 m c t,
    blk11 m c t, blk13 m c t, gate, merged, toConv]
  rw [mul_comm]
  simp only [mul_comm (Ideal.logistic _)]
theorem arr21 (c : Dev nD) : (dats m 0 c).arrAt 21 cfg0.N
    = Cert.MixerRefIdeal.Read.val_main_v93 (F := Ideal) (m ((c : Thread nD τ).loc main_arg0)) (m ((c : Thread nD τ).loc main_arg1)) (m ((c : Thread nD τ).loc main_arg5)) (m ((c : Thread nD τ).loc main_arg6)) := by
  refine (dats m 0 c).arrAt_eq_of_covers 21 _ (by decide +kernel) fun t hf y => ?_
  obtain ⟨r, l, rfl⟩ : ∃ (r : Fin 512) (l : Fin 1024), y = ix2 r l := ⟨y 0, y 1, eq_ix2 y⟩
  have e : (((cfg0.win 21).blk t).view.emb (ix2 r l)) = ix2 (row t r) l := by blk_ext [oidx t, row]
  rw [e, val93_apply]
  blk_simp
  rw [after0_21]
  frame_out
  pointwise [k0_pay18, k0_pay6, pay4_apply, pay2_apply, blk0 m c t, blk5 m c t, blk12 m c t, blk13 m c t, gate, merged]
  simp only [mul_comm (Ideal.logistic _)]
end Cert.MixerIdeal.RefValue

end
-- ==== Proof.Mixer.Claims.lean ====
/- The mixer's backward kernel and the reference end with the same eight arrays. -/
module

public import proofs.«01_k».proof.Defs
public import proofs.«01_k».proof.Proof.Mixer.Arrays
public import proofs.«01_k».proof.Proof.Gen.MixerRefIdeal.Run

@[expose] public section

set_option maxRecDepth 16384

noncomputable section

namespace Cert.Proof.MixerClaims

open Idealize.ShloMosaic Idealize.SL.Sem

theorem algebraic : Cert.algebraic_MixerIdeal_MixerRefIdeal := by
  intro m ρ m' ρ' _ agree
  refine ⟨fun c => Cert.MixerRefIdeal.Read.val_main_v86 (F := Ideal) (m ((c.tc : Thread _ _).loc Cert.MixerIdeal.main_arg0)),
    fun c => Cert.MixerRefIdeal.Read.val_main_v87 (F := Ideal) (m ((c.tc : Thread _ _).loc Cert.MixerIdeal.main_arg0)) (m ((c.tc : Thread _ _).loc Cert.MixerIdeal.main_arg1)) (m ((c.tc : Thread _ _).loc Cert.MixerIdeal.main_arg6)),
    fun c => Cert.MixerRefIdeal.Read.val_main_v88 (F := Ideal) (m ((c.tc : Thread _ _).loc Cert.MixerIdeal.main_arg0)) (m ((c.tc : Thread _ _).loc Cert.MixerIdeal.main_arg1)) (m ((c.tc : Thread _ _).loc Cert.MixerIdeal.main_arg6)),
    fun c => Cert.MixerRefIdeal.Read.val_main_v89 (F := Ideal) (m ((c.tc : Thread _ _).loc Cert.MixerIdeal.main_arg0)) (m ((c.tc : Thread _ _).loc Cert.MixerIdeal.main_arg1)) (m ((c.tc : Thread _ _).loc Cert.MixerIdeal.main_arg3)) (m ((c.tc : Thread _ _).loc Cert.MixerIdeal.main_arg4)) (m ((c.tc : Thread _ _).loc Cert.MixerIdeal.main_arg6)),
    fun c => Cert.MixerRefIdeal.Read.val_main_v90 (F := Ideal) (m ((c.tc : Thread _ _).loc Cert.MixerIdeal.main_arg0)) (m ((c.tc : Thread _ _).loc Cert.MixerIdeal.main_arg1)) (m ((c.tc : Thread _ _).loc Cert.MixerIdeal.main_arg2)) (m ((c.tc : Thread _ _).loc Cert.MixerIdeal.main_arg5)) (m ((c.tc : Thread _ _).loc Cert.MixerIdeal.main_arg6)),
    fun c => Cert.MixerRefIdeal.Read.val_main_v91 (F := Ideal) (m ((c.tc : Thread _ _).loc Cert.MixerIdeal.main_arg0)) (m ((c.tc : Thread _ _).loc Cert.MixerIdeal.main_arg1)) (m ((c.tc : Thread _ _).loc Cert.MixerIdeal.main_arg3)) (m ((c.tc : Thread _ _).loc Cert.MixerIdeal.main_arg4)) (m ((c.tc : Thread _ _).loc Cert.MixerIdeal.main_arg6)),
    fun c => Cert.MixerRefIdeal.Read.val_main_v92 (F := Ideal) (m ((c.tc : Thread _ _).loc Cert.MixerIdeal.main_arg0)) (m ((c.tc : Thread _ _).loc Cert.MixerIdeal.main_arg1)) (m ((c.tc : Thread _ _).loc Cert.MixerIdeal.main_arg4)) (m ((c.tc : Thread _ _).loc Cert.MixerIdeal.main_arg6)),
    fun c => Cert.MixerRefIdeal.Read.val_main_v93 (F := Ideal) (m ((c.tc : Thread _ _).loc Cert.MixerIdeal.main_arg0)) (m ((c.tc : Thread _ _).loc Cert.MixerIdeal.main_arg1)) (m ((c.tc : Thread _ _).loc Cert.MixerIdeal.main_arg5)) (m ((c.tc : Thread _ _).loc Cert.MixerIdeal.main_arg6)),
    ?_, ?_⟩
  · refine (θ_run _ _ _).mono (fun r h c => ?_) (Cert.MixerIdeal.Value.run_blocks (F := Ideal) m ρ)
    obtain ⟨h0, h1, h2, h3, h4, h5, h6, h7, kept⟩ := h c
    exact ⟨h0.trans (Cert.MixerIdeal.RefValue.arr14 m c), h1.trans (Cert.MixerIdeal.RefValue.arr15 m c), h2.trans (Cert.MixerIdeal.RefValue.arr16 m c), h3.trans (Cert.MixerIdeal.RefValue.arr17 m c), h4.trans (Cert.MixerIdeal.RefValue.arr18 m c), h5.trans (Cert.MixerIdeal.RefValue.arr19 m c), h6.trans (Cert.MixerIdeal.RefValue.arr20 m c), h7.trans (Cert.MixerIdeal.RefValue.arr21 m c), kept⟩
  · refine (θ_run _ _ _).mono (fun r h c => ?_) (Cert.MixerRefIdeal.Value.run (F := Ideal) m' ρ')
    obtain ⟨h0, h1, h2, h3, h4, h5, h6, h7, kept⟩ := h c
    obtain ⟨a0, a1, a2, a3, a4, a5, a6⟩ := agree c
    refine ⟨h0.trans ?_, h1.trans ?_, h2.trans ?_, h3.trans ?_, h4.trans ?_, h5.trans ?_, h6.trans ?_, h7.trans ?_, kept⟩
    · simp only [← a0]
      first | exact Cert.MixerRefIdeal.Read.val_main_v86_eq (F := Ideal) m' c | rfl
    · simp only [← a0, ← a1, ← a6]
      first | exact Cert.MixerRefIdeal.Read.val_main_v87_eq (F := Ideal) m' c | rfl
    · simp only [← a0, ← a1, ← a6]
      first | exact Cert.MixerRefIdeal.Read.val_main_v88_eq (F := Ideal) m' c | rfl
    · simp only [← a0, ← a1, ← a3, ← a4, ← a6]
      first | exact Cert.MixerRefIdeal.Read.val_main_v89_eq (F := Ideal) m' c | rfl
    · simp only [← a0, ← a1, ← a2, ← a5, ← a6]
      first | exact Cert.MixerRefIdeal.Read.val_main_v90_eq (F := Ideal) m' c | rfl
    · simp only [← a0, ← a1, ← a3, ← a4, ← a6]
      first | exact Cert.MixerRefIdeal.Read.val_main_v91_eq (F := Ideal) m' c | rfl
    · simp only [← a0, ← a1, ← a4, ← a6]
      first | exact Cert.MixerRefIdeal.Read.val_main_v92_eq (F := Ideal) m' c | rfl
    · simp only [← a0, ← a1, ← a5, ← a6]
      first | exact Cert.MixerRefIdeal.Read.val_main_v93_eq (F := Ideal) m' c | rfl

/-- The reference runs, keeps its arguments, and has no semaphore that could be left raised. -/
theorem frame_ref : Cert.quiescent_MixerRefIdeal := fun m ρ _ =>
  (θ_run _ _ _).mono (fun r h => ⟨fun c => by
    obtain ⟨_, _, _, _, _, _, _, _, kept⟩ := h c
    exact kept, sem_eq_zero_of_no_sems rfl _⟩) (Cert.MixerRefIdeal.Value.run (F := Ideal) m ρ)

theorem preserves : Cert.preserves_Mixer_MixerIdeal := trivial

end Cert.Proof.MixerClaims

end
-- ==== Proof.Conv.Formulas.lean ====
/- The derivative of the causal convolution, as formulas at one index: each row of the gradient gathers that row and
   the two after it; each tap's gradient sums, over all rows, the incoming gradient times the row that the tap reads. -/
module

public import proofs.«01_k».proof.Proof.Gen.ConvRefIdeal.Read
public import Idealize.ShloMosaic.Lib.Pipeline.ValueKit
public import Idealize.ShloMosaic.Lib.Pointwise

@[expose] public section

set_option maxRecDepth 16384

noncomputable section

namespace Cert.ConvRefIdeal.Formulas

open Cert.ConvRefIdeal Cert.ConvRefIdeal.Read Idealize.ShloMosaic Idealize.ShloMosaic.TcCoe

variable (x0 : (⟨S8192x1024, .bf16⟩ : BufTy).Contents (Elt Ideal))
  (x1 : (⟨S8x8192x1024, .bf16⟩ : BufTy).Contents (Elt Ideal))
  (x2 : (⟨S3x1024, .f32⟩ : BufTy).Contents (Elt Ideal))

/-- What the convolution takes: the product of two projections. -/
def fed (r : Fin 8192) (k : Fin 1024) : EReal := x1 (ix3 1 r k) * x1 (ix3 2 r k)
/-- The row one before, zero at the sequence's start. -/
def one (r : Fin 8192) (k : Fin 1024) : EReal := if _h : r.val < 1 then 0 else fed x1 ⟨r.val - 1, by omega⟩ k
/-- The row two before, zero at the sequence's start. -/
def two (r : Fin 8192) (k : Fin 1024) : EReal := if _h : r.val < 2 then 0 else fed x1 ⟨r.val - 2, by omega⟩ k
/-- The incoming gradient `n` rows later, zero past the sequence's end. -/
def later (n : ℕ) (r : Fin 8192) (k : Fin 1024) : EReal := if h : r.val + n < 8192 then x0 (ix2 ⟨r.val + n, h⟩ k) else 0
/-- The gradient of what the convolution takes. -/
def back (r : Fin 8192) (k : Fin 1024) : EReal :=
  x2 (ix2 2 k) * x0 (ix2 r k) + x2 (ix2 1 k) * later x0 1 r k + x2 (ix2 0 k) * later x0 2 r k
/-- The incoming gradient times another array's row. -/
def weighted (f : Fin 8192 → Fin 1024 → EReal) (r : Fin 8192) (k : Fin 1024) : EReal := x0 (ix2 r k) * f r k
/-- The three taps' gradients, and zero in the rows that fill the array up. -/
def taps (j : Fin 8) (k : Fin 1024) : EReal :=
  if j.val = 2 then ∑ r : Fin 8192, weighted x0 (fed x1) r k
  else if j.val = 1 then ∑ r : Fin 8192, weighted x0 (one x1) r k
  else if j.val = 0 then ∑ r : Fin 8192, weighted x0 (two x1) r k else 0

theorem val6_apply (r : Fin 8192) (k : Fin 1024) : val_main_v6 (F := Ideal) x1 (ix2 r k) = fed x1 r k := by
  pointwise [val_main_v0, val_main_v1, val_main_v2, val_main_v3, val_main_v4, val_main_v5, val_main_v6, fed]

theorem val12_apply (r : Fin 8192) (k : Fin 1024) : val_main_v12 (F := Ideal) x1 (ix2 r k) = two x1 r k := by
  pointwise [val_main_v12, val_main_v8, val_main_v7, val_main_cst, val6_apply, two]

theorem val18_apply (r : Fin 8192) (k : Fin 1024) : val_main_v18 (F := Ideal) x1 (ix2 r k) = one x1 r k := by
  have e : ∀ h : 1 + r.val - 2 < 8192, (⟨1 + r.val - 2, h⟩ : Fin 8192) = ⟨r.val - 1, by omega⟩ := fun h =>
    Fin.ext (by show 1 + r.val - 2 = r.val - 1; omega)
  have e1 : (1 + r.val < 2) = (r.val < 1) := propext (by omega)
  pointwise [val_main_v18, val_main_v8, val_main_v7, val_main_cst, val6_apply, one]
  simp only [e, e1]

theorem val61_apply (r : Fin 8192) (k : Fin 1024) : val_main_v61 (F := Ideal) x0 x2 (ix2 r k) = back x0 x2 r k := by
  pointwise [val_main_v61, val_main_v60, val_main_v31, val_main_v55, val_main_v54, val_main_v49, val_main_v48, val_main_v13, val_main_v11, val_main_v10, val_main_v44, val_main_v39, val_main_v38, val_main_v19, val_main_v17, val_main_v16, val_main_v30, val_main_v25, val_main_v24, val_main_v23, val_main_v29, val_main_cst_10, val_main_cst_6]
  rw [back, later, later, add_assoc]
  refine congrArg _ (congrArg₂ _ ?_ ?_)
  · by_cases h : r.val + 1 < 8192
    · rw [dif_pos (by omega), dif_pos h]
      exact congrArg (fun q => x2 (ix2 1 k) * x0 (ix2 q k)) (Fin.ext (by show 2 + r.val - 1 = r.val + 1; omega))
    · rw [dif_neg (by omega), dif_neg h, mul_zero]
  · by_cases h : r.val + 2 < 8192
    · rw [dif_pos (by omega), dif_pos h]
      exact congrArg (fun q => x2 (ix2 0 k) * x0 (ix2 q k)) (Fin.ext (by show 2 + r.val = r.val + 2; omega))
    · rw [dif_neg (by omega), dif_neg h, mul_zero]

theorem val64_apply (r : Fin 8192) (k : Fin 1024) :
    val_main_v64 (F := Ideal) x0 x1 x2 (ix2 r k) = back x0 x2 r k * x1 (ix3 2 r k) := by
  pointwise [val_main_v64, val_main_v63, val_main_v5, val_main_v4, val_main_v3, val61_apply]

theorem val65_apply (r : Fin 8192) (k : Fin 1024) :
    val_main_v65 (F := Ideal) x0 x1 x2 (ix2 r k) = x1 (ix3 1 r k) * back x0 x2 r k := by
  pointwise [val_main_v65, val_main_v62, val_main_v2, val_main_v1, val_main_v0, val61_apply]

theorem val35_apply (k : Fin 1024) :
    val_main_v35 (F := Ideal) x0 x1 (ix1 k) = ∑ r : Fin 8192, weighted x0 (fed x1) r k := by
  pointwise [val_main_v35, val_main_v34, val_main_v33, val_main_v32, val_main_v29, val_main_cst_1, val_main_cst_2, val6_apply]
  simp [weighted]

theorem val43_apply (k : Fin 1024) :
    val_main_v43 (F := Ideal) x0 x1 (ix1 k) = ∑ r : Fin 8192, weighted x0 (one x1) r k := by
  pointwise [val_main_v43, val_main_v42, val_main_v41, val_main_v40, val_main_v29, val_main_cst_4, val_main_cst_5, val18_apply]
  simp [weighted]

theorem val53_apply (k : Fin 1024) :
    val_main_v53 (F := Ideal) x0 x1 (ix1 k) = ∑ r : Fin 8192, weighted x0 (two x1) r k := by
  pointwise [val_main_v53, val_main_v52, val_main_v51, val_main_v50, val_main_v29, val_main_cst_8, val_main_cst_9, val12_apply]
  simp [weighted]

theorem val66_apply (j : Fin 8) (k : Fin 1024) : val_main_v66 (F := Ideal) x0 x1 (ix2 j k) = taps x0 x1 j k := by
  pointwise [val_main_v66, val_main_v58, val_main_v57, val_main_v47, val_main_v46, val_main_v37, val_main_v56, val_main_v45, val_main_v36, val_main_cst_11, val_main_cst_7, val_main_cst_3, val_main_call0_v0, val_main_c,
    val35_apply, val43_apply, val53_apply]
  rw [taps]
  have hj := j.isLt
  by_cases h2 : j.val = 2
  · rw [if_pos h2, dif_pos (by omega), dif_pos (by omega), dif_neg (by omega), dif_neg (by omega), add_zero, add_zero]
  rw [if_neg h2]
  by_cases h1 : j.val = 1
  · rw [if_pos h1, dif_pos (by omega), dif_neg (by omega), dif_pos (by omega), dif_neg (by omega), zero_add, add_zero]
  rw [if_neg h1]
  by_cases h0 : j.val = 0
  · rw [if_pos h0, dif_pos (by omega), dif_neg (by omega), dif_neg (by omega), dif_pos (by omega), zero_add, zero_add]
  rw [if_neg h0, dif_neg (by omega)]
  simp [FloatOps.sitofp]

end Cert.ConvRefIdeal.Formulas

end
-- ==== Proof.Conv.Blocks.lean ====
/- What the convolution's backward kernel holds in its windows at one grid point, and its payloads at one index. -/
module

public import proofs.«01_k».proof.Proof.Gen.ConvIdeal.Value
public import proofs.«01_k».proof.Proof.Conv.Formulas
public import proofs.«01_k».proof.Proof.Common
public import Idealize.ShloMosaic.Lib.Pipeline.ValueKit
public import Idealize.ShloMosaic.Lib.Pointwise
public import Idealize.ShloMosaic.Lib.Claim

@[expose] public section

set_option maxRecDepth 16384

noncomputable section

namespace Cert.ConvIdeal.RefValue

open Cert.ConvIdeal Cert.ConvIdeal.Gen Idealize.ShloMosaic Idealize.ShloMosaic.TcCoe Idealize.SL.Sem
open Idealize.ShloMosaic.Pipeline (Dat)
open Cert.ConvRefIdeal.Formulas

/-- The product of two blocks at one index. -/
def rowProd {s : Shape} (x g : Vec Ideal s .bf16) (i : s.Idx) : EReal := x i * g i

/-- The rows one before. -/
theorem pay5_apply (i : grid0.Coords) (x g : Vec Ideal S1x512x1024 .bf16) (hx hg : Vec Ideal S1x16x1024 .bf16)
    (r : Fin 512) (l : Fin 1024) : k0_pay5 i x g hx hg (ix2 r l)
      = if r.val = 0 then (Scalar.select (Scalar.cmpi .eq (BitVec.ofNat 32 (i 0).val) 0#32) 0 (rowProd hx hg (ix3 0 15 l)))
        else rowProd x g (ix3 0 ⟨(r.val + 512 - 1) % 512, Nat.mod_lt _ (by omega)⟩ l) := by
  rw [← Cert.Common.select_ofNat r.val 0 (by have := r.isLt; omega) (by omega)]
  pointwise [k0_pay5, k0_pay4, k0_pay3, rowProd]

/-- The rows two before. -/
theorem pay9_apply (i : grid0.Coords) (x g : Vec Ideal S1x512x1024 .bf16) (hx hg : Vec Ideal S1x16x1024 .bf16)
    (r : Fin 512) (l : Fin 1024) : k0_pay9 (k0_pay6 i x g hx hg) k0_pay7 (k0_pay8 i hx hg) (ix2 r l)
      = if r.val = 1 then (Scalar.select (Scalar.cmpi .eq (BitVec.ofNat 32 (i 0).val) 0#32) 0 (rowProd hx hg (ix3 0 15 l)))
        else if r.val = 0 then (Scalar.select (Scalar.cmpi .eq (BitVec.ofNat 32 (i 0).val) 0#32) 0 (rowProd hx hg (ix3 0 14 l)))
        else rowProd x g (ix3 0 ⟨(r.val + 512 - 2) % 512, Nat.mod_lt _ (by omega)⟩ l) := by
  rw [← Cert.Common.select_ofNat r.val 0 (by have := r.isLt; omega) (by omega),
    ← Cert.Common.select_ofNat r.val 1 (by have := r.isLt; omega) (by omega)]
  pointwise [k0_pay9, k0_pay8, k0_pay7, k0_pay6, k0_pay4, k0_pay3, rowProd]

/-- The rows two after. -/
theorem pay12_apply (a : BitVec 32) (d : Vec Ideal S512x1024 .bf16) (n : Vec Ideal S16x1024 .bf16)
    (r : Fin 512) (l : Fin 1024) : k0_pay12 a d n (ix2 r l)
      = if r.val = 510 then (Scalar.select (Scalar.cmpi .eq a 15#32) 0 (n (ix2 0 l)))
        else if r.val = 511 then (Scalar.select (Scalar.cmpi .eq a 15#32) 0 (n (ix2 1 l)))
        else d (ix2 ⟨(r.val + 512 - 510) % 512, Nat.mod_lt _ (by omega)⟩ l) := by
  rw [← Cert.Common.select_ofNat r.val 510 (by have := r.isLt; omega) (by omega),
    ← Cert.Common.select_ofNat r.val 511 (by have := r.isLt; omega) (by omega)]
  pointwise [k0_pay12, k0_pay10, k0_pay11]

/-- The gradient's first two terms. -/
theorem pay13_apply (a : BitVec 32) (d : Vec Ideal S512x1024 .bf16) (n : Vec Ideal S16x1024 .bf16) (cw : Vec Ideal S3x1024 .f32)
    (r : Fin 512) (l : Fin 1024) : k0_pay13 a d n cw (ix2 r l)
      = cw (ix2 2 l) * d (ix2 r l) + cw (ix2 1 l)
        * (if r.val = 511 then (Scalar.select (Scalar.cmpi .eq a 15#32) 0 (n (ix2 0 l)))
           else d (ix2 ⟨(r.val + 512 - 511) % 512, Nat.mod_lt _ (by omega)⟩ l)) := by
  rw [← Cert.Common.select_ofNat r.val 511 (by have := r.isLt; omega) (by omega)]
  pointwise [k0_pay13, k0_pay10, k0_pay11]

theorem pay17_apply (a b d : FVec Ideal S512x1024 .f32) (j : Fin 8) (l : Fin 1024) : k0_pay17 a b d (ix2 j l)
      = if j.val = 1 then ∑ x : Fin 512, d (ix2 x l) * a (ix2 x l)
        else if j.val = 0 then ∑ x : Fin 512, d (ix2 x l) * b (ix2 x l) else 0 := by
  rw [← Cert.Common.select_ofNat j.val 0 (by have := j.isLt; omega) (by omega),
    ← Cert.Common.select_ofNat j.val 1 (by have := j.isLt; omega) (by omega)]
  pointwise [k0_pay17]

theorem pay2_apply (a : FVec Ideal S8x1024 .f32) (e : FVec Ideal S512x1024 .f32) (z : Vec Ideal S8x1024 .f32)
    (j : Fin 8) (l : Fin 1024) : k0_pay2 a k0_pay18 e z (ix2 j l)
      = z (ix2 j l) + if j.val = 2 then ∑ x : Fin 512, e (ix2 x l) else a (ix2 j l) := by
  rw [← Cert.Common.select_ofNat j.val 2 (by have := j.isLt; omega) (by omega)]
  pointwise [k0_pay2, k0_pay18]

variable (m : (ℓ : Loc nD τ sig) → Buf (Elt Ideal) ℓ)

/-- The block each window holds at grid point `t`. -/
theorem idx : ∀ t : Fin grid0.N, (grid0.coords t 0).val = t.val ∧ win0_0.index t = ![t.val, 0]
    ∧ win0_1.index t = ![min (32 * (t.val + 1)) 511, 0] ∧ win0_2.index t = ![1, t.val, 0] ∧ win0_3.index t = ![2, t.val, 0]
    ∧ win0_4.index t = ![1, 32 * t.val - 1, 0] ∧ win0_5.index t = ![2, 32 * t.val - 1, 0] ∧ win0_6.index t = ![0, 0]
    ∧ win0_7.index t = ![t.val, 0] ∧ win0_8.index t = ![t.val, 0] := by
  decide +kernel

/-- Row `p` of block `t`, among all rows. -/
def row (t : Fin cfg0.N) (p : Fin 512) : Fin 8192 :=
  ⟨512 * t.val + p.val, by have := t.isLt; have h : cfg0.N = 16 := N_0; omega⟩

theorem blk0 (c : Dev nD) (t : Fin cfg0.N) (p : Fin 512) (k : Fin 1024) :
    (iblk m c 0 t : Vec Ideal S512x1024 .bf16) (ix2 p k) = m ((c : Thread nD τ).loc main_arg0) (ix2 (row t p) k) := by
  blk_ext [iblk, V, idx t, row]

/-- The sixteen rows after block `t`, which has a block after it. -/
theorem blk1 (c : Dev nD) (t : Fin cfg0.N) (ht : t.val ≠ 15) (p : Fin 16) (k : Fin 1024) (R : Fin 8192)
    (hR : R.val = 512 * (t.val + 1) + p.val) :
    (iblk m c 1 t : Vec Ideal S16x1024 .bf16) (ix2 p k) = m ((c : Thread nD τ).loc main_arg0) (ix2 R k) := by
  have htt := t.isLt
  have h16 : cfg0.N = 16 := N_0
  have e : min (32 * (t.val + 1)) 511 = 32 * (t.val + 1) := by omega
  blk_ext [iblk, V, idx t, e]

theorem blk2 (c : Dev nD) (t : Fin cfg0.N) (p : Fin 512) (k : Fin 1024) :
    (iblk m c 2 t : Vec Ideal S1x512x1024 .bf16) (ix3 0 p k)
      = m ((c : Thread nD τ).loc main_arg1) (ix3 1 (row t p) k) := by
  blk_ext [iblk, V, idx t, row]

theorem blk3 (c : Dev nD) (t : Fin cfg0.N) (p : Fin 512) (k : Fin 1024) :
    (iblk m c 3 t : Vec Ideal S1x512x1024 .bf16) (ix3 0 p k)
      = m ((c : Thread nD τ).loc main_arg1) (ix3 2 (row t p) k) := by
  blk_ext [iblk, V, idx t, row]

/-- The sixteen rows before block `t`, which has a block before it. -/
theorem blk4 (c : Dev nD) (t : Fin cfg0.N) (ht : t.val ≠ 0) (p : Fin 16) (k : Fin 1024) (R : Fin 8192)
    (hR : R.val + 16 = 512 * t.val + p.val) :
    (iblk m c 4 t : Vec Ideal S1x16x1024 .bf16) (ix3 0 p k)
      = m ((c : Thread nD τ).loc main_arg1) (ix3 1 R k) := by
  blk_ext [iblk, V, idx t]

/-- The sixteen rows before block `t`, which has a block before it. -/
theorem blk5 (c : Dev nD) (t : Fin cfg0.N) (ht : t.val ≠ 0) (p : Fin 16) (k : Fin 1024) (R : Fin 8192)
    (hR : R.val + 16 = 512 * t.val + p.val) :
    (iblk m c 5 t : Vec Ideal S1x16x1024 .bf16) (ix3 0 p k)
      = m ((c : Thread nD τ).loc main_arg1) (ix3 2 R k) := by
  blk_ext [iblk, V, idx t]

theorem blk6 (c : Dev nD) (t : Fin cfg0.N) (p : Fin 3) (k : Fin 1024) :
    (iblk m c 6 t : Vec Ideal S3x1024 .f32) (ix2 p k) = m ((c : Thread nD τ).loc main_arg2) (ix2 p k) := by
  blk_ext [iblk, V, idx t]

/-- A row before the block: zero for the first block, else row `512 t + p - 16` of all rows. -/
theorem before (c : Dev nD) (t : Fin cfg0.N) (p : Fin 16) (l : Fin 1024) :
    Scalar.select (Scalar.cmpi .eq (BitVec.ofNat 32 (grid0.coords t 0).val) 0#32) (0 : EReal)
        (rowProd (iblk m c 4 t) (iblk m c 5 t) (ix3 0 p l))
      = if h : t.val = 0 then 0 else fed (m ((c : Thread nD τ).loc main_arg1))
          ⟨512 * t.val + p.val - 16, by have := t.isLt; have h : cfg0.N = 16 := N_0; omega⟩ l := by
  have ht := t.isLt
  have h16 : cfg0.N = 16 := N_0
  rw [(idx t).1, Cert.Common.select_scalar_ofNat t.val 0 (by omega) (by omega)]
  by_cases h : t.val = 0
  · simp [h]
  · rw [if_neg h, dif_neg h, fed, rowProd,
      blk4 m c t h p l ⟨512 * t.val + p.val - 16, by omega⟩ (by show 512 * t.val + p.val - 16 + 16 = _; omega),
      blk5 m c t h p l ⟨512 * t.val + p.val - 16, by omega⟩ (by show 512 * t.val + p.val - 16 + 16 = _; omega)]

/-- A row after the block: zero for the last block, else row `512 (t + 1) + p` of all rows. -/
theorem after_block (c : Dev nD) (t : Fin cfg0.N) (p : Fin 16) (l : Fin 1024) :
    Scalar.select (Scalar.cmpi .eq (BitVec.ofNat 32 (grid0.coords t 0).val) 15#32) (0 : EReal)
        ((iblk m c 1 t : Vec Ideal S16x1024 .bf16) (ix2 p l))
      = if h : 512 * (t.val + 1) + p.val < 8192 then m ((c : Thread nD τ).loc main_arg0) (ix2 ⟨512 * (t.val + 1) + p.val, h⟩ l)
        else (0 : EReal) := by
  have ht := t.isLt
  have h16 : cfg0.N = 16 := N_0
  rw [(idx t).1, Cert.Common.select_scalar_ofNat t.val 15 (by omega) (by omega)]
  by_cases h : t.val = 15
  · rw [if_pos h, dif_neg (by omega)]
  · rw [if_neg h, dif_pos (by omega), blk1 m c t h p l ⟨512 * (t.val + 1) + p.val, by omega⟩ rfl]

/-- The rows one before. -/
theorem one_before (c : Dev nD) (t : Fin cfg0.N) (r : Fin 512) (l : Fin 1024) :
    k0_pay5 (grid0.coords t) (iblk m c 2 t) (iblk m c 3 t) (iblk m c 4 t) (iblk m c 5 t) (ix2 r l)
      = one (m ((c : Thread nD τ).loc main_arg1)) (row t r) l := by
  have hr : (row t r).val = 512 * t.val + r.val := rfl
  have hr' := r.isLt
  rw [pay5_apply, before m c t 15 l, one]
  by_cases h0 : r.val = 0
  · rw [if_pos h0]
    by_cases ht : t.val = 0
    · rw [dif_pos ht, dif_pos (by omega)]
    · rw [dif_neg ht, dif_neg (by omega)]
      congr 1
      exact Fin.ext (by show 512 * t.val + 15 - 16 = (row t r).val - 1; omega)
  · rw [if_neg h0, dif_neg (by omega), rowProd, blk2 m c t, blk3 m c t, fed]
    have e : row t ⟨(r.val + 512 - 1) % 512, Nat.mod_lt _ (by omega)⟩ = ⟨(row t r).val - 1, by have := (row t r).isLt; omega⟩ :=
      Fin.ext (by show 512 * t.val + (r.val + 512 - 1) % 512 = (row t r).val - 1; omega)
    rw [e]

/-- The rows two before. -/
theorem two_before (c : Dev nD) (t : Fin cfg0.N) (r : Fin 512) (l : Fin 1024) :
    k0_pay9 (k0_pay6 (grid0.coords t) (iblk m c 2 t) (iblk m c 3 t) (iblk m c 4 t) (iblk m c 5 t)) k0_pay7
        (k0_pay8 (grid0.coords t) (iblk m c 4 t) (iblk m c 5 t)) (ix2 r l)
      = two (m ((c : Thread nD τ).loc main_arg1)) (row t r) l := by
  have hr : (row t r).val = 512 * t.val + r.val := rfl
  have hr' := r.isLt
  rw [pay9_apply, before m c t 15 l, before m c t 14 l, two]
  by_cases h1 : r.val = 1
  · rw [if_pos h1]
    by_cases ht : t.val = 0
    · rw [dif_pos ht, dif_pos (by omega)]
    · rw [dif_neg ht, dif_neg (by omega)]
      congr 1
      exact Fin.ext (by show 512 * t.val + 15 - 16 = (row t r).val - 2; omega)
  rw [if_neg h1]
  by_cases h0 : r.val = 0
  · rw [if_pos h0]
    by_cases ht : t.val = 0
    · rw [dif_pos ht, dif_pos (by omega)]
    · rw [dif_neg ht, dif_neg (by omega)]
      congr 1
      exact Fin.ext (by show 512 * t.val + 14 - 16 = (row t r).val - 2; omega)
  · rw [if_neg h0, dif_neg (by omega), rowProd, blk2 m c t, blk3 m c t, fed]
    have e : row t ⟨(r.val + 512 - 2) % 512, Nat.mod_lt _ (by omega)⟩ = ⟨(row t r).val - 2, by have := (row t r).isLt; omega⟩ :=
      Fin.ext (by show 512 * t.val + (r.val + 512 - 2) % 512 = (row t r).val - 2; omega)
    rw [e]

/-- The gradient of what the convolution takes, at one row of the block. -/
theorem back_block (c : Dev nD) (t : Fin cfg0.N) (r : Fin 512) (l : Fin 1024) :
    k0_pay14 (k0_pay12 (BitVec.ofNat 32 (grid0.coords t 0).val) (iblk m c 0 t) (iblk m c 1 t)) (iblk m c 6 t)
        (k0_pay13 (BitVec.ofNat 32 (grid0.coords t 0).val) (iblk m c 0 t) (iblk m c 1 t) (iblk m c 6 t)) (ix2 r l)
      = back (m ((c : Thread nD τ).loc main_arg0)) (m ((c : Thread nD τ).loc main_arg2)) (row t r) l := by
  have hr : (row t r).val = 512 * t.val + r.val := rfl
  have hr' := r.isLt
  have ht := t.isLt
  have h16 : cfg0.N = 16 := N_0
  pointwise [k0_pay14]
  rw [pay13_apply, pay12_apply, after_block m c t 0 l, after_block m c t 1 l, blk0 m c t, blk0 m c t, blk0 m c t, blk6 m c t,
    blk6 m c t, blk6 m c t, back]
  have e1 : (if r.val = 511 then (if h : 512 * (t.val + 1) + (0 : Fin 16).val < 8192 then
        m ((c : Thread nD τ).loc main_arg0) (ix2 ⟨512 * (t.val + 1) + (0 : Fin 16).val, h⟩ l) else (0 : EReal))
      else m ((c : Thread nD τ).loc main_arg0) (ix2 (row t ⟨(r.val + 512 - 511) % 512, Nat.mod_lt _ (by omega)⟩) l))
      = later (m ((c : Thread nD τ).loc main_arg0)) 1 (row t r) l := by
    rw [later]
    have z : (0 : Fin 16).val = 0 := rfl
    by_cases h : r.val = 511
    · rw [if_pos h]
      by_cases h' : t.val = 15
      · rw [dif_neg (by omega), dif_neg (by omega)]
      · rw [dif_pos (by omega), dif_pos (by omega)]
        exact congrArg (fun q => m ((c : Thread nD τ).loc main_arg0) (ix2 q l)) (Fin.ext (by
          show 512 * (t.val + 1) + (0 : Fin 16).val = (row t r).val + 1; omega))
    · rw [if_neg h, dif_pos (by omega)]
      exact congrArg (fun q => m ((c : Thread nD τ).loc main_arg0) (ix2 q l)) (Fin.ext (by
          show 512 * t.val + (r.val + 512 - 511) % 512 = (row t r).val + 1; omega))
  have e2 : (if r.val = 510 then (if h : 512 * (t.val + 1) + (0 : Fin 16).val < 8192 then
        m ((c : Thread nD τ).loc main_arg0) (ix2 ⟨512 * (t.val + 1) + (0 : Fin 16).val, h⟩ l) else (0 : EReal))
      else if r.val = 511 then (if h : 512 * (t.val + 1) + (1 : Fin 16).val < 8192 then
        m ((c : Thread nD τ).loc main_arg0) (ix2 ⟨512 * (t.val + 1) + (1 : Fin 16).val, h⟩ l) else (0 : EReal))
      else m ((c : Thread nD τ).loc main_arg0) (ix2 (row t ⟨(r.val + 512 - 510) % 512, Nat.mod_lt _ (by omega)⟩) l))
      = later (m ((c : Thread nD τ).loc main_arg0)) 2 (row t r) l := by
    rw [later]
    have z : (0 : Fin 16).val = 0 := rfl
    have z1 : (1 : Fin 16).val = 1 := rfl
    by_cases h : r.val = 510
    · rw [if_pos h]
      by_cases h' : t.val = 15
      · rw [dif_neg (by omega), dif_neg (by omega)]
      · rw [dif_pos (by omega), dif_pos (by omega)]
        exact congrArg (fun q => m ((c : Thread nD τ).loc main_arg0) (ix2 q l)) (Fin.ext (by
          show 512 * (t.val + 1) + (0 : Fin 16).val = (row t r).val + 2; omega))
    rw [if_neg h]
    by_cases h : r.val = 511
    · rw [if_pos h]
      by_cases h' : t.val = 15
      · rw [dif_neg (by omega), dif_neg (by omega)]
      · rw [dif_pos (by omega), dif_pos (by omega)]
        exact congrArg (fun q => m ((c : Thread nD τ).loc main_arg0) (ix2 q l)) (Fin.ext (by
          show 512 * (t.val + 1) + (1 : Fin 16).val = (row t r).val + 2; omega))
    · rw [if_neg h, dif_pos (by omega)]
      exact congrArg (fun q => m ((c : Thread nD τ).loc main_arg0) (ix2 q l)) (Fin.ext (by
          show 512 * t.val + (r.val + 512 - 510) % 512 = (row t r).val + 2; omega))
  rw [e1, e2]

end Cert.ConvIdeal.RefValue

end
-- ==== Proof.Conv.Arrays.lean ====
/- What each of the convolution's three result arrays holds after the run: the reference's result, at every index.
   The taps' gradients are added up over the sixteen grid points. -/
module

public import proofs.«01_k».proof.Proof.Conv.Blocks

@[expose] public section

set_option maxRecDepth 16384

noncomputable section

namespace Cert.ConvIdeal.RefValue

open Cert.ConvIdeal Cert.ConvIdeal.Gen Idealize.ShloMosaic Idealize.ShloMosaic.TcCoe Idealize.SL.Sem
open Idealize.ShloMosaic.Pipeline (Dat)
open Cert.ConvRefIdeal.Formulas

variable (m : (ℓ : Loc nD τ sig) → Buf (Elt Ideal) ℓ)

theorem out7_apply (c : Dev nD) (t : Fin cfg0.N) (r : Fin 512) (l : Fin 1024) :
    ((outsAt0 m c t.val t.isLt).1 : Vec Ideal S512x1024 .bf16) (ix2 r l)
      = back (m ((c : Thread nD τ).loc main_arg0)) (m ((c : Thread nD τ).loc main_arg2)) (row t r) l * (m ((c : Thread nD τ).loc main_arg1)) (ix3 2 (row t r) l) := by
  have key : k0_pay15 (k0_pay12 (BitVec.ofNat 32 (grid0.coords t 0).val) (iblk m c 0 t) (iblk m c 1 t)) (iblk m c 6 t)
        (k0_pay13 (BitVec.ofNat 32 (grid0.coords t 0).val) (iblk m c 0 t) (iblk m c 1 t) (iblk m c 6 t)) (iblk m c 3 t) (ix2 r l)
      = back (m ((c : Thread nD τ).loc main_arg0)) (m ((c : Thread nD τ).loc main_arg2)) (row t r) l * (m ((c : Thread nD τ).loc main_arg1)) (ix3 2 (row t r) l) := by
    rw [← back_block m c t r l, ← blk3 m c t r l]
    pointwise [k0_pay15]
  by_cases h : t.val % 16 = 0
  · rw [outsAt0_A m c t h]
    frame_out
    exact key
  · rw [outsAt0_B m c t h]
    frame_out
    exact key

theorem arr7 (c : Dev nD) : (dats m 0 c).arrAt 7 cfg0.N
    = Cert.ConvRefIdeal.Read.val_main_v64 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨r, l, rfl⟩ : ∃ (r : Fin 512) (l : Fin 1024), y = ix2 r l := ⟨y 0, y 1, eq_ix2 y⟩
  have e : (((cfg0.win 7).blk t).view.emb (ix2 r l)) = ix2 (row t r) l := by blk_ext [idx t, row]
  rw [e, val64_apply]
  blk_simp
  rw [after0_7]
  exact out7_apply m c t r l

theorem out8_apply (c : Dev nD) (t : Fin cfg0.N) (r : Fin 512) (l : Fin 1024) :
    ((outsAt0 m c t.val t.isLt).2.1 : Vec Ideal S512x1024 .bf16) (ix2 r l)
      = back (m ((c : Thread nD τ).loc main_arg0)) (m ((c : Thread nD τ).loc main_arg2)) (row t r) l * (m ((c : Thread nD τ).loc main_arg1)) (ix3 1 (row t r) l) := by
  have key : k0_pay16 (k0_pay12 (BitVec.ofNat 32 (grid0.coords t 0).val) (iblk m c 0 t) (iblk m c 1 t)) (iblk m c 6 t)
        (k0_pay13 (BitVec.ofNat 32 (grid0.coords t 0).val) (iblk m c 0 t) (iblk m c 1 t) (iblk m c 6 t)) (iblk m c 2 t) (ix2 r l)
      = back (m ((c : Thread nD τ).loc main_arg0)) (m ((c : Thread nD τ).loc main_arg2)) (row t r) l * (m ((c : Thread nD τ).loc main_arg1)) (ix3 1 (row t r) l) := by
    rw [← back_block m c t r l, ← blk2 m c t r l]
    pointwise [k0_pay16]
  by_cases h : t.val % 16 = 0
  · rw [outsAt0_A m c t h]
    frame_out
    exact key
  · rw [outsAt0_B m c t h]
    frame_out
    exact key

theorem arr8 (c : Dev nD) : (dats m 0 c).arrAt 8 cfg0.N
    = Cert.ConvRefIdeal.Read.val_main_v65 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨r, l, rfl⟩ : ∃ (r : Fin 512) (l : Fin 1024), y = ix2 r l := ⟨y 0, y 1, eq_ix2 y⟩
  have e : (((cfg0.win 8).blk t).view.emb (ix2 r l)) = ix2 (row t r) l := by blk_ext [idx t, row]
  rw [e, val65_apply]
  blk_simp
  rw [after0_8]
  refine (out8_apply m c t r l).trans (mul_comm _ _)

/-- What grid point `t` adds to the taps' gradients. -/
def gain (c : Dev nD) (t : Fin cfg0.N) (i : S8x1024.Idx) : EReal :=
  if (i 0).val = 2 then ∑ x : Fin 512, weighted (m ((c : Thread nD τ).loc main_arg0)) (fed (m ((c : Thread nD τ).loc main_arg1))) (row t x) (i 1)
  else if (i 0).val = 1 then ∑ x : Fin 512, weighted (m ((c : Thread nD τ).loc main_arg0)) (one (m ((c : Thread nD τ).loc main_arg1))) (row t x) (i 1)
  else if (i 0).val = 0 then ∑ x : Fin 512, weighted (m ((c : Thread nD τ).loc main_arg0)) (two (m ((c : Thread nD τ).loc main_arg1))) (row t x) (i 1) else 0

theorem term_eq (c : Dev nD) (t : Fin cfg0.N) (z : Vec Ideal S8x1024 .f32) (j : Fin 8) (l : Fin 1024) :
    k0_pay2 (k0_pay17 (k0_pay5 (grid0.coords t) (iblk m c 2 t) (iblk m c 3 t) (iblk m c 4 t) (iblk m c 5 t))
        (k0_pay9 (k0_pay6 (grid0.coords t) (iblk m c 2 t) (iblk m c 3 t) (iblk m c 4 t) (iblk m c 5 t)) k0_pay7
          (k0_pay8 (grid0.coords t) (iblk m c 4 t) (iblk m c 5 t))) (k0_pay10 (iblk m c 0 t)))
      k0_pay18 (k0_pay19 (k0_pay3 (iblk m c 2 t) (iblk m c 3 t)) (k0_pay10 (iblk m c 0 t))) z (ix2 j l)
      = z (ix2 j l) + gain m c t (ix2 j l) := by
  have e : ∀ x : Fin 512, k0_pay10 (iblk m c 0 t) (ix2 x l) = (m ((c : Thread nD τ).loc main_arg0)) (ix2 (row t x) l) := fun x => by
    pointwise [k0_pay10, blk0 m c t]
  have e' : ∀ x : Fin 512, k0_pay19 (k0_pay3 (iblk m c 2 t) (iblk m c 3 t)) (k0_pay10 (iblk m c 0 t)) (ix2 x l)
      = weighted (m ((c : Thread nD τ).loc main_arg0)) (fed (m ((c : Thread nD τ).loc main_arg1))) (row t x) l := fun x => by
    pointwise [k0_pay19, k0_pay3, blk2 m c t, blk3 m c t, e, fed, weighted]
  rw [pay2_apply, pay17_apply]
  simp only [e, e', one_before m c t, two_before m c t]
  rfl

theorem acc (c : Dev nD) (i : S8x1024.Idx) :
    ((outsAt0 m c t0_15.val t0_15.isLt).2.2 : Vec Ideal S8x1024 .f32) i = 0 + ∑ p : Fin cfg0.N, gain m c p i := by
  refine Pipeline.eq_sum_fin_of_reset_step_apply_last (fun n h => ((outsAt0 m c n h).2.2 : Vec Ideal S8x1024 .f32)) 16
    (fun _ => (0 : EReal)) (gain m c) (fun t h i => ?_) (fun t h i => ?_) (le_of_eq N_0) t0_15 (by
      show 15 + 1 = cfg0.N; exact N_0.symm) i
  · obtain ⟨j, l, rfl⟩ : ∃ (j : Fin 8) (l : Fin 1024), i = ix2 j l := ⟨i 0, i 1, eq_ix2 i⟩
    show (outsAt0 m c t.val t.isLt).2.2 _ = _
    rw [outsAt0_A m c t h]
    frame_out
    rw [term_eq]
    pointwise [k0_pay1]
  · obtain ⟨j, l, rfl⟩ : ∃ (j : Fin 8) (l : Fin 1024), i = ix2 j l := ⟨i 0, i 1, eq_ix2 i⟩
    show (outsAt0 m c t.val t.isLt).2.2 _ = _
    rw [outsAt0_B m c t h]
    frame_out
    rw [term_eq]

/-- The sum over the grid points of what each adds is the sum over all rows. -/
theorem term_sum (c : Dev nD) (j : Fin 8) (l : Fin 1024) :
    ∑ p : Fin cfg0.N, gain m c p (ix2 j l) = taps (m ((c : Thread nD τ).loc main_arg0)) (m ((c : Thread nD τ).loc main_arg1)) j l := by
  have s : ∀ f : Fin 8192 → EReal, ∑ p : Fin cfg0.N, ∑ x : Fin 512, f (row p x) = ∑ r : Fin 8192, f r := fun f =>
    Cert.Common.sum_blocks 16 512 8192 rfl f
  unfold gain taps
  have z0 : ((ix2 j l : S8x1024.Idx) 0).val = j.val := rfl
  have z1 : ((ix2 j l : S8x1024.Idx) 1) = l := rfl
  simp only [z0, z1]
  by_cases h2 : j.val = 2
  · simp only [if_pos h2]
    exact s fun r => weighted (m ((c : Thread nD τ).loc main_arg0)) (fed (m ((c : Thread nD τ).loc main_arg1))) r l
  simp only [if_neg h2]
  by_cases h1 : j.val = 1
  · simp only [if_pos h1]
    exact s fun r => weighted (m ((c : Thread nD τ).loc main_arg0)) (one (m ((c : Thread nD τ).loc main_arg1))) r l
  simp only [if_neg h1]
  by_cases h0 : j.val = 0
  · simp only [if_pos h0]
    exact s fun r => weighted (m ((c : Thread nD τ).loc main_arg0)) (two (m ((c : Thread nD τ).loc main_arg1))) r l
  simp only [if_neg h0, Finset.sum_const_zero]

theorem arr9 (c : Dev nD) : (dats m 0 c).arrAt 9 cfg0.N
    = Cert.ConvRefIdeal.Read.val_main_v66 (F := Ideal) (m ((c : Thread nD τ).loc main_arg0)) (m ((c : Thread nD τ).loc main_arg1)) := by
  refine (dats m 0 c).arrAt_eq_of_after_last 9 t0_15 (by decide +kernel) _ fun i => ?_
  obtain ⟨j, l, rfl⟩ : ∃ (j : Fin 8) (l : Fin 1024), i = ix2 j l := ⟨i 0, i 1, eq_ix2 i⟩
  blk_simp
  rw [after0_9, val66_apply]
  exact (acc m c (ix2 j l)).trans ((zero_add _).trans (term_sum m c j l))

end Cert.ConvIdeal.RefValue

end
-- ==== Proof.Conv.Claims.lean ====
/- The convolution's backward kernel and the reference end with the same three arrays. -/
module

public import proofs.«01_k».proof.Defs
public import proofs.«01_k».proof.Proof.Conv.Arrays
public import proofs.«01_k».proof.Proof.Gen.ConvRefIdeal.Run

@[expose] public section

set_option maxRecDepth 16384

noncomputable section

namespace Cert.Proof.ConvClaims

open Idealize.ShloMosaic Idealize.SL.Sem

theorem algebraic : Cert.algebraic_ConvIdeal_ConvRefIdeal := by
  intro m ρ m' ρ' _ agree
  refine ⟨fun c => Cert.ConvRefIdeal.Read.val_main_v64 (F := Ideal) (m ((c.tc : Thread _ _).loc Cert.ConvIdeal.main_arg0)) (m ((c.tc : Thread _ _).loc Cert.ConvIdeal.main_arg1)) (m ((c.tc : Thread _ _).loc Cert.ConvIdeal.main_arg2)),
    fun c => Cert.ConvRefIdeal.Read.val_main_v65 (F := Ideal) (m ((c.tc : Thread _ _).loc Cert.ConvIdeal.main_arg0)) (m ((c.tc : Thread _ _).loc Cert.ConvIdeal.main_arg1)) (m ((c.tc : Thread _ _).loc Cert.ConvIdeal.main_arg2)),
    fun c => Cert.ConvRefIdeal.Read.val_main_v66 (F := Ideal) (m ((c.tc : Thread _ _).loc Cert.ConvIdeal.main_arg0)) (m ((c.tc : Thread _ _).loc Cert.ConvIdeal.main_arg1)),
    ?_, ?_⟩
  · refine (θ_run _ _ _).mono (fun r h c => ?_) (Cert.ConvIdeal.Value.run_blocks (F := Ideal) m ρ)
    obtain ⟨h0, h1, h2, kept⟩ := h c
    exact ⟨h0.trans (Cert.ConvIdeal.RefValue.arr7 m c), h1.trans (Cert.ConvIdeal.RefValue.arr8 m c), h2.trans (Cert.ConvIdeal.RefValue.arr9 m c), kept⟩
  · refine (θ_run _ _ _).mono (fun r h c => ?_) (Cert.ConvRefIdeal.Value.run (F := Ideal) m' ρ')
    obtain ⟨h0, h1, h2, kept⟩ := h c
    obtain ⟨a0, a1, a2⟩ := agree c
    refine ⟨h0.trans ?_, h1.trans ?_, h2.trans ?_, kept⟩
    · simp only [← a0, ← a1, ← a2]
      first | exact Cert.ConvRefIdeal.Read.val_main_v64_eq (F := Ideal) m' c | rfl
    · simp only [← a0, ← a1, ← a2]
      first | exact Cert.ConvRefIdeal.Read.val_main_v65_eq (F := Ideal) m' c | rfl
    · simp only [← a0, ← a1]
      first | exact Cert.ConvRefIdeal.Read.val_main_v66_eq (F := Ideal) m' c | rfl

/-- The reference runs, keeps its arguments, and has no semaphore that could be left raised. -/
theorem frame_ref : Cert.quiescent_ConvRefIdeal := fun m ρ _ =>
  (θ_run _ _ _).mono (fun r h => ⟨fun c => by
    obtain ⟨_, _, _, kept⟩ := h c
    exact kept, sem_eq_zero_of_no_sems rfl _⟩) (Cert.ConvRefIdeal.Value.run (F := Ideal) m ρ)

theorem preserves : Cert.preserves_Conv_ConvIdeal := trivial

end Cert.Proof.ConvClaims

end
-- ==== Proof.Norm.lean ====
/- The root-mean-square norm of a row, and its derivative: the form that shares the reciprocal root, and the form that the
   chain rule gives, agree on every row, finite or not. -/
module

public import Idealize.ShloMosaic.Lib.Pipeline.ValueKit
public import Idealize.ShloMosaic.Lib.Pointwise

@[expose] public section

noncomputable section

namespace Cert.Norm

open Idealize.ShloMosaic

/-- The row's width, 1024, as the programs write it. -/
def width : EReal := Ideal.ofBits FTy.f32 1149239296#32
/-- What the norm adds to the mean square. -/
def eps : EReal := Ideal.ofBits FTy.f32 897988541#32
/-- Minus one half, the derivative of the reciprocal root at one. -/
def minusHalf : EReal := Ideal.ofBits FTy.f32 3204448256#32

theorem width_eq : width = ((1024 : ℝ) : EReal) := by
  have e : (1149239296 >>> 23 % 256 : ℕ) = 137 := by decide
  have n : BitVec.extractLsb' 31 1 1149239296#32 = 0#1 := by decide
  simp only [width, Ideal.ofBits, Ideal.ieee]
  norm_num [e, n]

theorem minusHalf_eq : minusHalf = ((-(1/2) : ℝ) : EReal) := by
  have e : (3204448256 >>> 23 % 256 : ℕ) = 126 := by decide
  have n : BitVec.extractLsb' 31 1 3204448256#32 = 1#1 := by decide
  simp only [minusHalf, Ideal.ofBits, Ideal.ieee]
  norm_num [e, n]

theorem eps_eq : ∃ e : ℝ, 0 < e ∧ eps = (e : EReal) := by
  have e : (897988541 >>> 23 % 256 : ℕ) = 107 := by decide
  have n : BitVec.extractLsb' 31 1 897988541#32 = 0#1 := by decide
  refine ⟨(8388608 + (897988541 % 8388608 : ℕ)) * (2 : ℝ) ^ (-43 : ℤ), by positivity, ?_⟩
  simp only [eps, Ideal.ofBits, Ideal.ieee]
  norm_num [e, n]

theorem div_width (x : EReal) : Ideal.div x width = x * (((1024 : ℝ)⁻¹ : ℝ) : EReal) := by
  rw [width_eq, Ideal.div, if_neg (by norm_num), EReal.coe_inv]

theorem coe_sum {n : ℕ} (f : Fin n → ℝ) : ((∑ j, f j : ℝ) : EReal) = ∑ j, (f j : EReal) := by
  have key : ∀ s : Finset (Fin n), ((∑ j ∈ s, f j : ℝ) : EReal) = ∑ j ∈ s, (f j : EReal) := fun s => by
    induction s using Finset.induction_on with
    | empty => simp
    | insert a s ha ih => rw [Finset.sum_insert ha, Finset.sum_insert ha, EReal.coe_add, ih]
  exact key _

theorem mul_self_nonneg_ereal (x : EReal) : 0 ≤ x * x := by
  induction x with
  | bot => exact le_top
  | top => exact le_top
  | coe r => rw [← EReal.coe_mul]; exact EReal.coe_nonneg.mpr (mul_self_nonneg r)

/-- A real factor that is not negative goes out of a sum. -/
theorem sum_mul_coe {n : ℕ} (f : Fin n → EReal) {c : ℝ} (hc : 0 ≤ c) : ∑ j, f j * (c : EReal) = (∑ j, f j) * (c : EReal) := by
  have key : ∀ s : Finset (Fin n), ∑ j ∈ s, f j * (c : EReal) = (∑ j ∈ s, f j) * (c : EReal) := fun s => by
    induction s using Finset.induction_on with
    | empty => simp
    | insert a s ha ih =>
      rw [Finset.sum_insert ha, Finset.sum_insert ha, ih,
        EReal.right_distrib_of_nonneg_of_ne_top (EReal.coe_nonneg.mpr hc) (EReal.coe_ne_top c)]
  exact key _

theorem add_self_coe (S : EReal) (x : ℝ) : S * (x : EReal) + S * (x : EReal) = S * ((2 * x : ℝ) : EReal) := by
  induction S with
  | bot =>
    rcases lt_trichotomy x 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy x 0 with h | h | h
    · rw [EReal.top_mul_coe_of_neg h, EReal.top_mul_coe_of_neg (by linarith)]; rfl
    · subst h; simp
    · rw [EReal.top_mul_coe_of_pos h, EReal.top_mul_coe_of_pos (by linarith)]; rfl
  | coe s =>
    rw [← EReal.coe_mul, ← EReal.coe_mul, ← EReal.coe_add]
    exact congrArg _ (by ring)

variable (h : Fin 1024 → EReal)

/-- The mean square of a row, a little raised. -/
def square : EReal := Ideal.div (∑ x, h x * h x) width + eps
/-- Its reciprocal root. -/
def root : EReal := Ideal.rsqrt (square h)
/-- The factor of the row in the part of the derivative that goes through the root, for an incoming gradient `a` of the
    scaled row. -/
def through (a : Fin 1024 → EReal) : EReal :=
  Ideal.div ((∑ x, h x * a x) * (minusHalf * Ideal.div (root h) (square h))) width

/-- A row is finite, and then its root is a positive real whose square is the square's reciprocal; or it isn't, and
    then the square is infinite. -/
theorem cases_row : (∃ f : Fin 1024 → ℝ, h = fun x => (f x : EReal)) ∧
      (∃ s ρ : ℝ, 0 < s ∧ 0 < ρ ∧ ρ * ρ = s⁻¹ ∧ square h = (s : EReal) ∧ root h = (ρ : EReal)) ∨ square h = ⊤ := by
  by_cases fin : ∀ x, h x ≠ ⊤ ∧ h x ≠ ⊥
  · left
    have hf : h = fun x => ((h x).toReal : EReal) := funext fun x => (EReal.coe_toReal (fin x).1 (fin x).2).symm
    refine ⟨⟨_, hf⟩, ?_⟩
    obtain ⟨e, he, hee⟩ := eps_eq
    have hs : square h = (((∑ x, (h x).toReal * (h x).toReal) * (1024 : ℝ)⁻¹ + e : ℝ) : EReal) := by
      rw [square, div_width, hee, EReal.coe_add, EReal.coe_mul]
      congr 2
      rw [hf]
      simp only [EReal.toReal_coe]
      rw [show (∑ x, ((h x).toReal : EReal) * ((h x).toReal : EReal)) = ∑ x, (((h x).toReal * (h x).toReal : ℝ) : EReal) from
        Finset.sum_congr rfl fun x _ => (EReal.coe_mul _ _).symm]
      exact (coe_sum _).symm
    have pos : 0 < (∑ x, (h x).toReal * (h x).toReal) * (1024 : ℝ)⁻¹ + e := by
      have : 0 ≤ ∑ x, (h x).toReal * (h x).toReal := Finset.sum_nonneg fun x _ => mul_self_nonneg _
      positivity
    refine ⟨_, (Real.sqrt ((∑ x, (h x).toReal * (h x).toReal) * (1024 : ℝ)⁻¹ + e))⁻¹, pos, inv_pos.mpr (Real.sqrt_pos.mpr pos), ?_, hs, ?_⟩
    · rw [← mul_inv, Real.mul_self_sqrt pos.le]
    · rw [root, hs, Ideal.rsqrt_coe, if_neg (not_lt.mpr pos.le), if_neg pos.ne']
  · right
    obtain ⟨x, hx⟩ : ∃ x, h x = ⊤ ∨ h x = ⊥ := by
      by_contra hn
      exact fin fun x => ⟨fun e => hn ⟨x, .inl e⟩, fun e => hn ⟨x, .inr e⟩⟩
    have top : h x * h x = ⊤ := by rcases hx with e | e <;> rw [e] <;> rfl
    have sum : ∑ y, h y * h y = ⊤ := by
      rw [← top_le_iff, ← top]
      exact Finset.single_le_sum (fun y _ => mul_self_nonneg_ereal (h y)) (Finset.mem_univ x)
    obtain ⟨e, he, hee⟩ := eps_eq
    rw [square, sum, div_width, EReal.top_mul_coe_of_pos (by norm_num), hee, EReal.top_add_coe]

/-- The two forms of the derivative agree: scaling by the root what is left of the incoming gradient after its mean along
    the scaled row is taken out, and adding up the three terms of the chain rule. -/
theorem back_eq (a : Fin 1024 → EReal) (k : Fin 1024) :
    root h * (a k - h k * root h * Ideal.div (∑ x, a x * (h x * root h)) width)
      = a k * root h + (h k * through h a + through h a * h k) := by
  rcases cases_row h with ⟨⟨f, hf⟩, s, ρ, hs, hρ, sq, es, er⟩ | top
  · have hsum : ∑ x, a x * (h x * root h) = (∑ x, h x * a x) * (ρ : EReal) := by
      rw [er, ← sum_mul_coe _ hρ.le]
      exact Finset.sum_congr rfl fun x _ => by rw [← mul_assoc, mul_comm (a x)]
    have ht : through h a = (∑ x, h x * a x) * ((-(1 / 2) * (ρ * s⁻¹) * (1024 : ℝ)⁻¹ : ℝ) : EReal) := by
      rw [through, div_width, er, es, minusHalf_eq, Ideal.div, if_neg (by exact_mod_cast hs.ne'), ← EReal.coe_inv,
        ← EReal.coe_mul, ← EReal.coe_mul, mul_assoc, ← EReal.coe_mul]
    rw [ht, hsum, div_width, er]
    generalize ∑ x, h x * a x = S
    have hk : h k = (f k : EReal) := congrFun hf k
    have A : (f k : EReal) * (ρ : EReal) * (S * (ρ : EReal) * (((1024 : ℝ)⁻¹ : ℝ) : EReal))
        = S * ((f k * ρ * (ρ * (1024 : ℝ)⁻¹) : ℝ) : EReal) := by
      rw [EReal.coe_mul, EReal.coe_mul, EReal.coe_mul]; ac_rfl
    have B : (ρ : EReal) * -(S * ((f k * ρ * (ρ * (1024 : ℝ)⁻¹) : ℝ) : EReal))
        = S * ((-(ρ * (f k * ρ * (ρ * (1024 : ℝ)⁻¹))) : ℝ) : EReal) := by
      rw [EReal.coe_neg, mul_neg, mul_neg, EReal.coe_mul ρ]
      exact congrArg Neg.neg (by ac_rfl)
    have C (b : ℝ) : (f k : EReal) * (S * (b : EReal)) + S * (b : EReal) * (f k : EReal) = S * ((2 * (b * f k) : ℝ) : EReal) := by
      rw [← add_self_coe, EReal.coe_mul, mul_comm ((f k : ℝ) : EReal), mul_assoc]
    rw [hk, C, A,
      sub_eq_add_neg, EReal.left_distrib_of_nonneg_of_ne_top (EReal.coe_nonneg.mpr hρ.le) (EReal.coe_ne_top ρ), B, mul_comm (a k)]
    refine congrArg (fun z : ℝ => (ρ : EReal) * a k + S * (z : EReal)) ?_
    rw [← sq]; ring
  · have er : root h = 0 := by rw [root, top, Ideal.rsqrt_top]
    have ht : through h a = 0 := by
      rw [through, er, top, div_width, Ideal.div, if_neg (by simp)]
      simp
    rw [er, ht]
    simp

end Cert.Norm

end
-- ==== Proof.In.Formulas.lean ====
/- The derivative of a feed-forward block's input, as formulas at one index: what comes back through the product with the
   input weights, and what comes back through the norm. -/
module

public import proofs.«01_k».proof.Proof.Gen.InRefIdeal.Read
public import proofs.«01_k».proof.Proof.Common
public import proofs.«01_k».proof.Proof.Norm
public import Idealize.ShloMosaic.Lib.Pipeline.ValueKit
public import Idealize.ShloMosaic.Lib.Pointwise

@[expose] public section

set_option maxRecDepth 16384

noncomputable section

namespace Cert.InRefIdeal.Formulas

open Cert.InRefIdeal Cert.InRefIdeal.Read Idealize.ShloMosaic Idealize.ShloMosaic.TcCoe

variable (x0 : (⟨S8192x1024, .f32⟩ : BufTy).Contents (Elt Ideal)) (x1 : (⟨S8192x1024, .f32⟩ : BufTy).Contents (Elt Ideal)) (x2 : (⟨S1x1024, .f32⟩ : BufTy).Contents (Elt Ideal))
  (x3 : (⟨S4x8192x704, .bf16⟩ : BufTy).Contents (Elt Ideal)) (x4 : (⟨S4x8192x704, .bf16⟩ : BufTy).Contents (Elt Ideal)) (x5 : (⟨S8x1024x704, .bf16⟩ : BufTy).Contents (Elt Ideal))

/-- One of the gate's terms, and one of the other half's, of the gradient of the normalised row. -/
def gateTerm (c : Fin 4) (r : Fin 8192) (k : Fin 1024) (j : Fin 704) : EReal :=
  x3 (ix3 c r j) * x5 (ix3 ⟨c.val, by omega⟩ k j)
def upTerm (c : Fin 4) (r : Fin 8192) (k : Fin 1024) (j : Fin 704) : EReal :=
  x4 (ix3 c r j) * x5 (ix3 ⟨4 + c.val, by omega⟩ k j)
/-- The gradient of the normalised row. -/
def dn (r : Fin 8192) (k : Fin 1024) : EReal :=
  ∑ c : Fin 4, (∑ j : Fin 704, gateTerm x3 x5 c r k j + ∑ j : Fin 704, upTerm x4 x5 c r k j)
/-- A row of the stream. -/
def stream (r : Fin 8192) (k : Fin 1024) : EReal := x1 (ix2 r k)
/-- The gradient of the scaled row: times the norm's gains. -/
def scaled (r : Fin 8192) (k : Fin 1024) : EReal := dn x3 x4 x5 r k * x2 (ix2 0 k)
/-- The gradient of the block's input. -/
def back (r : Fin 8192) (k : Fin 1024) : EReal :=
  x0 (ix2 r k) + (scaled x2 x3 x4 x5 r k * Norm.root (stream x1 r)
    + (x1 (ix2 r k) * Norm.through (stream x1 r) (scaled x2 x3 x4 x5 r) + Norm.through (stream x1 r) (scaled x2 x3 x4 x5 r) * x1 (ix2 r k)))
/-- A row's part of the gains' gradient. -/
def gainTerm (r : Fin 8192) (k : Fin 1024) : EReal :=
  x1 (ix2 r k) * Norm.root (stream x1 r) * dn x3 x4 x5 r k

theorem val6_apply (r : Fin 8192) : val_main_v6 (F := Ideal) x1 (ix2 r 0) = Norm.square (stream x1 r) := by
  pointwise [val_main_v6, val_main_v5, val_main_v4, val_main_v3, val_main_v2, val_main_v1, val_main_v0, val_main_cst_1, val_main_cst_0, val_main_cst, Norm.square, Norm.width, Norm.eps, stream]

theorem val7_apply (r : Fin 8192) : val_main_v7 (F := Ideal) x1 (ix2 r 0) = Norm.root (stream x1 r) := by
  pointwise [val_main_v7, val6_apply, Norm.root]

theorem val10_apply (r : Fin 8192) : val_main_v10 (F := Ideal) x1 (ix2 r 0)
    = Norm.minusHalf * Ideal.div (Norm.root (stream x1 r)) (Norm.square (stream x1 r)) := by
  pointwise [val_main_v10, val_main_v9, val_main_v8, val_main_cst_2, val7_apply, val6_apply, Norm.minusHalf]

theorem val26_apply (r : Fin 8192) (k : Fin 1024) : val_main_v26 (F := Ideal) x3 x4 x5 (ix2 r k) = dn x3 x4 x5 r k := by
  generalize e : dn x3 x4 x5 r k = G
  pointwise [val_main_v26, val_main_v25, val_main_v24, val_main_v23, val_main_v22, val_main_v21, val_main_v20, val_main_v19, val_main_v17, val_main_v16, val_main_v15]
  rw [← e, dn, Finset.sum_add_distrib]
  refine congrArg₂ (· + ·) ((Cert.Common.sum_blocks 4 704 2816 rfl _).symm.trans (Finset.sum_congr rfl fun c _ => Finset.sum_congr rfl fun j _ => ?_))
    ((Cert.Common.sum_blocks 4 704 2816 rfl _).symm.trans (Finset.sum_congr rfl fun c _ => Finset.sum_congr rfl fun j _ => ?_))
  · have e : (704 * c.val + j.val) / 704 = c.val := by have := j.isLt; omega
    have e' : (704 * c.val + j.val) % 704 = j.val := by have := j.isLt; omega
    simp only [gateTerm, e, e']
  · have e : (704 * c.val + j.val) / 704 = c.val := by have := j.isLt; omega
    have e' : (704 * c.val + j.val) % 704 = j.val := by have := j.isLt; omega
    have d : (2816 + (704 * c.val + j.val)) / 704 = 4 + c.val := by have := j.isLt; omega
    have d' : (2816 + (704 * c.val + j.val)) % 704 = j.val := by have := j.isLt; omega
    simp only [upTerm, e, e', d, d']

theorem val31_apply (r : Fin 8192) (k : Fin 1024) : val_main_v31 (F := Ideal) x2 x3 x4 x5 (ix2 r k) = scaled x2 x3 x4 x5 r k := by
  pointwise [val_main_v31, val_main_v30, val26_apply, scaled]

theorem val40_apply (r : Fin 8192) : val_main_v40 (F := Ideal) x1 x2 x3 x4 x5 (ix2 r 0)
    = Norm.through (stream x1 r) (scaled x2 x3 x4 x5 r) := by
  pointwise [val_main_v40, val_main_v39, val_main_v38, val_main_v34, val_main_v33, val_main_v32, val_main_cst_4, val_main_cst_5, val10_apply, val31_apply, Norm.through, Norm.width, stream]

theorem val46_apply (r : Fin 8192) (k : Fin 1024) :
    val_main_v46 (F := Ideal) x0 x1 x2 x3 x4 x5 (ix2 r k) = back x0 x1 x2 x3 x4 x5 r k := by
  pointwise [val_main_v46, val_main_v45, val_main_v44, val_main_v43, val_main_v42, val_main_v41, val_main_v37, val_main_v36, val_main_v35, val_main_cst_6, val7_apply, val31_apply, val40_apply]
  simp only [back, add_assoc, Finset.univ_unique, Finset.sum_singleton, show (default : Fin 1) = 0 from rfl, val40_apply]

theorem val29_apply (k : Fin 1024) :
    val_main_v29 (F := Ideal) x1 x3 x4 x5 (ix2 0 k) = ∑ r : Fin 8192, gainTerm x1 x3 x4 x5 r k := by
  pointwise [val_main_v29, val_main_v28, val_main_v27, val_main_v12, val_main_v11, val_main_cst_3, val26_apply, val7_apply, gainTerm]

end Cert.InRefIdeal.Formulas

end
-- ==== Proof.In.Blocks.lean ====
/- What the kernel for the gradient of a feed-forward block's input holds in its windows at one grid point, and its
   payloads at one index. -/
module

public import proofs.«01_k».proof.Proof.Gen.InIdeal.Value
public import proofs.«01_k».proof.Proof.In.Formulas
public import Idealize.ShloMosaic.Lib.Pipeline.ValueKit
public import Idealize.ShloMosaic.Lib.Pointwise
public import Idealize.ShloMosaic.Lib.Claim

@[expose] public section

set_option maxRecDepth 16384

noncomputable section

namespace Cert.InIdeal.RefValue

open Cert.InIdeal Cert.InIdeal.Gen Idealize.ShloMosaic Idealize.ShloMosaic.TcCoe Idealize.SL.Sem
open Idealize.ShloMosaic.Pipeline (Dat)
open Cert.InRefIdeal.Formulas

/-- A product of two blocks' rows, summed. -/
def rowDot {p q : ℕ} (x : Vec Ideal ⟨3, ![1, p, 704]⟩ .bf16) (w : Vec Ideal ⟨3, ![1, q, 704]⟩ .bf16) (r : Fin p) (l : Fin q) : EReal :=
  ∑ j : Fin 704, x (ix3 0 r j) * w (ix3 0 l j)

/-- The eight products that make the gradient of the normalised row. -/
theorem dn_pay (g0 g1 g2 g3 u0 u1 u2 u3 : Vec Ideal S1x512x704 .bf16) (w0 w1 w2 w3 w4 w5 w6 w7 : Vec Ideal S1x1024x704 .bf16)
    (r : Fin 512) (l : Fin 1024) :
    k0_pay8 (k0_pay6 g0 w0 u0 w4 g1 w1 u1 w5) (k0_pay7 g2) w2 u2 w6 g3 w3 u3 w7 (ix2 r l)
      = ((rowDot g0 w0 r l + rowDot u0 w4 r l) + (rowDot g1 w1 r l + rowDot u1 w5 r l))
        + ((rowDot g2 w2 r l + rowDot u2 w6 r l) + (rowDot g3 w3 r l + rowDot u3 w7 r l)) := by
  simp only [add_assoc]
  pointwise [k0_pay8, k0_pay7, k0_pay6, rowDot]
  simp only [add_assoc]

theorem root_pay (h : Vec Ideal S512x1024 .f32) (r : Fin 512) :
    k0_pay1 (k0_pay9 h) (ix2 r 0) = Norm.root (fun k => h (ix2 r k)) := by
  pointwise [k0_pay1, k0_pay9, Norm.root, Norm.square, Norm.width, Norm.eps]

theorem pay5_apply (d : FVec Ideal S512x1024 .f32) (h : Vec Ideal S512x1024 .f32) (g : Vec Ideal S1x1024 .f32)
    (i : Vec Ideal S512x1024 .f32) (r : Fin 512) (l : Fin 1024) : k0_pay5 d h g (k0_pay9 h) i (ix2 r l)
      = i (ix2 r l) + (d (ix2 r l) * g (ix2 0 l) * Norm.root (fun k => h (ix2 r k))
        + (h (ix2 r l) * Norm.through (fun k => h (ix2 r k)) (fun k => d (ix2 r k) * g (ix2 0 k))
          + Norm.through (fun k => h (ix2 r k)) (fun k => d (ix2 r k) * g (ix2 0 k)) * h (ix2 r l))) := by
  have e := Norm.back_eq (fun k => h (ix2 r k)) (fun k => d (ix2 r k) * g (ix2 0 k)) l
  rw [← e]
  pointwise [k0_pay5, k0_pay2, root_pay, Norm.width]

theorem pay4_apply (d : FVec Ideal S512x1024 .f32) (h : Vec Ideal S512x1024 .f32) (z : Vec Ideal S1x1024 .f32) (l : Fin 1024) :
    k0_pay4 d h (k0_pay9 h) z (ix2 0 l)
      = z (ix2 0 l) + ∑ x : Fin 512, d (ix2 x l) * (h (ix2 x l) * Norm.root (fun k => h (ix2 x k))) := by
  pointwise [k0_pay4, k0_pay2, root_pay]

variable (m : (ℓ : Loc nD τ sig) → Buf (Elt Ideal) ℓ)

/-- The block each window holds at grid point `t`. -/
theorem idx : ∀ t : Fin grid0.N, (grid0.coords t 0).val = t.val ∧ win0_0.index t = ![t.val, 0]
    ∧ win0_1.index t = ![t.val, 0] ∧ win0_2.index t = ![0, 0] ∧ win0_3.index t = ![0, t.val, 0]
    ∧ win0_4.index t = ![0, t.val, 0] ∧ win0_5.index t = ![0, 0, 0] ∧ win0_6.index t = ![t.val, 0]
    ∧ win0_7.index t = ![0, 0] := by
  decide +kernel

/-- Row `p` of block `t`, among all rows. -/
def row (t : Fin cfg0.N) (p : Fin 512) : Fin 8192 :=
  ⟨512 * t.val + p.val, by have := t.isLt; have h : cfg0.N = 16 := N_0; omega⟩

theorem blk0 (c : Dev nD) (t : Fin cfg0.N) (p : Fin 512) (k : Fin 1024) :
    (iblk m c 0 t : Vec Ideal S512x1024 .f32) (ix2 p k) = m ((c : Thread nD τ).loc main_arg0) (ix2 (row t p) k) := by
  blk_ext [iblk, V, idx t, row]
theorem blk1 (c : Dev nD) (t : Fin cfg0.N) (p : Fin 512) (k : Fin 1024) :
    (iblk m c 1 t : Vec Ideal S512x1024 .f32) (ix2 p k) = m ((c : Thread nD τ).loc main_arg1) (ix2 (row t p) k) := by
  blk_ext [iblk, V, idx t, row]
theorem blk2 (c : Dev nD) (t : Fin cfg0.N) (k : Fin 1024) :
    (iblk m c 2 t : Vec Ideal S1x1024 .f32) (ix2 0 k) = m ((c : Thread nD τ).loc main_arg2) (ix2 0 k) := by
  blk_ext [iblk, V, idx t]
theorem blk3 (c : Dev nD) (t : Fin cfg0.N) (q : Fin 4) (p : Fin 512) (j : Fin 704) :
    (iblk m c 3 t : Vec Ideal S4x512x704 .bf16) (ix3 q p j) = m ((c : Thread nD τ).loc main_arg3) (ix3 q (row t p) j) := by
  blk_ext [iblk, V, idx t, row]
theorem blk4 (c : Dev nD) (t : Fin cfg0.N) (q : Fin 4) (p : Fin 512) (j : Fin 704) :
    (iblk m c 4 t : Vec Ideal S4x512x704 .bf16) (ix3 q p j) = m ((c : Thread nD τ).loc main_arg4) (ix3 q (row t p) j) := by
  blk_ext [iblk, V, idx t, row]
theorem blk5 (c : Dev nD) (t : Fin cfg0.N) (q : Fin 8) (k : Fin 1024) (j : Fin 704) :
    (iblk m c 5 t : Vec Ideal S8x1024x704 .bf16) (ix3 q k j) = m ((c : Thread nD τ).loc main_arg5) (ix3 q k j) := by
  blk_ext [iblk, V, idx t]
theorem ld3_0 (c : Dev nD) (t : Fin cfg0.N) (p : Fin 512) (j : Fin 704) :
    (View.ld (iblk m c 3 t) (Rect.unit ![0, 0, 0] ![1, 512, 704] inb_S4x512x704_S1x512x704_0_0_0) : Vec Ideal S1x512x704 .bf16)
        (ix3 0 p j) = m ((c : Thread nD τ).loc main_arg3) (ix3 0 (row t p) j) := by
  refine Eq.trans ?_ (blk3 m c t 0 p j)
  pointwise []
theorem ld4_0 (c : Dev nD) (t : Fin cfg0.N) (p : Fin 512) (j : Fin 704) :
    (View.ld (iblk m c 4 t) (Rect.unit ![0, 0, 0] ![1, 512, 704] inb_S4x512x704_S1x512x704_0_0_0) : Vec Ideal S1x512x704 .bf16)
        (ix3 0 p j) = m ((c : Thread nD τ).loc main_arg4) (ix3 0 (row t p) j) := by
  refine Eq.trans ?_ (blk4 m c t 0 p j)
  pointwise []
theorem ld3_1 (c : Dev nD) (t : Fin cfg0.N) (p : Fin 512) (j : Fin 704) :
    (View.ld (iblk m c 3 t) (Rect.unit ![1, 0, 0] ![1, 512, 704] inb_S4x512x704_S1x512x704_1_0_0) : Vec Ideal S1x512x704 .bf16)
        (ix3 0 p j) = m ((c : Thread nD τ).loc main_arg3) (ix3 1 (row t p) j) := by
  refine Eq.trans ?_ (blk3 m c t 1 p j)
  pointwise []
theorem ld4_1 (c : Dev nD) (t : Fin cfg0.N) (p : Fin 512) (j : Fin 704) :
    (View.ld (iblk m c 4 t) (Rect.unit ![1, 0, 0] ![1, 512, 704] inb_S4x512x704_S1x512x704_1_0_0) : Vec Ideal S1x512x704 .bf16)
        (ix3 0 p j) = m ((c : Thread nD τ).loc main_arg4) (ix3 1 (row t p) j) := by
  refine Eq.trans ?_ (blk4 m c t 1 p j)
  pointwise []
theorem ld3_2 (c : Dev nD) (t : Fin cfg0.N) (p : Fin 512) (j : Fin 704) :
    (View.ld (iblk m c 3 t) (Rect.unit ![2, 0, 0] ![1, 512, 704] inb_S4x512x704_S1x512x704_2_0_0) : Vec Ideal S1x512x704 .bf16)
        (ix3 0 p j) = m ((c : Thread nD τ).loc main_arg3) (ix3 2 (row t p) j) := by
  refine Eq.trans ?_ (blk3 m c t 2 p j)
  pointwise []
theorem ld4_2 (c : Dev nD) (t : Fin cfg0.N) (p : Fin 512) (j : Fin 704) :
    (View.ld (iblk m c 4 t) (Rect.unit ![2, 0, 0] ![1, 512, 704] inb_S4x512x704_S1x512x704_2_0_0) : Vec Ideal S1x512x704 .bf16)
        (ix3 0 p j) = m ((c : Thread nD τ).loc main_arg4) (ix3 2 (row t p) j) := by
  refine Eq.trans ?_ (blk4 m c t 2 p j)
  pointwise []
theorem ld3_3 (c : Dev nD) (t : Fin cfg0.N) (p : Fin 512) (j : Fin 704) :
    (View.ld (iblk m c 3 t) (Rect.unit ![3, 0, 0] ![1, 512, 704] inb_S4x512x704_S1x512x704_3_0_0) : Vec Ideal S1x512x704 .bf16)
        (ix3 0 p j) = m ((c : Thread nD τ).loc main_arg3) (ix3 3 (row t p) j) := by
  refine Eq.trans ?_ (blk3 m c t 3 p j)
  pointwise []
theorem ld4_3 (c : Dev nD) (t : Fin cfg0.N) (p : Fin 512) (j : Fin 704) :
    (View.ld (iblk m c 4 t) (Rect.unit ![3, 0, 0] ![1, 512, 704] inb_S4x512x704_S1x512x704_3_0_0) : Vec Ideal S1x512x704 .bf16)
        (ix3 0 p j) = m ((c : Thread nD τ).loc main_arg4) (ix3 3 (row t p) j) := by
  refine Eq.trans ?_ (blk4 m c t 3 p j)
  pointwise []
theorem ld5_0 (c : Dev nD) (t : Fin cfg0.N) (k : Fin 1024) (j : Fin 704) :
    (View.ld (iblk m c 5 t) (Rect.unit ![0, 0, 0] ![1, 1024, 704] inb_S8x1024x704_S1x1024x704_0_0_0) : Vec Ideal S1x1024x704 .bf16)
        (ix3 0 k j) = m ((c : Thread nD τ).loc main_arg5) (ix3 0 k j) := by
  refine Eq.trans ?_ (blk5 m c t 0 k j)
  pointwise []
theorem ld5_1 (c : Dev nD) (t : Fin cfg0.N) (k : Fin 1024) (j : Fin 704) :
    (View.ld (iblk m c 5 t) (Rect.unit ![1, 0, 0] ![1, 1024, 704] inb_S8x1024x704_S1x1024x704_1_0_0) : Vec Ideal S1x1024x704 .bf16)
        (ix3 0 k j) = m ((c : Thread nD τ).loc main_arg5) (ix3 1 k j) := by
  refine Eq.trans ?_ (blk5 m c t 1 k j)
  pointwise []
theorem ld5_2 (c : Dev nD) (t : Fin cfg0.N) (k : Fin 1024) (j : Fin 704) :
    (View.ld (iblk m c 5 t) (Rect.unit ![2, 0, 0] ![1, 1024, 704] inb_S8x1024x704_S1x1024x704_2_0_0) : Vec Ideal S1x1024x704 .bf16)
        (ix3 0 k j) = m ((c : Thread nD τ).loc main_arg5) (ix3 2 k j) := by
  refine Eq.trans ?_ (blk5 m c t 2 k j)
  pointwise []
theorem ld5_3 (c : Dev nD) (t : Fin cfg0.N) (k : Fin 1024) (j : Fin 704) :
    (View.ld (iblk m c 5 t) (Rect.unit ![3, 0, 0] ![1, 1024, 704] inb_S8x1024x704_S1x1024x704_3_0_0) : Vec Ideal S1x1024x704 .bf16)
        (ix3 0 k j) = m ((c : Thread nD τ).loc main_arg5) (ix3 3 k j) := by
  refine Eq.trans ?_ (blk5 m c t 3 k j)
  pointwise []
theorem ld5_4 (c : Dev nD) (t : Fin cfg0.N) (k : Fin 1024) (j : Fin 704) :
    (View.ld (iblk m c 5 t) (Rect.unit ![4, 0, 0] ![1, 1024, 704] inb_S8x1024x704_S1x1024x704_4_0_0) : Vec Ideal S1x1024x704 .bf16)
        (ix3 0 k j) = m ((c : Thread nD τ).loc main_arg5) (ix3 4 k j) := by
  refine Eq.trans ?_ (blk5 m c t 4 k j)
  pointwise []
theorem ld5_5 (c : Dev nD) (t : Fin cfg0.N) (k : Fin 1024) (j : Fin 704) :
    (View.ld (iblk m c 5 t) (Rect.unit ![5, 0, 0] ![1, 1024, 704] inb_S8x1024x704_S1x1024x704_5_0_0) : Vec Ideal S1x1024x704 .bf16)
        (ix3 0 k j) = m ((c : Thread nD τ).loc main_arg5) (ix3 5 k j) := by
  refine Eq.trans ?_ (blk5 m c t 5 k j)
  pointwise []
theorem ld5_6 (c : Dev nD) (t : Fin cfg0.N) (k : Fin 1024) (j : Fin 704) :
    (View.ld (iblk m c 5 t) (Rect.unit ![6, 0, 0] ![1, 1024, 704] inb_S8x1024x704_S1x1024x704_6_0_0) : Vec Ideal S1x1024x704 .bf16)
        (ix3 0 k j) = m ((c : Thread nD τ).loc main_arg5) (ix3 6 k j) := by
  refine Eq.trans ?_ (blk5 m c t 6 k j)
  pointwise []
theorem ld5_7 (c : Dev nD) (t : Fin cfg0.N) (k : Fin 1024) (j : Fin 704) :
    (View.ld (iblk m c 5 t) (Rect.unit ![7, 0, 0] ![1, 1024, 704] inb_S8x1024x704_S1x1024x704_7_0_0) : Vec Ideal S1x1024x704 .bf16)
        (ix3 0 k j) = m ((c : Thread nD τ).loc main_arg5) (ix3 7 k j) := by
  refine Eq.trans ?_ (blk5 m c t 7 k j)
  pointwise []

/-- The gradient of the normalised rows of block `t`, as the kernel adds it up. -/
def dnBlock (c : Dev nD) (t : Fin cfg0.N) : FVec Ideal S512x1024 .f32 :=
  (k0_pay8
        (k0_pay6 (View.ld (iblk m c 3 t) (Rect.unit ![0, 0, 0] ![1, 512, 704] inb_S4x512x704_S1x512x704_0_0_0))
          (View.ld (iblk m c 5 t) (Rect.unit ![0, 0, 0] ![1, 1024, 704] inb_S8x1024x704_S1x1024x704_0_0_0))
          (View.ld (iblk m c 4 t) (Rect.unit ![0, 0, 0] ![1, 512, 704] inb_S4x512x704_S1x512x704_0_0_0))
          (View.ld (iblk m c 5 t) (Rect.unit ![4, 0, 0] ![1, 1024, 704] inb_S8x1024x704_S1x1024x704_4_0_0))
          (View.ld (iblk m c 3 t) (Rect.unit ![1, 0, 0] ![1, 512, 704] inb_S4x512x704_S1x512x704_1_0_0))
          (View.ld (iblk m c 5 t) (Rect.unit ![1, 0, 0] ![1, 1024, 704] inb_S8x1024x704_S1x1024x704_1_0_0))
          (View.ld (iblk m c 4 t) (Rect.unit ![1, 0, 0] ![1, 512, 704] inb_S4x512x704_S1x512x704_1_0_0))
          (View.ld (iblk m c 5 t) (Rect.unit ![5, 0, 0] ![1, 1024, 704] inb_S8x1024x704_S1x1024x704_5_0_0)))
        (k0_pay7 (View.ld (iblk m c 3 t) (Rect.unit ![2, 0, 0] ![1, 512, 704] inb_S4x512x704_S1x512x704_2_0_0)))
        (View.ld (iblk m c 5 t) (Rect.unit ![2, 0, 0] ![1, 1024, 704] inb_S8x1024x704_S1x1024x704_2_0_0))
        (View.ld (iblk m c 4 t) (Rect.unit ![2, 0, 0] ![1, 512, 704] inb_S4x512x704_S1x512x704_2_0_0))
        (View.ld (iblk m c 5 t) (Rect.unit ![6, 0, 0] ![1, 1024, 704] inb_S8x1024x704_S1x1024x704_6_0_0))
        (View.ld (iblk m c 3 t) (Rect.unit ![3, 0, 0] ![1, 512, 704] inb_S4x512x704_S1x512x704_3_0_0))
        (View.ld (iblk m c 5 t) (Rect.unit ![3, 0, 0] ![1, 1024, 704] inb_S8x1024x704_S1x1024x704_3_0_0))
        (View.ld (iblk m c 4 t) (Rect.unit ![3, 0, 0] ![1, 512, 704] inb_S4x512x704_S1x512x704_3_0_0))
        (View.ld (iblk m c 5 t) (Rect.unit ![7, 0, 0] ![1, 1024, 704] inb_S8x1024x704_S1x1024x704_7_0_0)))

theorem dn_block (c : Dev nD) (t : Fin cfg0.N) (r : Fin 512) (l : Fin 1024) :
    dnBlock m c t (ix2 r l) = dn (m ((c : Thread nD τ).loc main_arg3)) (m ((c : Thread nD τ).loc main_arg4)) (m ((c : Thread nD τ).loc main_arg5)) (row t r) l := by
  rw [dnBlock, dn_pay, dn, Fin.sum_univ_four]
  simp only [add_assoc, rowDot, gateTerm, upTerm, ld3_0, ld3_1, ld3_2, ld3_3, ld4_0, ld4_1, ld4_2, ld4_3, ld5_0, ld5_1, ld5_2, ld5_3, ld5_4, ld5_5, ld5_6, ld5_7]
  rfl

end Cert.InIdeal.RefValue

end
-- ==== Proof.In.Arrays.lean ====
/- What both result arrays of the kernel for the gradient of a feed-forward block's input hold after the run: the
   reference's results, at every index. The gains' gradient is added up over the sixteen grid points. -/
module

public import proofs.«01_k».proof.Proof.In.Blocks

@[expose] public section

set_option maxRecDepth 16384

noncomputable section

namespace Cert.InIdeal.RefValue

open Cert.InIdeal Cert.InIdeal.Gen Idealize.ShloMosaic Idealize.ShloMosaic.TcCoe Idealize.SL.Sem
open Idealize.ShloMosaic.Pipeline (Dat)
open Cert.InRefIdeal.Formulas

variable (m : (ℓ : Loc nD τ sig) → Buf (Elt Ideal) ℓ)

theorem back_block (c : Dev nD) (t : Fin cfg0.N) (r : Fin 512) (l : Fin 1024) :
    k0_pay5 (dnBlock m c t) (iblk m c 1 t) (iblk m c 2 t) (k0_pay9 (iblk m c 1 t)) (iblk m c 0 t) (ix2 r l)
      = back (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) l := by
  rw [pay5_apply]
  simp only [dn_block, blk0, blk1, blk2]
  rfl

theorem out6_apply (c : Dev nD) (t : Fin cfg0.N) (r : Fin 512) (l : Fin 1024) :
    ((outsAt0 m c t.val t.isLt).1 : Vec Ideal S512x1024 .f32) (ix2 r l)
      = back (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) l := by
  by_cases h : t.val % 16 = 0
  · rw [outsAt0_A m c t h]
    frame_out
    exact back_block m c t r l
  · rw [outsAt0_B m c t h]
    frame_out
    exact back_block m c t r l

theorem arr6 (c : Dev nD) : (dats m 0 c).arrAt 6 cfg0.N
    = Cert.InRefIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨r, l, rfl⟩ : ∃ (r : Fin 512) (l : Fin 1024), y = ix2 r l := ⟨y 0, y 1, eq_ix2 y⟩
  have e : (((cfg0.win 6).blk t).view.emb (ix2 r l)) = ix2 (row t r) l := by blk_ext [idx t, row]
  rw [e, val46_apply]
  blk_simp
  rw [after0_6]
  exact out6_apply m c t r l

/-- What grid point `t` adds to the gains' gradient. -/
def gain (c : Dev nD) (t : Fin cfg0.N) (i : S1x1024.Idx) : EReal :=
  ∑ x : Fin 512, gainTerm (m ((c : Thread nD τ).loc main_arg1)) (m ((c : Thread nD τ).loc main_arg3)) (m ((c : Thread nD τ).loc main_arg4)) (m ((c : Thread nD τ).loc main_arg5)) (row t x) (i 1)

theorem gain_block (c : Dev nD) (t : Fin cfg0.N) (z : Vec Ideal S1x1024 .f32) (l : Fin 1024) :
    k0_pay4 (dnBlock m c t) (iblk m c 1 t) (k0_pay9 (iblk m c 1 t)) z (ix2 0 l) = z (ix2 0 l) + gain m c t (ix2 0 l) := by
  rw [pay4_apply, gain]
  refine congrArg _ (Finset.sum_congr rfl fun x _ => ?_)
  simp only [dn_block, blk1]
  exact mul_comm _ _

theorem acc (c : Dev nD) (i : S1x1024.Idx) :
    ((outsAt0 m c t0_15.val t0_15.isLt).2 : Vec Ideal S1x1024 .f32) i = 0 + ∑ p : Fin cfg0.N, gain m c p i := by
  refine Pipeline.eq_sum_fin_of_reset_step_apply_last (fun n h => ((outsAt0 m c n h).2 : Vec Ideal S1x1024 .f32)) 16
    (fun _ => (0 : EReal)) (gain m c) (fun t h i => ?_) (fun t h i => ?_) (le_of_eq N_0) t0_15 (by
      show 15 + 1 = cfg0.N; exact N_0.symm) i
  · obtain ⟨l, rfl⟩ : ∃ l : Fin 1024, i = ix2 0 l := ⟨i 1, (eq_ix2 i).trans (congrArg (ix2 · (i 1)) (Subsingleton.elim (α := Fin 1) _ _))⟩
    show (outsAt0 m c t.val t.isLt).2 _ = _
    rw [outsAt0_A m c t h]
    frame_out
    refine (gain_block m c t (k0_pay3 (F := Ideal)) l).trans ?_
    pointwise [k0_pay3]
  · obtain ⟨l, rfl⟩ : ∃ l : Fin 1024, i = ix2 0 l := ⟨i 1, (eq_ix2 i).trans (congrArg (ix2 · (i 1)) (Subsingleton.elim (α := Fin 1) _ _))⟩
    show (outsAt0 m c t.val t.isLt).2 _ = _
    rw [outsAt0_B m c t h]
    frame_out
    exact gain_block m c t _ l

theorem arr7 (c : Dev nD) : (dats m 0 c).arrAt 7 cfg0.N
    = Cert.InRefIdeal.Read.val_main_v29 (F := Ideal) (m ((c : Thread nD τ).loc main_arg1)) (m ((c : Thread nD τ).loc main_arg3)) (m ((c : Thread nD τ).loc main_arg4)) (m ((c : Thread nD τ).loc main_arg5)) := by
  refine (dats m 0 c).arrAt_eq_of_after_last 7 t0_15 (by decide +kernel) _ fun i => ?_
  obtain ⟨l, rfl⟩ : ∃ l : Fin 1024, i = ix2 0 l := ⟨i 1, (eq_ix2 i).trans (congrArg (ix2 · (i 1)) (Subsingleton.elim (α := Fin 1) _ _))⟩
  blk_simp
  rw [after0_7, val29_apply]
  refine (acc m c (ix2 0 l)).trans ((zero_add _).trans ?_)
  exact Cert.Common.sum_blocks 16 512 8192 rfl fun r => gainTerm (m ((c : Thread nD τ).loc main_arg1)) (m ((c : Thread nD τ).loc main_arg3)) (m ((c : Thread nD τ).loc main_arg4)) (m ((c : Thread nD τ).loc main_arg5)) r l

end Cert.InIdeal.RefValue

end
-- ==== Proof.In.Claims.lean ====
/- The kernel for the gradient of a feed-forward block's input and the reference end with the same two arrays. -/
module

public import proofs.«01_k».proof.Defs
public import proofs.«01_k».proof.Proof.In.Arrays
public import proofs.«01_k».proof.Proof.Gen.InRefIdeal.Run

@[expose] public section

set_option maxRecDepth 16384

noncomputable section

namespace Cert.Proof.InClaims

open Idealize.ShloMosaic Idealize.SL.Sem

theorem algebraic : Cert.algebraic_InIdeal_InRefIdeal := by
  intro m ρ m' ρ' _ agree
  refine ⟨fun c => Cert.InRefIdeal.Read.val_main_v46 (F := Ideal) (m ((c.tc : Thread _ _).loc Cert.InIdeal.main_arg0)) (m ((c.tc : Thread _ _).loc Cert.InIdeal.main_arg1)) (m ((c.tc : Thread _ _).loc Cert.InIdeal.main_arg2)) (m ((c.tc : Thread _ _).loc Cert.InIdeal.main_arg3)) (m ((c.tc : Thread _ _).loc Cert.InIdeal.main_arg4)) (m ((c.tc : Thread _ _).loc Cert.InIdeal.main_arg5)),
    fun c => Cert.InRefIdeal.Read.val_main_v29 (F := Ideal) (m ((c.tc : Thread _ _).loc Cert.InIdeal.main_arg1)) (m ((c.tc : Thread _ _).loc Cert.InIdeal.main_arg3)) (m ((c.tc : Thread _ _).loc Cert.InIdeal.main_arg4)) (m ((c.tc : Thread _ _).loc Cert.InIdeal.main_arg5)),
    ?_, ?_⟩
  · refine (θ_run _ _ _).mono (fun r h c => ?_) (Cert.InIdeal.Value.run_blocks (F := Ideal) m ρ)
    obtain ⟨h0, h1, kept⟩ := h c
    exact ⟨h0.trans (Cert.InIdeal.RefValue.arr6 m c), h1.trans (Cert.InIdeal.RefValue.arr7 m c), kept⟩
  · refine (θ_run _ _ _).mono (fun r h c => ?_) (Cert.InRefIdeal.Value.run (F := Ideal) m' ρ')
    obtain ⟨h0, h1, kept⟩ := h c
    obtain ⟨a0, a1, a2, a3, a4, a5⟩ := agree c
    refine ⟨h0.trans ?_, h1.trans ?_, kept⟩
    · simp only [← a0, ← a1, ← a2, ← a3, ← a4, ← a5]
      first | exact Cert.InRefIdeal.Read.val_main_v46_eq (F := Ideal) m' c | rfl
    · simp only [← a1, ← a3, ← a4, ← a5]
      first | exact Cert.InRefIdeal.Read.val_main_v29_eq (F := Ideal) m' c | rfl

/-- The reference runs, keeps its arguments, and has no semaphore that could be left raised. -/
theorem frame_ref : Cert.quiescent_InRefIdeal := fun m ρ _ =>
  (θ_run _ _ _).mono (fun r h => ⟨fun c => by
    obtain ⟨_, _, kept⟩ := h c
    exact kept, sem_eq_zero_of_no_sems rfl _⟩) (Cert.InRefIdeal.Value.run (F := Ideal) m ρ)

theorem preserves : Cert.preserves_In_InIdeal := trivial

end Cert.Proof.InClaims

end
-- ==== Proof.Proj.Formulas.lean ====
/- The derivative of the input of the mixers' common projection, as formulas at one index: what comes back through the
   product with the weights, and what comes back through the norm. -/
module

public import proofs.«01_k».proof.Proof.Gen.ProjRefIdeal.Read
public import proofs.«01_k».proof.Proof.Common
public import proofs.«01_k».proof.Proof.Norm
public import Idealize.ShloMosaic.Lib.Pipeline.ValueKit
public import Idealize.ShloMosaic.Lib.Pointwise

@[expose] public section

set_option maxRecDepth 16384

noncomputable section

namespace Cert.ProjRefIdeal.Formulas

open Cert.ProjRefIdeal Cert.ProjRefIdeal.Read Idealize.ShloMosaic Idealize.ShloMosaic.TcCoe

/-- Eight pieces side by side against the columns of one array: piece by piece. -/
theorem pick (f0 f1 f2 f3 f4 f5 f6 f7 : Fin 1024 → EReal) (w : Fin 8192 → EReal) :
    ∑ x : Fin 8192, (if h : x.val < 1024 then f0 ⟨x.val, h⟩ else if h : x.val - 1024 < 1024 then f1 ⟨x.val - 1024, h⟩ else if h : x.val - 1024 - 1024 < 1024 then f2 ⟨x.val - 1024 - 1024, h⟩ else if h : x.val - 1024 - 1024 - 1024 < 1024 then f3 ⟨x.val - 1024 - 1024 - 1024, h⟩ else if h : x.val - 1024 - 1024 - 1024 - 1024 < 1024 then f4 ⟨x.val - 1024 - 1024 - 1024 - 1024, h⟩ else if h : x.val - 1024 - 1024 - 1024 - 1024 - 1024 < 1024 then f5 ⟨x.val - 1024 - 1024 - 1024 - 1024 - 1024, h⟩ else if h : x.val - 1024 - 1024 - 1024 - 1024 - 1024 - 1024 < 1024 then f6 ⟨x.val - 1024 - 1024 - 1024 - 1024 - 1024 - 1024, h⟩ else f7 ⟨x.val - 1024 - 1024 - 1024 - 1024 - 1024 - 1024 - 1024, by omega⟩) * w x
      = ∑ j : Fin 1024, f0 j * w ⟨1024 * 0 + j.val, by omega⟩ + ∑ j : Fin 1024, f1 j * w ⟨1024 * 1 + j.val, by omega⟩ + ∑ j : Fin 1024, f2 j * w ⟨1024 * 2 + j.val, by omega⟩ + ∑ j : Fin 1024, f3 j * w ⟨1024 * 3 + j.val, by omega⟩ + ∑ j : Fin 1024, f4 j * w ⟨1024 * 4 + j.val, by omega⟩ + ∑ j : Fin 1024, f5 j * w ⟨1024 * 5 + j.val, by omega⟩ + ∑ j : Fin 1024, f6 j * w ⟨1024 * 6 + j.val, by omega⟩ + ∑ j : Fin 1024, f7 j * w ⟨1024 * 7 + j.val, by omega⟩ := by
  refine (Cert.Common.sum_blocks 8 1024 8192 rfl (fun x : Fin 8192 => (if h : x.val < 1024 then f0 ⟨x.val, h⟩ else if h : x.val - 1024 < 1024 then f1 ⟨x.val - 1024, h⟩ else if h : x.val - 1024 - 1024 < 1024 then f2 ⟨x.val - 1024 - 1024, h⟩ else if h : x.val - 1024 - 1024 - 1024 < 1024 then f3 ⟨x.val - 1024 - 1024 - 1024, h⟩ else if h : x.val - 1024 - 1024 - 1024 - 1024 < 1024 then f4 ⟨x.val - 1024 - 1024 - 1024 - 1024, h⟩ else if h : x.val - 1024 - 1024 - 1024 - 1024 - 1024 < 1024 then f5 ⟨x.val - 1024 - 1024 - 1024 - 1024 - 1024, h⟩ else if h : x.val - 1024 - 1024 - 1024 - 1024 - 1024 - 1024 < 1024 then f6 ⟨x.val - 1024 - 1024 - 1024 - 1024 - 1024 - 1024, h⟩ else f7 ⟨x.val - 1024 - 1024 - 1024 - 1024 - 1024 - 1024 - 1024, by omega⟩) * w x)).symm.trans ?_
  rw [Fin.sum_univ_eight]
  refine congrArg₂ (· + ·) (congrArg₂ (· + ·) (congrArg₂ (· + ·) (congrArg₂ (· + ·) (congrArg₂ (· + ·) (congrArg₂ (· + ·) (congrArg₂ (· + ·) ?p0 ?p1) ?p2) ?p3) ?p4) ?p5) ?p6) ?p7
  case p0 =>
    refine Finset.sum_congr rfl fun j _ => ?_
    have e : ((0 : Fin 8) : ℕ) = 0 := rfl
    have h := j.isLt
    refine congrArg₂ (· * ·) ?_ (congrArg w (Fin.ext rfl))
    dsimp only
    rw [dif_pos (show 1024 * ((0 : Fin 8) : ℕ) + j.val < 1024 by omega)]
    exact congrArg f0 (Fin.ext (by dsimp only; omega))
  case p1 =>
    refine Finset.sum_congr rfl fun j _ => ?_
    have e : ((1 : Fin 8) : ℕ) = 1 := rfl
    have h := j.isLt
    refine congrArg₂ (· * ·) ?_ (congrArg w (Fin.ext rfl))
    dsimp only
    rw [dif_neg (show ¬ (1024 * ((1 : Fin 8) : ℕ) + j.val < 1024) by omega)]
    rw [dif_pos (show 1024 * ((1 : Fin 8) : ℕ) + j.val - 1024 < 1024 by omega)]
    exact congrArg f1 (Fin.ext (by dsimp only; omega))
  case p2 =>
    refine Finset.sum_congr rfl fun j _ => ?_
    have e : ((2 : Fin 8) : ℕ) = 2 := rfl
    have h := j.isLt
    refine congrArg₂ (· * ·) ?_ (congrArg w (Fin.ext rfl))
    dsimp only
    rw [dif_neg (show ¬ (1024 * ((2 : Fin 8) : ℕ) + j.val < 1024) by omega)]
    rw [dif_neg (show ¬ (1024 * ((2 : Fin 8) : ℕ) + j.val - 1024 < 1024) by omega)]
    rw [dif_pos (show 1024 * ((2 : Fin 8) : ℕ) + j.val - 1024 - 1024 < 1024 by omega)]
    exact congrArg f2 (Fin.ext (by dsimp only; omega))
  case p3 =>
    refine Finset.sum_congr rfl fun j _ => ?_
    have e : ((3 : Fin 8) : ℕ) = 3 := rfl
    have h := j.isLt
    refine congrArg₂ (· * ·) ?_ (congrArg w (Fin.ext rfl))
    dsimp only
    rw [dif_neg (show ¬ (1024 * ((3 : Fin 8) : ℕ) + j.val < 1024) by omega)]
    rw [dif_neg (show ¬ (1024 * ((3 : Fin 8) : ℕ) + j.val - 1024 < 1024) by omega)]
    rw [dif_neg (show ¬ (1024 * ((3 : Fin 8) : ℕ) + j.val - 1024 - 1024 < 1024) by omega)]
    rw [dif_pos (show 1024 * ((3 : Fin 8) : ℕ) + j.val - 1024 - 1024 - 1024 < 1024 by omega)]
    exact congrArg f3 (Fin.ext (by dsimp only; omega))
  case p4 =>
    refine Finset.sum_congr rfl fun j _ => ?_
    have e : ((4 : Fin 8) : ℕ) = 4 := rfl
    have h := j.isLt
    refine congrArg₂ (· * ·) ?_ (congrArg w (Fin.ext rfl))
    dsimp only
    rw [dif_neg (show ¬ (1024 * ((4 : Fin 8) : ℕ) + j.val < 1024) by omega)]
    rw [dif_neg (show ¬ (1024 * ((4 : Fin 8) : ℕ) + j.val - 1024 < 1024) by omega)]
    rw [dif_neg (show ¬ (1024 * ((4 : Fin 8) : ℕ) + j.val - 1024 - 1024 < 1024) by omega)]
    rw [dif_neg (show ¬ (1024 * ((4 : Fin 8) : ℕ) + j.val - 1024 - 1024 - 1024 < 1024) by omega)]
    rw [dif_pos (show 1024 * ((4 : Fin 8) : ℕ) + j.val - 1024 - 1024 - 1024 - 1024 < 1024 by omega)]
    exact congrArg f4 (Fin.ext (by dsimp only; omega))
  case p5 =>
    refine Finset.sum_congr rfl fun j _ => ?_
    have e : ((5 : Fin 8) : ℕ) = 5 := rfl
    have h := j.isLt
    refine congrArg₂ (· * ·) ?_ (congrArg w (Fin.ext rfl))
    dsimp only
    rw [dif_neg (show ¬ (1024 * ((5 : Fin 8) : ℕ) + j.val < 1024) by omega)]
    rw [dif_neg (show ¬ (1024 * ((5 : Fin 8) : ℕ) + j.val - 1024 < 1024) by omega)]
    rw [dif_neg (show ¬ (1024 * ((5 : Fin 8) : ℕ) + j.val - 1024 - 1024 < 1024) by omega)]
    rw [dif_neg (show ¬ (1024 * ((5 : Fin 8) : ℕ) + j.val - 1024 - 1024 - 1024 < 1024) by omega)]
    rw [dif_neg (show ¬ (1024 * ((5 : Fin 8) : ℕ) + j.val - 1024 - 1024 - 1024 - 1024 < 1024) by omega)]
    rw [dif_pos (show 1024 * ((5 : Fin 8) : ℕ) + j.val - 1024 - 1024 - 1024 - 1024 - 1024 < 1024 by omega)]
    exact congrArg f5 (Fin.ext (by dsimp only; omega))
  case p6 =>
    refine Finset.sum_congr rfl fun j _ => ?_
    have e : ((6 : Fin 8) : ℕ) = 6 := rfl
    have h := j.isLt
    refine congrArg₂ (· * ·) ?_ (congrArg w (Fin.ext rfl))
    dsimp only
    rw [dif_neg (show ¬ (1024 * ((6 : Fin 8) : ℕ) + j.val < 1024) by omega)]
    rw [dif_neg (show ¬ (1024 * ((6 : Fin 8) : ℕ) + j.val - 1024 < 1024) by omega)]
    rw [dif_neg (show ¬ (1024 * ((6 : Fin 8) : ℕ) + j.val - 1024 - 1024 < 1024) by omega)]
    rw [dif_neg (show ¬ (1024 * ((6 : Fin 8) : ℕ) + j.val - 1024 - 1024 - 1024 < 1024) by omega)]
    rw [dif_neg (show ¬ (1024 * ((6 : Fin 8) : ℕ) + j.val - 1024 - 1024 - 1024 - 1024 < 1024) by omega)]
    rw [dif_neg (show ¬ (1024 * ((6 : Fin 8) : ℕ) + j.val - 1024 - 1024 - 1024 - 1024 - 1024 < 1024) by omega)]
    rw [dif_pos (show 1024 * ((6 : Fin 8) : ℕ) + j.val - 1024 - 1024 - 1024 - 1024 - 1024 - 1024 < 1024 by omega)]
    exact congrArg f6 (Fin.ext (by dsimp only; omega))
  case p7 =>
    refine Finset.sum_congr rfl fun j _ => ?_
    have e : ((7 : Fin 8) : ℕ) = 7 := rfl
    have h := j.isLt
    refine congrArg₂ (· * ·) ?_ (congrArg w (Fin.ext rfl))
    dsimp only
    rw [dif_neg (show ¬ (1024 * ((7 : Fin 8) : ℕ) + j.val < 1024) by omega)]
    rw [dif_neg (show ¬ (1024 * ((7 : Fin 8) : ℕ) + j.val - 1024 < 1024) by omega)]
    rw [dif_neg (show ¬ (1024 * ((7 : Fin 8) : ℕ) + j.val - 1024 - 1024 < 1024) by omega)]
    rw [dif_neg (show ¬ (1024 * ((7 : Fin 8) : ℕ) + j.val - 1024 - 1024 - 1024 < 1024) by omega)]
    rw [dif_neg (show ¬ (1024 * ((7 : Fin 8) : ℕ) + j.val - 1024 - 1024 - 1024 - 1024 < 1024) by omega)]
    rw [dif_neg (show ¬ (1024 * ((7 : Fin 8) : ℕ) + j.val - 1024 - 1024 - 1024 - 1024 - 1024 < 1024) by omega)]
    rw [dif_neg (show ¬ (1024 * ((7 : Fin 8) : ℕ) + j.val - 1024 - 1024 - 1024 - 1024 - 1024 - 1024 < 1024) by omega)]
    exact congrArg f7 (Fin.ext (by dsimp only; omega))

/-- What piece `q` of the weights sends back to column `k`. -/
def part (d : (⟨S8192x1024, .bf16⟩ : BufTy).Contents (Elt Ideal)) (w : (⟨S8x1024x1024, .bf16⟩ : BufTy).Contents (Elt Ideal)) (q : Fin 8)
    (r : Fin 8192) (k : Fin 1024) : EReal := ∑ j : Fin 1024, d (ix2 r j) * w (ix3 q k j)

variable (x0 : (⟨S8192x1024, .bf16⟩ : BufTy).Contents (Elt Ideal)) (x1 : (⟨S8192x1024, .bf16⟩ : BufTy).Contents (Elt Ideal)) (x2 : (⟨S8192x1024, .bf16⟩ : BufTy).Contents (Elt Ideal)) (x3 : (⟨S8192x1024, .bf16⟩ : BufTy).Contents (Elt Ideal)) (x4 : (⟨S8192x1024, .bf16⟩ : BufTy).Contents (Elt Ideal)) (x5 : (⟨S8192x1024, .bf16⟩ : BufTy).Contents (Elt Ideal)) (x6 : (⟨S8192x1024, .bf16⟩ : BufTy).Contents (Elt Ideal)) (x7 : (⟨S8192x1024, .bf16⟩ : BufTy).Contents (Elt Ideal))
  (x8 : (⟨S8x1024x1024, .bf16⟩ : BufTy).Contents (Elt Ideal)) (x9 : (⟨S8192x1024, .f32⟩ : BufTy).Contents (Elt Ideal)) (x10 : (⟨S8192x1024, .f32⟩ : BufTy).Contents (Elt Ideal)) (x11 : (⟨S1x1024, .f32⟩ : BufTy).Contents (Elt Ideal))

/-- The gradient of the normalised row. -/
def dn (r : Fin 8192) (k : Fin 1024) : EReal :=
  part x0 x8 0 r k + part x1 x8 1 r k + part x2 x8 2 r k + part x3 x8 3 r k + part x4 x8 4 r k + part x5 x8 5 r k
    + part x6 x8 6 r k + part x7 x8 7 r k
/-- A row of the stream. -/
def stream (r : Fin 8192) (k : Fin 1024) : EReal := x9 (ix2 r k)
/-- The gradient of the scaled row: times the norm's gains. -/
def scaled (r : Fin 8192) (k : Fin 1024) : EReal := dn x0 x1 x2 x3 x4 x5 x6 x7 x8 r k * x11 (ix2 0 k)
/-- The gradient of the projection's input. -/
def back (r : Fin 8192) (k : Fin 1024) : EReal :=
  x10 (ix2 r k) + (scaled x0 x1 x2 x3 x4 x5 x6 x7 x8 x11 r k * Norm.root (stream x9 r)
    + (x9 (ix2 r k) * Norm.through (stream x9 r) (scaled x0 x1 x2 x3 x4 x5 x6 x7 x8 x11 r) + Norm.through (stream x9 r) (scaled x0 x1 x2 x3 x4 x5 x6 x7 x8 x11 r) * x9 (ix2 r k)))
/-- A row's part of the gains' gradient. -/
def gainTerm (r : Fin 8192) (k : Fin 1024) : EReal :=
  x9 (ix2 r k) * Norm.root (stream x9 r) * dn x0 x1 x2 x3 x4 x5 x6 x7 x8 r k

theorem val6_apply (r : Fin 8192) : val_main_v6 (F := Ideal) x9 (ix2 r 0) = Norm.square (stream x9 r) := by
  pointwise [val_main_v6, val_main_v5, val_main_v4, val_main_v3, val_main_v2, val_main_v1, val_main_v0, val_main_cst_1, val_main_cst_0, val_main_cst, Norm.square, Norm.width, Norm.eps, stream]

theorem val7_apply (r : Fin 8192) : val_main_v7 (F := Ideal) x9 (ix2 r 0) = Norm.root (stream x9 r) := by
  pointwise [val_main_v7, val6_apply, Norm.root]

theorem val10_apply (r : Fin 8192) : val_main_v10 (F := Ideal) x9 (ix2 r 0)
    = Norm.minusHalf * Ideal.div (Norm.root (stream x9 r)) (Norm.square (stream x9 r)) := by
  pointwise [val_main_v10, val_main_v9, val_main_v8, val_main_cst_2, val7_apply, val6_apply, Norm.minusHalf]

theorem val28_apply (r : Fin 8192) (k : Fin 1024) : val_main_v28 (F := Ideal) x0 x1 x2 x3 x4 x5 x6 x7 x8 (ix2 r k) = dn x0 x1 x2 x3 x4 x5 x6 x7 x8 r k := by
  generalize e : dn x0 x1 x2 x3 x4 x5 x6 x7 x8 r k = G
  pointwise [val_main_v28, val_main_v27, val_main_v26, val_main_v25, val_main_v24, val_main_v23, val_main_v22, val_main_v21, val_main_v20, val_main_v19, val_main_v17, val_main_v16, val_main_v15]
  rw [← e]
  have e0 (j : Fin 1024) : (1024 * 0 + j.val) / 1024 = 0 := by omega
  have d0 (j : Fin 1024) : (1024 * 0 + j.val) % 1024 = j.val := by omega
  have e1 (j : Fin 1024) : (1024 * 1 + j.val) / 1024 = 1 := by omega
  have d1 (j : Fin 1024) : (1024 * 1 + j.val) % 1024 = j.val := by omega
  have e2 (j : Fin 1024) : (1024 * 2 + j.val) / 1024 = 2 := by omega
  have d2 (j : Fin 1024) : (1024 * 2 + j.val) % 1024 = j.val := by omega
  have e3 (j : Fin 1024) : (1024 * 3 + j.val) / 1024 = 3 := by omega
  have d3 (j : Fin 1024) : (1024 * 3 + j.val) % 1024 = j.val := by omega
  have e4 (j : Fin 1024) : (1024 * 4 + j.val) / 1024 = 4 := by omega
  have d4 (j : Fin 1024) : (1024 * 4 + j.val) % 1024 = j.val := by omega
  have e5 (j : Fin 1024) : (1024 * 5 + j.val) / 1024 = 5 := by omega
  have d5 (j : Fin 1024) : (1024 * 5 + j.val) % 1024 = j.val := by omega
  have e6 (j : Fin 1024) : (1024 * 6 + j.val) / 1024 = 6 := by omega
  have d6 (j : Fin 1024) : (1024 * 6 + j.val) % 1024 = j.val := by omega
  have e7 (j : Fin 1024) : (1024 * 7 + j.val) / 1024 = 7 := by omega
  have d7 (j : Fin 1024) : (1024 * 7 + j.val) % 1024 = j.val := by omega
  refine (pick (fun j => x0 (ix2 r j)) (fun j => x1 (ix2 r j)) (fun j => x2 (ix2 r j)) (fun j => x3 (ix2 r j)) (fun j => x4 (ix2 r j)) (fun j => x5 (ix2 r j)) (fun j => x6 (ix2 r j)) (fun j => x7 (ix2 r j))
    (fun x => x8 (ix3 ⟨x.val / 1024, by omega⟩ k ⟨x.val % 1024, by omega⟩))).trans ?_
  simp only [dn, part, e0, e1, e2, e3, e4, e5, e6, e7, d0, d1, d2, d3, d4, d5, d6, d7]
  rfl

theorem val33_apply (r : Fin 8192) (k : Fin 1024) : val_main_v33 (F := Ideal) x0 x1 x2 x3 x4 x5 x6 x7 x8 x11 (ix2 r k) = scaled x0 x1 x2 x3 x4 x5 x6 x7 x8 x11 r k := by
  pointwise [val_main_v33, val_main_v32, val28_apply, scaled]

theorem val42_apply (r : Fin 8192) : val_main_v42 (F := Ideal) x0 x1 x2 x3 x4 x5 x6 x7 x8 x9 x11 (ix2 r 0)
    = Norm.through (stream x9 r) (scaled x0 x1 x2 x3 x4 x5 x6 x7 x8 x11 r) := by
  pointwise [val_main_v42, val_main_v41, val_main_v40, val_main_v36, val_main_v35, val_main_v34, val_main_cst_4, val_main_cst_5, val10_apply, val33_apply, Norm.through, Norm.width, stream]

theorem val48_apply (r : Fin 8192) (k : Fin 1024) :
    val_main_v48 (F := Ideal) x0 x1 x2 x3 x4 x5 x6 x7 x8 x9 x10 x11 (ix2 r k) = back x0 x1 x2 x3 x4 x5 x6 x7 x8 x9 x10 x11 r k := by
  pointwise [val_main_v48, val_main_v47, val_main_v46, val_main_v45, val_main_v44, val_main_v43, val_main_v39, val_main_v38, val_main_v37, val_main_cst_6, val7_apply, val33_apply, val42_apply]
  simp only [back, add_assoc, Finset.univ_unique, Finset.sum_singleton, show (default : Fin 1) = 0 from rfl, val42_apply]

theorem val31_apply (k : Fin 1024) :
    val_main_v31 (F := Ideal) x0 x1 x2 x3 x4 x5 x6 x7 x8 x9 (ix2 0 k) = ∑ r : Fin 8192, gainTerm x0 x1 x2 x3 x4 x5 x6 x7 x8 x9 r k := by
  pointwise [val_main_v31, val_main_v30, val_main_v29, val_main_v12, val_main_v11, val_main_cst_3, val28_apply, val7_apply, gainTerm]

end Cert.ProjRefIdeal.Formulas

end
-- ==== Proof.Proj.Blocks.lean ====
/- What the kernel for the gradient of the common projection's input holds in its windows at one grid point, and its
   payloads at one index. -/
module

public import proofs.«01_k».proof.Proof.Gen.ProjIdeal.Value
public import proofs.«01_k».proof.Proof.Proj.Formulas
public import Idealize.ShloMosaic.Lib.Pipeline.ValueKit
public import Idealize.ShloMosaic.Lib.Pointwise
public import Idealize.ShloMosaic.Lib.Claim

@[expose] public section

set_option maxRecDepth 16384

noncomputable section

namespace Cert.ProjIdeal.RefValue

open Cert.ProjIdeal Cert.ProjIdeal.Gen Idealize.ShloMosaic Idealize.ShloMosaic.TcCoe Idealize.SL.Sem
open Idealize.ShloMosaic.Pipeline (Dat)
open Cert.ProjRefIdeal.Formulas

/-- A block's row against a row of one piece of the weights. -/
def rowDot (x : Vec Ideal S512x1024 .bf16) (w : Vec Ideal S1x1024x1024 .bf16) (r : Fin 512) (l : Fin 1024) : EReal :=
  ∑ j : Fin 1024, x (ix2 r j) * w (ix3 0 l j)

/-- The eight products that make the gradient of the normalised row. -/
theorem dn_pay (a0 a1 a2 a3 a4 a5 a6 a7 : Vec Ideal S512x1024 .bf16) (w0 w1 w2 w3 w4 w5 w6 w7 : Vec Ideal S1x1024x1024 .bf16)
    (r : Fin 512) (l : Fin 1024) :
    k0_pay5 (k0_pay4 a0 w0 a1 w1 a2 w2 a3 w3 a4 w4) a5 w5 a6 w6 a7 w7 (ix2 r l)
      = rowDot a0 w0 r l + rowDot a1 w1 r l + rowDot a2 w2 r l + rowDot a3 w3 r l + rowDot a4 w4 r l + rowDot a5 w5 r l + rowDot a6 w6 r l + rowDot a7 w7 r l := by
  pointwise [k0_pay5, k0_pay4, rowDot]

theorem root_pay (h : Vec Ideal S512x1024 .f32) (r : Fin 512) : k0_pay6 h (ix2 r 0) = Norm.root (fun k => h (ix2 r k)) := by
  pointwise [k0_pay6, Norm.root, Norm.square, Norm.width, Norm.eps]

theorem pay7_apply (h : Vec Ideal S512x1024 .f32) (r : Fin 512) (l : Fin 1024) :
    k0_pay7 h (ix2 r l) = h (ix2 r l) * Norm.root (fun k => h (ix2 r k)) := by
  pointwise [k0_pay7, root_pay]

theorem back_pay (b : FVec Ideal S512x1024 .f32) (a5 a6 a7 : Vec Ideal S512x1024 .bf16) (w5 w6 w7 : Vec Ideal S1x1024x1024 .bf16)
    (d : FVec Ideal S512x1024 .f32) (hd : k0_pay5 b a5 w5 a6 w6 a7 w7 = d) (h : Vec Ideal S512x1024 .f32)
    (g : Vec Ideal S1x1024 .f32) (i : Vec Ideal S512x1024 .f32) (r : Fin 512) (l : Fin 1024) :
    k0_pay3 (k0_pay6 h) (k0_pay7 h) (k0_pay8 b a5 w5 a6 w6 a7 w7 g) (k0_pay9 b a5 w5 a6 w6 a7 w7 h g) i (ix2 r l)
      = i (ix2 r l) + (d (ix2 r l) * g (ix2 0 l) * Norm.root (fun k => h (ix2 r k))
        + (h (ix2 r l) * Norm.through (fun k => h (ix2 r k)) (fun k => d (ix2 r k) * g (ix2 0 k))
          + Norm.through (fun k => h (ix2 r k)) (fun k => d (ix2 r k) * g (ix2 0 k)) * h (ix2 r l))) := by
  have e := Norm.back_eq (fun k => h (ix2 r k)) (fun k => d (ix2 r k) * g (ix2 0 k)) l
  rw [← e]
  pointwise [k0_pay3, k0_pay9, k0_pay8, hd, pay7_apply, root_pay, Norm.width]

theorem gain_pay (d : FVec Ideal S512x1024 .f32) (h : Vec Ideal S512x1024 .f32) (z : Vec Ideal S1x1024 .f32) (l : Fin 1024) :
    k0_pay2 d (k0_pay7 h) z (ix2 0 l)
      = z (ix2 0 l) + ∑ x : Fin 512, d (ix2 x l) * (h (ix2 x l) * Norm.root (fun k => h (ix2 x k))) := by
  pointwise [k0_pay2, pay7_apply]

variable (m : (ℓ : Loc nD τ sig) → Buf (Elt Ideal) ℓ)

/-- The block each window holds at grid point `t`. -/
theorem idx : ∀ t : Fin grid0.N, (grid0.coords t 0).val = t.val
    ∧ win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0]
    ∧ win0_8.index t = ![0, 0, 0] ∧ win0_9.index t = ![t.val, 0] ∧ win0_10.index t = ![t.val, 0] ∧ win0_11.index t = ![0, 0]
    ∧ win0_12.index t = ![t.val, 0] ∧ win0_13.index t = ![0, 0] := by
  decide +kernel

/-- Row `p` of block `t`, among all rows. -/
def row (t : Fin cfg0.N) (p : Fin 512) : Fin 8192 :=
  ⟨512 * t.val + p.val, by have := t.isLt; have h : cfg0.N = 16 := N_0; omega⟩

theorem blk0 (c : Dev nD) (t : Fin cfg0.N) (p : Fin 512) (k : Fin 1024) :
    (iblk m c 0 t : Vec Ideal S512x1024 .bf16) (ix2 p k) = m ((c : Thread nD τ).loc main_arg0) (ix2 (row t p) k) := by
  blk_ext [iblk, V, idx t, row]
theorem blk1 (c : Dev nD) (t : Fin cfg0.N) (p : Fin 512) (k : Fin 1024) :
    (iblk m c 1 t : Vec Ideal S512x1024 .bf16) (ix2 p k) = m ((c : Thread nD τ).loc main_arg1) (ix2 (row t p) k) := by
  blk_ext [iblk, V, idx t, row]
theorem blk2 (c : Dev nD) (t : Fin cfg0.N) (p : Fin 512) (k : Fin 1024) :
    (iblk m c 2 t : Vec Ideal S512x1024 .bf16) (ix2 p k) = m ((c : Thread nD τ).loc main_arg2) (ix2 (row t p) k) := by
  blk_ext [iblk, V, idx t, row]
theorem blk3 (c : Dev nD) (t : Fin cfg0.N) (p : Fin 512) (k : Fin 1024) :
    (iblk m c 3 t : Vec Ideal S512x1024 .bf16) (ix2 p k) = m ((c : Thread nD τ).loc main_arg3) (ix2 (row t p) k) := by
  blk_ext [iblk, V, idx t, row]
theorem blk4 (c : Dev nD) (t : Fin cfg0.N) (p : Fin 512) (k : Fin 1024) :
    (iblk m c 4 t : Vec Ideal S512x1024 .bf16) (ix2 p k) = m ((c : Thread nD τ).loc main_arg4) (ix2 (row t p) k) := by
  blk_ext [iblk, V, idx t, row]
theorem blk5 (c : Dev nD) (t : Fin cfg0.N) (p : Fin 512) (k : Fin 1024) :
    (iblk m c 5 t : Vec Ideal S512x1024 .bf16) (ix2 p k) = m ((c : Thread nD τ).loc main_arg5) (ix2 (row t p) k) := by
  blk_ext [iblk, V, idx t, row]
theorem blk6 (c : Dev nD) (t : Fin cfg0.N) (p : Fin 512) (k : Fin 1024) :
    (iblk m c 6 t : Vec Ideal S512x1024 .bf16) (ix2 p k) = m ((c : Thread nD τ).loc main_arg6) (ix2 (row t p) k) := by
  blk_ext [iblk, V, idx t, row]
theorem blk7 (c : Dev nD) (t : Fin cfg0.N) (p : Fin 512) (k : Fin 1024) :
    (iblk m c 7 t : Vec Ideal S512x1024 .bf16) (ix2 p k) = m ((c : Thread nD τ).loc main_arg7) (ix2 (row t p) k) := by
  blk_ext [iblk, V, idx t, row]
theorem blk9 (c : Dev nD) (t : Fin cfg0.N) (p : Fin 512) (k : Fin 1024) :
    (iblk m c 9 t : Vec Ideal S512x1024 .f32) (ix2 p k) = m ((c : Thread nD τ).loc main_arg9) (ix2 (row t p) k) := by
  blk_ext [iblk, V, idx t, row]
theorem blk10 (c : Dev nD) (t : Fin cfg0.N) (p : Fin 512) (k : Fin 1024) :
    (iblk m c 10 t : Vec Ideal S512x1024 .f32) (ix2 p k) = m ((c : Thread nD τ).loc main_arg10) (ix2 (row t p) k) := by
  blk_ext [iblk, V, idx t, row]
theorem blk11 (c : Dev nD) (t : Fin cfg0.N) (k : Fin 1024) :
    (iblk m c 11 t : Vec Ideal S1x1024 .f32) (ix2 0 k) = m ((c : Thread nD τ).loc main_arg11) (ix2 0 k) := by
  blk_ext [iblk, V, idx t]
theorem blk8 (c : Dev nD) (t : Fin cfg0.N) (q : Fin 8) (k : Fin 1024) (j : Fin 1024) :
    (iblk m c 8 t : Vec Ideal S8x1024x1024 .bf16) (ix3 q k j) = m ((c : Thread nD τ).loc main_arg8) (ix3 q k j) := by
  blk_ext [iblk, V, idx t]
theorem ld8_0 (c : Dev nD) (t : Fin cfg0.N) (k : Fin 1024) (j : Fin 1024) :
    (View.ld (iblk m c 8 t) (Rect.unit ![0, 0, 0] ![1, 1024, 1024] inb_S8x1024x1024_S1x1024x1024_0_0_0) : Vec Ideal S1x1024x1024 .bf16)
        (ix3 0 k j) = m ((c : Thread nD τ).loc main_arg8) (ix3 0 k j) := by
  refine Eq.trans ?_ (blk8 m c t 0 k j)
  pointwise []
theorem ld8_1 (c : Dev nD) (t : Fin cfg0.N) (k : Fin 1024) (j : Fin 1024) :
    (View.ld (iblk m c 8 t) (Rect.unit ![1, 0, 0] ![1, 1024, 1024] inb_S8x1024x1024_S1x1024x1024_1_0_0) : Vec Ideal S1x1024x1024 .bf16)
        (ix3 0 k j) = m ((c : Thread nD τ).loc main_arg8) (ix3 1 k j) := by
  refine Eq.trans ?_ (blk8 m c t 1 k j)
  pointwise []
theorem ld8_2 (c : Dev nD) (t : Fin cfg0.N) (k : Fin 1024) (j : Fin 1024) :
    (View.ld (iblk m c 8 t) (Rect.unit ![2, 0, 0] ![1, 1024, 1024] inb_S8x1024x1024_S1x1024x1024_2_0_0) : Vec Ideal S1x1024x1024 .bf16)
        (ix3 0 k j) = m ((c : Thread nD τ).loc main_arg8) (ix3 2 k j) := by
  refine Eq.trans ?_ (blk8 m c t 2 k j)
  pointwise []
theorem ld8_3 (c : Dev nD) (t : Fin cfg0.N) (k : Fin 1024) (j : Fin 1024) :
    (View.ld (iblk m c 8 t) (Rect.unit ![3, 0, 0] ![1, 1024, 1024] inb_S8x1024x1024_S1x1024x1024_3_0_0) : Vec Ideal S1x1024x1024 .bf16)
        (ix3 0 k j) = m ((c : Thread nD τ).loc main_arg8) (ix3 3 k j) := by
  refine Eq.trans ?_ (blk8 m c t 3 k j)
  pointwise []
theorem ld8_4 (c : Dev nD) (t : Fin cfg0.N) (k : Fin 1024) (j : Fin 1024) :
    (View.ld (iblk m c 8 t) (Rect.unit ![4, 0, 0] ![1, 1024, 1024] inb_S8x1024x1024_S1x1024x1024_4_0_0) : Vec Ideal S1x1024x1024 .bf16)
        (ix3 0 k j) = m ((c : Thread nD τ).loc main_arg8) (ix3 4 k j) := by
  refine Eq.trans ?_ (blk8 m c t 4 k j)
  pointwise []
theorem ld8_5 (c : Dev nD) (t : Fin cfg0.N) (k : Fin 1024) (j : Fin 1024) :
    (View.ld (iblk m c 8 t) (Rect.unit ![5, 0, 0] ![1, 1024, 1024] inb_S8x1024x1024_S1x1024x1024_5_0_0) : Vec Ideal S1x1024x1024 .bf16)
        (ix3 0 k j) = m ((c : Thread nD τ).loc main_arg8) (ix3 5 k j) := by
  refine Eq.trans ?_ (blk8 m c t 5 k j)
  pointwise []
theorem ld8_6 (c : Dev nD) (t : Fin cfg0.N) (k : Fin 1024) (j : Fin 1024) :
    (View.ld (iblk m c 8 t) (Rect.unit ![6, 0, 0] ![1, 1024, 1024] inb_S8x1024x1024_S1x1024x1024_6_0_0) : Vec Ideal S1x1024x1024 .bf16)
        (ix3 0 k j) = m ((c : Thread nD τ).loc main_arg8) (ix3 6 k j) := by
  refine Eq.trans ?_ (blk8 m c t 6 k j)
  pointwise []
theorem ld8_7 (c : Dev nD) (t : Fin cfg0.N) (k : Fin 1024) (j : Fin 1024) :
    (View.ld (iblk m c 8 t) (Rect.unit ![7, 0, 0] ![1, 1024, 1024] inb_S8x1024x1024_S1x1024x1024_7_0_0) : Vec Ideal S1x1024x1024 .bf16)
        (ix3 0 k j) = m ((c : Thread nD τ).loc main_arg8) (ix3 7 k j) := by
  refine Eq.trans ?_ (blk8 m c t 7 k j)
  pointwise []

/-- The first five products of block `t`. -/
def firstFive (c : Dev nD) (t : Fin cfg0.N) : FVec Ideal S512x1024 .f32 :=
  (k0_pay4
      (iblk m c 0 t) (View.ld (iblk m c 8 t) (Rect.unit ![0, 0, 0] ![1, 1024, 1024] inb_S8x1024x1024_S1x1024x1024_0_0_0))
      (iblk m c 1 t) (View.ld (iblk m c 8 t) (Rect.unit ![1, 0, 0] ![1, 1024, 1024] inb_S8x1024x1024_S1x1024x1024_1_0_0))
      (iblk m c 2 t) (View.ld (iblk m c 8 t) (Rect.unit ![2, 0, 0] ![1, 1024, 1024] inb_S8x1024x1024_S1x1024x1024_2_0_0))
      (iblk m c 3 t) (View.ld (iblk m c 8 t) (Rect.unit ![3, 0, 0] ![1, 1024, 1024] inb_S8x1024x1024_S1x1024x1024_3_0_0))
      (iblk m c 4 t) (View.ld (iblk m c 8 t) (Rect.unit ![4, 0, 0] ![1, 1024, 1024] inb_S8x1024x1024_S1x1024x1024_4_0_0)))

/-- The gradient of the normalised rows of block `t`, as the kernel adds it up. -/
def dnBlock (c : Dev nD) (t : Fin cfg0.N) : FVec Ideal S512x1024 .f32 :=
  k0_pay5 (firstFive m c t)
    (iblk m c 5 t) (View.ld (iblk m c 8 t) (Rect.unit ![5, 0, 0] ![1, 1024, 1024] inb_S8x1024x1024_S1x1024x1024_5_0_0))
    (iblk m c 6 t) (View.ld (iblk m c 8 t) (Rect.unit ![6, 0, 0] ![1, 1024, 1024] inb_S8x1024x1024_S1x1024x1024_6_0_0))
    (iblk m c 7 t) (View.ld (iblk m c 8 t) (Rect.unit ![7, 0, 0] ![1, 1024, 1024] inb_S8x1024x1024_S1x1024x1024_7_0_0))

theorem dn_block (c : Dev nD) (t : Fin cfg0.N) (r : Fin 512) (l : Fin 1024) :
    dnBlock m c t (ix2 r l) = dn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t r) l := by
  rw [dnBlock, firstFive, dn_pay, dn]
  simp only [rowDot, part, blk0, ld8_0, blk1, ld8_1, blk2, ld8_2, blk3, ld8_3, blk4, ld8_4, blk5, ld8_5, blk6, ld8_6, blk7, ld8_7]

end Cert.ProjIdeal.RefValue

end
-- ==== Proof.Proj.Arrays.lean ====
/- What both result arrays of the kernel for the gradient of the common projection's input hold after the run: the
   reference's results, at every index. The gains' gradient is added up over the sixteen grid points. -/
module

public import proofs.«01_k».proof.Proof.Proj.Blocks

@[expose] public section

set_option maxRecDepth 16384

noncomputable section

namespace Cert.ProjIdeal.RefValue

open Cert.ProjIdeal Cert.ProjIdeal.Gen Idealize.ShloMosaic Idealize.ShloMosaic.TcCoe Idealize.SL.Sem
open Idealize.ShloMosaic.Pipeline (Dat)
open Cert.ProjRefIdeal.Formulas

variable (m : (ℓ : Loc nD τ sig) → Buf (Elt Ideal) ℓ)

theorem back_block (c : Dev nD) (t : Fin cfg0.N) (r : Fin 512) (l : Fin 1024) :
    k0_pay3 (k0_pay6 (iblk m c 9 t)) (k0_pay7 (iblk m c 9 t))
        (k0_pay8 (firstFive m c t)
    (iblk m c 5 t) (View.ld (iblk m c 8 t) (Rect.unit ![5, 0, 0] ![1, 1024, 1024] inb_S8x1024x1024_S1x1024x1024_5_0_0))
    (iblk m c 6 t) (View.ld (iblk m c 8 t) (Rect.unit ![6, 0, 0] ![1, 1024, 1024] inb_S8x1024x1024_S1x1024x1024_6_0_0))
    (iblk m c 7 t) (View.ld (iblk m c 8 t) (Rect.unit ![7, 0, 0] ![1, 1024, 1024] inb_S8x1024x1024_S1x1024x1024_7_0_0)) (iblk m c 11 t))
        (k0_pay9 (firstFive m c t)
    (iblk m c 5 t) (View.ld (iblk m c 8 t) (Rect.unit ![5, 0, 0] ![1, 1024, 1024] inb_S8x1024x1024_S1x1024x1024_5_0_0))
    (iblk m c 6 t) (View.ld (iblk m c 8 t) (Rect.unit ![6, 0, 0] ![1, 1024, 1024] inb_S8x1024x1024_S1x1024x1024_6_0_0))
    (iblk m c 7 t) (View.ld (iblk m c 8 t) (Rect.unit ![7, 0, 0] ![1, 1024, 1024] inb_S8x1024x1024_S1x1024x1024_7_0_0)) (iblk m c 9 t) (iblk m c 11 t)) (iblk m c 10 t) (ix2 r l)
      = back (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t r) l := by
  rw [back_pay _ _ _ _ _ _ _ (dnBlock m c t) rfl]
  simp only [dn_block, blk9, blk10, blk11]
  rfl

theorem out12_apply (c : Dev nD) (t : Fin cfg0.N) (r : Fin 512) (l : Fin 1024) :
    ((outsAt0 m c t.val t.isLt).1 : Vec Ideal S512x1024 .f32) (ix2 r l)
      = back (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t r) l := by
  by_cases h : t.val % 16 = 0
  · rw [outsAt0_A m c t h]
    frame_out
    exact back_block m c t r l
  · rw [outsAt0_B m c t h]
    frame_out
    exact back_block m c t r l

theorem arr12 (c : Dev nD) : (dats m 0 c).arrAt 12 cfg0.N
    = Cert.ProjRefIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t hf y => ?_
  obtain ⟨r, l, rfl⟩ : ∃ (r : Fin 512) (l : Fin 1024), y = ix2 r l := ⟨y 0, y 1, eq_ix2 y⟩
  have e : (((cfg0.win 12).blk t).view.emb (ix2 r l)) = ix2 (row t r) l := by blk_ext [idx t, row]
  rw [e, val48_apply]
  blk_simp
  rw [after0_12]
  exact out12_apply m c t r l

/-- What grid point `t` adds to the gains' gradient. -/
def gain (c : Dev nD) (t : Fin cfg0.N) (i : S1x1024.Idx) : EReal :=
  ∑ x : Fin 512, gainTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (row t x) (i 1)

theorem gain_block (c : Dev nD) (t : Fin cfg0.N) (z : Vec Ideal S1x1024 .f32) (l : Fin 1024) :
    k0_pay2 (dnBlock m c t) (k0_pay7 (iblk m c 9 t)) z (ix2 0 l) = z (ix2 0 l) + gain m c t (ix2 0 l) := by
  rw [gain_pay, gain]
  refine congrArg _ (Finset.sum_congr rfl fun x _ => ?_)
  simp only [dn_block, blk9]
  exact mul_comm _ _

theorem acc (c : Dev nD) (i : S1x1024.Idx) :
    ((outsAt0 m c t0_15.val t0_15.isLt).2 : Vec Ideal S1x1024 .f32) i = 0 + ∑ p : Fin cfg0.N, gain m c p i := by
  refine Pipeline.eq_sum_fin_of_reset_step_apply_last (fun n h => ((outsAt0 m c n h).2 : Vec Ideal S1x1024 .f32)) 16
    (fun _ => (0 : EReal)) (gain m c) (fun t h i => ?_) (fun t h i => ?_) (le_of_eq N_0) t0_15 (by
      show 15 + 1 = cfg0.N; exact N_0.symm) i
  · obtain ⟨l, rfl⟩ : ∃ l : Fin 1024, i = ix2 0 l := ⟨i 1, (eq_ix2 i).trans (congrArg (ix2 · (i 1)) (Subsingleton.elim (α := Fin 1) _ _))⟩
    show (outsAt0 m c t.val t.isLt).2 _ = _
    rw [outsAt0_A m c t h]
    frame_out
    refine (gain_block m c t (k0_pay1 (F := Ideal)) l).trans ?_
    pointwise [k0_pay1]
  · obtain ⟨l, rfl⟩ : ∃ l : Fin 1024, i = ix2 0 l := ⟨i 1, (eq_ix2 i).trans (congrArg (ix2 · (i 1)) (Subsingleton.elim (α := Fin 1) _ _))⟩
    show (outsAt0 m c t.val t.isLt).2 _ = _
    rw [outsAt0_B m c t h]
    frame_out
    exact gain_block m c t _ l

theorem arr13 (c : Dev nD) : (dats m 0 c).arrAt 13 cfg0.N
    = Cert.ProjRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 13 t0_15 (by decide +kernel) _ fun i => ?_
  obtain ⟨l, rfl⟩ : ∃ l : Fin 1024, i = ix2 0 l := ⟨i 1, (eq_ix2 i).trans (congrArg (ix2 · (i 1)) (Subsingleton.elim (α := Fin 1) _ _))⟩
  blk_simp
  rw [after0_13, val31_apply]
  refine (acc m c (ix2 0 l)).trans ((zero_add _).trans ?_)
  exact Cert.Common.sum_blocks 16 512 8192 rfl fun r => gainTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r l

end Cert.ProjIdeal.RefValue

end
-- ==== Proof.Proj.Claims.lean ====
/- The kernel for the gradient of the common projection's input and the reference end with the same two arrays. -/
module

public import proofs.«01_k».proof.Defs
public import proofs.«01_k».proof.Proof.Proj.Arrays
public import proofs.«01_k».proof.Proof.Gen.ProjRefIdeal.Run

@[expose] public section

set_option maxRecDepth 16384

noncomputable section

namespace Cert.Proof.ProjClaims

open Idealize.ShloMosaic Idealize.SL.Sem

theorem algebraic : Cert.algebraic_ProjIdeal_ProjRefIdeal := by
  intro m ρ m' ρ' _ agree
  refine ⟨fun c => Cert.ProjRefIdeal.Read.val_main_v48 (F := Ideal) (m ((c.tc : Thread _ _).loc Cert.ProjIdeal.main_arg0)) (m ((c.tc : Thread _ _).loc Cert.ProjIdeal.main_arg1)) (m ((c.tc : Thread _ _).loc Cert.ProjIdeal.main_arg2)) (m ((c.tc : Thread _ _).loc Cert.ProjIdeal.main_arg3)) (m ((c.tc : Thread _ _).loc Cert.ProjIdeal.main_arg4)) (m ((c.tc : Thread _ _).loc Cert.ProjIdeal.main_arg5)) (m ((c.tc : Thread _ _).loc Cert.ProjIdeal.main_arg6)) (m ((c.tc : Thread _ _).loc Cert.ProjIdeal.main_arg7)) (m ((c.tc : Thread _ _).loc Cert.ProjIdeal.main_arg8)) (m ((c.tc : Thread _ _).loc Cert.ProjIdeal.main_arg9)) (m ((c.tc : Thread _ _).loc Cert.ProjIdeal.main_arg10)) (m ((c.tc : Thread _ _).loc Cert.ProjIdeal.main_arg11)),
    fun c => Cert.ProjRefIdeal.Read.val_main_v31 (F := Ideal) (m ((c.tc : Thread _ _).loc Cert.ProjIdeal.main_arg0)) (m ((c.tc : Thread _ _).loc Cert.ProjIdeal.main_arg1)) (m ((c.tc : Thread _ _).loc Cert.ProjIdeal.main_arg2)) (m ((c.tc : Thread _ _).loc Cert.ProjIdeal.main_arg3)) (m ((c.tc : Thread _ _).loc Cert.ProjIdeal.main_arg4)) (m ((c.tc : Thread _ _).loc Cert.ProjIdeal.main_arg5)) (m ((c.tc : Thread _ _).loc Cert.ProjIdeal.main_arg6)) (m ((c.tc : Thread _ _).loc Cert.ProjIdeal.main_arg7)) (m ((c.tc : Thread _ _).loc Cert.ProjIdeal.main_arg8)) (m ((c.tc : Thread _ _).loc Cert.ProjIdeal.main_arg9)),
    ?_, ?_⟩
  · refine (θ_run _ _ _).mono (fun r h c => ?_) (Cert.ProjIdeal.Value.run_blocks (F := Ideal) m ρ)
    obtain ⟨h0, h1, kept⟩ := h c
    exact ⟨h0.trans (Cert.ProjIdeal.RefValue.arr12 m c), h1.trans (Cert.ProjIdeal.RefValue.arr13 m c), kept⟩
  · refine (θ_run _ _ _).mono (fun r h c => ?_) (Cert.ProjRefIdeal.Value.run (F := Ideal) m' ρ')
    obtain ⟨h0, h1, kept⟩ := h c
    obtain ⟨a0, a1, a2, a3, a4, a5, a6, a7, a8, a9, a10, a11⟩ := agree c
    refine ⟨h0.trans ?_, h1.trans ?_, kept⟩
    · simp only [← a0, ← a1, ← a2, ← a3, ← a4, ← a5, ← a6, ← a7, ← a8, ← a9, ← a10, ← a11]
      first | exact Cert.ProjRefIdeal.Read.val_main_v48_eq (F := Ideal) m' c | rfl
    · simp only [← a0, ← a1, ← a2, ← a3, ← a4, ← a5, ← a6, ← a7, ← a8, ← a9]
      first | exact Cert.ProjRefIdeal.Read.val_main_v31_eq (F := Ideal) m' c | rfl

/-- The reference runs, keeps its arguments, and has no semaphore that could be left raised. -/
theorem frame_ref : Cert.quiescent_ProjRefIdeal := fun m ρ _ =>
  (θ_run _ _ _).mono (fun r h => ⟨fun c => by
    obtain ⟨_, _, kept⟩ := h c
    exact kept, sem_eq_zero_of_no_sems rfl _⟩) (Cert.ProjRefIdeal.Value.run (F := Ideal) m ρ)

theorem preserves : Cert.preserves_Proj_ProjIdeal := trivial

end Cert.Proof.ProjClaims

end
-- ==== Proof.Hid.Formulas.lean ====
/- The gradient of a feed-forward block's hidden layer, as formulas at one index. -/
module

public import proofs.«01_k».proof.Proof.Gen.HidRefIdeal.Read
public import proofs.«01_k».proof.Proof.Common
public import Idealize.ShloMosaic.Lib.Pipeline.ValueKit
public import Idealize.ShloMosaic.Lib.Pointwise

@[expose] public section

set_option maxRecDepth 16384

noncomputable section

namespace Cert.HidRefIdeal.Formulas

open Cert.HidRefIdeal Cert.HidRefIdeal.Read Idealize.ShloMosaic Idealize.ShloMosaic.TcCoe

variable (x0 : (⟨S8192x1024, .f32⟩ : BufTy).Contents (Elt Ideal)) (x1 : (⟨S8192x2816, .f32⟩ : BufTy).Contents (Elt Ideal)) (x2 : (⟨S8192x2816, .f32⟩ : BufTy).Contents (Elt Ideal)) (x3 : (⟨S2816x1024, .bf16⟩ : BufTy).Contents (Elt Ideal))

/-- Column `j` of chunk `q` of the hidden layer, among all its columns. -/
def col (q : Fin 4) (j : Fin 704) : Fin 2816 := ⟨q.val * 704 + j.val, by omega⟩
/-- Half of the block's output's gradient. -/
def half (r : Fin 8192) (k : Fin 1024) : EReal := Ideal.ofBits FTy.f32 1056964608#32 * x0 (ix2 r k)
/-- What comes back through the product with the output weights. -/
def dact (r : Fin 8192) (n : Fin 2816) : EReal := ∑ k : Fin 1024, half x0 r k * x3 (ix2 n k)

theorem val14_apply (r : Fin 8192) (k : Fin 1024) : val_main_v14 (F := Ideal) x0 (ix2 r k) = half x0 r k := by
  pointwise [val_main_v14, val_main_v13, val_main_v12, val_main_cst_1, half]

theorem val6_apply (r : Fin 8192) (n : Fin 2816) : val_main_v6 (F := Ideal) x0 x3 (ix2 r n) = dact x0 x3 r n := by
  pointwise [val_main_v6, val_main_v5, val_main_v4, val_main_v2, val_main_cst, dact, half]

theorem val17_apply (q : Fin 4) (r : Fin 8192) (j : Fin 704) : val_main_v17 (F := Ideal) x0 x1 x2 x3 (ix3 q r j)
    = dact x0 x3 r (col q j) * val_main_v9 (F := Ideal) x1 x2 (ix2 r (col q j)) := by
  generalize e : dact x0 x3 r (col q j) * val_main_v9 (F := Ideal) x1 x2 (ix2 r (col q j)) = G
  pointwise [val_main_v17, val_main_v16, val_main_v15, val_main_v10, val6_apply]
  rw [← e]
  rfl

theorem val20_apply (q : Fin 4) (r : Fin 8192) (j : Fin 704) : val_main_v20 (F := Ideal) x0 x1 x3 (ix3 q r j)
    = dact x0 x3 r (col q j) * val_main_v0_0 (F := Ideal) x1 (ix2 r (col q j)) := by
  generalize e : dact x0 x3 r (col q j) * val_main_v0_0 (F := Ideal) x1 (ix2 r (col q j)) = G
  pointwise [val_main_v20, val_main_v19, val_main_v18, val_main_v11, val6_apply]
  rw [← e]
  rfl

end Cert.HidRefIdeal.Formulas

end
-- ==== Proof.Hid.Blocks.lean ====
/- What the kernel for the gradient of a feed-forward block's hidden layer holds in its windows at one grid point, and its
   payloads at one index. -/
module

public import proofs.«01_k».proof.Proof.Gen.HidIdeal.Value
public import proofs.«01_k».proof.Proof.Hid.Formulas
public import Idealize.ShloMosaic.Lib.Pipeline.ValueKit
public import Idealize.ShloMosaic.Lib.Pointwise
public import Idealize.ShloMosaic.Lib.Claim

@[expose] public section

set_option maxRecDepth 16384

noncomputable section

namespace Cert.HidIdeal.RefValue

open Cert.HidIdeal Cert.HidIdeal.Gen Idealize.ShloMosaic Idealize.ShloMosaic.TcCoe Idealize.SL.Sem
open Idealize.ShloMosaic.Pipeline (Dat)
open Cert.HidRefIdeal.Formulas

/-- Half of the gradient's row against a row of one chunk of the output weights. -/
def halfDot (x : Vec Ideal S512x1024 .f32) (w : Vec Ideal S1x704x1024 .bf16) (r : Fin 512) (j : Fin 704) : EReal :=
  ∑ k : Fin 1024, Ideal.ofBits FTy.f32 1056964608#32 * x (ix2 r k) * w (ix3 0 j k)
/-- That times the factor which the forward pass saved. -/
def chunkTerm (x : Vec Ideal S512x1024 .f32) (w : Vec Ideal S1x704x1024 .bf16) (s : Vec Ideal S1x512x704 .bf16) (r : Fin 512) (j : Fin 704) :
    EReal := halfDot x w r j * s (ix3 0 r j)

variable (x : Vec Ideal S512x1024 .f32) (w : Vec Ideal S1x704x1024 .bf16) (s : Vec Ideal S1x512x704 .bf16)

theorem pay5_apply (r : Fin 512) (k : Fin 1024) : k0_pay5 x (ix2 r k) = Ideal.ofBits FTy.f32 1056964608#32 * x (ix2 r k) := by
  pointwise [k0_pay5]
theorem pay7_apply (r : Fin 512) (j : Fin 704) : k0_pay7 x w s (ix3 0 r j) = chunkTerm x w s r j := by
  pointwise [k0_pay7, k0_pay6, pay5_apply, chunkTerm, halfDot]
theorem pay8_apply (r : Fin 512) (j : Fin 704) : k0_pay8 x w s (ix3 0 r j) = chunkTerm x w s r j := by
  pointwise [k0_pay8, k0_pay6, pay5_apply, chunkTerm, halfDot]
theorem pay10_apply (r : Fin 512) (j : Fin 704) : k0_pay10 (k0_pay9 x w) s (ix3 0 r j) = chunkTerm x w s r j := by
  pointwise [k0_pay10, k0_pay9, pay5_apply, chunkTerm, halfDot]
theorem pay11_apply (r : Fin 512) (j : Fin 704) : k0_pay11 (k0_pay9 x w) s (ix3 0 r j) = chunkTerm x w s r j := by
  pointwise [k0_pay11, k0_pay9, pay5_apply, chunkTerm, halfDot]
theorem pay13_apply (r : Fin 512) (j : Fin 704) : k0_pay13 (k0_pay5 x) w s (ix3 0 r j) = chunkTerm x w s r j := by
  pointwise [k0_pay13, k0_pay12, pay5_apply, chunkTerm, halfDot]
theorem pay14_apply (r : Fin 512) (j : Fin 704) : k0_pay1 (k0_pay14 (k0_pay5 x) w s) (ix3 0 r j) = chunkTerm x w s r j := by
  pointwise [k0_pay1, k0_pay14, k0_pay12, pay5_apply, chunkTerm, halfDot]
theorem pay3_apply (r : Fin 512) (j : Fin 704) : k0_pay3 (k0_pay5 x) w s (ix3 0 r j) = chunkTerm x w s r j := by
  pointwise [k0_pay3, k0_pay2, pay5_apply, chunkTerm, halfDot]
theorem pay4_apply (r : Fin 512) (j : Fin 704) : k0_pay4 (k0_pay5 x) w s (ix3 0 r j) = chunkTerm x w s r j := by
  pointwise [k0_pay4, k0_pay2, pay5_apply, chunkTerm, halfDot]

theorem pay15_eq (x1 x2 : Vec Ideal S4x512x704 .bf16) (x3 : Vec Ideal S4x704x1024 .bf16) : k0_pay15 x x1 x2 x3 = k0_pay5 x := by
  rw [k0_pay15, View.ld_unit_zero (by funext a; fin_cases a <;> rfl)]
theorem pay16_eq (x1 x2 : Vec Ideal S4x512x704 .bf16) (x3 : Vec Ideal S4x704x1024 .bf16) :
    k0_pay16 x x1 x2 x3 = k0_pay9 x (View.ld x3 r0_3) := by
  rw [k0_pay16, View.ld_unit_zero (by funext a; fin_cases a <;> rfl)]

variable (m : (ℓ : Loc nD τ sig) → Buf (Elt Ideal) ℓ)

/-- The block each window holds at grid point `t`. -/
theorem idx : ∀ t : Fin grid0.N, (grid0.coords t 0).val = t.val ∧ win0_0.index t = ![t.val, 0]
    ∧ win0_1.index t = ![0, t.val, 0] ∧ win0_2.index t = ![0, t.val, 0] ∧ win0_3.index t = ![0, 0, 0]
    ∧ win0_4.index t = ![t.val, 0] ∧ win0_5.index t = ![0, t.val, 0] ∧ win0_6.index t = ![0, t.val, 0] := by
  decide +kernel

/-- Row `p` of block `t`, among all rows. -/
def row (t : Fin cfg0.N) (p : Fin 512) : Fin 8192 :=
  ⟨512 * t.val + p.val, by have := t.isLt; have h : cfg0.N = 16 := N_0; omega⟩

/-- An array's columns in four chunks. -/
def chunks (a : FVec Ideal S8192x2816 .f32) : FVec Ideal S4x8192x704 .bf16 :=
  truncf .bf16 (transpose S4x8192x704 [1, 0, 2] (shapeCast S8192x4x704 a shapeCasts_S8192x2816_S8192x4x704) transposes_S8192x4x704_S4x8192x704_1_0_2)
    bitsLt_bf16_f32

theorem chunks_apply (a : FVec Ideal S8192x2816 .f32) (q : Fin 4) (r : Fin 8192) (j : Fin 704) :
    chunks a (ix3 q r j) = a (ix2 r (col q j)) := by
  pointwise [chunks, col]

theorem entry6 (c : Dev nD) : V m c main_v6 = chunks (Cert.HidRefIdeal.Read.val_main_v9 (F := Ideal) (m ((c : Thread nD τ).loc main_arg1)) (m ((c : Thread nD τ).loc main_arg2))) := by
  entry_read
  rfl
theorem entry9 (c : Dev nD) : V m c main_v9 = chunks (Cert.HidRefIdeal.Read.val_main_v0_0 (F := Ideal) (m ((c : Thread nD τ).loc main_arg1))) := by
  entry_read
  rfl
/-- The output weights in four chunks. -/
def weights (w : FVec Ideal S2816x1024 .bf16) : FVec Ideal S4x704x1024 .bf16 :=
  shapeCast _ w shapeCasts_S2816x1024_S4x704x1024
theorem weights_apply (w : FVec Ideal S2816x1024 .bf16) (q : Fin 4) (j : Fin 704) (k : Fin 1024) :
    weights w (ix3 q j k) = w (ix2 (col q j) k) := by
  pointwise [weights, col]
theorem entry10 (c : Dev nD) : V m c main_v10 = weights (m ((c : Thread nD τ).loc main_arg3)) := by
  entry_read
  rfl

theorem blk0 (c : Dev nD) (t : Fin cfg0.N) (p : Fin 512) (k : Fin 1024) :
    (iblk m c 0 t : Vec Ideal S512x1024 .f32) (ix2 p k) = (m ((c : Thread nD τ).loc main_arg0)) (ix2 (row t p) k) := by
  blk_ext [iblk, V, idx t, row]
theorem blk1 (c : Dev nD) (t : Fin cfg0.N) (q : Fin 4) (p : Fin 512) (j : Fin 704) :
    (iblk m c 1 t : Vec Ideal S4x512x704 .bf16) (ix3 q p j) = Cert.HidRefIdeal.Read.val_main_v9 (F := Ideal) (m ((c : Thread nD τ).loc main_arg1)) (m ((c : Thread nD τ).loc main_arg2)) (ix2 (row t p) (col q j)) := by
  rw [← chunks_apply (Cert.HidRefIdeal.Read.val_main_v9 (F := Ideal) (m ((c : Thread nD τ).loc main_arg1)) (m ((c : Thread nD τ).loc main_arg2))) q (row t p) j, ← entry6]
  blk_ext [iblk, idx t, row]
theorem blk2 (c : Dev nD) (t : Fin cfg0.N) (q : Fin 4) (p : Fin 512) (j : Fin 704) :
    (iblk m c 2 t : Vec Ideal S4x512x704 .bf16) (ix3 q p j) = Cert.HidRefIdeal.Read.val_main_v0_0 (F := Ideal) (m ((c : Thread nD τ).loc main_arg1)) (ix2 (row t p) (col q j)) := by
  rw [← chunks_apply (Cert.HidRefIdeal.Read.val_main_v0_0 (F := Ideal) (m ((c : Thread nD τ).loc main_arg1))) q (row t p) j, ← entry9]
  blk_ext [iblk, idx t, row]
theorem blk3 (c : Dev nD) (t : Fin cfg0.N) (q : Fin 4) (j : Fin 704) (k : Fin 1024) :
    (iblk m c 3 t : Vec Ideal S4x704x1024 .bf16) (ix3 q j k) = (m ((c : Thread nD τ).loc main_arg3)) (ix2 (col q j) k) := by
  rw [← weights_apply (m ((c : Thread nD τ).loc main_arg3)) q j k, ← entry10]
  blk_ext [iblk, idx t]
theorem ld1_0 (c : Dev nD) (t : Fin cfg0.N) (p : Fin 512) (j : Fin 704) :
    (View.ld (iblk m c 1 t) r0_2 : Vec Ideal S1x512x704 .bf16) (ix3 0 p j) = Cert.HidRefIdeal.Read.val_main_v9 (F := Ideal) (m ((c : Thread nD τ).loc main_arg1)) (m ((c : Thread nD τ).loc main_arg2)) (ix2 (row t p) (col 0 j)) := by
  refine Eq.trans ?_ (blk1 m c t 0 p j)
  pointwise []
theorem ld2_0 (c : Dev nD) (t : Fin cfg0.N) (p : Fin 512) (j : Fin 704) :
    (View.ld (iblk m c 2 t) r0_2 : Vec Ideal S1x512x704 .bf16) (ix3 0 p j) = Cert.HidRefIdeal.Read.val_main_v0_0 (F := Ideal) (m ((c : Thread nD τ).loc main_arg1)) (ix2 (row t p) (col 0 j)) := by
  refine Eq.trans ?_ (blk2 m c t 0 p j)
  pointwise []
theorem ld3_0 (c : Dev nD) (t : Fin cfg0.N) (j : Fin 704) (k : Fin 1024) :
    (View.ld (iblk m c 3 t) r0_1 : Vec Ideal S1x704x1024 .bf16) (ix3 0 j k) = (m ((c : Thread nD τ).loc main_arg3)) (ix2 (col 0 j) k) := by
  refine Eq.trans ?_ (blk3 m c t 0 j k)
  pointwise []
theorem gate_0 (c : Dev nD) (t : Fin cfg0.N) (r : Fin 512) (j : Fin 704) :
    chunkTerm (iblk m c 0 t) (View.ld (iblk m c 3 t) r0_1) (View.ld (iblk m c 1 t) r0_2) r j
      = Cert.HidRefIdeal.Read.val_main_v17 (F := Ideal) (m ((c : Thread nD τ).loc main_arg0)) (m ((c : Thread nD τ).loc main_arg1)) (m ((c : Thread nD τ).loc main_arg2)) (m ((c : Thread nD τ).loc main_arg3)) (ix3 0 (row t r) j) := by
  rw [val17_apply, chunkTerm, ld1_0, halfDot, dact]
  simp only [blk0, ld3_0, half]
theorem up_0 (c : Dev nD) (t : Fin cfg0.N) (r : Fin 512) (j : Fin 704) :
    chunkTerm (iblk m c 0 t) (View.ld (iblk m c 3 t) r0_1) (View.ld (iblk m c 2 t) r0_2) r j
      = Cert.HidRefIdeal.Read.val_main_v20 (F := Ideal) (m ((c : Thread nD τ).loc main_arg0)) (m ((c : Thread nD τ).loc main_arg1)) (m ((c : Thread nD τ).loc main_arg3)) (ix3 0 (row t r) j) := by
  rw [val20_apply, chunkTerm, ld2_0, halfDot, dact]
  simp only [blk0, ld3_0, half]
theorem ld1_1 (c : Dev nD) (t : Fin cfg0.N) (p : Fin 512) (j : Fin 704) :
    (View.ld (iblk m c 1 t) r0_4 : Vec Ideal S1x512x704 .bf16) (ix3 0 p j) = Cert.HidRefIdeal.Read.val_main_v9 (F := Ideal) (m ((c : Thread nD τ).loc main_arg1)) (m ((c : Thread nD τ).loc main_arg2)) (ix2 (row t p) (col 1 j)) := by
  refine Eq.trans ?_ (blk1 m c t 1 p j)
  pointwise []
theorem ld2_1 (c : Dev nD) (t : Fin cfg0.N) (p : Fin 512) (j : Fin 704) :
    (View.ld (iblk m c 2 t) r0_4 : Vec Ideal S1x512x704 .bf16) (ix3 0 p j) = Cert.HidRefIdeal.Read.val_main_v0_0 (F := Ideal) (m ((c : Thread nD τ).loc main_arg1)) (ix2 (row t p) (col 1 j)) := by
  refine Eq.trans ?_ (blk2 m c t 1 p j)
  pointwise []
theorem ld3_1 (c : Dev nD) (t : Fin cfg0.N) (j : Fin 704) (k : Fin 1024) :
    (View.ld (iblk m c 3 t) r0_3 : Vec Ideal S1x704x1024 .bf16) (ix3 0 j k) = (m ((c : Thread nD τ).loc main_arg3)) (ix2 (col 1 j) k) := by
  refine Eq.trans ?_ (blk3 m c t 1 j k)
  pointwise []
theorem gate_1 (c : Dev nD) (t : Fin cfg0.N) (r : Fin 512) (j : Fin 704) :
    chunkTerm (iblk m c 0 t) (View.ld (iblk m c 3 t) r0_3) (View.ld (iblk m c 1 t) r0_4) r j
      = Cert.HidRefIdeal.Read.val_main_v17 (F := Ideal) (m ((c : Thread nD τ).loc main_arg0)) (m ((c : Thread nD τ).loc main_arg1)) (m ((c : Thread nD τ).loc main_arg2)) (m ((c : Thread nD τ).loc main_arg3)) (ix3 1 (row t r) j) := by
  rw [val17_apply, chunkTerm, ld1_1, halfDot, dact]
  simp only [blk0, ld3_1, half]
theorem up_1 (c : Dev nD) (t : Fin cfg0.N) (r : Fin 512) (j : Fin 704) :
    chunkTerm (iblk m c 0 t) (View.ld (iblk m c 3 t) r0_3) (View.ld (iblk m c 2 t) r0_4) r j
      = Cert.HidRefIdeal.Read.val_main_v20 (F := Ideal) (m ((c : Thread nD τ).loc main_arg0)) (m ((c : Thread nD τ).loc main_arg1)) (m ((c : Thread nD τ).loc main_arg3)) (ix3 1 (row t r) j) := by
  rw [val20_apply, chunkTerm, ld2_1, halfDot, dact]
  simp only [blk0, ld3_1, half]
theorem ld1_2 (c : Dev nD) (t : Fin cfg0.N) (p : Fin 512) (j : Fin 704) :
    (View.ld (iblk m c 1 t) r0_6 : Vec Ideal S1x512x704 .bf16) (ix3 0 p j) = Cert.HidRefIdeal.Read.val_main_v9 (F := Ideal) (m ((c : Thread nD τ).loc main_arg1)) (m ((c : Thread nD τ).loc main_arg2)) (ix2 (row t p) (col 2 j)) := by
  refine Eq.trans ?_ (blk1 m c t 2 p j)
  pointwise []
theorem ld2_2 (c : Dev nD) (t : Fin cfg0.N) (p : Fin 512) (j : Fin 704) :
    (View.ld (iblk m c 2 t) r0_6 : Vec Ideal S1x512x704 .bf16) (ix3 0 p j) = Cert.HidRefIdeal.Read.val_main_v0_0 (F := Ideal) (m ((c : Thread nD τ).loc main_arg1)) (ix2 (row t p) (col 2 j)) := by
  refine Eq.trans ?_ (blk2 m c t 2 p j)
  pointwise []
theorem ld3_2 (c : Dev nD) (t : Fin cfg0.N) (j : Fin 704) (k : Fin 1024) :
    (View.ld (iblk m c 3 t) r0_5 : Vec Ideal S1x704x1024 .bf16) (ix3 0 j k) = (m ((c : Thread nD τ).loc main_arg3)) (ix2 (col 2 j) k) := by
  refine Eq.trans ?_ (blk3 m c t 2 j k)
  pointwise []
theorem gate_2 (c : Dev nD) (t : Fin cfg0.N) (r : Fin 512) (j : Fin 704) :
    chunkTerm (iblk m c 0 t) (View.ld (iblk m c 3 t) r0_5) (View.ld (iblk m c 1 t) r0_6) r j
      = Cert.HidRefIdeal.Read.val_main_v17 (F := Ideal) (m ((c : Thread nD τ).loc main_arg0)) (m ((c : Thread nD τ).loc main_arg1)) (m ((c : Thread nD τ).loc main_arg2)) (m ((c : Thread nD τ).loc main_arg3)) (ix3 2 (row t r) j) := by
  rw [val17_apply, chunkTerm, ld1_2, halfDot, dact]
  simp only [blk0, ld3_2, half]
theorem up_2 (c : Dev nD) (t : Fin cfg0.N) (r : Fin 512) (j : Fin 704) :
    chunkTerm (iblk m c 0 t) (View.ld (iblk m c 3 t) r0_5) (View.ld (iblk m c 2 t) r0_6) r j
      = Cert.HidRefIdeal.Read.val_main_v20 (F := Ideal) (m ((c : Thread nD τ).loc main_arg0)) (m ((c : Thread nD τ).loc main_arg1)) (m ((c : Thread nD τ).loc main_arg3)) (ix3 2 (row t r) j) := by
  rw [val20_apply, chunkTerm, ld2_2, halfDot, dact]
  simp only [blk0, ld3_2, half]
theorem ld1_3 (c : Dev nD) (t : Fin cfg0.N) (p : Fin 512) (j : Fin 704) :
    (View.ld (iblk m c 1 t) r0_8 : Vec Ideal S1x512x704 .bf16) (ix3 0 p j) = Cert.HidRefIdeal.Read.val_main_v9 (F := Ideal) (m ((c : Thread nD τ).loc main_arg1)) (m ((c : Thread nD τ).loc main_arg2)) (ix2 (row t p) (col 3 j)) := by
  refine Eq.trans ?_ (blk1 m c t 3 p j)
  pointwise []
theorem ld2_3 (c : Dev nD) (t : Fin cfg0.N) (p : Fin 512) (j : Fin 704) :
    (View.ld (iblk m c 2 t) r0_8 : Vec Ideal S1x512x704 .bf16) (ix3 0 p j) = Cert.HidRefIdeal.Read.val_main_v0_0 (F := Ideal) (m ((c : Thread nD τ).loc main_arg1)) (ix2 (row t p) (col 3 j)) := by
  refine Eq.trans ?_ (blk2 m c t 3 p j)
  pointwise []
theorem ld3_3 (c : Dev nD) (t : Fin cfg0.N) (j : Fin 704) (k : Fin 1024) :
    (View.ld (iblk m c 3 t) r0_7 : Vec Ideal S1x704x1024 .bf16) (ix3 0 j k) = (m ((c : Thread nD τ).loc main_arg3)) (ix2 (col 3 j) k) := by
  refine Eq.trans ?_ (blk3 m c t 3 j k)
  pointwise []
theorem gate_3 (c : Dev nD) (t : Fin cfg0.N) (r : Fin 512) (j : Fin 704) :
    chunkTerm (iblk m c 0 t) (View.ld (iblk m c 3 t) r0_7) (View.ld (iblk m c 1 t) r0_8) r j
      = Cert.HidRefIdeal.Read.val_main_v17 (F := Ideal) (m ((c : Thread nD τ).loc main_arg0)) (m ((c : Thread nD τ).loc main_arg1)) (m ((c : Thread nD τ).loc main_arg2)) (m ((c : Thread nD τ).loc main_arg3)) (ix3 3 (row t r) j) := by
  rw [val17_apply, chunkTerm, ld1_3, halfDot, dact]
  simp only [blk0, ld3_3, half]
theorem up_3 (c : Dev nD) (t : Fin cfg0.N) (r : Fin 512) (j : Fin 704) :
    chunkTerm (iblk m c 0 t) (View.ld (iblk m c 3 t) r0_7) (View.ld (iblk m c 2 t) r0_8) r j
      = Cert.HidRefIdeal.Read.val_main_v20 (F := Ideal) (m ((c : Thread nD τ).loc main_arg0)) (m ((c : Thread nD τ).loc main_arg1)) (m ((c : Thread nD τ).loc main_arg3)) (ix3 3 (row t r) j) := by
  rw [val20_apply, chunkTerm, ld2_3, halfDot, dact]
  simp only [blk0, ld3_3, half]

end Cert.HidIdeal.RefValue

end
-- ==== Proof.Hid.Arrays.lean ====
/- What the three result arrays of the kernel for the gradient of a feed-forward block's hidden layer hold after the run:
   the reference's results, at every index. -/
module

public import proofs.«01_k».proof.Proof.Hid.Blocks

@[expose] public section

set_option maxRecDepth 16384

noncomputable section

namespace Cert.HidIdeal.RefValue

open Cert.HidIdeal Cert.HidIdeal.Gen Idealize.ShloMosaic Idealize.ShloMosaic.TcCoe Idealize.SL.Sem
open Idealize.ShloMosaic.Pipeline (Dat)
open Cert.HidRefIdeal.Formulas

variable (m : (ℓ : Loc nD τ sig) → Buf (Elt Ideal) ℓ)

theorem arr4 (c : Dev nD) : (dats m 0 c).arrAt 4 cfg0.N = Cert.HidRefIdeal.Read.val_main_v14 (F := Ideal) (m ((c : Thread nD τ).loc main_arg0)) := by
  refine (dats m 0 c).arrAt_eq_of_covers 4 _ (by decide +kernel) fun t hf y => ?_
  obtain ⟨r, l, rfl⟩ : ∃ (r : Fin 512) (l : Fin 1024), y = ix2 r l := ⟨y 0, y 1, eq_ix2 y⟩
  have e : (((cfg0.win 4).blk t).view.emb (ix2 r l)) = ix2 (row t r) l := by blk_ext [idx t, row]
  rw [e, val14_apply]
  blk_simp
  rw [after0_4]
  frame_out
  exact (pay5_apply _ r l).trans (congrArg (_ * ·) (blk0 m c t r l))

theorem out5_apply (c : Dev nD) (t : Fin cfg0.N) (q : Fin 4) (r : Fin 512) (l : Fin 704) :
    ((dats m 0 c).after 5 t : Vec Ideal S4x512x704 .bf16) (ix3 q r l) = Cert.HidRefIdeal.Read.val_main_v17 (F := Ideal) (m ((c : Thread nD τ).loc main_arg0)) (m ((c : Thread nD τ).loc main_arg1)) (m ((c : Thread nD τ).loc main_arg2)) (m ((c : Thread nD τ).loc main_arg3)) (ix3 q (row t r) l) := by
  rw [after0_5]
  frame_out
  rw [pay15_eq, pay16_eq]
  canon_tiles x h
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 3 := Fin.ext h0
    obtain rfl : r = b := Fin.ext h1
    obtain rfl : l = d := Fin.ext h2
    exact (pay3_apply _ _ _ r l).trans (gate_3 m c t r l)
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 2 := Fin.ext h0
    obtain rfl : r = b := Fin.ext h1
    obtain rfl : l = d := Fin.ext h2
    exact (pay13_apply _ _ _ r l).trans (gate_2 m c t r l)
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 1 := Fin.ext h0
    obtain rfl : r = b := Fin.ext h1
    obtain rfl : l = d := Fin.ext h2
    exact (pay10_apply _ _ _ r l).trans (gate_1 m c t r l)
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 0 := Fin.ext h0
    obtain rfl : r = b := Fin.ext h1
    obtain rfl : l = d := Fin.ext h2
    exact (pay7_apply _ _ _ r l).trans (gate_0 m c t r l)

theorem arr5 (c : Dev nD) : (dats m 0 c).arrAt 5 cfg0.N = Cert.HidRefIdeal.Read.val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨q, r, l, rfl⟩ : ∃ (q : Fin 4) (r : Fin 512) (l : Fin 704), y = ix3 q r l := ⟨y 0, y 1, y 2, eq_ix3 y⟩
  have e : (((cfg0.win 5).blk t).view.emb (ix3 q r l)) = ix3 q (row t r) l := by blk_ext [idx t, row]
  rw [e]
  blk_simp
  exact out5_apply m c t q r l

theorem out6_apply (c : Dev nD) (t : Fin cfg0.N) (q : Fin 4) (r : Fin 512) (l : Fin 704) :
    ((dats m 0 c).after 6 t : Vec Ideal S4x512x704 .bf16) (ix3 q r l) = Cert.HidRefIdeal.Read.val_main_v20 (F := Ideal) (m ((c : Thread nD τ).loc main_arg0)) (m ((c : Thread nD τ).loc main_arg1)) (m ((c : Thread nD τ).loc main_arg3)) (ix3 q (row t r) l) := by
  rw [after0_6]
  frame_out
  rw [pay15_eq, pay16_eq]
  canon_tiles x h
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 3 := Fin.ext h0
    obtain rfl : r = b := Fin.ext h1
    obtain rfl : l = d := Fin.ext h2
    exact (pay4_apply _ _ _ r l).trans (up_3 m c t r l)
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 2 := Fin.ext h0
    obtain rfl : r = b := Fin.ext h1
    obtain rfl : l = d := Fin.ext h2
    exact (pay14_apply _ _ _ r l).trans (up_2 m c t r l)
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 1 := Fin.ext h0
    obtain rfl : r = b := Fin.ext h1
    obtain rfl : l = d := Fin.ext h2
    exact (pay11_apply _ _ _ r l).trans (up_1 m c t r l)
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 0 := Fin.ext h0
    obtain rfl : r = b := Fin.ext h1
    obtain rfl : l = d := Fin.ext h2
    exact (pay8_apply _ _ _ r l).trans (up_0 m c t r l)

theorem arr6 (c : Dev nD) : (dats m 0 c).arrAt 6 cfg0.N = Cert.HidRefIdeal.Read.val_main_v20 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  obtain ⟨q, r, l, rfl⟩ : ∃ (q : Fin 4) (r : Fin 512) (l : Fin 704), y = ix3 q r l := ⟨y 0, y 1, y 2, eq_ix3 y⟩
  have e : (((cfg0.win 6).blk t).view.emb (ix3 q r l)) = ix3 q (row t r) l := by blk_ext [idx t, row]
  rw [e]
  blk_simp
  exact out6_apply m c t q r l

end Cert.HidIdeal.RefValue

end
-- ==== Proof.Hid.Claims.lean ====
/- The kernel for the gradient of a feed-forward block's hidden layer and the reference end with the same three arrays. -/
module

public import proofs.«01_k».proof.Defs
public import proofs.«01_k».proof.Proof.Hid.Arrays
public import proofs.«01_k».proof.Proof.Gen.HidRefIdeal.Run

@[expose] public section

set_option maxRecDepth 16384

noncomputable section

namespace Cert.Proof.HidClaims

open Idealize.ShloMosaic Idealize.SL.Sem

theorem algebraic : Cert.algebraic_HidIdeal_HidRefIdeal := by
  intro m ρ m' ρ' _ agree
  refine ⟨fun c => Cert.HidRefIdeal.Read.val_main_v14 (F := Ideal) (m ((c.tc : Thread _ _).loc Cert.HidIdeal.main_arg0)),
    fun c => Cert.HidRefIdeal.Read.val_main_v17 (F := Ideal) (m ((c.tc : Thread _ _).loc Cert.HidIdeal.main_arg0)) (m ((c.tc : Thread _ _).loc Cert.HidIdeal.main_arg1)) (m ((c.tc : Thread _ _).loc Cert.HidIdeal.main_arg2)) (m ((c.tc : Thread _ _).loc Cert.HidIdeal.main_arg3)),
    fun c => Cert.HidRefIdeal.Read.val_main_v20 (F := Ideal) (m ((c.tc : Thread _ _).loc Cert.HidIdeal.main_arg0)) (m ((c.tc : Thread _ _).loc Cert.HidIdeal.main_arg1)) (m ((c.tc : Thread _ _).loc Cert.HidIdeal.main_arg3)),
    ?_, ?_⟩
  · refine (θ_run _ _ _).mono (fun r h c => ?_) (Cert.HidIdeal.Value.run_blocks (F := Ideal) m ρ)
    obtain ⟨h0, h1, h2, kept⟩ := h c
    exact ⟨h0.trans (Cert.HidIdeal.RefValue.arr4 m c), h1.trans (Cert.HidIdeal.RefValue.arr5 m c), h2.trans (Cert.HidIdeal.RefValue.arr6 m c), kept⟩
  · refine (θ_run _ _ _).mono (fun r h c => ?_) (Cert.HidRefIdeal.Value.run (F := Ideal) m' ρ')
    obtain ⟨h0, h1, h2, kept⟩ := h c
    obtain ⟨a0, a1, a2, a3⟩ := agree c
    refine ⟨h0.trans ?_, h1.trans ?_, h2.trans ?_, kept⟩
    · simp only [← a0]
      first | exact Cert.HidRefIdeal.Read.val_main_v14_eq (F := Ideal) m' c | rfl
    · simp only [← a0, ← a1, ← a2, ← a3]
      first | exact Cert.HidRefIdeal.Read.val_main_v17_eq (F := Ideal) m' c | rfl
    · simp only [← a0, ← a1, ← a3]
      first | exact Cert.HidRefIdeal.Read.val_main_v20_eq (F := Ideal) m' c | rfl

/-- The reference runs, keeps its arguments, and has no semaphore that could be left raised. -/
theorem frame_ref : Cert.quiescent_HidRefIdeal := fun m ρ _ =>
  (θ_run _ _ _).mono (fun r h => ⟨fun c => by
    obtain ⟨_, _, _, kept⟩ := h c
    exact kept, sem_eq_zero_of_no_sems rfl _⟩) (Cert.HidRefIdeal.Value.run (F := Ideal) m ρ)

theorem preserves : Cert.preserves_Hid_HidIdeal := trivial

end Cert.Proof.HidClaims

end
-- ==== Proof.Wout.Formulas.lean ====
/- The gradient of a feed-forward block's output weights, as a formula at one index. -/
module

public import proofs.«01_k».proof.Proof.Gen.WoutRefIdeal.Read
public import proofs.«01_k».proof.Proof.Common
public import Idealize.ShloMosaic.Lib.Pipeline.ValueKit
public import Idealize.ShloMosaic.Lib.Pointwise

@[expose] public section

set_option maxRecDepth 16384

noncomputable section

namespace Cert.WoutRefIdeal.Formulas

open Cert.WoutRefIdeal Cert.WoutRefIdeal.Read Idealize.ShloMosaic Idealize.ShloMosaic.TcCoe

variable (x0 : (⟨S4x8192x704, .bf16⟩ : BufTy).Contents (Elt Ideal)) (x1 : (⟨S1x8192x1024, .bf16⟩ : BufTy).Contents (Elt Ideal))

/-- What row `r` adds to the weight between column `j` of chunk `q` and column `k`. -/
def gain (q : Fin 4) (j : Fin 704) (k : Fin 1024) (r : Fin 8192) : EReal := x0 (ix3 q r j) * x1 (ix3 0 r k)

theorem val10_apply (q : Fin 4) (j : Fin 704) (k : Fin 1024) :
    val_main_v10 (F := Ideal) x0 x1 (ix3 q j k) = ∑ r : Fin 8192, gain x0 x1 q j k r := by
  generalize e : ∑ r : Fin 8192, gain x0 x1 q j k r = G
  pointwise [val_main_v10, val_main_v9, val_main_v8, val_main_v7, val_main_v4, val_main_v3, val_main_v2, val_main_v1, val_main_v0]
  rw [← e]
  refine Finset.sum_congr rfl fun r _ => (mul_comm _ _).trans ?_
  refine congrArg₂ (· * ·) (congrArg₂ (fun a b => x0 (ix3 a r b)) (Fin.ext ?_) (Fin.ext ?_)) rfl
  all_goals (have := j.isLt; dsimp only; try omega)

end Cert.WoutRefIdeal.Formulas

end
-- ==== Proof.Wout.Arrays.lean ====
/- What the result array of the kernel for the gradient of a feed-forward block's output weights holds after the run: the
   reference's result, at every index. Every chunk of the weights takes two grid points, which each add up half of the rows. -/
module

public import proofs.«01_k».proof.Proof.Gen.WoutIdeal.Value
public import proofs.«01_k».proof.Proof.Wout.Formulas
public import Idealize.ShloMosaic.Lib.Pipeline.ValueKit
public import Idealize.ShloMosaic.Lib.Pointwise
public import Idealize.ShloMosaic.Lib.Claim

@[expose] public section

set_option maxRecDepth 16384

noncomputable section

namespace Cert.WoutIdeal.RefValue

open Cert.WoutIdeal Cert.WoutIdeal.Gen Idealize.ShloMosaic Idealize.ShloMosaic.TcCoe Idealize.SL.Sem
open Idealize.ShloMosaic.Pipeline (Dat)
open Cert.WoutRefIdeal.Formulas

/-- Column `j` of one block against column `k` of another. -/
def colDot (x : Vec Ideal S1x4096x704 .bf16) (y : Vec Ideal S1x4096x1024 .bf16) (j : Fin 704) (k : Fin 1024) : EReal :=
  ∑ p : Fin 4096, x (ix3 0 p j) * y (ix3 0 p k)

theorem pay1_apply (j : Fin 704) (k : Fin 1024) : (k0_pay1 (F := Ideal)) (ix2 j k) = 0 := by
  pointwise [k0_pay1]
theorem pay2_apply (z : Vec Ideal S704x1024 .f32) (x : Vec Ideal S1x4096x704 .bf16) (y : Vec Ideal S1x4096x1024 .bf16)
    (j : Fin 704) (k : Fin 1024) : k0_pay2 z x y (ix2 j k) = z (ix2 j k) + colDot x y j k := by
  pointwise [k0_pay2, colDot]
theorem pay3_apply (z : Vec Ideal S704x1024 .f32) (j : Fin 704) (k : Fin 1024) : k0_pay3 z (ix3 0 j k) = z (ix2 j k) := by
  pointwise [k0_pay3]

variable (m : (ℓ : Loc nD τ sig) → Buf (Elt Ideal) ℓ)

/-- The block each window holds at grid point `t`. -/
theorem idx : ∀ t : Fin grid0.N, win0_0.index t = ![t.val / 2, t.val % 2, 0] ∧ win0_1.index t = ![0, t.val % 2, 0]
    ∧ win0_2.index t = ![t.val / 2, 0, 0] := by
  decide +kernel

/-- The chunk which grid point `t` works on, and row `p` of its half of the rows. -/
def chunk (t : Fin cfg0.N) : Fin 4 := ⟨t.val / 2, by have := t.isLt; have h : cfg0.N = 8 := N_0; omega⟩
def row (t : Fin cfg0.N) (p : Fin 4096) : Fin 8192 := ⟨4096 * (t.val % 2) + p.val, by omega⟩

theorem blk0 (c : Dev nD) (t : Fin cfg0.N) (p : Fin 4096) (j : Fin 704) :
    (iblk m c 0 t : Vec Ideal S1x4096x704 .bf16) (ix3 0 p j) = (m ((c : Thread nD τ).loc main_arg0)) (ix3 (chunk t) (row t p) j) := by
  blk_ext [iblk, V, idx t, row, chunk]
theorem blk1 (c : Dev nD) (t : Fin cfg0.N) (p : Fin 4096) (k : Fin 1024) :
    (iblk m c 1 t : Vec Ideal S1x4096x1024 .bf16) (ix3 0 p k) = (m ((c : Thread nD τ).loc main_arg1)) (ix3 0 (row t p) k) := by
  blk_ext [iblk, V, idx t, row, chunk]

theorem dot_block (c : Dev nD) (t : Fin cfg0.N) (j : Fin 704) (k : Fin 1024) :
    colDot (iblk m c 0 t) (iblk m c 1 t) j k = ∑ p : Fin 4096, gain (m ((c : Thread nD τ).loc main_arg0)) (m ((c : Thread nD τ).loc main_arg1)) (chunk t) j k (row t p) := by
  rw [colDot]
  simp only [blk0, blk1, gain]

theorem first_half (c : Dev nD) (t : Fin cfg0.N) (h0 : t.val % 2 = 0) (j : Fin 704) (k : Fin 1024) :
    ((outsAt0 m c t.val t.isLt).2 : Vec Ideal S704x1024 .f32) (ix2 j k)
      = ∑ p : Fin 4096, gain (m ((c : Thread nD τ).loc main_arg0)) (m ((c : Thread nD τ).loc main_arg1)) (chunk t) j k (row t p) := by
  rw [outsAt0_A m c t h0 (by omega)]
  frame_out
  exact (pay2_apply _ _ _ j k).trans ((congrArg (· + _) (pay1_apply j k)).trans ((zero_add _).trans (dot_block m c t j k)))

theorem out2_apply (c : Dev nD) (t : Fin cfg0.N) (h1 : t.val % 2 = 1) (j : Fin 704) (k : Fin 1024) :
    ((outsAt0 m c t.val t.isLt).1 : Vec Ideal S1x704x1024 .bf16) (ix3 0 j k)
      = ∑ r : Fin 8192, gain (m ((c : Thread nD τ).loc main_arg0)) (m ((c : Thread nD τ).loc main_arg1)) (chunk t) j k r := by
  have hN : cfg0.N = 8 := N_0
  have hp : t.val - 1 < cfg0.N := by have := t.isLt; omega
  have e := first_half m c ⟨t.val - 1, hp⟩ (by dsimp only; try omega) j k
  have ec : chunk ⟨t.val - 1, hp⟩ = chunk t := Fin.ext (by show (t.val - 1) / 2 = t.val / 2; omega)
  have e0 (p : Fin 4096) : row ⟨t.val - 1, hp⟩ p = ⟨4096 * (0 : Fin 2).val + p.val, by have : (0 : Fin 2).val = 0 := rfl; omega⟩ :=
    Fin.ext (by show 4096 * ((t.val - 1) % 2) + p.val = 4096 * (0 : Fin 2).val + p.val; have : (0 : Fin 2).val = 0 := rfl; omega)
  have e1 (p : Fin 4096) : row t p = ⟨4096 * (1 : Fin 2).val + p.val, by have : (1 : Fin 2).val = 1 := rfl; omega⟩ :=
    Fin.ext (by show 4096 * (t.val % 2) + p.val = 4096 * (1 : Fin 2).val + p.val; have : (1 : Fin 2).val = 1 := rfl; omega)
  rw [outsAt0_B m c t (by omega) h1]
  frame_out
  rw [(Memref.isWhole_whole cc0_scratch0).read_unread]
  refine (pay3_apply _ j k).trans ((pay2_apply _ _ _ j k).trans ?_)
  refine (congrArg₂ (· + ·) e (dot_block m c t j k)).trans ?_
  rw [ec]
  simp only [e0, e1]
  refine Eq.trans ?_ (Cert.Common.sum_blocks 2 4096 8192 rfl fun r => gain (m ((c : Thread nD τ).loc main_arg0)) (m ((c : Thread nD τ).loc main_arg1)) (chunk t) j k r)
  rw [Fin.sum_univ_two]

theorem arr2 (c : Dev nD) : (dats m 0 c).arrAt 2 cfg0.N = Cert.WoutRefIdeal.Read.val_main_v10 (F := Ideal) (m ((c : Thread nD τ).loc main_arg0)) (m ((c : Thread nD τ).loc main_arg1)) := by
  refine (dats m 0 c).arrAt_eq_of_covers 2 _ (by decide +kernel) fun t hf y => ?_
  obtain ⟨a, j, k, rfl⟩ : ∃ (a : Fin 1) (j : Fin 704) (k : Fin 1024), y = ix3 a j k := ⟨y 0, y 1, y 2, eq_ix3 y⟩
  obtain rfl : a = 0 := Subsingleton.elim _ _
  have e : (((cfg0.win 2).blk t).view.emb (ix3 0 j k)) = ix3 (chunk t) j k := by blk_ext [idx t, chunk]
  rw [e, val10_apply]
  blk_simp
  rw [after0_2]
  exact out2_apply m c t ((flush0_2 t).mp hf) j k

end Cert.WoutIdeal.RefValue

end
-- ==== Proof.Wout.Claims.lean ====
/- The kernel for the gradient of a feed-forward block's output weights and the reference end with the same array. -/
module

public import proofs.«01_k».proof.Defs
public import proofs.«01_k».proof.Proof.Wout.Arrays
public import proofs.«01_k».proof.Proof.Gen.WoutRefIdeal.Run

@[expose] public section

set_option maxRecDepth 16384

noncomputable section

namespace Cert.Proof.WoutClaims

open Idealize.ShloMosaic Idealize.SL.Sem

theorem algebraic : Cert.algebraic_WoutIdeal_WoutRefIdeal := by
  intro m ρ m' ρ' _ agree
  refine ⟨fun c => Cert.WoutRefIdeal.Read.val_main_v10 (F := Ideal) (m ((c.tc : Thread _ _).loc Cert.WoutIdeal.main_arg0)) (m ((c.tc : Thread _ _).loc Cert.WoutIdeal.main_arg1)),
    ?_, ?_⟩
  · refine (θ_run _ _ _).mono (fun r h c => ?_) (Cert.WoutIdeal.Value.run_blocks (F := Ideal) m ρ)
    obtain ⟨h0, kept⟩ := h c
    exact ⟨h0.trans (Cert.WoutIdeal.RefValue.arr2 m c), kept⟩
  · refine (θ_run _ _ _).mono (fun r h c => ?_) (Cert.WoutRefIdeal.Value.run (F := Ideal) m' ρ')
    obtain ⟨h0, kept⟩ := h c
    obtain ⟨a0, a1⟩ := agree c
    refine ⟨h0.trans ?_, kept⟩
    · simp only [← a0, ← a1]
      first | exact Cert.WoutRefIdeal.Read.val_main_v10_eq (F := Ideal) m' c | rfl

/-- The reference runs, keeps its arguments, and has no semaphore that could be left raised. -/
theorem frame_ref : Cert.quiescent_WoutRefIdeal := fun m ρ _ =>
  (θ_run _ _ _).mono (fun r h => ⟨fun c => by
    obtain ⟨_, kept⟩ := h c
    exact kept, sem_eq_zero_of_no_sems rfl _⟩) (Cert.WoutRefIdeal.Value.run (F := Ideal) m ρ)

theorem preserves : Cert.preserves_Wout_WoutIdeal := trivial

end Cert.Proof.WoutClaims

end
-- ==== Proof.Win.Formulas.lean ====
/- The gradient of a feed-forward block's input weights, as formulas at one index: the gate's half and the other half. -/
module

public import proofs.«01_k».proof.Proof.Gen.WinRefIdeal.Read
public import proofs.«01_k».proof.Proof.Common
public import Idealize.ShloMosaic.Lib.Pipeline.ValueKit
public import Idealize.ShloMosaic.Lib.Pointwise

@[expose] public section

set_option maxRecDepth 16384

noncomputable section

namespace Cert.WinRefIdeal.Formulas

open Cert.WinRefIdeal Cert.WinRefIdeal.Read Idealize.ShloMosaic Idealize.ShloMosaic.TcCoe

/-- What row `r` adds to the weight between column `k` of the input and column `j` of chunk `q` of one half. -/
def gain (x : (⟨S8192x1024, .bf16⟩ : BufTy).Contents (Elt Ideal)) (d : (⟨S4x8192x704, .bf16⟩ : BufTy).Contents (Elt Ideal))
    (q : Fin 4) (j : Fin 704) (k : Fin 1024) (r : Fin 8192) : EReal := d (ix3 q r j) * x (ix2 r k)

variable (x0 : (⟨S8192x1024, .bf16⟩ : BufTy).Contents (Elt Ideal)) (x1 : (⟨S4x8192x704, .bf16⟩ : BufTy).Contents (Elt Ideal)) (x2 : (⟨S4x8192x704, .bf16⟩ : BufTy).Contents (Elt Ideal))

theorem val14_gate (q : Fin 4) (j : Fin 704) (k : Fin 1024) :
    val_main_v14 (F := Ideal) x0 x1 x2 (ix3 ⟨q.val, by omega⟩ j k) = ∑ r : Fin 8192, gain x0 x1 q j k r := by
  generalize e : ∑ r : Fin 8192, gain x0 x1 q j k r = G
  pointwise [val_main_v14, val_main_v13, val_main_v12, val_main_v11, val_main_v10, val_main_v7, val_main_v6, val_main_v5, val_main_v4, val_main_v3, val_main_v2, val_main_v1, val_main_v0]
  rw [← e]
  refine Finset.sum_congr rfl fun r _ => ?_
  rw [dif_pos (show q.val * 704 + j.val < 2816 by omega)]
  refine congrArg₂ (· * ·) (congrArg₂ (fun a b => x1 (ix3 a r b)) (Fin.ext ?_) (Fin.ext ?_)) rfl
  all_goals (have := j.isLt; dsimp only; try omega)

theorem val14_up (q : Fin 4) (j : Fin 704) (k : Fin 1024) :
    val_main_v14 (F := Ideal) x0 x1 x2 (ix3 ⟨4 + q.val, by omega⟩ j k) = ∑ r : Fin 8192, gain x0 x2 q j k r := by
  generalize e : ∑ r : Fin 8192, gain x0 x2 q j k r = G
  pointwise [val_main_v14, val_main_v13, val_main_v12, val_main_v11, val_main_v10, val_main_v7, val_main_v6, val_main_v5, val_main_v4, val_main_v3, val_main_v2, val_main_v1, val_main_v0]
  rw [← e]
  refine Finset.sum_congr rfl fun r _ => ?_
  rw [dif_neg (show ¬ ((4 + q.val) * 704 + j.val < 2816) by omega)]
  refine congrArg₂ (· * ·) (congrArg₂ (fun a b => x2 (ix3 a r b)) (Fin.ext ?_) (Fin.ext ?_)) rfl
  all_goals (have := j.isLt; dsimp only; try omega)

end Cert.WinRefIdeal.Formulas

end
-- ==== Proof.Win.Arrays.lean ====
/- What the result array of the kernel for the gradient of a feed-forward block's input weights holds after the run: the
   reference's result, at every index. Every chunk of the weights takes two grid points, which each add up half of the rows;
   the first eight points work on the gate's half of the weights, the last eight on the other half. -/
module

public import proofs.«01_k».proof.Proof.Gen.WinIdeal.Frame
public import proofs.«01_k».proof.Proof.Win.Formulas
public import Idealize.ShloMosaic.Lib.Pipeline.ValueKit
public import Idealize.ShloMosaic.Lib.Pointwise
public import Idealize.ShloMosaic.Lib.Claim

@[expose] public section

set_option maxRecDepth 16384

noncomputable section

namespace Cert.WinIdeal.RefValue

open Cert.WinIdeal Cert.WinIdeal.Gen Idealize.ShloMosaic Idealize.ShloMosaic.TcCoe Idealize.SL.Sem
open Idealize.ShloMosaic.Pipeline (Dat)
open Cert.WinRefIdeal.Formulas

/-- Column `j` of one block against column `k` of another. -/
def colDot (x : Vec Ideal S1x4096x704 .bf16) (y : Vec Ideal S4096x1024 .bf16) (j : Fin 704) (k : Fin 1024) : EReal :=
  ∑ p : Fin 4096, x (ix3 0 p j) * y (ix2 p k)

theorem pay1_apply (j : Fin 704) (k : Fin 1024) : (k0_pay1 (F := Ideal)) (ix2 j k) = 0 := by
  pointwise [k0_pay1]
theorem pay2_apply (z : Vec Ideal S704x1024 .f32) (x : Vec Ideal S1x4096x704 .bf16) (y : Vec Ideal S4096x1024 .bf16)
    (j : Fin 704) (k : Fin 1024) : k0_pay2 z x y (ix2 j k) = z (ix2 j k) + colDot x y j k := by
  pointwise [k0_pay2, colDot]
theorem pay3_apply (z : Vec Ideal S704x1024 .f32) (x : Vec Ideal S1x4096x704 .bf16) (y : Vec Ideal S4096x1024 .bf16)
    (j : Fin 704) (k : Fin 1024) : k0_pay3 z x y (ix2 j k) = z (ix2 j k) + colDot x y j k := by
  pointwise [k0_pay3, colDot]
theorem pay4_apply (z : Vec Ideal S704x1024 .f32) (j : Fin 704) (k : Fin 1024) : k0_pay4 z (ix3 0 j k) = z (ix2 j k) := by
  pointwise [k0_pay4]

variable (m : (ℓ : Loc nD τ sig) → Buf (Elt Ideal) ℓ)

/-- The block each window holds at grid point `t`. -/
theorem idx : ∀ t : Fin grid0.N, win0_0.index t = ![t.val % 2, 0] ∧ win0_3.index t = ![t.val / 2, 0, 0]
    ∧ (t.val < 8 → win0_1.index t = ![t.val / 2, t.val % 2, 0]) ∧ (8 ≤ t.val → win0_2.index t = ![t.val / 2 - 4, t.val % 2, 0]) := by
  decide +kernel

/-- The chunk of its half which grid point `t` works on, and row `p` of its half of the rows. -/
def chunk (t : Fin cfg0.N) : Fin 4 := ⟨t.val / 2 % 4, by omega⟩
def row (t : Fin cfg0.N) (p : Fin 4096) : Fin 8192 := ⟨4096 * (t.val % 2) + p.val, by omega⟩

theorem blk0 (c : Dev nD) (t : Fin cfg0.N) (p : Fin 4096) (k : Fin 1024) :
    (iblk m c 0 t : Vec Ideal S4096x1024 .bf16) (ix2 p k) = (m ((c : Thread nD τ).loc main_arg0)) (ix2 (row t p) k) := by
  blk_ext [iblk, V, (idx t).1, row]

/-! The gate's half. -/

theorem blk1 (c : Dev nD) (t : Fin cfg0.N) (ht : t.val < 8) (p : Fin 4096) (j : Fin 704) :
    (iblk m c 1 t : Vec Ideal S1x4096x704 .bf16) (ix3 0 p j) = (m ((c : Thread nD τ).loc main_arg1)) (ix3 (chunk t) (row t p) j) := by
  have e := (idx t).2.2.1 ht
  have hN : t.val < 16 := lt_of_lt_of_eq t.isLt N_0
  have ec : (chunk t).val = t.val / 2 := by show t.val / 2 % 4 = t.val / 2; omega
  blk_ext [iblk, V, e, row, ec]

theorem dot_block1 (c : Dev nD) (t : Fin cfg0.N) (ht : t.val < 8) (j : Fin 704) (k : Fin 1024) :
    colDot (iblk m c 1 t) (iblk m c 0 t) j k = ∑ p : Fin 4096, gain (m ((c : Thread nD τ).loc main_arg0)) (m ((c : Thread nD τ).loc main_arg1)) (chunk t) j k (row t p) := by
  rw [colDot]
  simp only [blk0, blk1 m c t ht, gain]

theorem first_half1 (c : Dev nD) (t : Fin cfg0.N) (ht : t.val < 8) (h0 : t.val % 2 = 0) (j : Fin 704) (k : Fin 1024) :
    ((outsAt0 m c t.val t.isLt).2 : Vec Ideal S704x1024 .f32) (ix2 j k)
      = ∑ p : Fin 4096, gain (m ((c : Thread nD τ).loc main_arg0)) (m ((c : Thread nD τ).loc main_arg1)) (chunk t) j k (row t p) := by
  rw [outsAt0_A m c t h0 (by omega) (by omega) (by omega)]
  frame_out
  exact (pay2_apply _ _ _ j k).trans ((congrArg (· + _) (pay1_apply j k)).trans ((zero_add _).trans (dot_block1 m c t ht j k)))

theorem out3_half1 (c : Dev nD) (t : Fin cfg0.N) (ht : t.val < 8) (h1 : t.val % 2 = 1) (j : Fin 704) (k : Fin 1024) :
    ((outsAt0 m c t.val t.isLt).1 : Vec Ideal S1x704x1024 .bf16) (ix3 0 j k)
      = ∑ r : Fin 8192, gain (m ((c : Thread nD τ).loc main_arg0)) (m ((c : Thread nD τ).loc main_arg1)) (chunk t) j k r := by
  have hN : cfg0.N = 16 := N_0
  have hp : t.val - 1 < cfg0.N := by have := t.isLt; omega
  have e := first_half1 m c ⟨t.val - 1, hp⟩ (by dsimp only; omega) (by dsimp only; omega) j k
  have ec : chunk ⟨t.val - 1, hp⟩ = chunk t := Fin.ext (by show (t.val - 1) / 2 % 4 = t.val / 2 % 4; omega)
  have e0 (p : Fin 4096) : row ⟨t.val - 1, hp⟩ p = ⟨4096 * (0 : Fin 2).val + p.val, by have : (0 : Fin 2).val = 0 := rfl; omega⟩ :=
    Fin.ext (by show 4096 * ((t.val - 1) % 2) + p.val = 4096 * (0 : Fin 2).val + p.val; have : (0 : Fin 2).val = 0 := rfl; omega)
  have e1 (p : Fin 4096) : row t p = ⟨4096 * (1 : Fin 2).val + p.val, by have : (1 : Fin 2).val = 1 := rfl; omega⟩ :=
    Fin.ext (by show 4096 * (t.val % 2) + p.val = 4096 * (1 : Fin 2).val + p.val; have : (1 : Fin 2).val = 1 := rfl; omega)
  rw [outsAt0_B m c t (by omega) (by omega) (by omega) h1]
  frame_out
  rw [(Memref.isWhole_whole cc0_scratch0).read_unread]
  refine (pay4_apply _ j k).trans ((pay2_apply _ _ _ j k).trans ?_)
  refine (congrArg₂ (· + ·) e (dot_block1 m c t ht j k)).trans ?_
  rw [ec]
  simp only [e0, e1]
  refine Eq.trans ?_ (Cert.Common.sum_blocks 2 4096 8192 rfl fun r => gain (m ((c : Thread nD τ).loc main_arg0)) (m ((c : Thread nD τ).loc main_arg1)) (chunk t) j k r)
  rw [Fin.sum_univ_two]

/-! The other half. -/

theorem blk2 (c : Dev nD) (t : Fin cfg0.N) (ht : 8 ≤ t.val) (p : Fin 4096) (j : Fin 704) :
    (iblk m c 2 t : Vec Ideal S1x4096x704 .bf16) (ix3 0 p j) = (m ((c : Thread nD τ).loc main_arg2)) (ix3 (chunk t) (row t p) j) := by
  have e := (idx t).2.2.2 ht
  have hN : t.val < 16 := lt_of_lt_of_eq t.isLt N_0
  have ec : (chunk t).val = t.val / 2 - 4 := by show t.val / 2 % 4 = t.val / 2 - 4; omega
  blk_ext [iblk, V, e, row, ec]

theorem dot_block2 (c : Dev nD) (t : Fin cfg0.N) (ht : 8 ≤ t.val) (j : Fin 704) (k : Fin 1024) :
    colDot (iblk m c 2 t) (iblk m c 0 t) j k = ∑ p : Fin 4096, gain (m ((c : Thread nD τ).loc main_arg0)) (m ((c : Thread nD τ).loc main_arg2)) (chunk t) j k (row t p) := by
  rw [colDot]
  simp only [blk0, blk2 m c t ht, gain]

theorem first_half2 (c : Dev nD) (t : Fin cfg0.N) (ht : 8 ≤ t.val) (h0 : t.val % 2 = 0) (j : Fin 704) (k : Fin 1024) :
    ((outsAt0 m c t.val t.isLt).2 : Vec Ideal S704x1024 .f32) (ix2 j k)
      = ∑ p : Fin 4096, gain (m ((c : Thread nD τ).loc main_arg0)) (m ((c : Thread nD τ).loc main_arg2)) (chunk t) j k (row t p) := by
  rw [outsAt0_C m c t h0 (by omega) (by omega) (by omega)]
  frame_out
  exact (pay3_apply _ _ _ j k).trans ((congrArg (· + _) (pay1_apply j k)).trans ((zero_add _).trans (dot_block2 m c t ht j k)))

theorem out3_half2 (c : Dev nD) (t : Fin cfg0.N) (ht : 8 ≤ t.val) (h1 : t.val % 2 = 1) (j : Fin 704) (k : Fin 1024) :
    ((outsAt0 m c t.val t.isLt).1 : Vec Ideal S1x704x1024 .bf16) (ix3 0 j k)
      = ∑ r : Fin 8192, gain (m ((c : Thread nD τ).loc main_arg0)) (m ((c : Thread nD τ).loc main_arg2)) (chunk t) j k r := by
  have hN : cfg0.N = 16 := N_0
  have hp : t.val - 1 < cfg0.N := by have := t.isLt; omega
  have e := first_half2 m c ⟨t.val - 1, hp⟩ (by dsimp only; omega) (by dsimp only; omega) j k
  have ec : chunk ⟨t.val - 1, hp⟩ = chunk t := Fin.ext (by show (t.val - 1) / 2 % 4 = t.val / 2 % 4; omega)
  have e0 (p : Fin 4096) : row ⟨t.val - 1, hp⟩ p = ⟨4096 * (0 : Fin 2).val + p.val, by have : (0 : Fin 2).val = 0 := rfl; omega⟩ :=
    Fin.ext (by show 4096 * ((t.val - 1) % 2) + p.val = 4096 * (0 : Fin 2).val + p.val; have : (0 : Fin 2).val = 0 := rfl; omega)
  have e1 (p : Fin 4096) : row t p = ⟨4096 * (1 : Fin 2).val + p.val, by have : (1 : Fin 2).val = 1 := rfl; omega⟩ :=
    Fin.ext (by show 4096 * (t.val % 2) + p.val = 4096 * (1 : Fin 2).val + p.val; have : (1 : Fin 2).val = 1 := rfl; omega)
  rw [outsAt0_D m c t (by omega) (by omega) (by omega) h1]
  frame_out
  rw [(Memref.isWhole_whole cc0_scratch0).read_unread]
  refine (pay4_apply _ j k).trans ((pay3_apply _ _ _ j k).trans ?_)
  refine (congrArg₂ (· + ·) e (dot_block2 m c t ht j k)).trans ?_
  rw [ec]
  simp only [e0, e1]
  refine Eq.trans ?_ (Cert.Common.sum_blocks 2 4096 8192 rfl fun r => gain (m ((c : Thread nD τ).loc main_arg0)) (m ((c : Thread nD τ).loc main_arg2)) (chunk t) j k r)
  rw [Fin.sum_univ_two]

theorem arr3 (c : Dev nD) : (dats m 0 c).arrAt 3 cfg0.N = Cert.WinRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨a, j, k, rfl⟩ : ∃ (a : Fin 1) (j : Fin 704) (k : Fin 1024), y = ix3 a j k := ⟨y 0, y 1, y 2, eq_ix3 y⟩
  obtain rfl : a = 0 := Subsingleton.elim _ _
  have h1 := (flush0_3 t).mp hf
  have hN : t.val < 16 := lt_of_lt_of_eq t.isLt N_0
  rcases Nat.lt_or_ge t.val 8 with ht | ht
  · have e : (((cfg0.win 3).blk t).view.emb (ix3 0 j k)) = ix3 ⟨(chunk t).val, by omega⟩ j k := by
      have ec : (chunk t).val = t.val / 2 := by show t.val / 2 % 4 = t.val / 2; omega
      blk_ext [(idx t).2.1, ec]
    rw [e, val14_gate]
    blk_simp
    rw [after0_3]
    exact out3_half1 m c t ht h1 j k
  · have e : (((cfg0.win 3).blk t).view.emb (ix3 0 j k)) = ix3 ⟨4 + (chunk t).val, by omega⟩ j k := by
      have ec : 4 + (chunk t).val = t.val / 2 := by show 4 + t.val / 2 % 4 = t.val / 2; omega
      blk_ext [(idx t).2.1, ec]
    rw [e, val14_up]
    blk_simp
    rw [after0_3]
    exact out3_half2 m c t ht h1 j k

/-- After the run the output arrays hold what the write-backs left, and the arguments are as they were. -/
theorem run_blocks (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.WinIdeal.RefValue

end
-- ==== Proof.Win.Claims.lean ====
/- The kernel for the gradient of a feed-forward block's input weights and the reference end with the same array. -/
module

public import proofs.«01_k».proof.Defs
public import proofs.«01_k».proof.Proof.Win.Arrays
public import proofs.«01_k».proof.Proof.Gen.WinRefIdeal.Run

@[expose] public section

set_option maxRecDepth 16384

noncomputable section

namespace Cert.Proof.WinClaims

open Idealize.ShloMosaic Idealize.SL.Sem

theorem algebraic : Cert.algebraic_WinIdeal_WinRefIdeal := by
  intro m ρ m' ρ' _ agree
  refine ⟨fun c => Cert.WinRefIdeal.Read.val_main_v14 (F := Ideal) (m ((c.tc : Thread _ _).loc Cert.WinIdeal.main_arg0)) (m ((c.tc : Thread _ _).loc Cert.WinIdeal.main_arg1)) (m ((c.tc : Thread _ _).loc Cert.WinIdeal.main_arg2)),
    ?_, ?_⟩
  · refine (θ_run _ _ _).mono (fun r h c => ?_) (Cert.WinIdeal.RefValue.run_blocks m ρ)
    obtain ⟨h0, kept⟩ := h c
    exact ⟨h0.trans (Cert.WinIdeal.RefValue.arr3 m c), kept⟩
  · refine (θ_run _ _ _).mono (fun r h c => ?_) (Cert.WinRefIdeal.Value.run (F := Ideal) m' ρ')
    obtain ⟨h0, kept⟩ := h c
    obtain ⟨a0, a1, a2⟩ := agree c
    refine ⟨h0.trans ?_, kept⟩
    · simp only [← a0, ← a1, ← a2]
      first | exact Cert.WinRefIdeal.Read.val_main_v14_eq (F := Ideal) m' c | rfl

/-- The reference runs, keeps its arguments, and has no semaphore that could be left raised. -/
theorem frame_ref : Cert.quiescent_WinRefIdeal := fun m ρ _ =>
  (θ_run _ _ _).mono (fun r h => ⟨fun c => by
    obtain ⟨_, kept⟩ := h c
    exact kept, sem_eq_zero_of_no_sems rfl _⟩) (Cert.WinRefIdeal.Value.run (F := Ideal) m ρ)

theorem preserves : Cert.preserves_Win_WinIdeal := trivial

end Cert.Proof.WinClaims

end
-- ==== Proof.Wmix.Formulas.lean ====
/- The gradient of four of the eight matrices of the mixers' common input projection, as formulas at one index. -/
module

public import proofs.«01_k».proof.Proof.Gen.WmixRefIdeal.Read
public import proofs.«01_k».proof.Proof.Common
public import Idealize.ShloMosaic.Lib.Pipeline.ValueKit
public import Idealize.ShloMosaic.Lib.Pointwise

@[expose] public section

set_option maxRecDepth 16384

noncomputable section

namespace Cert.WmixRefIdeal.Formulas

open Cert.WmixRefIdeal Cert.WmixRefIdeal.Read Idealize.ShloMosaic Idealize.ShloMosaic.TcCoe

/-- What row `r` adds to the weight between column `j` of the input and column `k` of the product with gradient `d`. -/
def gain (x d : (⟨S8192x1024, .bf16⟩ : BufTy).Contents (Elt Ideal)) (j k : Fin 1024) (r : Fin 8192) : EReal :=
  d (ix2 r k) * x (ix2 r j)

variable (x0 : (⟨S8192x1024, .bf16⟩ : BufTy).Contents (Elt Ideal)) (x1 : (⟨S8192x1024, .bf16⟩ : BufTy).Contents (Elt Ideal)) (x2 : (⟨S8192x1024, .bf16⟩ : BufTy).Contents (Elt Ideal)) (x3 : (⟨S8192x1024, .bf16⟩ : BufTy).Contents (Elt Ideal)) (x4 : (⟨S8192x1024, .bf16⟩ : BufTy).Contents (Elt Ideal))

theorem val12_0 (j k : Fin 1024) :
    val_main_v12 (F := Ideal) x0 x1 x2 x3 x4 (ix3 0 j k) = ∑ r : Fin 8192, gain x0 x1 j k r := by
  generalize e : ∑ r : Fin 8192, gain x0 x1 j k r = G
  pointwise [val_main_v12, val_main_v11, val_main_v10, val_main_v9, val_main_v8, val_main_v7, val_main_v6, val_main_v5, val_main_v4, val_main_v3, val_main_v2, val_main_v1, val_main_v0]
  rw [← e]
  refine Finset.sum_congr rfl fun r _ => ?_
  rfl

theorem val12_1 (j k : Fin 1024) :
    val_main_v12 (F := Ideal) x0 x1 x2 x3 x4 (ix3 1 j k) = ∑ r : Fin 8192, gain x0 x2 j k r := by
  generalize e : ∑ r : Fin 8192, gain x0 x2 j k r = G
  pointwise [val_main_v12, val_main_v11, val_main_v10, val_main_v9, val_main_v8, val_main_v7, val_main_v6, val_main_v5, val_main_v4, val_main_v3, val_main_v2, val_main_v1, val_main_v0]
  rw [← e]
  refine Finset.sum_congr rfl fun r _ => ?_
  rfl

theorem val12_2 (j k : Fin 1024) :
    val_main_v12 (F := Ideal) x0 x1 x2 x3 x4 (ix3 2 j k) = ∑ r : Fin 8192, gain x0 x3 j k r := by
  generalize e : ∑ r : Fin 8192, gain x0 x3 j k r = G
  pointwise [val_main_v12, val_main_v11, val_main_v10, val_main_v9, val_main_v8, val_main_v7, val_main_v6, val_main_v5, val_main_v4, val_main_v3, val_main_v2, val_main_v1, val_main_v0]
  rw [← e]
  refine Finset.sum_congr rfl fun r _ => ?_
  rw [dif_neg (show ¬ (2048 + k.val < 1024) by omega), dif_neg (show ¬ (2048 + k.val - 1024 < 1024) by omega), dif_pos (show 2048 + k.val - 1024 - 1024 < 1024 by omega)]
  exact congrArg (· * _) (congrArg (fun a => x3 (ix2 r a)) (Fin.ext (by dsimp only; omega)))

theorem val12_3 (j k : Fin 1024) :
    val_main_v12 (F := Ideal) x0 x1 x2 x3 x4 (ix3 3 j k) = ∑ r : Fin 8192, gain x0 x4 j k r := by
  generalize e : ∑ r : Fin 8192, gain x0 x4 j k r = G
  pointwise [val_main_v12, val_main_v11, val_main_v10, val_main_v9, val_main_v8, val_main_v7, val_main_v6, val_main_v5, val_main_v4, val_main_v3, val_main_v2, val_main_v1, val_main_v0]
  rw [← e]
  refine Finset.sum_congr rfl fun r _ => ?_
  rw [dif_neg (show ¬ (3072 + k.val < 1024) by omega), dif_neg (show ¬ (3072 + k.val - 1024 < 1024) by omega), dif_neg (show ¬ (3072 + k.val - 1024 - 1024 < 1024) by omega)]
  exact congrArg (· * _) (congrArg (fun a => x4 (ix2 r a)) (Fin.ext (by dsimp only; omega)))

theorem val12_apply (g : Fin 4) (j k : Fin 1024) :
    val_main_v12 (F := Ideal) x0 x1 x2 x3 x4 (ix3 g j k) = ∑ r : Fin 8192, gain x0 (![x1, x2, x3, x4] g) j k r := by
  fin_cases g
  · exact val12_0 x0 x1 x2 x3 x4 j k
  · exact val12_1 x0 x1 x2 x3 x4 j k
  · exact val12_2 x0 x1 x2 x3 x4 j k
  · exact val12_3 x0 x1 x2 x3 x4 j k

theorem val13_apply (g : Fin 4) (j : Fin 512) (k : Fin 1024) :
    val_main_v13 (F := Ideal) x0 x1 x2 x3 x4 (ix3 g j k) = val_main_v12 (F := Ideal) x0 x1 x2 x3 x4 (ix3 g ⟨j.val, by omega⟩ k) := by
  pointwise [val_main_v13]

theorem val14_apply (g : Fin 4) (j : Fin 512) (k : Fin 1024) :
    val_main_v14 (F := Ideal) x0 x1 x2 x3 x4 (ix3 g j k) = val_main_v12 (F := Ideal) x0 x1 x2 x3 x4 (ix3 g ⟨512 + j.val, by omega⟩ k) := by
  pointwise [val_main_v14]

end Cert.WmixRefIdeal.Formulas

end
-- ==== Proof.Wmix.Arrays.lean ====
/- What the two result arrays of the kernel for the gradient of four matrices of the mixers' common input projection hold
   after the run: the reference's results, at every index. Every matrix takes four grid points, each of which adds up a
   quarter of the rows; the last writes its upper and its lower half to the two arrays. -/
module

public import proofs.«01_k».proof.Proof.Gen.WmixIdeal.Frame
public import proofs.«01_k».proof.Proof.Wmix.Formulas
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WmixIdeal.RefValue

open Cert.WmixIdeal Cert.WmixIdeal.Gen Idealize.ShloMosaic Idealize.ShloMosaic.TcCoe Idealize.SL.Sem
open Idealize.ShloMosaic.Pipeline (Dat)
open Cert.WmixRefIdeal.Formulas

/-- Column `j` of one block against column `k` of another. -/
def colDot (x : Vec Ideal S2048x1024 .bf16) (y : Vec Ideal S1x2048x1024 .bf16) (j k : Fin 1024) : EReal :=
  ∑ p : Fin 2048, y (ix3 0 p k) * x (ix2 p j)

theorem pay1_apply (j k : Fin 1024) : (k0_pay1 (F := Ideal)) (ix2 j k) = 0 := by
  pointwise [k0_pay1]
theorem pay2_apply (z : Vec Ideal S1024x1024 .f32) (x : Vec Ideal S2048x1024 .bf16) (y : Vec Ideal S1x2048x1024 .bf16)
    (j k : Fin 1024) : k0_pay2 z x y (ix2 j k) = z (ix2 j k) + colDot x y j k := by
  have e : colDot x y j k = ∑ p : Fin 2048, x (ix2 p j) * y (ix3 0 p k) := Finset.sum_congr rfl fun p _ => mul_comm _ _
  rw [e]
  pointwise [k0_pay2]
theorem pay3_apply (z : Vec Ideal S1024x1024 .f32) (x : Vec Ideal S2048x1024 .bf16) (y : Vec Ideal S1x2048x1024 .bf16)
    (j k : Fin 1024) : k0_pay3 z x y (ix2 j k) = z (ix2 j k) + colDot x y j k := by
  have e : colDot x y j k = ∑ p : Fin 2048, x (ix2 p j) * y (ix3 0 p k) := Finset.sum_congr rfl fun p _ => mul_comm _ _
  rw [e]
  pointwise [k0_pay3]
theorem pay4_apply (z : Vec Ideal S1024x1024 .f32) (x : Vec Ideal S2048x1024 .bf16) (y : Vec Ideal S1x2048x1024 .bf16)
    (j k : Fin 1024) : k0_pay4 z x y (ix2 j k) = z (ix2 j k) + colDot x y j k := by
  have e : colDot x y j k = ∑ p : Fin 2048, x (ix2 p j) * y (ix3 0 p k) := Finset.sum_congr rfl fun p _ => mul_comm _ _
  rw [e]
  pointwise [k0_pay4]
theorem pay5_apply (z : Vec Ideal S1024x1024 .f32) (x : Vec Ideal S2048x1024 .bf16) (y : Vec Ideal S1x2048x1024 .bf16)
    (j k : Fin 1024) : k0_pay5 z x y (ix2 j k) = z (ix2 j k) + colDot x y j k := by
  have e : colDot x y j k = ∑ p : Fin 2048, x (ix2 p j) * y (ix3 0 p k) := Finset.sum_congr rfl fun p _ => mul_comm _ _
  rw [e]
  pointwise [k0_pay5]
theorem pay6_apply (z : Vec Ideal S512x1024 .f32) (j : Fin 512) (k : Fin 1024) : k0_pay6 z (ix3 0 j k) = z (ix2 j k) := by
  pointwise [k0_pay6]
theorem pay7_apply (z : Vec Ideal S512x1024 .f32) (j : Fin 512) (k : Fin 1024) : k0_pay7 z (ix3 0 j k) = z (ix2 j k) := by
  pointwise [k0_pay7]
theorem upper (z : Vec Ideal S1024x1024 .f32) (j : Fin 512) (k : Fin 1024) :
    (View.ld z (Rect.unit ![0, 0] ![512, 1024] inb_S1024x1024_S512x1024_0_0) : Vec Ideal S512x1024 .f32) (ix2 j k)
      = z (ix2 ⟨j.val, by omega⟩ k) := by
  pointwise []
theorem lower (z : Vec Ideal S1024x1024 .f32) (j : Fin 512) (k : Fin 1024) :
    (View.ld z (Rect.unit ![512, 0] ![512, 1024] inb_S1024x1024_S512x1024_512_0) : Vec Ideal S512x1024 .f32) (ix2 j k)
      = z (ix2 ⟨512 + j.val, by omega⟩ k) := by
  pointwise []

variable (m : (ℓ : Loc nD τ sig) → Buf (Elt Ideal) ℓ)

/-- The block each window holds at grid point `t`. -/
theorem idx : ∀ t : Fin grid0.N, win0_0.index t = ![t.val % 4, 0] ∧ win0_5.index t = ![t.val / 4, 0, 0] ∧ win0_6.index t = ![t.val / 4, 0, 0]
    ∧ (t.val / 4 = 0 → win0_1.index t = ![0, t.val % 4, 0]) ∧ (t.val / 4 = 1 → win0_2.index t = ![0, t.val % 4, 0])
    ∧ (t.val / 4 = 2 → win0_3.index t = ![0, t.val % 4, 0]) ∧ (t.val / 4 = 3 → win0_4.index t = ![0, t.val % 4, 0]) := by
  decide +kernel

/-- The matrix grid point `t` works on, and row `p` of its quarter of the rows. -/
def mat (t : Fin cfg0.N) : Fin 4 := ⟨t.val / 4 % 4, by omega⟩
def row (t : Fin cfg0.N) (p : Fin 2048) : Fin 8192 := ⟨2048 * (t.val % 4) + p.val, by omega⟩

/-- One of the four products' gradients, with a leading axis of one. -/
def lead (d : FVec Ideal S8192x1024 .bf16) : FVec Ideal S1x8192x1024 .bf16 :=
  broadcastInDim S1x8192x1024 ![1, 2] bcast_S8192x1024_S1x8192x1024_1_2 d
theorem lead_apply (d : FVec Ideal S8192x1024 .bf16) (r : Fin 8192) (k : Fin 1024) : lead d (ix3 0 r k) = d (ix2 r k) := by
  pointwise [lead]
theorem entry0 (c : Dev nD) : V m c main_v0 = lead (m ((c : Thread nD τ).loc main_arg1)) := by
  entry_read
  rfl
theorem entry1 (c : Dev nD) : V m c main_v1 = lead (m ((c : Thread nD τ).loc main_arg2)) := by
  entry_read
  rfl
theorem entry2 (c : Dev nD) : V m c main_v2 = lead (m ((c : Thread nD τ).loc main_arg3)) := by
  entry_read
  rfl
theorem entry3 (c : Dev nD) : V m c main_v3 = lead (m ((c : Thread nD τ).loc main_arg4)) := by
  entry_read
  rfl

theorem blk0 (c : Dev nD) (t : Fin cfg0.N) (p : Fin 2048) (k : Fin 1024) :
    (iblk m c 0 t : Vec Ideal S2048x1024 .bf16) (ix2 p k) = (m ((c : Thread nD τ).loc main_arg0)) (ix2 (row t p) k) := by
  blk_ext [iblk, V, (idx t).1, row]
theorem blk1 (c : Dev nD) (t : Fin cfg0.N) (h : t.val / 4 = 0) (p : Fin 2048) (k : Fin 1024) :
    (iblk m c 1 t : Vec Ideal S1x2048x1024 .bf16) (ix3 0 p k) = (m ((c : Thread nD τ).loc main_arg1)) (ix2 (row t p) k) := by
  have e := (idx t).2.2.2.1 h
  rw [← lead_apply (m ((c : Thread nD τ).loc main_arg1)) (row t p) k, ← entry0]
  blk_ext [iblk, e, row]
theorem blk2 (c : Dev nD) (t : Fin cfg0.N) (h : t.val / 4 = 1) (p : Fin 2048) (k : Fin 1024) :
    (iblk m c 2 t : Vec Ideal S1x2048x1024 .bf16) (ix3 0 p k) = (m ((c : Thread nD τ).loc main_arg2)) (ix2 (row t p) k) := by
  have e := (idx t).2.2.2.2.1 h
  rw [← lead_apply (m ((c : Thread nD τ).loc main_arg2)) (row t p) k, ← entry1]
  blk_ext [iblk, e, row]
theorem blk3 (c : Dev nD) (t : Fin cfg0.N) (h : t.val / 4 = 2) (p : Fin 2048) (k : Fin 1024) :
    (iblk m c 3 t : Vec Ideal S1x2048x1024 .bf16) (ix3 0 p k) = (m ((c : Thread nD τ).loc main_arg3)) (ix2 (row t p) k) := by
  have e := (idx t).2.2.2.2.2.1 h
  rw [← lead_apply (m ((c : Thread nD τ).loc main_arg3)) (row t p) k, ← entry2]
  blk_ext [iblk, e, row]
theorem blk4 (c : Dev nD) (t : Fin cfg0.N) (h : t.val / 4 = 3) (p : Fin 2048) (k : Fin 1024) :
    (iblk m c 4 t : Vec Ideal S1x2048x1024 .bf16) (ix3 0 p k) = (m ((c : Thread nD τ).loc main_arg4)) (ix2 (row t p) k) := by
  have e := (idx t).2.2.2.2.2.2 h
  rw [← lead_apply (m ((c : Thread nD τ).loc main_arg4)) (row t p) k, ← entry3]
  blk_ext [iblk, e, row]

/-- What grid point `t` adds to its matrix. -/
def quarter (c : Dev nD) (t : Fin cfg0.N) (j k : Fin 1024) : EReal :=
  ∑ p : Fin 2048, gain (m ((c : Thread nD τ).loc main_arg0)) (![(m ((c : Thread nD τ).loc main_arg1)), (m ((c : Thread nD τ).loc main_arg2)), (m ((c : Thread nD τ).loc main_arg3)), (m ((c : Thread nD τ).loc main_arg4))] (mat t)) j k (row t p)

theorem quarter0 (c : Dev nD) (t : Fin cfg0.N) (h : t.val / 4 = 0) (j k : Fin 1024) :
    colDot (iblk m c 0 t) (iblk m c 1 t) j k = quarter m c t j k := by
  have em : mat t = 0 := Fin.ext (by show t.val / 4 % 4 = 0; omega)
  rw [colDot, quarter, em]
  refine Finset.sum_congr rfl fun p _ => ?_
  rw [blk0, blk1 m c t h]
  rfl
theorem quarter1 (c : Dev nD) (t : Fin cfg0.N) (h : t.val / 4 = 1) (j k : Fin 1024) :
    colDot (iblk m c 0 t) (iblk m c 2 t) j k = quarter m c t j k := by
  have em : mat t = 1 := Fin.ext (by show t.val / 4 % 4 = 1; omega)
  rw [colDot, quarter, em]
  refine Finset.sum_congr rfl fun p _ => ?_
  rw [blk0, blk2 m c t h]
  rfl
theorem quarter2 (c : Dev nD) (t : Fin cfg0.N) (h : t.val / 4 = 2) (j k : Fin 1024) :
    colDot (iblk m c 0 t) (iblk m c 3 t) j k = quarter m c t j k := by
  have em : mat t = 2 := Fin.ext (by show t.val / 4 % 4 = 2; omega)
  rw [colDot, quarter, em]
  refine Finset.sum_congr rfl fun p _ => ?_
  rw [blk0, blk3 m c t h]
  rfl
theorem quarter3 (c : Dev nD) (t : Fin cfg0.N) (h : t.val / 4 = 3) (j k : Fin 1024) :
    colDot (iblk m c 0 t) (iblk m c 4 t) j k = quarter m c t j k := by
  have em : mat t = 3 := Fin.ext (by show t.val / 4 % 4 = 3; omega)
  rw [colDot, quarter, em]
  refine Finset.sum_congr rfl fun p _ => ?_
  rw [blk0, blk4 m c t h]
  rfl

theorem start (c : Dev nD) (t : Fin cfg0.N) (h0 : t.val % 4 = 0) (j k : Fin 1024) :
    ((outsAt0 m c t.val t.isLt).2.2 : Vec Ideal S1024x1024 .f32) (ix2 j k) = quarter m c t j k := by
  have hN : t.val < 16 := lt_of_lt_of_eq t.isLt N_0
  obtain h | h | h | h : t.val / 4 = 0 ∨ t.val / 4 = 1 ∨ t.val / 4 = 2 ∨ t.val / 4 = 3 := by omega
  · rw [outsAt0_A m c t h0 (by omega) (by omega) (by omega) (by omega) (by omega)]
    frame_out
    exact (pay2_apply _ _ _ j k).trans ((congrArg (· + _) (pay1_apply j k)).trans ((zero_add _).trans (quarter0 m c t h j k)))
  · rw [outsAt0_D m c t h0 (by omega) (by omega) (by omega) (by omega) (by omega)]
    frame_out
    exact (pay3_apply _ _ _ j k).trans ((congrArg (· + _) (pay1_apply j k)).trans ((zero_add _).trans (quarter1 m c t h j k)))
  · rw [outsAt0_G m c t h0 (by omega) (by omega) (by omega) (by omega) (by omega)]
    frame_out
    exact (pay4_apply _ _ _ j k).trans ((congrArg (· + _) (pay1_apply j k)).trans ((zero_add _).trans (quarter2 m c t h j k)))
  · rw [outsAt0_J m c t h0 (by omega) (by omega) (by omega) (by omega) (by omega)]
    frame_out
    exact (pay5_apply _ _ _ j k).trans ((congrArg (· + _) (pay1_apply j k)).trans ((zero_add _).trans (quarter3 m c t h j k)))

theorem next (c : Dev nD) (t : Fin cfg0.N) (h0 : ¬ t.val % 4 = 0) (j k : Fin 1024) :
    ((outsAt0 m c t.val t.isLt).2.2 : Vec Ideal S1024x1024 .f32) (ix2 j k)
      = ((outsAt0 m c (t.val - 1) (by have := t.isLt; omega)).2.2 : Vec Ideal S1024x1024 .f32) (ix2 j k) + quarter m c t j k := by
  have hN : t.val < 16 := lt_of_lt_of_eq t.isLt N_0
  by_cases h5 : t.val % 4 = 3
  all_goals obtain h | h | h | h : t.val / 4 = 0 ∨ t.val / 4 = 1 ∨ t.val / 4 = 2 ∨ t.val / 4 = 3 := by omega
  · rw [outsAt0_C m c t h0 (by omega) (by omega) (by omega) (by omega) h5]
    frame_out
    rw [(Memref.isWhole_whole cc0_scratch0).read_unread]
    exact (pay2_apply _ _ _ j k).trans (congrArg (_ + ·) (quarter0 m c t h j k))
  · rw [outsAt0_F m c t h0 (by omega) (by omega) (by omega) (by omega) h5]
    frame_out
    rw [(Memref.isWhole_whole cc0_scratch0).read_unread]
    exact (pay3_apply _ _ _ j k).trans (congrArg (_ + ·) (quarter1 m c t h j k))
  · rw [outsAt0_I m c t h0 (by omega) (by omega) (by omega) (by omega) h5]
    frame_out
    rw [(Memref.isWhole_whole cc0_scratch0).read_unread]
    exact (pay4_apply _ _ _ j k).trans (congrArg (_ + ·) (quarter2 m c t h j k))
  · rw [outsAt0_L m c t h0 (by omega) (by omega) (by omega) (by omega) h5]
    frame_out
    rw [(Memref.isWhole_whole cc0_scratch0).read_unread]
    exact (pay5_apply _ _ _ j k).trans (congrArg (_ + ·) (quarter3 m c t h j k))
  · rw [outsAt0_B m c t h0 (by omega) (by omega) (by omega) (by omega) h5]
    frame_out
    rw [(Memref.isWhole_whole cc0_scratch0).read_unread]
    exact (pay2_apply _ _ _ j k).trans (congrArg (_ + ·) (quarter0 m c t h j k))
  · rw [outsAt0_E m c t h0 (by omega) (by omega) (by omega) (by omega) h5]
    frame_out
    rw [(Memref.isWhole_whole cc0_scratch0).read_unread]
    exact (pay3_apply _ _ _ j k).trans (congrArg (_ + ·) (quarter1 m c t h j k))
  · rw [outsAt0_H m c t h0 (by omega) (by omega) (by omega) (by omega) h5]
    frame_out
    rw [(Memref.isWhole_whole cc0_scratch0).read_unread]
    exact (pay4_apply _ _ _ j k).trans (congrArg (_ + ·) (quarter2 m c t h j k))
  · rw [outsAt0_K m c t h0 (by omega) (by omega) (by omega) (by omega) h5]
    frame_out
    rw [(Memref.isWhole_whole cc0_scratch0).read_unread]
    exact (pay5_apply _ _ _ j k).trans (congrArg (_ + ·) (quarter3 m c t h j k))

theorem last5 (c : Dev nD) (t : Fin cfg0.N) (h5 : t.val % 4 = 3) (j : Fin 512) (k : Fin 1024) :
    ((outsAt0 m c t.val t.isLt).1 : Vec Ideal S1x512x1024 .bf16) (ix3 0 j k)
      = ((outsAt0 m c t.val t.isLt).2.2 : Vec Ideal S1024x1024 .f32) (ix2 ⟨j.val, by omega⟩ k) := by
  have hN : t.val < 16 := lt_of_lt_of_eq t.isLt N_0
  obtain h | h | h | h : t.val / 4 = 0 ∨ t.val / 4 = 1 ∨ t.val / 4 = 2 ∨ t.val / 4 = 3 := by omega
  · rw [outsAt0_C m c t (by omega) (by omega) (by omega) (by omega) (by omega) h5]
    frame_out
    rw [View.readCov_fill _ _ _ _ _ (by intro a; fin_cases a <;> rfl)]
    exact (pay6_apply _ j k).trans (upper _ j k)
  · rw [outsAt0_F m c t (by omega) (by omega) (by omega) (by omega) (by omega) h5]
    frame_out
    rw [View.readCov_fill _ _ _ _ _ (by intro a; fin_cases a <;> rfl)]
    exact (pay6_apply _ j k).trans (upper _ j k)
  · rw [outsAt0_I m c t (by omega) (by omega) (by omega) (by omega) (by omega) h5]
    frame_out
    rw [View.readCov_fill _ _ _ _ _ (by intro a; fin_cases a <;> rfl)]
    exact (pay6_apply _ j k).trans (upper _ j k)
  · rw [outsAt0_L m c t (by omega) (by omega) (by omega) (by omega) (by omega) h5]
    frame_out
    rw [View.readCov_fill _ _ _ _ _ (by intro a; fin_cases a <;> rfl)]
    exact (pay6_apply _ j k).trans (upper _ j k)

theorem last6 (c : Dev nD) (t : Fin cfg0.N) (h5 : t.val % 4 = 3) (j : Fin 512) (k : Fin 1024) :
    ((outsAt0 m c t.val t.isLt).2.1 : Vec Ideal S1x512x1024 .bf16) (ix3 0 j k)
      = ((outsAt0 m c t.val t.isLt).2.2 : Vec Ideal S1024x1024 .f32) (ix2 ⟨512 + j.val, by omega⟩ k) := by
  have hN : t.val < 16 := lt_of_lt_of_eq t.isLt N_0
  obtain h | h | h | h : t.val / 4 = 0 ∨ t.val / 4 = 1 ∨ t.val / 4 = 2 ∨ t.val / 4 = 3 := by omega
  · rw [outsAt0_C m c t (by omega) (by omega) (by omega) (by omega) (by omega) h5]
    frame_out
    rw [View.readCov_fill _ _ _ _ _ (by intro a; fin_cases a <;> rfl)]
    exact (pay7_apply _ j k).trans (lower _ j k)
  · rw [outsAt0_F m c t (by omega) (by omega) (by omega) (by omega) (by omega) h5]
    frame_out
    rw [View.readCov_fill _ _ _ _ _ (by intro a; fin_cases a <;> rfl)]
    exact (pay7_apply _ j k).trans (lower _ j k)
  · rw [outsAt0_I m c t (by omega) (by omega) (by omega) (by omega) (by omega) h5]
    frame_out
    rw [View.readCov_fill _ _ _ _ _ (by intro a; fin_cases a <;> rfl)]
    exact (pay7_apply _ j k).trans (lower _ j k)
  · rw [outsAt0_L m c t (by omega) (by omega) (by omega) (by omega) (by omega) h5]
    frame_out
    rw [View.readCov_fill _ _ _ _ _ (by intro a; fin_cases a <;> rfl)]
    exact (pay7_apply _ j k).trans (lower _ j k)

/-- The quarter at the `i`th of a matrix's four grid points, the last of which is `t`. -/
theorem quarter_back (c : Dev nD) (t t' : Fin cfg0.N) (i : Fin 4) (h5 : t.val % 4 = 3) (e : t'.val + 3 = t.val + i.val) (j k : Fin 1024) :
    quarter m c t' j k = ∑ p : Fin 2048, gain (m ((c : Thread nD τ).loc main_arg0)) (![(m ((c : Thread nD τ).loc main_arg1)), (m ((c : Thread nD τ).loc main_arg2)), (m ((c : Thread nD τ).loc main_arg3)), (m ((c : Thread nD τ).loc main_arg4))] (mat t)) j k ⟨2048 * i.val + p.val, by omega⟩ := by
  have em : mat t' = mat t := Fin.ext (by show t'.val / 4 % 4 = t.val / 4 % 4; omega)
  have er (p : Fin 2048) : row t' p = ⟨2048 * i.val + p.val, by omega⟩ := Fin.ext (by show 2048 * (t'.val % 4) + p.val = 2048 * i.val + p.val; omega)
  rw [quarter, em]
  simp only [er]

/-- At a matrix's last grid point all four quarters are in. -/
theorem total (c : Dev nD) (t : Fin cfg0.N) (h5 : t.val % 4 = 3) (j k : Fin 1024) :
    ((outsAt0 m c t.val t.isLt).2.2 : Vec Ideal S1024x1024 .f32) (ix2 j k)
      = ∑ r : Fin 8192, gain (m ((c : Thread nD τ).loc main_arg0)) (![(m ((c : Thread nD τ).loc main_arg1)), (m ((c : Thread nD τ).loc main_arg2)), (m ((c : Thread nD τ).loc main_arg3)), (m ((c : Thread nD τ).loc main_arg4))] (mat t)) j k r := by
  have hN := t.isLt
  have e0 := start m c ⟨t.val - 3, by omega⟩ (by dsimp only; omega) j k
  have e1 := next m c ⟨t.val - 2, by omega⟩ (by dsimp only; omega) j k
  have e2 := next m c ⟨t.val - 1, by omega⟩ (by dsimp only; omega) j k
  have e3 := next m c t (by omega) j k
  dsimp only at e0 e1 e2
  simp only [show t.val - 2 - 1 = t.val - 3 by omega] at e1
  simp only [show t.val - 1 - 1 = t.val - 2 by omega] at e2
  rw [e3, e2, e1, e0, quarter_back m c t ⟨t.val - 3, by omega⟩ 0 h5 (by show t.val - 3 + 3 = t.val + 0; omega),
    quarter_back m c t ⟨t.val - 2, by omega⟩ 1 h5 (by show t.val - 2 + 3 = t.val + 1; omega),
    quarter_back m c t ⟨t.val - 1, by omega⟩ 2 h5 (by show t.val - 1 + 3 = t.val + 2; omega),
    quarter_back m c t t 3 h5 rfl]
  refine Eq.trans ?_ (Cert.Common.sum_blocks 4 2048 8192 rfl fun r => gain (m ((c : Thread nD τ).loc main_arg0)) (![(m ((c : Thread nD τ).loc main_arg1)), (m ((c : Thread nD τ).loc main_arg2)), (m ((c : Thread nD τ).loc main_arg3)), (m ((c : Thread nD τ).loc main_arg4))] (mat t)) j k r)
  rw [Fin.sum_univ_four]

theorem arr5 (c : Dev nD) : (dats m 0 c).arrAt 5 cfg0.N
    = Cert.WmixRefIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨a, j, k, rfl⟩ : ∃ (a : Fin 1) (j : Fin 512) (k : Fin 1024), y = ix3 a j k := ⟨y 0, y 1, y 2, eq_ix3 y⟩
  obtain rfl : a = 0 := Subsingleton.elim _ _
  have h5 := (flush0_5 t).mp hf
  have hN : t.val < 16 := lt_of_lt_of_eq t.isLt N_0
  have e : (((cfg0.win 5).blk t).view.emb (ix3 0 j k)) = ix3 (mat t) j k := by
    have ec : (mat t).val = t.val / 4 := by show t.val / 4 % 4 = t.val / 4; omega
    blk_ext [(idx t).2.1, ec]
  rw [e, val13_apply, val12_apply]
  blk_simp
  rw [after0_5]
  exact (last5 m c t h5 j k).trans (total m c t h5 _ k)

theorem arr6 (c : Dev nD) : (dats m 0 c).arrAt 6 cfg0.N
    = Cert.WmixRefIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨a, j, k, rfl⟩ : ∃ (a : Fin 1) (j : Fin 512) (k : Fin 1024), y = ix3 a j k := ⟨y 0, y 1, y 2, eq_ix3 y⟩
  obtain rfl : a = 0 := Subsingleton.elim _ _
  have h5 := (flush0_6 t).mp hf
  have hN : t.val < 16 := lt_of_lt_of_eq t.isLt N_0
  have e : (((cfg0.win 6).blk t).view.emb (ix3 0 j k)) = ix3 (mat t) j k := by
    have ec : (mat t).val = t.val / 4 := by show t.val / 4 % 4 = t.val / 4; omega
    blk_ext [(idx t).2.2.1, ec]
  rw [e, val14_apply, val12_apply]
  blk_simp
  rw [after0_6]
  exact (last6 m c t h5 j k).trans (total m c t h5 _ k)

/-- After the run the output arrays hold what the write-backs left, and the arguments are as they were. -/
theorem run_blocks (ρ : Dev nD → PrngReg) : θ_run defs (onTc (τ := τ) (main (F := Ideal))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      (h c).1 6,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.WmixIdeal.RefValue

end
-- ==== Proof.Wmix.Claims.lean ====
/- The kernel for the gradient of half of the common projection's weights and the reference end with the same two arrays. -/
module

public import proofs.«01_k».proof.Defs
public import proofs.«01_k».proof.Proof.Wmix.Arrays
public import proofs.«01_k».proof.Proof.Gen.WmixRefIdeal.Run

@[expose] public section

set_option maxRecDepth 16384

noncomputable section

namespace Cert.Proof.WmixClaims

open Idealize.ShloMosaic Idealize.SL.Sem

theorem algebraic : Cert.algebraic_WmixIdeal_WmixRefIdeal := by
  intro m ρ m' ρ' _ agree
  refine ⟨fun c => Cert.WmixRefIdeal.Read.val_main_v13 (F := Ideal) (m ((c.tc : Thread _ _).loc Cert.WmixIdeal.main_arg0)) (m ((c.tc : Thread _ _).loc Cert.WmixIdeal.main_arg1)) (m ((c.tc : Thread _ _).loc Cert.WmixIdeal.main_arg2)) (m ((c.tc : Thread _ _).loc Cert.WmixIdeal.main_arg3)) (m ((c.tc : Thread _ _).loc Cert.WmixIdeal.main_arg4)),
    fun c => Cert.WmixRefIdeal.Read.val_main_v14 (F := Ideal) (m ((c.tc : Thread _ _).loc Cert.WmixIdeal.main_arg0)) (m ((c.tc : Thread _ _).loc Cert.WmixIdeal.main_arg1)) (m ((c.tc : Thread _ _).loc Cert.WmixIdeal.main_arg2)) (m ((c.tc : Thread _ _).loc Cert.WmixIdeal.main_arg3)) (m ((c.tc : Thread _ _).loc Cert.WmixIdeal.main_arg4)),
    ?_, ?_⟩
  · refine (θ_run _ _ _).mono (fun r h c => ?_) (Cert.WmixIdeal.RefValue.run_blocks m ρ)
    obtain ⟨h0, h1, kept⟩ := h c
    exact ⟨h0.trans (Cert.WmixIdeal.RefValue.arr5 m c), h1.trans (Cert.WmixIdeal.RefValue.arr6 m c), kept⟩
  · refine (θ_run _ _ _).mono (fun r h c => ?_) (Cert.WmixRefIdeal.Value.run (F := Ideal) m' ρ')
    obtain ⟨h0, h1, kept⟩ := h c
    obtain ⟨a0, a1, a2, a3, a4⟩ := agree c
    refine ⟨h0.trans ?_, h1.trans ?_, kept⟩
    · simp only [← a0, ← a1, ← a2, ← a3, ← a4]
      first | exact Cert.WmixRefIdeal.Read.val_main_v13_eq (F := Ideal) m' c | rfl
    · simp only [← a0, ← a1, ← a2, ← a3, ← a4]
      first | exact Cert.WmixRefIdeal.Read.val_main_v14_eq (F := Ideal) m' c | rfl

/-- The reference runs, keeps its arguments, and has no semaphore that could be left raised. -/
theorem frame_ref : Cert.quiescent_WmixRefIdeal := fun m ρ _ =>
  (θ_run _ _ _).mono (fun r h => ⟨fun c => by
    obtain ⟨_, _, kept⟩ := h c
    exact kept, sem_eq_zero_of_no_sems rfl _⟩) (Cert.WmixRefIdeal.Value.run (F := Ideal) m ρ)

theorem preserves : Cert.preserves_Wmix_WmixIdeal := trivial

end Cert.Proof.WmixClaims

end
-- ==== Proof.Up.Formulas.lean ====
/- The first half of a feed-forward block, and the two factors that its backward pass wants, as formulas at one index. -/
module

public import proofs.«01_k».proof.Proof.Gen.UpRefIdeal.Read
public import proofs.«01_k».proof.Proof.Common
public import Idealize.ShloMosaic.Lib.Pipeline.ValueKit
public import Idealize.ShloMosaic.Lib.Pointwise

@[expose] public section

set_option maxRecDepth 16384

noncomputable section

namespace Cert.UpRefIdeal.Formulas

open Cert.UpRefIdeal Cert.UpRefIdeal.Read Idealize.ShloMosaic Idealize.ShloMosaic.TcCoe

/-- The logistic function is a real number that is not negative. -/
theorem logistic_real (x : EReal) : 0 ≤ Ideal.logistic x ∧ Ideal.logistic x ≠ ⊤ := by
  have key : ∀ y : EReal, 0 ≤ y → 0 ≤ Ideal.div 1 (1 + y) ∧ Ideal.div 1 (1 + y) ≠ ⊤ := by
    intro y hy
    induction y with
    | bot => exact absurd hy (by simp)
    | top =>
      rw [show (1 : EReal) + ⊤ = ⊤ from EReal.coe_add_top 1]
      simp [Ideal.div]
    | coe r =>
      have hr : 0 ≤ r := by exact_mod_cast hy
      have e : (1 : EReal) + (r : EReal) = ((1 + r : ℝ) : EReal) := by push_cast; rfl
      have hne : ((1 + r : ℝ) : EReal) ≠ 0 := by
        have : (1 + r : ℝ) ≠ 0 := by positivity
        exact_mod_cast this
      rw [e, Ideal.div, if_neg hne, one_mul, ← EReal.coe_inv]
      exact ⟨by exact_mod_cast (by positivity : (0 : ℝ) ≤ (1 + r)⁻¹), EReal.coe_ne_top _⟩
  refine key _ ?_
  induction x with
  | bot => rw [EReal.neg_bot]; exact (le_top : (0 : EReal) ≤ ⊤)
  | top => rw [EReal.neg_top]; exact le_refl (0 : EReal)
  | coe r =>
    rw [← EReal.coe_neg]
    exact EReal.coe_nonneg.mpr (Real.exp_nonneg _)

/-- The slope of `x * logistic x`, as the chain rule gives it and with its common factor taken out. -/
theorem slope (x : EReal) : Ideal.logistic x + x * (Ideal.logistic x * (1 - Ideal.logistic x))
    = Ideal.logistic x * (1 + x * (1 - Ideal.logistic x)) := by
  rw [EReal.left_distrib_of_nonneg_of_ne_top (logistic_real x).1 (logistic_real x).2, mul_one, mul_left_comm]

variable (x0 : (⟨S8192x1024, .bf16⟩ : BufTy).Contents (Elt Ideal)) (x1 : (⟨S8x1024x704, .bf16⟩ : BufTy).Contents (Elt Ideal))

/-- Column `j` of chunk `q` of the hidden layer, among all its columns. -/
def col (q : Fin 4) (j : Fin 704) : Fin 2816 := ⟨q.val * 704 + j.val, by omega⟩
/-- A row against a column of one of the eight chunks of the weights: four for the gate, then four for what it gates. -/
def lin (d : Fin 8) (r : Fin 8192) (j : Fin 704) : EReal := ∑ k : Fin 1024, x0 (ix2 r k) * x1 (ix3 d k j)
/-- The gate's chunk, and the other's. -/
def lo (q : Fin 4) : Fin 8 := ⟨q.val, by omega⟩
def hi (q : Fin 4) : Fin 8 := ⟨4 + q.val, by omega⟩
/-- The gate times its logistic. -/
def silu (x : EReal) : EReal := x * Ideal.logistic x
/-- Its slope. -/
def dsilu (x : EReal) : EReal := Ideal.logistic x * (1 + x * (1 - Ideal.logistic x))

theorem val4_apply (d : Fin 8) (r : Fin 8192) (j : Fin 704) (n : Fin 5632) (h : n.val = d.val * 704 + j.val) :
    val_main_v4 (F := Ideal) x0 x1 (ix2 r n) = lin x0 x1 d r j := by
  generalize e : lin x0 x1 d r j = G
  pointwise [val_main_v4, val_main_v3, val_main_v2, val_main_v1, val_main_v0]
  rw [← e]
  refine Finset.sum_congr rfl fun k _ => congrArg (x0 (ix2 r k) * x1 ·) ?_
  have e1 : n.val / 704 = d.val := by omega
  have e2 : n.val % 704 = j.val := by omega
  funext a
  fin_cases a <;> refine Fin.ext ?_ <;> simp <;> omega

theorem val5_apply (q : Fin 4) (r : Fin 8192) (j : Fin 704) : val_main_v5 (F := Ideal) x0 x1 (ix2 r (col q j)) = lin x0 x1 (lo q) r j := by
  refine Eq.trans ?_ (val4_apply x0 x1 (lo q) r j ⟨(col q j).val, by have := (col q j).isLt; omega⟩ rfl)
  generalize e : val_main_v4 (F := Ideal) x0 x1 = y
  pointwise [val_main_v5, e]

theorem val6_apply (q : Fin 4) (r : Fin 8192) (j : Fin 704) : val_main_v6 (F := Ideal) x0 x1 (ix2 r (col q j)) = lin x0 x1 (hi q) r j := by
  refine Eq.trans ?_ (val4_apply x0 x1 (hi q) r j ⟨2816 + (col q j).val, by have := (col q j).isLt; omega⟩ (by simp [hi, col]; omega))
  generalize e : val_main_v4 (F := Ideal) x0 x1 = y
  pointwise [val_main_v6, e]

theorem sig_apply (r : Fin 8192) (n : Fin 2816) : val_main_v7_2 (F := Ideal) x0 x1 (ix2 r n)
    = Ideal.logistic (val_main_v5 (F := Ideal) x0 x1 (ix2 r n)) := by
  generalize e : val_main_v5 (F := Ideal) x0 x1 = y
  pointwise [val_main_v7_2, val_main_call0_v4, val_main_call0_v3, val_main_call0_v2, val_main_call0_v1, val_main_call0_v0, val_main_call0_cst, val_main_call0_cst_0, e, Ideal.logistic]

theorem val14_apply (q : Fin 4) (r : Fin 8192) (j : Fin 704) : val_main_v14 (F := Ideal) x0 x1 (ix3 q r j)
    = silu (lin x0 x1 (lo q) r j) * lin x0 x1 (hi q) r j := by
  refine Eq.trans (b := val_main_v11 (F := Ideal) x0 x1 (ix2 r (col q j))) ?_ ?_
  · generalize e : val_main_v11 (F := Ideal) x0 x1 = y
    pointwise [val_main_v14, val_main_v13, val_main_v12, e]
    rfl
  · pointwise [val_main_v11, val_main_v7_0, sig_apply, val5_apply, val6_apply, silu]

theorem val17_apply (q : Fin 4) (r : Fin 8192) (j : Fin 704) : val_main_v17 (F := Ideal) x0 x1 (ix3 q r j)
    = lin x0 x1 (hi q) r j * dsilu (lin x0 x1 (lo q) r j) := by
  refine Eq.trans (b := val_main_v10 (F := Ideal) x0 x1 (ix2 r (col q j))) ?_ ?_
  · generalize e : val_main_v10 (F := Ideal) x0 x1 = y
    pointwise [val_main_v17, val_main_v16, val_main_v15, e]
    rfl
  · rw [dsilu, ← slope]
    pointwise [val_main_v10, val_main_v9, val_main_v8, val_main_v7_1, val_main_cst, val_main_call1_v0, val_main_call1_v1, val_main_call1_v2, val_main_call0_v6, val_main_call0_v7, val_main_call0_cst_1,
      sig_apply, val5_apply, val6_apply]

theorem val20_apply (q : Fin 4) (r : Fin 8192) (j : Fin 704) : val_main_v20 (F := Ideal) x0 x1 (ix3 q r j)
    = silu (lin x0 x1 (lo q) r j) := by
  refine Eq.trans (b := val_main_v7_0 (F := Ideal) x0 x1 (ix2 r (col q j))) ?_ ?_
  · generalize e : val_main_v7_0 (F := Ideal) x0 x1 = y
    pointwise [val_main_v20, val_main_v19, val_main_v18, e]
    rfl
  · pointwise [val_main_v7_0, sig_apply, val5_apply, silu]

end Cert.UpRefIdeal.Formulas

end
-- ==== Proof.Up.Blocks.lean ====
/- What the kernel for the first half of a feed-forward block holds in its windows at one grid point, and its payloads at one
   index. -/
module

public import proofs.«01_k».proof.Proof.Gen.UpIdeal.Value
public import proofs.«01_k».proof.Proof.Up.Formulas
public import Idealize.ShloMosaic.Lib.Pipeline.ValueKit
public import Idealize.ShloMosaic.Lib.Pointwise
public import Idealize.ShloMosaic.Lib.Claim

@[expose] public section

set_option maxRecDepth 16384

noncomputable section

namespace Cert.UpIdeal.RefValue

open Cert.UpIdeal Cert.UpIdeal.Gen Idealize.ShloMosaic Idealize.ShloMosaic.TcCoe Idealize.SL.Sem
open Idealize.ShloMosaic.Pipeline (Dat)
open Cert.UpRefIdeal.Formulas

/-- A row against a column of one chunk of the weights. -/
def chunkDot (x : Vec Ideal S512x1024 .bf16) (w : Vec Ideal S1x1024x704 .bf16) (r : Fin 512) (j : Fin 704) : EReal :=
  ∑ k : Fin 1024, x (ix2 r k) * w (ix3 0 k j)

variable (x : Vec Ideal S512x1024 .bf16) (g u : Vec Ideal S1x1024x704 .bf16)

theorem pay3_apply (r : Fin 512) (j : Fin 704) : k0_pay3 x g (ix2 r j) = chunkDot x g r j := by
  pointwise [k0_pay3, chunkDot]
theorem pay4_apply (r : Fin 512) (j : Fin 704) : k0_pay4 x u (ix2 r j) = chunkDot x u r j := by
  pointwise [k0_pay4, chunkDot]
theorem pay12_apply (r : Fin 512) (j : Fin 704) : k0_pay12 x u (ix2 r j) = chunkDot x u r j := by
  pointwise [k0_pay12, chunkDot]
theorem pay18_apply (r : Fin 512) (j : Fin 704) : k0_pay18 x g (ix2 r j) = chunkDot x g r j := by
  pointwise [k0_pay18, chunkDot]
theorem pay19_apply (r : Fin 512) (j : Fin 704) : k0_pay19 x u (ix2 r j) = chunkDot x u r j := by
  pointwise [k0_pay19, chunkDot]
theorem pay25_apply (r : Fin 512) (j : Fin 704) : k0_pay25 x g (ix2 r j) = chunkDot x g r j := by
  pointwise [k0_pay25, chunkDot]
theorem pay26_apply (r : Fin 512) (j : Fin 704) : k0_pay26 x u (ix2 r j) = chunkDot x u r j := by
  pointwise [k0_pay26, chunkDot]
theorem pay11_apply (r : Fin 512) (j : Fin 704) :
    k0_pay11 x (k0_pay10 g) (constant S512x704 .f32 0x00000000#32) (ix2 r j) = chunkDot x g r j := by
  pointwise [k0_pay11, k0_pay10, chunkDot]

theorem act_pay0 (r : Fin 512) (j : Fin 704) : k0_pay7 x g u (ix3 0 r j) = silu (chunkDot x g r j) * chunkDot x u r j := by
  pointwise [k0_pay7, k0_pay6, k0_pay5, pay3_apply, pay4_apply, silu]
theorem act_pay1 (r : Fin 512) (j : Fin 704) : k0_pay15 x (k0_pay10 g) (constant S512x704 .f32 0x00000000#32) u (ix3 0 r j) = silu (chunkDot x g r j) * chunkDot x u r j := by
  pointwise [k0_pay15, k0_pay14, k0_pay13, pay11_apply, pay12_apply, silu]
theorem act_pay2 (r : Fin 512) (j : Fin 704) : k0_pay22 (k0_pay19 x u) (k0_pay21 x g) (ix3 0 r j) = silu (chunkDot x g r j) * chunkDot x u r j := by
  pointwise [k0_pay22, k0_pay21, k0_pay20, pay18_apply, pay19_apply, silu]
theorem act_pay3 (r : Fin 512) (j : Fin 704) : k0_pay29 x g u (ix3 0 r j) = silu (chunkDot x g r j) * chunkDot x u r j := by
  pointwise [k0_pay29, k0_pay28, k0_pay27, pay25_apply, pay26_apply, silu]
theorem gate_pay0 (r : Fin 512) (j : Fin 704) : k0_pay8 x g u (ix3 0 r j) = chunkDot x u r j * dsilu (chunkDot x g r j) := by
  pointwise [k0_pay8, k0_pay5, pay3_apply, pay4_apply, dsilu]
theorem gate_pay1 (r : Fin 512) (j : Fin 704) : k0_pay16 x (k0_pay10 g) (constant S512x704 .f32 0x00000000#32) u (ix3 0 r j) = chunkDot x u r j * dsilu (chunkDot x g r j) := by
  pointwise [k0_pay16, k0_pay13, pay11_apply, pay12_apply, dsilu]
theorem gate_pay2 (r : Fin 512) (j : Fin 704) : k0_pay23 (k0_pay18 x g) (k0_pay19 x u) (k0_pay20 x g) (ix3 0 r j) = chunkDot x u r j * dsilu (chunkDot x g r j) := by
  pointwise [k0_pay23, k0_pay20, pay18_apply, pay19_apply, dsilu]
theorem gate_pay3 (r : Fin 512) (j : Fin 704) : k0_pay1 (k0_pay25 x g) (k0_pay26 x u) (k0_pay27 x g) (Scalar.ofBits .f32 0x3F800000#32) (ix3 0 r j) = chunkDot x u r j * dsilu (chunkDot x g r j) := by
  pointwise [k0_pay1, k0_pay27, pay25_apply, pay26_apply, dsilu]
theorem up_pay0 (r : Fin 512) (j : Fin 704) : k0_pay9 x g (ix3 0 r j) = silu (chunkDot x g r j) := by
  pointwise [k0_pay9, k0_pay6, k0_pay5, pay3_apply, silu]
theorem up_pay1 (r : Fin 512) (j : Fin 704) : k0_pay17 x (k0_pay10 g) (constant S512x704 .f32 0x00000000#32) (ix3 0 r j) = silu (chunkDot x g r j) := by
  pointwise [k0_pay17, k0_pay14, k0_pay13, pay11_apply, silu]
theorem up_pay2 (r : Fin 512) (j : Fin 704) : k0_pay24 (k0_pay21 x g) (ix3 0 r j) = silu (chunkDot x g r j) := by
  pointwise [k0_pay24, k0_pay21, k0_pay20, pay18_apply, silu]
theorem up_pay3 (r : Fin 512) (j : Fin 704) : k0_pay2 (k0_pay28 x g) (ix3 0 r j) = silu (chunkDot x g r j) := by
  pointwise [k0_pay2, k0_pay28, k0_pay27, pay25_apply, silu]

theorem pay30_eq (x1 : Vec Ideal S8x1024x704 .bf16) : k0_pay30 x x1 = constant S512x704 .f32 0x00000000#32 := rfl
theorem pay31_eq (x1 : Vec Ideal S8x1024x704 .bf16) : k0_pay31 x x1 = k0_pay10 (View.ld x1 r0_4) := rfl
theorem pay32_eq (x1 : Vec Ideal S8x1024x704 .bf16) : k0_pay32 x x1 = k0_pay19 x (View.ld x1 r0_8) := by
  rw [k0_pay32, View.ld_unit_zero (by funext a; fin_cases a <;> rfl)]
theorem pay33_eq (x1 : Vec Ideal S8x1024x704 .bf16) : k0_pay33 x x1 = k0_pay21 x (View.ld x1 r0_7) := by
  rw [k0_pay33, View.ld_unit_zero (by funext a; fin_cases a <;> rfl)]

variable (m : (ℓ : Loc nD τ sig) → Buf (Elt Ideal) ℓ)

/-- The block each window holds at grid point `t`. -/
theorem idx : ∀ t : Fin grid0.N, win0_0.index t = ![t.val, 0] ∧ win0_1.index t = ![0, 0, 0]
    ∧ win0_2.index t = ![0, t.val, 0] ∧ win0_3.index t = ![0, t.val, 0] ∧ win0_4.index t = ![0, t.val, 0] := by
  decide +kernel

/-- Row `p` of block `t`, among all rows. -/
def row (t : Fin cfg0.N) (p : Fin 512) : Fin 8192 :=
  ⟨512 * t.val + p.val, by have := t.isLt; have h : cfg0.N = 16 := N_0; omega⟩

theorem blk0 (c : Dev nD) (t : Fin cfg0.N) (p : Fin 512) (k : Fin 1024) :
    (iblk m c 0 t : Vec Ideal S512x1024 .bf16) (ix2 p k) = (m ((c : Thread nD τ).loc main_arg0)) (ix2 (row t p) k) := by
  blk_ext [iblk, V, idx t, row]
theorem blk1 (c : Dev nD) (t : Fin cfg0.N) (d : Fin 8) (k : Fin 1024) (j : Fin 704) :
    (iblk m c 1 t : Vec Ideal S8x1024x704 .bf16) (ix3 d k j) = (m ((c : Thread nD τ).loc main_arg1)) (ix3 d k j) := by
  blk_ext [iblk, V, idx t]
theorem lo_0 (c : Dev nD) (t : Fin cfg0.N) (r : Fin 512) (j : Fin 704) :
    chunkDot (iblk m c 0 t) (View.ld (iblk m c 1 t) r0_1) r j = lin (m ((c : Thread nD τ).loc main_arg0)) (m ((c : Thread nD τ).loc main_arg1)) (lo 0) (row t r) j := by
  refine Finset.sum_congr rfl fun k _ => ?_
  refine congrArg₂ (· * ·) (blk0 m c t r k) (Eq.trans ?_ (blk1 m c t (lo 0) k j))
  pointwise [lo, hi]
theorem hi_0 (c : Dev nD) (t : Fin cfg0.N) (r : Fin 512) (j : Fin 704) :
    chunkDot (iblk m c 0 t) (View.ld (iblk m c 1 t) r0_2) r j = lin (m ((c : Thread nD τ).loc main_arg0)) (m ((c : Thread nD τ).loc main_arg1)) (hi 0) (row t r) j := by
  refine Finset.sum_congr rfl fun k _ => ?_
  refine congrArg₂ (· * ·) (blk0 m c t r k) (Eq.trans ?_ (blk1 m c t (hi 0) k j))
  pointwise [lo, hi]
theorem lo_1 (c : Dev nD) (t : Fin cfg0.N) (r : Fin 512) (j : Fin 704) :
    chunkDot (iblk m c 0 t) (View.ld (iblk m c 1 t) r0_4) r j = lin (m ((c : Thread nD τ).loc main_arg0)) (m ((c : Thread nD τ).loc main_arg1)) (lo 1) (row t r) j := by
  refine Finset.sum_congr rfl fun k _ => ?_
  refine congrArg₂ (· * ·) (blk0 m c t r k) (Eq.trans ?_ (blk1 m c t (lo 1) k j))
  pointwise [lo, hi]
theorem hi_1 (c : Dev nD) (t : Fin cfg0.N) (r : Fin 512) (j : Fin 704) :
    chunkDot (iblk m c 0 t) (View.ld (iblk m c 1 t) r0_5) r j = lin (m ((c : Thread nD τ).loc main_arg0)) (m ((c : Thread nD τ).loc main_arg1)) (hi 1) (row t r) j := by
  refine Finset.sum_congr rfl fun k _ => ?_
  refine congrArg₂ (· * ·) (blk0 m c t r k) (Eq.trans ?_ (blk1 m c t (hi 1) k j))
  pointwise [lo, hi]
theorem lo_2 (c : Dev nD) (t : Fin cfg0.N) (r : Fin 512) (j : Fin 704) :
    chunkDot (iblk m c 0 t) (View.ld (iblk m c 1 t) r0_7) r j = lin (m ((c : Thread nD τ).loc main_arg0)) (m ((c : Thread nD τ).loc main_arg1)) (lo 2) (row t r) j := by
  refine Finset.sum_congr rfl fun k _ => ?_
  refine congrArg₂ (· * ·) (blk0 m c t r k) (Eq.trans ?_ (blk1 m c t (lo 2) k j))
  pointwise [lo, hi]
theorem hi_2 (c : Dev nD) (t : Fin cfg0.N) (r : Fin 512) (j : Fin 704) :
    chunkDot (iblk m c 0 t) (View.ld (iblk m c 1 t) r0_8) r j = lin (m ((c : Thread nD τ).loc main_arg0)) (m ((c : Thread nD τ).loc main_arg1)) (hi 2) (row t r) j := by
  refine Finset.sum_congr rfl fun k _ => ?_
  refine congrArg₂ (· * ·) (blk0 m c t r k) (Eq.trans ?_ (blk1 m c t (hi 2) k j))
  pointwise [lo, hi]
theorem lo_3 (c : Dev nD) (t : Fin cfg0.N) (r : Fin 512) (j : Fin 704) :
    chunkDot (iblk m c 0 t) (View.ld (iblk m c 1 t) r0_10) r j = lin (m ((c : Thread nD τ).loc main_arg0)) (m ((c : Thread nD τ).loc main_arg1)) (lo 3) (row t r) j := by
  refine Finset.sum_congr rfl fun k _ => ?_
  refine congrArg₂ (· * ·) (blk0 m c t r k) (Eq.trans ?_ (blk1 m c t (lo 3) k j))
  pointwise [lo, hi]
theorem hi_3 (c : Dev nD) (t : Fin cfg0.N) (r : Fin 512) (j : Fin 704) :
    chunkDot (iblk m c 0 t) (View.ld (iblk m c 1 t) r0_11) r j = lin (m ((c : Thread nD τ).loc main_arg0)) (m ((c : Thread nD τ).loc main_arg1)) (hi 3) (row t r) j := by
  refine Finset.sum_congr rfl fun k _ => ?_
  refine congrArg₂ (· * ·) (blk0 m c t r k) (Eq.trans ?_ (blk1 m c t (hi 3) k j))
  pointwise [lo, hi]

end Cert.UpIdeal.RefValue

end
-- ==== Proof.Up.Arrays.lean ====
/- What the three result arrays of the kernel for the first half of a feed-forward block hold after the run: the reference's
   results, at every index. -/
module

public import proofs.«01_k».proof.Proof.Up.Blocks

@[expose] public section

set_option maxRecDepth 16384

noncomputable section

namespace Cert.UpIdeal.RefValue

open Cert.UpIdeal Cert.UpIdeal.Gen Idealize.ShloMosaic Idealize.ShloMosaic.TcCoe Idealize.SL.Sem
open Idealize.ShloMosaic.Pipeline (Dat)
open Cert.UpRefIdeal.Formulas

variable (m : (ℓ : Loc nD τ sig) → Buf (Elt Ideal) ℓ)

theorem out2_apply (c : Dev nD) (t : Fin cfg0.N) (q : Fin 4) (r : Fin 512) (l : Fin 704) :
    ((dats m 0 c).after 2 t : Vec Ideal S4x512x704 .bf16) (ix3 q r l) = Cert.UpRefIdeal.Read.val_main_v14 (F := Ideal) (m ((c : Thread nD τ).loc main_arg0)) (m ((c : Thread nD τ).loc main_arg1)) (ix3 q (row t r) l) := by
  rw [after0_2, val14_apply]
  frame_out
  simp only [pay30_eq, pay31_eq, pay32_eq, pay33_eq]
  canon_tiles x h
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 3 := Fin.ext h0
    obtain rfl : r = b := Fin.ext h1
    obtain rfl : l = d := Fin.ext h2
    rw [← lo_3 m c t r l, ← hi_3 m c t r l]
    exact act_pay3 _ _ _ r l
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 2 := Fin.ext h0
    obtain rfl : r = b := Fin.ext h1
    obtain rfl : l = d := Fin.ext h2
    rw [← lo_2 m c t r l, ← hi_2 m c t r l]
    exact act_pay2 _ _ _ r l
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 1 := Fin.ext h0
    obtain rfl : r = b := Fin.ext h1
    obtain rfl : l = d := Fin.ext h2
    rw [← lo_1 m c t r l, ← hi_1 m c t r l]
    exact act_pay1 _ _ _ r l
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 0 := Fin.ext h0
    obtain rfl : r = b := Fin.ext h1
    obtain rfl : l = d := Fin.ext h2
    rw [← lo_0 m c t r l, ← hi_0 m c t r l]
    exact act_pay0 _ _ _ r l

theorem arr2 (c : Dev nD) : (dats m 0 c).arrAt 2 cfg0.N = Cert.UpRefIdeal.Read.val_main_v14 (F := Ideal) (m ((c : Thread nD τ).loc main_arg0)) (m ((c : Thread nD τ).loc main_arg1)) := by
  refine (dats m 0 c).arrAt_eq_of_covers 2 _ (by decide +kernel) fun t hf y => ?_
  obtain ⟨q, r, l, rfl⟩ : ∃ (q : Fin 4) (r : Fin 512) (l : Fin 704), y = ix3 q r l := ⟨y 0, y 1, y 2, eq_ix3 y⟩
  have e : (((cfg0.win 2).blk t).view.emb (ix3 q r l)) = ix3 q (row t r) l := by blk_ext [idx t, row]
  rw [e]
  blk_simp
  exact out2_apply m c t q r l

theorem out3_apply (c : Dev nD) (t : Fin cfg0.N) (q : Fin 4) (r : Fin 512) (l : Fin 704) :
    ((dats m 0 c).after 3 t : Vec Ideal S4x512x704 .bf16) (ix3 q r l) = Cert.UpRefIdeal.Read.val_main_v17 (F := Ideal) (m ((c : Thread nD τ).loc main_arg0)) (m ((c : Thread nD τ).loc main_arg1)) (ix3 q (row t r) l) := by
  rw [after0_3, val17_apply]
  frame_out
  simp only [pay30_eq, pay31_eq, pay32_eq, pay33_eq]
  canon_tiles x h
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 3 := Fin.ext h0
    obtain rfl : r = b := Fin.ext h1
    obtain rfl : l = d := Fin.ext h2
    rw [← lo_3 m c t r l, ← hi_3 m c t r l]
    exact gate_pay3 _ _ _ r l
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 2 := Fin.ext h0
    obtain rfl : r = b := Fin.ext h1
    obtain rfl : l = d := Fin.ext h2
    rw [← lo_2 m c t r l, ← hi_2 m c t r l]
    exact gate_pay2 _ _ _ r l
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 1 := Fin.ext h0
    obtain rfl : r = b := Fin.ext h1
    obtain rfl : l = d := Fin.ext h2
    rw [← lo_1 m c t r l, ← hi_1 m c t r l]
    exact gate_pay1 _ _ _ r l
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 0 := Fin.ext h0
    obtain rfl : r = b := Fin.ext h1
    obtain rfl : l = d := Fin.ext h2
    rw [← lo_0 m c t r l, ← hi_0 m c t r l]
    exact gate_pay0 _ _ _ r l

theorem arr3 (c : Dev nD) : (dats m 0 c).arrAt 3 cfg0.N = Cert.UpRefIdeal.Read.val_main_v17 (F := Ideal) (m ((c : Thread nD τ).loc main_arg0)) (m ((c : Thread nD τ).loc main_arg1)) := by
  refine (dats m 0 c).arrAt_eq_of_covers 3 _ (by decide +kernel) fun t hf y => ?_
  obtain ⟨q, r, l, rfl⟩ : ∃ (q : Fin 4) (r : Fin 512) (l : Fin 704), y = ix3 q r l := ⟨y 0, y 1, y 2, eq_ix3 y⟩
  have e : (((cfg0.win 3).blk t).view.emb (ix3 q r l)) = ix3 q (row t r) l := by blk_ext [idx t, row]
  rw [e]
  blk_simp
  exact out3_apply m c t q r l

theorem out4_apply (c : Dev nD) (t : Fin cfg0.N) (q : Fin 4) (r : Fin 512) (l : Fin 704) :
    ((dats m 0 c).after 4 t : Vec Ideal S4x512x704 .bf16) (ix3 q r l) = Cert.UpRefIdeal.Read.val_main_v20 (F := Ideal) (m ((c : Thread nD τ).loc main_arg0)) (m ((c : Thread nD τ).loc main_arg1)) (ix3 q (row t r) l) := by
  rw [after0_4, val20_apply]
  frame_out
  simp only [pay30_eq, pay31_eq, pay32_eq, pay33_eq]
  canon_tiles x h
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 3 := Fin.ext h0
    obtain rfl : r = b := Fin.ext h1
    obtain rfl : l = d := Fin.ext h2
    rw [← lo_3 m c t r l]
    exact up_pay3 _ _ r l
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 2 := Fin.ext h0
    obtain rfl : r = b := Fin.ext h1
    obtain rfl : l = d := Fin.ext h2
    rw [← lo_2 m c t r l]
    exact up_pay2 _ _ r l
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 1 := Fin.ext h0
    obtain rfl : r = b := Fin.ext h1
    obtain rfl : l = d := Fin.ext h2
    rw [← lo_1 m c t r l]
    exact up_pay1 _ _ r l
  · obtain ⟨a, b, d, rfl⟩ : ∃ (a : Fin 1) (b : Fin 512) (d : Fin 704), x = ix3 a b d := ⟨x 0, x 1, x 2, eq_ix3 x⟩
    obtain rfl : a = 0 := Subsingleton.elim _ _
    obtain rfl : q = 0 := Fin.ext h0
    obtain rfl : r = b := Fin.ext h1
    obtain rfl : l = d := Fin.ext h2
    rw [← lo_0 m c t r l]
    exact up_pay0 _ _ r l

theorem arr4 (c : Dev nD) : (dats m 0 c).arrAt 4 cfg0.N = Cert.UpRefIdeal.Read.val_main_v20 (F := Ideal) (m ((c : Thread nD τ).loc main_arg0)) (m ((c : Thread nD τ).loc main_arg1)) := by
  refine (dats m 0 c).arrAt_eq_of_covers 4 _ (by decide +kernel) fun t hf y => ?_
  obtain ⟨q, r, l, rfl⟩ : ∃ (q : Fin 4) (r : Fin 512) (l : Fin 704), y = ix3 q r l := ⟨y 0, y 1, y 2, eq_ix3 y⟩
  have e : (((cfg0.win 4).blk t).view.emb (ix3 q r l)) = ix3 q (row t r) l := by blk_ext [idx t, row]
  rw [e]
  blk_simp
  exact out4_apply m c t q r l

end Cert.UpIdeal.RefValue

end
-- ==== Proof.Up.Claims.lean ====
/- The kernel for the first half of a feed-forward block and the reference end with the same three arrays. -/
module

public import proofs.«01_k».proof.Defs
public import proofs.«01_k».proof.Proof.Up.Arrays
public import proofs.«01_k».proof.Proof.Gen.UpRefIdeal.Run

@[expose] public section

set_option maxRecDepth 16384

noncomputable section

namespace Cert.Proof.UpClaims

open Idealize.ShloMosaic Idealize.SL.Sem

theorem algebraic : Cert.algebraic_UpIdeal_UpRefIdeal := by
  intro m ρ m' ρ' _ agree
  refine ⟨fun c => Cert.UpRefIdeal.Read.val_main_v14 (F := Ideal) (m ((c.tc : Thread _ _).loc Cert.UpIdeal.main_arg0)) (m ((c.tc : Thread _ _).loc Cert.UpIdeal.main_arg1)),
    fun c => Cert.UpRefIdeal.Read.val_main_v17 (F := Ideal) (m ((c.tc : Thread _ _).loc Cert.UpIdeal.main_arg0)) (m ((c.tc : Thread _ _).loc Cert.UpIdeal.main_arg1)),
    fun c => Cert.UpRefIdeal.Read.val_main_v20 (F := Ideal) (m ((c.tc : Thread _ _).loc Cert.UpIdeal.main_arg0)) (m ((c.tc : Thread _ _).loc Cert.UpIdeal.main_arg1)),
    ?_, ?_⟩
  · refine (θ_run _ _ _).mono (fun r h c => ?_) (Cert.UpIdeal.Value.run_blocks (F := Ideal) m ρ)
    obtain ⟨h0, h1, h2, kept⟩ := h c
    exact ⟨h0.trans (Cert.UpIdeal.RefValue.arr2 m c), h1.trans (Cert.UpIdeal.RefValue.arr3 m c), h2.trans (Cert.UpIdeal.RefValue.arr4 m c), kept⟩
  · refine (θ_run _ _ _).mono (fun r h c => ?_) (Cert.UpRefIdeal.Value.run (F := Ideal) m' ρ')
    obtain ⟨h0, h1, h2, kept⟩ := h c
    obtain ⟨a0, a1⟩ := agree c
    refine ⟨h0.trans ?_, h1.trans ?_, h2.trans ?_, kept⟩
    · simp only [← a0, ← a1]
      first | exact Cert.UpRefIdeal.Read.val_main_v14_eq (F := Ideal) m' c | rfl
    · simp only [← a0, ← a1]
      first | exact Cert.UpRefIdeal.Read.val_main_v17_eq (F := Ideal) m' c | rfl
    · simp only [← a0, ← a1]
      first | exact Cert.UpRefIdeal.Read.val_main_v20_eq (F := Ideal) m' c | rfl

/-- The reference runs, keeps its arguments, and has no semaphore that could be left raised. -/
theorem frame_ref : Cert.quiescent_UpRefIdeal := fun m ρ _ =>
  (θ_run _ _ _).mono (fun r h => ⟨fun c => by
    obtain ⟨_, _, _, kept⟩ := h c
    exact kept, sem_eq_zero_of_no_sems rfl _⟩) (Cert.UpRefIdeal.Value.run (F := Ideal) m ρ)

theorem preserves : Cert.preserves_Up_UpIdeal := trivial

end Cert.Proof.UpClaims

end
-- ==== Proof.Down.Formulas.lean ====
/- The second product of a feed-forward block, added to the residual stream, and its norm, as formulas at one index. -/
module

public import proofs.«01_k».proof.Proof.Gen.DownRefIdeal.Read
public import proofs.«01_k».proof.Proof.Common
public import proofs.«01_k».proof.Proof.Norm
public import Idealize.ShloMosaic.Lib.Pipeline.ValueKit
public import Idealize.ShloMosaic.Lib.Pointwise

@[expose] public section

set_option maxRecDepth 16384

noncomputable section

namespace Cert.DownRefIdeal.Formulas

open Cert.DownRefIdeal Cert.DownRefIdeal.Read Idealize.ShloMosaic Idealize.ShloMosaic.TcCoe

variable (x0 : (⟨S8192x1024, .f32⟩ : BufTy).Contents (Elt Ideal)) (x1 : (⟨S4x8192x704, .bf16⟩ : BufTy).Contents (Elt Ideal)) (x2 : (⟨S4x704x1024, .bf16⟩ : BufTy).Contents (Elt Ideal)) (x3 : (⟨S1x1024, .f32⟩ : BufTy).Contents (Elt Ideal))

/-- One chunk of the hidden layer's row against the chunk's column of the output weights. -/
def part (q : Fin 4) (r : Fin 8192) (l : Fin 1024) : EReal := ∑ j : Fin 704, x1 (ix3 q r j) * x2 (ix3 q j l)
/-- The residual stream after the block. -/
def summed (r : Fin 8192) (l : Fin 1024) : EReal :=
  x0 (ix2 r l) + Ideal.ofBits FTy.f32 1056964608#32 * ∑ q : Fin 4, part x1 x2 q r l
/-- The mean of its row's squares, with the small constant added. -/
def square (r : Fin 8192) : EReal :=
  Ideal.div (∑ k : Fin 1024, summed x0 x1 x2 r k * summed x0 x1 x2 r k) Cert.Norm.width + Cert.Norm.eps

theorem val5_apply (r : Fin 8192) (l : Fin 1024) :
    val_main_v5 (F := Ideal) x1 x2 (ix2 r l) = ∑ q : Fin 4, part x1 x2 q r l := by
  have h : val_main_v5 (F := Ideal) x1 x2 (ix2 r l)
      = ∑ n : Fin 2816, x1 (ix3 ⟨n.val / 704, by omega⟩ r ⟨n.val % 704, by omega⟩)
        * x2 (ix3 ⟨n.val / 704, by omega⟩ ⟨n.val % 704, by omega⟩ l) := by
    generalize e : (∑ n : Fin 2816, x1 (ix3 ⟨n.val / 704, by omega⟩ r ⟨n.val % 704, by omega⟩)
        * x2 (ix3 ⟨n.val / 704, by omega⟩ ⟨n.val % 704, by omega⟩ l)) = G
    pointwise [val_main_v5, val_main_v4, val_main_v3, val_main_v2, val_main_v1, val_main_v0]
    rw [← e]
  rw [h, ← Cert.Common.sum_blocks 4 704 2816 rfl]
  refine Finset.sum_congr rfl fun q _ => Finset.sum_congr rfl fun j _ => ?_
  have e1 : (704 * q.val + j.val) / 704 = q.val := by omega
  have e2 : (704 * q.val + j.val) % 704 = j.val := by omega
  simp only [e1, e2]

theorem val8_apply (r : Fin 8192) (l : Fin 1024) : val_main_v8 (F := Ideal) x0 x1 x2 (ix2 r l) = summed x0 x1 x2 r l := by
  pointwise [val_main_v8, val_main_v7, val_main_v6, val_main_cst, val5_apply, summed]

theorem val21_apply (r : Fin 8192) (l : Fin 1024) : val_main_v21 (F := Ideal) x0 x1 x2 x3 (ix2 r l)
    = summed x0 x1 x2 r l * Ideal.rsqrt (square x0 x1 x2 r) * x3 (ix2 0 l) := by
  pointwise [val_main_v21, val_main_v20, val_main_v19, val_main_v18, val_main_v17, val_main_v16, val_main_v15, val_main_v14, val_main_v13, val_main_v12, val_main_v11, val_main_v10, val_main_v9, val_main_cst_0, val_main_cst_1, val_main_cst_2, val8_apply, square,
    Cert.Norm.width, Cert.Norm.eps]

end Cert.DownRefIdeal.Formulas

end
-- ==== Proof.Down.Arrays.lean ====
/- What the two arrays of a feed-forward block's second half hold after the run: the reference's results, at every index. -/
module

public import proofs.«01_k».proof.Proof.Gen.DownIdeal.Value
public import proofs.«01_k».proof.Proof.Down.Formulas
public import Idealize.ShloMosaic.Lib.Pipeline.ValueKit
public import Idealize.ShloMosaic.Lib.Pointwise
public import Idealize.ShloMosaic.Lib.Claim

@[expose] public section

set_option maxRecDepth 16384

noncomputable section

namespace Cert.DownIdeal.RefValue

open Cert.DownIdeal Cert.DownIdeal.Gen Idealize.ShloMosaic Idealize.ShloMosaic.TcCoe Idealize.SL.Sem
open Idealize.ShloMosaic.Pipeline (Dat)
open Cert.DownRefIdeal.Formulas

/-- A row of one chunk against a column of that chunk's weights. -/
def chunkDot (a : Vec Ideal S1x512x704 .bf16) (w : Vec Ideal S1x704x1024 .bf16) (r : Fin 512) (l : Fin 1024) : EReal :=
  ∑ j : Fin 704, a (ix3 0 r j) * w (ix3 0 j l)

theorem pay3_apply (a0 : Vec Ideal S1x512x704 .bf16) (w0 : Vec Ideal S1x704x1024 .bf16) (a1 : Vec Ideal S1x512x704 .bf16)
    (w1 : Vec Ideal S1x704x1024 .bf16) (a2 : Vec Ideal S1x512x704 .bf16) (w2 : Vec Ideal S1x704x1024 .bf16)
    (a3 : Vec Ideal S1x512x704 .bf16) (w3 : Vec Ideal S1x704x1024 .bf16) (r : Fin 512) (l : Fin 1024) :
    k0_pay3 a0 w0 a1 w1 a2 w2 a3 w3 (ix2 r l) = chunkDot a0 w0 r l + chunkDot a1 w1 r l + chunkDot a2 w2 r l + chunkDot a3 w3 r l := by
  pointwise [k0_pay3, chunkDot]

theorem pay1_apply (s h k : FVec Ideal S512x1024 .f32) (r : Fin 512) (l : Fin 1024) :
    k0_pay1 s h k (ix2 r l) = h (ix2 r l) + k (ix2 r l) * s (ix2 r l) := by
  pointwise [k0_pay1]

theorem pay4_apply (r : Fin 512) (l : Fin 1024) : k0_pay4 (F := Ideal) (ix2 r l) = Ideal.ofBits FTy.f32 1056964608#32 := by
  pointwise [k0_pay4]

theorem pay2_apply (s h k : FVec Ideal S512x1024 .f32) (g : Vec Ideal S1x1024 .f32) (r : Fin 512) (l : Fin 1024) :
    k0_pay2 s h k g (ix2 r l) = k0_pay1 s h k (ix2 r l) * Ideal.rsqrt (Ideal.div (∑ j : Fin 1024, k0_pay1 s h k (ix2 r j)
      * k0_pay1 s h k (ix2 r j)) Cert.Norm.width + Cert.Norm.eps) * g (ix2 0 l) := by
  generalize e : k0_pay1 s h k = y
  pointwise [k0_pay2, e, Cert.Norm.width, Cert.Norm.eps]

variable (m : (ℓ : Loc nD τ sig) → Buf (Elt Ideal) ℓ)

/-- The block each window holds at grid point `t`. -/
theorem idx : ∀ t : Fin grid0.N, win0_0.index t = ![t.val, 0] ∧ win0_1.index t = ![0, t.val, 0] ∧ win0_2.index t = ![0, 0, 0]
    ∧ win0_3.index t = ![0, 0] ∧ win0_4.index t = ![t.val, 0] ∧ win0_5.index t = ![t.val, 0] := by
  decide +kernel

/-- Row `p` of block `t`, among all rows. -/
def row (t : Fin cfg0.N) (p : Fin 512) : Fin 8192 :=
  ⟨512 * t.val + p.val, by have := t.isLt; have h : cfg0.N = 16 := N_0; omega⟩

theorem blk0 (c : Dev nD) (t : Fin cfg0.N) (p : Fin 512) (k : Fin 1024) :
    (iblk m c 0 t : Vec Ideal S512x1024 .f32) (ix2 p k) = (m ((c : Thread nD τ).loc main_arg0)) (ix2 (row t p) k) := by
  blk_ext [iblk, V, idx t, row]
theorem blk1 (c : Dev nD) (t : Fin cfg0.N) (q : Fin 4) (p : Fin 512) (j : Fin 704) :
    (iblk m c 1 t : Vec Ideal S4x512x704 .bf16) (ix3 q p j) = (m ((c : Thread nD τ).loc main_arg1)) (ix3 q (row t p) j) := by
  blk_ext [iblk, V, idx t, row]
theorem blk2 (c : Dev nD) (t : Fin cfg0.N) (q : Fin 4) (j : Fin 704) (l : Fin 1024) :
    (iblk m c 2 t : Vec Ideal S4x704x1024 .bf16) (ix3 q j l) = (m ((c : Thread nD τ).loc main_arg2)) (ix3 q j l) := by
  blk_ext [iblk, V, idx t]
theorem blk3 (c : Dev nD) (t : Fin cfg0.N) (l : Fin 1024) :
    (iblk m c 3 t : Vec Ideal S1x1024 .f32) (ix2 0 l) = (m ((c : Thread nD τ).loc main_arg3)) (ix2 0 l) := by
  blk_ext [iblk, V, idx t]
theorem part_0 (c : Dev nD) (t : Fin cfg0.N) (r : Fin 512) (l : Fin 1024) :
    chunkDot (View.ld (iblk m c 1 t) r0_0) (View.ld (iblk m c 2 t) r0_1) r l = part (m ((c : Thread nD τ).loc main_arg1)) (m ((c : Thread nD τ).loc main_arg2)) 0 (row t r) l := by
  refine Finset.sum_congr rfl fun j _ => ?_
  rw [← blk1 m c t 0 r j, ← blk2 m c t 0 j l]
  refine congrArg₂ (· * ·) ?_ ?_ <;> pointwise []
theorem part_1 (c : Dev nD) (t : Fin cfg0.N) (r : Fin 512) (l : Fin 1024) :
    chunkDot (View.ld (iblk m c 1 t) r0_2) (View.ld (iblk m c 2 t) r0_3) r l = part (m ((c : Thread nD τ).loc main_arg1)) (m ((c : Thread nD τ).loc main_arg2)) 1 (row t r) l := by
  refine Finset.sum_congr rfl fun j _ => ?_
  rw [← blk1 m c t 1 r j, ← blk2 m c t 1 j l]
  refine congrArg₂ (· * ·) ?_ ?_ <;> pointwise []
theorem part_2 (c : Dev nD) (t : Fin cfg0.N) (r : Fin 512) (l : Fin 1024) :
    chunkDot (View.ld (iblk m c 1 t) r0_4) (View.ld (iblk m c 2 t) r0_5) r l = part (m ((c : Thread nD τ).loc main_arg1)) (m ((c : Thread nD τ).loc main_arg2)) 2 (row t r) l := by
  refine Finset.sum_congr rfl fun j _ => ?_
  rw [← blk1 m c t 2 r j, ← blk2 m c t 2 j l]
  refine congrArg₂ (· * ·) ?_ ?_ <;> pointwise []
theorem part_3 (c : Dev nD) (t : Fin cfg0.N) (r : Fin 512) (l : Fin 1024) :
    chunkDot (View.ld (iblk m c 1 t) r0_6) (View.ld (iblk m c 2 t) r0_7) r l = part (m ((c : Thread nD τ).loc main_arg1)) (m ((c : Thread nD τ).loc main_arg2)) 3 (row t r) l := by
  refine Finset.sum_congr rfl fun j _ => ?_
  rw [← blk1 m c t 3 r j, ← blk2 m c t 3 j l]
  refine congrArg₂ (· * ·) ?_ ?_ <;> pointwise []

/-- The sum that the kernel's first result stores, at one grid point. -/
theorem sum_apply (c : Dev nD) (t : Fin cfg0.N) (r : Fin 512) (l : Fin 1024) :
    k0_pay1 (k0_pay5 (iblk m c 0 t) (iblk m c 1 t) (iblk m c 2 t) (iblk m c 3 t)) (iblk m c 0 t)
      (k0_pay6 (iblk m c 0 t) (iblk m c 1 t) (iblk m c 2 t) (iblk m c 3 t)) (ix2 r l)
      = summed (m ((c : Thread nD τ).loc main_arg0)) (m ((c : Thread nD τ).loc main_arg1)) (m ((c : Thread nD τ).loc main_arg2)) (row t r) l := by
  rw [pay1_apply, k0_pay5, k0_pay6, pay3_apply, pay4_apply, summed, Fin.sum_univ_four]
  exact congrArg₂ (· + ·) (blk0 m c t r l) (congrArg (_ * ·) (congrArg₂ (· + ·) (congrArg₂ (· + ·) (congrArg₂ (· + ·)
    (part_0 m c t r l) (part_1 m c t r l)) (part_2 m c t r l)) (part_3 m c t r l)))

theorem arr4 (c : Dev nD) : (dats m 0 c).arrAt 4 cfg0.N = Cert.DownRefIdeal.Read.val_main_v8 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨r, l, rfl⟩ : ∃ (r : Fin 512) (l : Fin 1024), y = ix2 r l := ⟨y 0, y 1, eq_ix2 y⟩
  have e : (((cfg0.win 4).blk t).view.emb (ix2 r l)) = ix2 (row t r) l := by blk_ext [idx t, row]
  rw [e, val8_apply]
  blk_simp
  rw [after0_4]
  frame_out
  exact sum_apply m c t r l

theorem arr5 (c : Dev nD) : (dats m 0 c).arrAt 5 cfg0.N = Cert.DownRefIdeal.Read.val_main_v21 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 512) (l : Fin 1024), y = ix2 r l := ⟨y 0, y 1, eq_ix2 y⟩
  have e : (((cfg0.win 5).blk t).view.emb (ix2 r l)) = ix2 (row t r) l := by blk_ext [idx t, row]
  rw [e, val21_apply]
  blk_simp
  rw [after0_5]
  frame_out
  refine (pay2_apply _ _ _ _ r l).trans ?_
  simp only [sum_apply, blk3, square]

end Cert.DownIdeal.RefValue

end
-- ==== Proof.Down.Claims.lean ====
/- The kernel for the second half of a feed-forward block and the reference end with the same two arrays. -/
module

public import proofs.«01_k».proof.Defs
public import proofs.«01_k».proof.Proof.Down.Arrays
public import proofs.«01_k».proof.Proof.Gen.DownRefIdeal.Run

@[expose] public section

set_option maxRecDepth 16384

noncomputable section

namespace Cert.Proof.DownClaims

open Idealize.ShloMosaic Idealize.SL.Sem

theorem algebraic : Cert.algebraic_DownIdeal_DownRefIdeal := by
  intro m ρ m' ρ' _ agree
  refine ⟨fun c => Cert.DownRefIdeal.Read.val_main_v8 (F := Ideal) (m ((c.tc : Thread _ _).loc Cert.DownIdeal.main_arg0)) (m ((c.tc : Thread _ _).loc Cert.DownIdeal.main_arg1)) (m ((c.tc : Thread _ _).loc Cert.DownIdeal.main_arg2)),
    fun c => Cert.DownRefIdeal.Read.val_main_v21 (F := Ideal) (m ((c.tc : Thread _ _).loc Cert.DownIdeal.main_arg0)) (m ((c.tc : Thread _ _).loc Cert.DownIdeal.main_arg1)) (m ((c.tc : Thread _ _).loc Cert.DownIdeal.main_arg2)) (m ((c.tc : Thread _ _).loc Cert.DownIdeal.main_arg3)),
    ?_, ?_⟩
  · refine (θ_run _ _ _).mono (fun r h c => ?_) (Cert.DownIdeal.Value.run_blocks (F := Ideal) m ρ)
    obtain ⟨h0, h1, kept⟩ := h c
    exact ⟨h0.trans (Cert.DownIdeal.RefValue.arr4 m c), h1.trans (Cert.DownIdeal.RefValue.arr5 m c), kept⟩
  · refine (θ_run _ _ _).mono (fun r h c => ?_) (Cert.DownRefIdeal.Value.run (F := Ideal) m' ρ')
    obtain ⟨h0, h1, kept⟩ := h c
    obtain ⟨a0, a1, a2, a3⟩ := agree c
    refine ⟨h0.trans ?_, h1.trans ?_, kept⟩
    · simp only [← a0, ← a1, ← a2]
      first | exact Cert.DownRefIdeal.Read.val_main_v8_eq (F := Ideal) m' c | rfl
    · simp only [← a0, ← a1, ← a2, ← a3]
      first | exact Cert.DownRefIdeal.Read.val_main_v21_eq (F := Ideal) m' c | rfl

/-- The reference runs, keeps its arguments, and has no semaphore that could be left raised. -/
theorem frame_ref : Cert.quiescent_DownRefIdeal := fun m ρ _ =>
  (θ_run _ _ _).mono (fun r h => ⟨fun c => by
    obtain ⟨_, _, kept⟩ := h c
    exact kept, sem_eq_zero_of_no_sems rfl _⟩) (Cert.DownRefIdeal.Value.run (F := Ideal) m ρ)

theorem preserves : Cert.preserves_Down_DownIdeal := trivial

end Cert.Proof.DownClaims

end
-- ==== Proof.Mix.Formulas.lean ====
/- The mixer's eight projections of the normalised rows, as formulas at one index. -/
module

public import proofs.«01_k».proof.Proof.Gen.MixRefIdeal.Read
public import proofs.«01_k».proof.Proof.Common
public import Idealize.ShloMosaic.Lib.Pipeline.ValueKit
public import Idealize.ShloMosaic.Lib.Pointwise

@[expose] public section

set_option maxRecDepth 16384

noncomputable section

namespace Cert.MixRefIdeal.Formulas

open Cert.MixRefIdeal Cert.MixRefIdeal.Read Idealize.ShloMosaic Idealize.ShloMosaic.TcCoe

variable (x0 : (⟨S8192x1024, .bf16⟩ : BufTy).Contents (Elt Ideal)) (x1 : (⟨S8x1024x1024, .bf16⟩ : BufTy).Contents (Elt Ideal))

/-- A row against a column of one of the eight weights. -/
def projected (d : Fin 8) (r : Fin 8192) (l : Fin 1024) : EReal := ∑ k : Fin 1024, x0 (ix2 r k) * x1 (ix3 d k l)

theorem val7_apply (d : Fin 8) (r : Fin 8192) (l : Fin 1024) : val_main_v7 (F := Ideal) x0 x1 (ix3 d r l) = projected x0 x1 d r l := by
  generalize e : projected x0 x1 d r l = G
  pointwise [val_main_v7, val_main_v6, val_main_v5, val_main_v4, val_main_v3, val_main_v2, val_main_v1, val_main_v0]
  rw [← e]
  refine Finset.sum_congr rfl fun k _ => congrArg (x0 (ix2 r k) * x1 ·) ?_
  funext a
  fin_cases a <;> refine Fin.ext ?_ <;> simp <;> omega

end Cert.MixRefIdeal.Formulas

end
-- ==== Proof.Mix.Arrays.lean ====
/- What the array of the mixer's projections holds after the run: the reference's result, at every index. -/
module

public import proofs.«01_k».proof.Proof.Gen.MixIdeal.Value
public import proofs.«01_k».proof.Proof.Mix.Formulas
public import Idealize.ShloMosaic.Lib.Pipeline.ValueKit
public import Idealize.ShloMosaic.Lib.Pointwise
public import Idealize.ShloMosaic.Lib.Claim

@[expose] public section

set_option maxRecDepth 16384

noncomputable section

namespace Cert.MixIdeal.RefValue

open Cert.MixIdeal Cert.MixIdeal.Gen Idealize.ShloMosaic Idealize.ShloMosaic.TcCoe Idealize.SL.Sem
open Idealize.ShloMosaic.Pipeline (Dat)
open Cert.MixRefIdeal.Formulas

theorem pay1_apply (x : Vec Ideal S2048x1024 .bf16) (w : Vec Ideal S1x1024x1024 .bf16) (r : Fin 2048) (l : Fin 1024) :
    k0_pay1 x w (ix3 0 r l) = ∑ k : Fin 1024, x (ix2 r k) * w (ix3 0 k l) := by
  pointwise [k0_pay1]

variable (m : (ℓ : Loc nD τ sig) → Buf (Elt Ideal) ℓ)

/-- The block each window holds at grid point `t`: the weight outside, the rows inside. -/
theorem idx : ∀ t : Fin grid0.N, win0_0.index t = ![t.val % 4, 0] ∧ win0_1.index t = ![t.val / 4, 0, 0]
    ∧ win0_2.index t = ![t.val / 4, t.val % 4, 0] := by
  decide +kernel

/-- Row `p` of the block at grid point `t`, among all rows. -/
def row (t : Fin cfg0.N) (p : Fin 2048) : Fin 8192 :=
  ⟨2048 * (t.val % 4) + p.val, by omega⟩
/-- The weight of grid point `t`. -/
def which (t : Fin cfg0.N) : Fin 8 := ⟨t.val / 4, by have := t.isLt; have h : cfg0.N = 32 := N_0; omega⟩

theorem blk0 (c : Dev nD) (t : Fin cfg0.N) (p : Fin 2048) (k : Fin 1024) :
    (iblk m c 0 t : Vec Ideal S2048x1024 .bf16) (ix2 p k) = (m ((c : Thread nD τ).loc main_arg0)) (ix2 (row t p) k) := by
  blk_ext [iblk, V, idx t, row]
theorem blk1 (c : Dev nD) (t : Fin cfg0.N) (k l : Fin 1024) :
    (iblk m c 1 t : Vec Ideal S1x1024x1024 .bf16) (ix3 0 k l) = (m ((c : Thread nD τ).loc main_arg1)) (ix3 (which t) k l) := by
  blk_ext [iblk, V, idx t, which]

theorem arr2 (c : Dev nD) : (dats m 0 c).arrAt 2 cfg0.N = Cert.MixRefIdeal.Read.val_main_v7 (F := Ideal) (m ((c : Thread nD τ).loc main_arg0)) (m ((c : Thread nD τ).loc main_arg1)) := by
  refine (dats m 0 c).arrAt_eq_of_covers 2 _ (by decide +kernel) fun t hf y => ?_
  obtain ⟨q, r, l, rfl⟩ : ∃ (q : Fin 1) (r : Fin 2048) (l : Fin 1024), y = ix3 q r l := ⟨y 0, y 1, y 2, eq_ix3 y⟩
  obtain rfl : q = 0 := Subsingleton.elim _ _
  have e : (((cfg0.win 2).blk t).view.emb (ix3 0 r l)) = ix3 (which t) (row t r) l := by blk_ext [idx t, row, which]
  rw [e, val7_apply, projected]
  blk_simp
  rw [after0_2]
  frame_out
  refine (pay1_apply _ _ r l).trans (Finset.sum_congr rfl fun k _ => ?_)
  rw [← blk0 m c t r k, ← blk1 m c t k l]

end Cert.MixIdeal.RefValue

end
-- ==== Proof.Mix.Claims.lean ====
/- The kernel for the mixer's eight projections and the reference end with the same array. -/
module

public import proofs.«01_k».proof.Defs
public import proofs.«01_k».proof.Proof.Mix.Arrays
public import proofs.«01_k».proof.Proof.Gen.MixRefIdeal.Run

@[expose] public section

set_option maxRecDepth 16384

noncomputable section

namespace Cert.Proof.MixClaims

open Idealize.ShloMosaic Idealize.SL.Sem

theorem algebraic : Cert.algebraic_MixIdeal_MixRefIdeal := by
  intro m ρ m' ρ' _ agree
  refine ⟨fun c => Cert.MixRefIdeal.Read.val_main_v7 (F := Ideal) (m ((c.tc : Thread _ _).loc Cert.MixIdeal.main_arg0)) (m ((c.tc : Thread _ _).loc Cert.MixIdeal.main_arg1)),
    ?_, ?_⟩
  · refine (θ_run _ _ _).mono (fun r h c => ?_) (Cert.MixIdeal.Value.run_blocks (F := Ideal) m ρ)
    obtain ⟨h0, kept⟩ := h c
    exact ⟨h0.trans (Cert.MixIdeal.RefValue.arr2 m c), kept⟩
  · refine (θ_run _ _ _).mono (fun r h c => ?_) (Cert.MixRefIdeal.Value.run (F := Ideal) m' ρ')
    obtain ⟨h0, kept⟩ := h c
    obtain ⟨a0, a1⟩ := agree c
    refine ⟨h0.trans ?_, kept⟩
    · simp only [← a0, ← a1]
      first | exact Cert.MixRefIdeal.Read.val_main_v7_eq (F := Ideal) m' c | rfl

/-- The reference runs, keeps its arguments, and has no semaphore that could be left raised. -/
theorem frame_ref : Cert.quiescent_MixRefIdeal := fun m ρ _ =>
  (θ_run _ _ _).mono (fun r h => ⟨fun c => by
    obtain ⟨_, kept⟩ := h c
    exact kept, sem_eq_zero_of_no_sems rfl _⟩) (Cert.MixRefIdeal.Value.run (F := Ideal) m ρ)

theorem preserves : Cert.preserves_Mix_MixIdeal := trivial

end Cert.Proof.MixClaims

end
-- ==== Proof.Merge.Formulas.lean ====
/- The end of the mixer's forward pass, as formulas at one index: the short convolution's branch, attention's output product, the
   two gates, the merging product on the residual stream, and its norm. -/
module

public import proofs.«01_k».proof.Proof.Gen.MergeRefIdeal.Read
public import proofs.«01_k».proof.Proof.Common
public import proofs.«01_k».proof.Proof.Norm
public import Idealize.ShloMosaic.Lib.Pipeline.ValueKit
public import Idealize.ShloMosaic.Lib.Pointwise

@[expose] public section

set_option maxRecDepth 16384

noncomputable section

namespace Cert.MergeRefIdeal.Formulas

open Cert.MergeRefIdeal Cert.MergeRefIdeal.Read Idealize.ShloMosaic Idealize.ShloMosaic.TcCoe

variable (x0 : (⟨S8x8192x1024, .bf16⟩ : BufTy).Contents (Elt Ideal)) (x1 : (⟨S8192x1024, .bf16⟩ : BufTy).Contents (Elt Ideal)) (x2 : (⟨S8192x1024, .f32⟩ : BufTy).Contents (Elt Ideal)) (x3 : (⟨S3x1024, .f32⟩ : BufTy).Contents (Elt Ideal)) (x4 : (⟨S1024x1024, .bf16⟩ : BufTy).Contents (Elt Ideal)) (x5 : (⟨S1024x1024, .bf16⟩ : BufTy).Contents (Elt Ideal)) (x6 : (⟨S1024x1024, .bf16⟩ : BufTy).Contents (Elt Ideal)) (x7 : (⟨S1x1024, .f32⟩ : BufTy).Contents (Elt Ideal))

/-- What the convolution reads. -/
def fed (r : Fin 8192) (k : Fin 1024) : EReal := x0 (ix3 1 r k) * x0 (ix3 2 r k)
/-- The convolution over a row and the two before it, which count as zero before the start. -/
def convolved (r : Fin 8192) (k : Fin 1024) : EReal :=
  x3 (ix2 0 k) * (if _h : r.val < 2 then 0 else fed x0 ⟨r.val - 2, by omega⟩ k)
    + x3 (ix2 1 k) * (if _h : r.val < 1 then 0 else fed x0 ⟨r.val - 1, by omega⟩ k)
    + x3 (ix2 2 k) * fed x0 r k
/-- The convolution's branch before its output product, and after it. -/
def branch (r : Fin 8192) (k : Fin 1024) : EReal := x0 (ix3 0 r k) * convolved x0 x3 r k
def convOut (r : Fin 8192) (l : Fin 1024) : EReal := ∑ k : Fin 1024, branch x0 x3 r k * x4 (ix2 k l)
/-- Attention's output product. -/
def attnOut (r : Fin 8192) (l : Fin 1024) : EReal := ∑ k : Fin 1024, x1 (ix2 r k) * x5 (ix2 k l)
/-- A gate, from its projection. -/
def gate (g : Fin 8) (r : Fin 8192) (k : Fin 1024) : EReal := Ideal.logistic (x0 (ix3 g r k))
/-- The two branches, gated and added. -/
def merged (r : Fin 8192) (k : Fin 1024) : EReal :=
  gate x0 6 r k * convOut x0 x3 x4 r k + gate x0 7 r k * attnOut x1 x5 r k
/-- The residual stream after the mixer. -/
def summed (r : Fin 8192) (l : Fin 1024) : EReal :=
  x2 (ix2 r l) + ∑ k : Fin 1024, merged x0 x1 x3 x4 x5 r k * x6 (ix2 k l)
/-- The mean of its row's squares, with the small constant added. -/
def square (r : Fin 8192) : EReal := Ideal.div (∑ k : Fin 1024, summed x0 x1 x2 x3 x4 x5 x6 r k * summed x0 x1 x2 x3 x4 x5 x6 r k)
  Cert.Norm.width + Cert.Norm.eps

theorem val45_apply (r : Fin 8192) (k : Fin 1024) : val_main_v45 (F := Ideal) x0 x3 (ix2 r k) = convolved x0 x3 r k := by
  have e : ∀ h : 1 + r.val - 2 < 8192, (⟨1 + r.val - 2, h⟩ : Fin 8192) = ⟨r.val - 1, by omega⟩ := fun h =>
    Fin.ext (by show 1 + r.val - 2 = r.val - 1; omega)
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v24, val_main_v8, val_main_v7, val_main_v6, val_main_v5, val_main_v4, val_main_v3, val_main_v26, val_main_v25, val_main_cst, Cert.MergeRefIdeal.Value.fn_main_v26, convolved, fed]
  have e1 : (1 + r.val < 2) = (r.val < 1) := propext (by omega)
  simp only [e, e1]

theorem val46_apply (r : Fin 8192) (k : Fin 1024) : val_main_v46 (F := Ideal) x0 x3 (ix2 r k) = branch x0 x3 r k := by
  pointwise [val_main_v46, val_main_v2, val_main_v1, val_main_v0, val45_apply, branch]
theorem val83_apply (r : Fin 8192) (k : Fin 1024) : val_main_v83 (F := Ideal) x0 x3 (ix2 r k) = branch x0 x3 r k := by
  pointwise [val_main_v83, val46_apply]
theorem val48_apply (r : Fin 8192) (k : Fin 1024) : val_main_v48 (F := Ideal) x0 x3 x4 (ix2 r k) = convOut x0 x3 x4 r k := by
  pointwise [val_main_v48, val_main_v47, val46_apply, convOut]
theorem val84_apply (r : Fin 8192) (k : Fin 1024) : val_main_v84 (F := Ideal) x0 x3 x4 (ix2 r k) = convOut x0 x3 x4 r k := by
  pointwise [val_main_v84, val48_apply]
theorem val51_apply (r : Fin 8192) (k : Fin 1024) : val_main_v51 (F := Ideal) x1 x5 (ix2 r k) = attnOut x1 x5 r k := by
  pointwise [val_main_v51, val_main_v50, val_main_v49, attnOut]
theorem val85_apply (r : Fin 8192) (k : Fin 1024) : val_main_v85 (F := Ideal) x1 x5 (ix2 r k) = attnOut x1 x5 r k := by
  pointwise [val_main_v85, val51_apply]
theorem val57_apply (r : Fin 8192) (k : Fin 1024) : val_main_v57 (F := Ideal) x0 (ix2 r k) = gate x0 6 r k := by
  pointwise [val_main_v57, val_main_v56, val_main_v55, val_main_v54, val_main_v53, val_main_v52, val_main_v20, val_main_v19, val_main_v18, val_main_cst_0, val_main_cst_1, gate, Ideal.logistic]
theorem val64_apply (r : Fin 8192) (k : Fin 1024) : val_main_v64 (F := Ideal) x0 (ix2 r k) = gate x0 7 r k := by
  pointwise [val_main_v64, val_main_v63, val_main_v62, val_main_v61, val_main_v60, val_main_v59, val_main_v23, val_main_v22, val_main_v21, val_main_cst_2, val_main_cst_3, gate, Ideal.logistic]
theorem val66_apply (r : Fin 8192) (k : Fin 1024) : val_main_v66 (F := Ideal) x0 x1 x3 x4 x5 (ix2 r k) = merged x0 x1 x3 x4 x5 r k := by
  pointwise [val_main_v66, val_main_v65, val_main_v58, val57_apply, val64_apply, val48_apply, val51_apply, merged]
theorem val86_apply (r : Fin 8192) (k : Fin 1024) : val_main_v86 (F := Ideal) x0 x1 x3 x4 x5 (ix2 r k) = merged x0 x1 x3 x4 x5 r k := by
  pointwise [val_main_v86, val66_apply]
theorem val69_apply (r : Fin 8192) (k : Fin 1024) : val_main_v69 (F := Ideal) x0 x1 x2 x3 x4 x5 x6 (ix2 r k) = summed x0 x1 x2 x3 x4 x5 x6 r k := by
  pointwise [val_main_v69, val_main_v68, val_main_v67, val66_apply, summed]
theorem val82_apply (r : Fin 8192) (k : Fin 1024) : val_main_v82 (F := Ideal) x0 x1 x2 x3 x4 x5 x6 x7 (ix2 r k) = summed x0 x1 x2 x3 x4 x5 x6 r k * Ideal.rsqrt (square x0 x1 x2 x3 x4 x5 x6 r) * x7 (ix2 0 k) := by
  pointwise [val_main_v82, val_main_v81, val_main_v80, val_main_v79, val_main_v78, val_main_v77, val_main_v76, val_main_v75, val_main_v74, val_main_v73, val_main_v72, val_main_v71, val_main_v70, val_main_cst_4, val_main_cst_5, val_main_cst_6, val69_apply, square, Cert.Norm.width, Cert.Norm.eps]

end Cert.MergeRefIdeal.Formulas

end
-- ==== Proof.Merge.Blocks.lean ====
/- What the kernel for the end of the mixer's forward pass holds in its input windows at one grid point: 512 rows of each array,
   the sixteen rows before them for the convolution, and the whole weight matrices. -/
module

public import proofs.«01_k».proof.Proof.Gen.MergeIdeal.Value
public import proofs.«01_k».proof.Proof.Merge.Formulas
public import Idealize.ShloMosaic.Lib.Pipeline.ValueKit
public import Idealize.ShloMosaic.Lib.Pointwise
public import Idealize.ShloMosaic.Lib.Claim

@[expose] public section

set_option maxRecDepth 16384

noncomputable section

namespace Cert.MergeIdeal.RefValue

open Cert.MergeIdeal Cert.MergeIdeal.Gen Idealize.ShloMosaic Idealize.ShloMosaic.TcCoe Idealize.SL.Sem
open Idealize.ShloMosaic.Pipeline (Dat)
open Cert.MergeRefIdeal.Formulas

variable (m : (ℓ : Loc nD τ sig) → Buf (Elt Ideal) ℓ)

/-- The block each window holds at grid point `t`. -/
theorem idx : ∀ t : Fin grid0.N, (grid0.coords t 0).val = t.val ∧ win0_0.index t = ![0, t.val, 0] ∧ win0_1.index t = ![1, t.val, 0]
    ∧ win0_2.index t = ![2, t.val, 0] ∧ win0_3.index t = ![6, t.val, 0] ∧ win0_4.index t = ![7, t.val, 0]
    ∧ win0_5.index t = ![1, 32 * t.val - 1, 0] ∧ win0_6.index t = ![2, 32 * t.val - 1, 0] ∧ win0_7.index t = ![t.val, 0]
    ∧ win0_8.index t = ![t.val, 0] ∧ win0_9.index t = ![0, 0] ∧ win0_10.index t = ![0, 0] ∧ win0_11.index t = ![0, 0]
    ∧ win0_12.index t = ![0, 0] ∧ win0_13.index t = ![0, 0] := by
  decide +kernel

/-- The block each output window writes at grid point `t`. -/
theorem oidx : ∀ t : Fin grid0.N, win0_14.index t = ![t.val, 0] ∧ win0_15.index t = ![t.val, 0] ∧ win0_16.index t = ![t.val, 0] ∧ win0_17.index t = ![t.val, 0] ∧ win0_18.index t = ![t.val, 0] ∧ win0_19.index t = ![t.val, 0] := by
  decide +kernel

/-- Row `p` of block `t`, among all rows. -/
def row (t : Fin cfg0.N) (p : Fin 512) : Fin 8192 :=
  ⟨512 * t.val + p.val, by have := t.isLt; have h : cfg0.N = 16 := N_0; omega⟩

theorem blk0 (c : Dev nD) (t : Fin cfg0.N) (p : Fin 512) (k : Fin 1024) :
    (iblk m c 0 t : Vec Ideal S1x512x1024 .bf16) (ix3 0 p k) = (m ((c : Thread nD τ).loc main_arg0)) (ix3 0 (row t p) k) := by
  blk_ext [iblk, V, idx t, row]
theorem blk1 (c : Dev nD) (t : Fin cfg0.N) (p : Fin 512) (k : Fin 1024) :
    (iblk m c 1 t : Vec Ideal S1x512x1024 .bf16) (ix3 0 p k) = (m ((c : Thread nD τ).loc main_arg0)) (ix3 1 (row t p) k) := by
  blk_ext [iblk, V, idx t, row]
theorem blk2 (c : Dev nD) (t : Fin cfg0.N) (p : Fin 512) (k : Fin 1024) :
    (iblk m c 2 t : Vec Ideal S1x512x1024 .bf16) (ix3 0 p k) = (m ((c : Thread nD τ).loc main_arg0)) (ix3 2 (row t p) k) := by
  blk_ext [iblk, V, idx t, row]
theorem blk3 (c : Dev nD) (t : Fin cfg0.N) (p : Fin 512) (k : Fin 1024) :
    (iblk m c 3 t : Vec Ideal S1x512x1024 .bf16) (ix3 0 p k) = (m ((c : Thread nD τ).loc main_arg0)) (ix3 6 (row t p) k) := by
  blk_ext [iblk, V, idx t, row]
theorem blk4 (c : Dev nD) (t : Fin cfg0.N) (p : Fin 512) (k : Fin 1024) :
    (iblk m c 4 t : Vec Ideal S1x512x1024 .bf16) (ix3 0 p k) = (m ((c : Thread nD τ).loc main_arg0)) (ix3 7 (row t p) k) := by
  blk_ext [iblk, V, idx t, row]
/-- The sixteen rows before block `t`, which has a block before it. -/
theorem blk5 (c : Dev nD) (t : Fin cfg0.N) (ht : t.val ≠ 0) (p : Fin 16) (k : Fin 1024) (r : Fin 8192)
    (hr : r.val + 16 = 512 * t.val + p.val) :
    (iblk m c 5 t : Vec Ideal S1x16x1024 .bf16) (ix3 0 p k) = (m ((c : Thread nD τ).loc main_arg0)) (ix3 1 r k) := by
  blk_ext [iblk, V, idx t]
/-- The sixteen rows before block `t`, which has a block before it. -/
theorem blk6 (c : Dev nD) (t : Fin cfg0.N) (ht : t.val ≠ 0) (p : Fin 16) (k : Fin 1024) (r : Fin 8192)
    (hr : r.val + 16 = 512 * t.val + p.val) :
    (iblk m c 6 t : Vec Ideal S1x16x1024 .bf16) (ix3 0 p k) = (m ((c : Thread nD τ).loc main_arg0)) (ix3 2 r k) := by
  blk_ext [iblk, V, idx t]
theorem blk7 (c : Dev nD) (t : Fin cfg0.N) (p : Fin 512) (k : Fin 1024) :
    (iblk m c 7 t : Vec Ideal S512x1024 .bf16) (ix2 p k) = (m ((c : Thread nD τ).loc main_arg1)) (ix2 (row t p) k) := by
  blk_ext [iblk, V, idx t, row]
theorem blk8 (c : Dev nD) (t : Fin cfg0.N) (p : Fin 512) (k : Fin 1024) :
    (iblk m c 8 t : Vec Ideal S512x1024 .f32) (ix2 p k) = (m ((c : Thread nD τ).loc main_arg2)) (ix2 (row t p) k) := by
  blk_ext [iblk, V, idx t, row]
theorem blk9 (c : Dev nD) (t : Fin cfg0.N) (p : Fin 3) (k : Fin 1024) :
    (iblk m c 9 t : Vec Ideal S3x1024 .f32) (ix2 p k) = (m ((c : Thread nD τ).loc main_arg3)) (ix2 p k) := by
  blk_ext [iblk, V, idx t]
theorem blk10 (c : Dev nD) (t : Fin cfg0.N) (p : Fin 1024) (k : Fin 1024) :
    (iblk m c 10 t : Vec Ideal S1024x1024 .bf16) (ix2 p k) = (m ((c : Thread nD τ).loc main_arg4)) (ix2 p k) := by
  blk_ext [iblk, V, idx t]
theorem blk11 (c : Dev nD) (t : Fin cfg0.N) (p : Fin 1024) (k : Fin 1024) :
    (iblk m c 11 t : Vec Ideal S1024x1024 .bf16) (ix2 p k) = (m ((c : Thread nD τ).loc main_arg5)) (ix2 p k) := by
  blk_ext [iblk, V, idx t]
theorem blk12 (c : Dev nD) (t : Fin cfg0.N) (p : Fin 1024) (k : Fin 1024) :
    (iblk m c 12 t : Vec Ideal S1024x1024 .bf16) (ix2 p k) = (m ((c : Thread nD τ).loc main_arg6)) (ix2 p k) := by
  blk_ext [iblk, V, idx t]
theorem blk13 (c : Dev nD) (t : Fin cfg0.N) (p : Fin 1) (k : Fin 1024) :
    (iblk m c 13 t : Vec Ideal S1x1024 .f32) (ix2 p k) = (m ((c : Thread nD τ).loc main_arg7)) (ix2 p k) := by
  blk_ext [iblk, V, idx t]

end Cert.MergeIdeal.RefValue

end
-- ==== Proof.Merge.Rows.lean ====
/- The payloads of the kernel for the end of the mixer's forward pass at one index; among them the convolution over one block,
   whose first rows read the sixteen rows before the block. -/
module

public import proofs.«01_k».proof.Proof.Merge.Blocks

@[expose] public section

set_option maxRecDepth 16384

noncomputable section

namespace Cert.MergeIdeal.RefValue

open Cert.MergeIdeal Cert.MergeIdeal.Gen Idealize.ShloMosaic Idealize.ShloMosaic.TcCoe Idealize.SL.Sem
open Idealize.ShloMosaic.Pipeline (Dat)
open Cert.MergeRefIdeal.Formulas

/-- The product of two blocks at one index. -/
def rowProd {s : Shape} (x g : Vec Ideal s .bf16) (i : s.Idx) : EReal := x i * g i
/-- A row before the block: zero if the block is the first. -/
def halo (a : BitVec 32) (x g : Vec Ideal S1x16x1024 .bf16) (p : Fin 16) (l : Fin 1024) : EReal :=
  Scalar.select (Scalar.cmpi .eq a 0#32) 0 (rowProd x g (ix3 0 p l))

theorem pay5_apply (i : grid0.Coords) (hx hg : Vec Ideal S1x16x1024 .bf16) (p : Fin 16) (l : Fin 1024) :
    k0_pay5 i hx hg (ix2 p l) = halo (BitVec.ofNat 32 (i 0).val) hx hg p l := by
  pointwise [k0_pay5, halo, rowProd]

/-- The rows one before: the row above, or the last row of the rows before the block. -/
theorem pay6_apply (i : grid0.Coords) (x g : Vec Ideal S1x512x1024 .bf16) (hx hg : Vec Ideal S1x16x1024 .bf16)
    (r : Fin 512) (l : Fin 1024) : k0_pay6 i x g hx hg (ix2 r l)
      = if r.val = 0 then halo (BitVec.ofNat 32 (i 0).val) hx hg 15 l
        else rowProd x g (ix3 0 ⟨(r.val + 512 - 1) % 512, Nat.mod_lt _ (by omega)⟩ l) := by
  rw [← Cert.Common.select_ofNat r.val 0 (by have := r.isLt; omega) (by omega)]
  pointwise [k0_pay6, pay5_apply, k0_pay4, rowProd]

/-- The rows two before, but for row 1, where the row before the block belongs. -/
theorem pay7_apply (i : grid0.Coords) (x g : Vec Ideal S1x512x1024 .bf16) (hx hg : Vec Ideal S1x16x1024 .bf16)
    (r : Fin 512) (l : Fin 1024) : k0_pay7 i x g hx hg (ix2 r l)
      = if r.val = 0 then halo (BitVec.ofNat 32 (i 0).val) hx hg 14 l
        else rowProd x g (ix3 0 ⟨(r.val + 512 - 2) % 512, Nat.mod_lt _ (by omega)⟩ l) := by
  rw [← Cert.Common.select_ofNat r.val 0 (by have := r.isLt; omega) (by omega)]
  pointwise [k0_pay7, pay5_apply, k0_pay4, rowProd]

/-- The convolution over one block, times its outer factor. -/
theorem pay10_apply (i : grid0.Coords) (x g y : Vec Ideal S1x512x1024 .bf16) (hx hg : Vec Ideal S1x16x1024 .bf16)
    (cw : Vec Ideal S3x1024 .f32) (r : Fin 512) (l : Fin 1024) :
    k0_pay10 (k0_pay4 x g) (k0_pay6 i x g hx hg) (k0_pay7 i x g hx hg) k0_pay8 (k0_pay9 i hx hg) cw y (ix2 r l)
      = y (ix3 0 r l) * (cw (ix2 0 l) * (if r.val = 1 then halo (BitVec.ofNat 32 (i 0).val) hx hg 15 l
            else k0_pay7 i x g hx hg (ix2 r l))
          + cw (ix2 1 l) * k0_pay6 i x g hx hg (ix2 r l) + cw (ix2 2 l) * rowProd x g (ix3 0 r l)) := by
  rw [← Cert.Common.select_ofNat r.val 1 (by have := r.isLt; omega) (by omega)]
  pointwise [k0_pay10, k0_pay8, k0_pay9, pay5_apply, k0_pay4, rowProd]

theorem pay11_apply (a b d : FVec Ideal S512x1024 .f32) (e : IVec S512x1 1) (f : FVec Ideal S1x1024 .f32) (cw : Vec Ideal S3x1024 .f32)
    (y : Vec Ideal S1x512x1024 .bf16) (w : Vec Ideal S1024x1024 .bf16) (r : Fin 512) (l : Fin 1024) :
    k0_pay11 a b d e f cw y w (ix2 r l) = ∑ k : Fin 1024, k0_pay10 a b d e f cw y (ix2 r k) * w (ix2 k l) := by
  generalize h : k0_pay10 a b d e f cw y = z
  pointwise [k0_pay11, h]
theorem pay12_apply (o : Vec Ideal S512x1024 .bf16) (w : Vec Ideal S1024x1024 .bf16) (r : Fin 512) (l : Fin 1024) :
    k0_pay12 o w (ix2 r l) = ∑ k : Fin 1024, o (ix2 r k) * w (ix2 k l) := by
  pointwise [k0_pay12]
theorem pay1_apply (a b d : FVec Ideal S512x1024 .f32) (g : Vec Ideal S1x512x1024 .bf16) (r : Fin 512) (l : Fin 1024) :
    k0_pay1 a b d g (ix2 r l) = Ideal.logistic (d (ix2 r l)) * a (ix2 r l) + Ideal.logistic (g (ix3 0 r l)) * b (ix2 r l) := by
  pointwise [k0_pay1]
theorem pay15_apply (g : Vec Ideal S1x512x1024 .bf16) (r : Fin 512) (l : Fin 1024) : k0_pay15 g (ix2 r l) = g (ix3 0 r l) := by
  pointwise [k0_pay15]
theorem pay2_apply (a b d : FVec Ideal S512x1024 .f32) (g : Vec Ideal S1x512x1024 .bf16) (h : Vec Ideal S512x1024 .f32)
    (w : Vec Ideal S1024x1024 .bf16) (r : Fin 512) (l : Fin 1024) :
    k0_pay2 a b d g h w (ix2 r l) = h (ix2 r l) + ∑ k : Fin 1024, k0_pay1 a b d g (ix2 r k) * w (ix2 k l) := by
  generalize e : k0_pay1 a b d g = z
  pointwise [k0_pay2, e]
theorem pay3_apply (a b d : FVec Ideal S512x1024 .f32) (g : Vec Ideal S1x512x1024 .bf16) (h : Vec Ideal S512x1024 .f32)
    (w : Vec Ideal S1024x1024 .bf16) (s : Vec Ideal S1x1024 .f32) (r : Fin 512) (l : Fin 1024) :
    k0_pay3 a b d g h w s (ix2 r l) = k0_pay2 a b d g h w (ix2 r l) * Ideal.rsqrt (Ideal.div (∑ j : Fin 1024,
      k0_pay2 a b d g h w (ix2 r j) * k0_pay2 a b d g h w (ix2 r j)) Cert.Norm.width + Cert.Norm.eps) * s (ix2 0 l) := by
  generalize e : k0_pay2 a b d g h w = z
  pointwise [k0_pay3, e, Cert.Norm.width, Cert.Norm.eps]

/-- Loads that read a whole block. -/
theorem whole0 (x : Vec Ideal S1x512x1024 .bf16) : View.ld x r0_0 = x := View.ld_unit_zero (by funext a; fin_cases a <;> rfl) _ _
theorem whole1 (x : Vec Ideal S1x16x1024 .bf16) : View.ld x r0_1 = x := View.ld_unit_zero (by funext a; fin_cases a <;> rfl) _ _
theorem whole2 (x : Vec Ideal S3x1024 .f32) : View.ld x r0_2 = x := View.ld_unit_zero (by funext a; fin_cases a <;> rfl) _ _
theorem whole3 (x : Vec Ideal S512x1024 .bf16) : View.ld x r0_3 = x := View.ld_unit_zero (by funext a; fin_cases a <;> rfl) _ _
theorem whole4 (x : Vec Ideal S1024x1024 .bf16) : View.ld x r0_4 = x := View.ld_unit_zero (by funext a; fin_cases a <;> rfl) _ _

section named
variable (i : grid0.Coords) (x0 : Vec Ideal S1x512x1024 .bf16) (x1 : Vec Ideal S1x512x1024 .bf16) (x2 : Vec Ideal S1x512x1024 .bf16) (x3 : Vec Ideal S1x512x1024 .bf16) (x4 : Vec Ideal S1x512x1024 .bf16) (x5 : Vec Ideal S1x16x1024 .bf16) (x6 : Vec Ideal S1x16x1024 .bf16) (x7 : Vec Ideal S512x1024 .bf16) (x8 : Vec Ideal S512x1024 .f32) (x9 : Vec Ideal S3x1024 .f32) (x10 : Vec Ideal S1024x1024 .bf16) (x11 : Vec Ideal S1024x1024 .bf16) (x12 : Vec Ideal S1024x1024 .bf16) (x13 : Vec Ideal S1x1024 .f32)
theorem pay16_eq : k0_pay16 i x0 x1 x2 x3 x4 x5 x6 x7 x8 x9 x10 x11 x12 x13 = k0_pay4 x1 x2 := by
  simp only [k0_pay16, whole0, whole1, whole2, whole3, whole4]
theorem pay17_eq : k0_pay17 i x0 x1 x2 x3 x4 x5 x6 x7 x8 x9 x10 x11 x12 x13 = k0_pay6 i x1 x2 x5 x6 := by
  simp only [k0_pay17, whole0, whole1, whole2, whole3, whole4]
theorem pay18_eq : k0_pay18 i x0 x1 x2 x3 x4 x5 x6 x7 x8 x9 x10 x11 x12 x13 = k0_pay7 i x1 x2 x5 x6 := by
  simp only [k0_pay18, whole0, whole1, whole2, whole3, whole4]
theorem pay19_eq : k0_pay19 i x0 x1 x2 x3 x4 x5 x6 x7 x8 x9 x10 x11 x12 x13 = k0_pay8 := by
  rfl
theorem pay20_eq : k0_pay20 i x0 x1 x2 x3 x4 x5 x6 x7 x8 x9 x10 x11 x12 x13 = k0_pay9 i x5 x6 := by
  simp only [k0_pay20, whole0, whole1, whole2, whole3, whole4]
theorem pay22_eq : k0_pay22 i x0 x1 x2 x3 x4 x5 x6 x7 x8 x9 x10 x11 x12 x13 = k0_pay12 x7 x11 := by
  simp only [k0_pay22, whole0, whole1, whole2, whole3, whole4]
theorem pay23_eq : k0_pay23 i x0 x1 x2 x3 x4 x5 x6 x7 x8 x9 x10 x11 x12 x13 = k0_pay15 x3 := by
  simp only [k0_pay23, whole0, whole1, whole2, whole3, whole4]
theorem pay21_eq : k0_pay21 i x0 x1 x2 x3 x4 x5 x6 x7 x8 x9 x10 x11 x12 x13
    = k0_pay11 (k0_pay4 x1 x2) (k0_pay6 i x1 x2 x5 x6) (k0_pay7 i x1 x2 x5 x6) k0_pay8 (k0_pay9 i x5 x6) x9 x0 x10 := by
  simp only [k0_pay21, pay16_eq, pay17_eq, pay18_eq, pay19_eq, pay20_eq, whole0, whole1, whole2, whole3, whole4]
end named

variable (m : (ℓ : Loc nD τ sig) → Buf (Elt Ideal) ℓ)

/-- A row before the block: zero for the first block, else row `512 t + p - 16` of all rows. -/
theorem before (c : Dev nD) (t : Fin cfg0.N) (p : Fin 16) (l : Fin 1024) :
    halo (BitVec.ofNat 32 (grid0.coords t 0).val) (iblk m c 5 t) (iblk m c 6 t) p l
      = if h : t.val = 0 then 0 else fed (m ((c : Thread nD τ).loc main_arg0)) ⟨512 * t.val + p.val - 16, by have := t.isLt; have h : cfg0.N = 16 := N_0; omega⟩ l := by
  have ht := t.isLt
  have h16 : cfg0.N = 16 := N_0
  rw [halo, (idx t).1, Cert.Common.select_scalar_ofNat t.val 0 (by omega) (by omega)]
  by_cases h : t.val = 0
  · simp [h]
  · rw [if_neg h, dif_neg h, fed, rowProd,
      blk5 m c t h p l ⟨512 * t.val + p.val - 16, by omega⟩ (by show 512 * t.val + p.val - 16 + 16 = _; omega),
      blk6 m c t h p l ⟨512 * t.val + p.val - 16, by omega⟩ (by show 512 * t.val + p.val - 16 + 16 = _; omega)]

/-- A row of the block, as what the convolution reads. -/
theorem within (c : Dev nD) (t : Fin cfg0.N) (r : Fin 512) (l : Fin 1024) :
    rowProd (iblk m c 1 t) (iblk m c 2 t) (ix3 0 r l) = fed (m ((c : Thread nD τ).loc main_arg0)) (row t r) l := by
  rw [rowProd, blk1 m c t, blk2 m c t, fed]

/-- The convolution's rows one before. -/
theorem one_before (c : Dev nD) (t : Fin cfg0.N) (r : Fin 512) (l : Fin 1024) :
    k0_pay6 (grid0.coords t) (iblk m c 1 t) (iblk m c 2 t) (iblk m c 5 t) (iblk m c 6 t) (ix2 r l)
      = if _h : (row t r).val < 1 then (0 : EReal)
        else fed (m ((c : Thread nD τ).loc main_arg0)) ⟨(row t r).val - 1, by have := (row t r).isLt; omega⟩ l := by
  have hr : (row t r).val = 512 * t.val + r.val := rfl
  have hr' := r.isLt
  rw [pay6_apply, before m c t 15 l]
  by_cases h0 : r.val = 0
  · rw [if_pos h0]
    by_cases ht : t.val = 0
    · rw [dif_pos ht, dif_pos (by omega)]
    · rw [dif_neg ht, dif_neg (by omega)]
      congr 1
      exact Fin.ext (by show 512 * t.val + 15 - 16 = (row t r).val - 1; omega)
  · rw [if_neg h0, dif_neg (by omega), within]
    have e : row t ⟨(r.val + 512 - 1) % 512, Nat.mod_lt _ (by omega)⟩ = ⟨(row t r).val - 1, by have := (row t r).isLt; omega⟩ :=
      Fin.ext (by show 512 * t.val + (r.val + 512 - 1) % 512 = (row t r).val - 1; omega)
    rw [e]

/-- The convolution's rows two before. -/
theorem two_before (c : Dev nD) (t : Fin cfg0.N) (r : Fin 512) (l : Fin 1024) :
    (if r.val = 1 then halo (BitVec.ofNat 32 (grid0.coords t 0).val) (iblk m c 5 t) (iblk m c 6 t) 15 l
      else k0_pay7 (grid0.coords t) (iblk m c 1 t) (iblk m c 2 t) (iblk m c 5 t) (iblk m c 6 t) (ix2 r l))
      = if _h : (row t r).val < 2 then (0 : EReal)
        else fed (m ((c : Thread nD τ).loc main_arg0)) ⟨(row t r).val - 2, by have := (row t r).isLt; omega⟩ l := by
  have hr : (row t r).val = 512 * t.val + r.val := rfl
  have hr' := r.isLt
  rw [pay7_apply, before m c t 15 l, before m c t 14 l]
  by_cases h1 : r.val = 1
  · rw [if_pos h1]
    by_cases ht : t.val = 0
    · rw [dif_pos ht, dif_pos (by omega)]
    · rw [dif_neg ht, dif_neg (by omega)]
      congr 1
      exact Fin.ext (by show 512 * t.val + 15 - 16 = (row t r).val - 2; omega)
  rw [if_neg h1]
  by_cases h0 : r.val = 0
  · rw [if_pos h0]
    by_cases ht : t.val = 0
    · rw [dif_pos ht, dif_pos (by omega)]
    · rw [dif_neg ht, dif_neg (by omega)]
      congr 1
      exact Fin.ext (by show 512 * t.val + 14 - 16 = (row t r).val - 2; omega)
  · rw [if_neg h0, dif_neg (by omega), within]
    have e : row t ⟨(r.val + 512 - 2) % 512, Nat.mod_lt _ (by omega)⟩ = ⟨(row t r).val - 2, by have := (row t r).isLt; omega⟩ :=
      Fin.ext (by show 512 * t.val + (r.val + 512 - 2) % 512 = (row t r).val - 2; omega)
    rw [e]

end Cert.MergeIdeal.RefValue

end
-- ==== Proof.Merge.Arrays.lean ====
/- What the six result arrays of the kernel for the end of the mixer's forward pass hold after the run: the reference's results,
   at every index. -/
module

public import proofs.«01_k».proof.Proof.Merge.Rows

@[expose] public section

set_option maxRecDepth 16384

noncomputable section

namespace Cert.MergeIdeal.RefValue

open Cert.MergeIdeal Cert.MergeIdeal.Gen Idealize.ShloMosaic Idealize.ShloMosaic.TcCoe Idealize.SL.Sem
open Idealize.ShloMosaic.Pipeline (Dat)
open Cert.MergeRefIdeal.Formulas

variable (m : (ℓ : Loc nD τ sig) → Buf (Elt Ideal) ℓ)

theorem pay13_apply (a b d : FVec Ideal S512x1024 .f32) (e : IVec S512x1 1) (f : FVec Ideal S1x1024 .f32) (cw : Vec Ideal S3x1024 .f32)
    (y : Vec Ideal S1x512x1024 .bf16) (w : Vec Ideal S1024x1024 .bf16) (r : Fin 512) (l : Fin 1024) :
    k0_pay13 a b d e f cw y w (ix2 r l) = k0_pay11 a b d e f cw y w (ix2 r l) := by
  generalize h : k0_pay11 a b d e f cw y w = z
  pointwise [k0_pay13, h]
theorem pay14_apply (o : Vec Ideal S512x1024 .bf16) (w : Vec Ideal S1024x1024 .bf16) (r : Fin 512) (l : Fin 1024) :
    k0_pay14 o w (ix2 r l) = k0_pay12 o w (ix2 r l) := by
  generalize h : k0_pay12 o w = z
  pointwise [k0_pay14, h]

section point
variable (c : Dev nD) (t : Fin cfg0.N) (r : Fin 512) (l : Fin 1024)

theorem branch_apply : k0_pay10 (k0_pay4 (iblk m c 1 t) (iblk m c 2 t)) (k0_pay6 (grid0.coords t) (iblk m c 1 t) (iblk m c 2 t) (iblk m c 5 t) (iblk m c 6 t)) (k0_pay7 (grid0.coords t) (iblk m c 1 t) (iblk m c 2 t) (iblk m c 5 t) (iblk m c 6 t)) k0_pay8 (k0_pay9 (grid0.coords t) (iblk m c 5 t) (iblk m c 6 t)) (iblk m c 9 t) (iblk m c 0 t) (ix2 r l) = branch (m ((c : Thread nD τ).loc main_arg0)) (m ((c : Thread nD τ).loc main_arg3)) (row t r) l := by
  rw [pay10_apply, one_before m c t r l, two_before m c t r l, within m c t r l, branch, convolved, blk0 m c t r l, blk9 m c t 0 l,
    blk9 m c t 1 l, blk9 m c t 2 l]
theorem conv_apply : k0_pay11 (k0_pay4 (iblk m c 1 t) (iblk m c 2 t)) (k0_pay6 (grid0.coords t) (iblk m c 1 t) (iblk m c 2 t) (iblk m c 5 t) (iblk m c 6 t)) (k0_pay7 (grid0.coords t) (iblk m c 1 t) (iblk m c 2 t) (iblk m c 5 t) (iblk m c 6 t)) k0_pay8 (k0_pay9 (grid0.coords t) (iblk m c 5 t) (iblk m c 6 t)) (iblk m c 9 t) (iblk m c 0 t) (iblk m c 10 t) (ix2 r l) = convOut (m ((c : Thread nD τ).loc main_arg0)) (m ((c : Thread nD τ).loc main_arg3)) (m ((c : Thread nD τ).loc main_arg4)) (row t r) l := by
  rw [pay11_apply, convOut]
  exact Finset.sum_congr rfl fun k _ => congrArg₂ (· * ·) (branch_apply m c t r k) (blk10 m c t k l)
theorem attn_apply : k0_pay12 (iblk m c 7 t) (iblk m c 11 t) (ix2 r l) = attnOut (m ((c : Thread nD τ).loc main_arg1)) (m ((c : Thread nD τ).loc main_arg5)) (row t r) l := by
  rw [pay12_apply, attnOut]
  exact Finset.sum_congr rfl fun k _ => congrArg₂ (· * ·) (blk7 m c t r k) (blk11 m c t k l)
theorem merged_apply : k0_pay1 (k0_pay11 (k0_pay4 (iblk m c 1 t) (iblk m c 2 t)) (k0_pay6 (grid0.coords t) (iblk m c 1 t) (iblk m c 2 t) (iblk m c 5 t) (iblk m c 6 t)) (k0_pay7 (grid0.coords t) (iblk m c 1 t) (iblk m c 2 t) (iblk m c 5 t) (iblk m c 6 t)) k0_pay8 (k0_pay9 (grid0.coords t) (iblk m c 5 t) (iblk m c 6 t)) (iblk m c 9 t) (iblk m c 0 t) (iblk m c 10 t)) (k0_pay12 (iblk m c 7 t) (iblk m c 11 t)) (k0_pay15 (iblk m c 3 t)) (iblk m c 4 t) (ix2 r l) = merged (m ((c : Thread nD τ).loc main_arg0)) (m ((c : Thread nD τ).loc main_arg1)) (m ((c : Thread nD τ).loc main_arg3)) (m ((c : Thread nD τ).loc main_arg4)) (m ((c : Thread nD τ).loc main_arg5)) (row t r) l := by
  rw [pay1_apply, pay15_apply, conv_apply, attn_apply, blk3 m c t r l, blk4 m c t r l, merged, gate, gate]
theorem summed_apply : k0_pay2 (k0_pay11 (k0_pay4 (iblk m c 1 t) (iblk m c 2 t)) (k0_pay6 (grid0.coords t) (iblk m c 1 t) (iblk m c 2 t) (iblk m c 5 t) (iblk m c 6 t)) (k0_pay7 (grid0.coords t) (iblk m c 1 t) (iblk m c 2 t) (iblk m c 5 t) (iblk m c 6 t)) k0_pay8 (k0_pay9 (grid0.coords t) (iblk m c 5 t) (iblk m c 6 t)) (iblk m c 9 t) (iblk m c 0 t) (iblk m c 10 t)) (k0_pay12 (iblk m c 7 t) (iblk m c 11 t)) (k0_pay15 (iblk m c 3 t)) (iblk m c 4 t) (iblk m c 8 t) (iblk m c 12 t) (ix2 r l) = summed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) l := by
  rw [pay2_apply, summed]
  exact congrArg₂ (· + ·) (blk8 m c t r l) (Finset.sum_congr rfl fun k _ => congrArg₂ (· * ·) (merged_apply m c t r k) (blk12 m c t k l))
theorem normed_apply : k0_pay3 (k0_pay11 (k0_pay4 (iblk m c 1 t) (iblk m c 2 t)) (k0_pay6 (grid0.coords t) (iblk m c 1 t) (iblk m c 2 t) (iblk m c 5 t) (iblk m c 6 t)) (k0_pay7 (grid0.coords t) (iblk m c 1 t) (iblk m c 2 t) (iblk m c 5 t) (iblk m c 6 t)) k0_pay8 (k0_pay9 (grid0.coords t) (iblk m c 5 t) (iblk m c 6 t)) (iblk m c 9 t) (iblk m c 0 t) (iblk m c 10 t)) (k0_pay12 (iblk m c 7 t) (iblk m c 11 t)) (k0_pay15 (iblk m c 3 t)) (iblk m c 4 t) (iblk m c 8 t) (iblk m c 12 t) (iblk m c 13 t) (ix2 r l) = summed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) l
    * Ideal.rsqrt (square (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r)) * (m ((c : Thread nD τ).loc main_arg7)) (ix2 0 l) := by
  rw [pay3_apply, square, blk13 m c t 0 l, summed_apply]
  simp only [summed_apply]

end point

theorem arr14 (c : Dev nD) : (dats m 0 c).arrAt 14 cfg0.N = Cert.MergeRefIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 14 _ (by decide +kernel) fun t hf y => ?_
  obtain ⟨r, l, rfl⟩ : ∃ (r : Fin 512) (l : Fin 1024), y = ix2 r l := ⟨y 0, y 1, eq_ix2 y⟩
  have e : (((cfg0.win 14).blk t).view.emb (ix2 r l)) = ix2 (row t r) l := by blk_ext [oidx t, row]
  rw [e, val69_apply]
  blk_simp
  rw [after0_14]
  frame_out
  rw [pay21_eq, pay22_eq, pay23_eq]
  exact summed_apply m c t r l

theorem arr15 (c : Dev nD) : (dats m 0 c).arrAt 15 cfg0.N = Cert.MergeRefIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t hf y => ?_
  obtain ⟨r, l, rfl⟩ : ∃ (r : Fin 512) (l : Fin 1024), y = ix2 r l := ⟨y 0, y 1, eq_ix2 y⟩
  have e : (((cfg0.win 15).blk t).view.emb (ix2 r l)) = ix2 (row t r) l := by blk_ext [oidx t, row]
  rw [e, val82_apply]
  blk_simp
  rw [after0_15]
  frame_out
  rw [pay21_eq, pay22_eq, pay23_eq]
  exact normed_apply m c t r l

theorem arr16 (c : Dev nD) : (dats m 0 c).arrAt 16 cfg0.N = Cert.MergeRefIdeal.Read.val_main_v83 (F := Ideal) (m ((c : Thread nD τ).loc main_arg0)) (m ((c : Thread nD τ).loc main_arg3)) := by
  refine (dats m 0 c).arrAt_eq_of_covers 16 _ (by decide +kernel) fun t hf y => ?_
  obtain ⟨r, l, rfl⟩ : ∃ (r : Fin 512) (l : Fin 1024), y = ix2 r l := ⟨y 0, y 1, eq_ix2 y⟩
  have e : (((cfg0.win 16).blk t).view.emb (ix2 r l)) = ix2 (row t r) l := by blk_ext [oidx t, row]
  rw [e, val83_apply]
  blk_simp
  rw [after0_16]
  frame_out
  rw [pay16_eq, pay17_eq, pay18_eq, pay19_eq, pay20_eq]
  exact branch_apply m c t r l

theorem arr17 (c : Dev nD) : (dats m 0 c).arrAt 17 cfg0.N = Cert.MergeRefIdeal.Read.val_main_v84 (F := Ideal) (m ((c : Thread nD τ).loc main_arg0)) (m ((c : Thread nD τ).loc main_arg3)) (m ((c : Thread nD τ).loc main_arg4)) := by
  refine (dats m 0 c).arrAt_eq_of_covers 17 _ (by decide +kernel) fun t hf y => ?_
  obtain ⟨r, l, rfl⟩ : ∃ (r : Fin 512) (l : Fin 1024), y = ix2 r l := ⟨y 0, y 1, eq_ix2 y⟩
  have e : (((cfg0.win 17).blk t).view.emb (ix2 r l)) = ix2 (row t r) l := by blk_ext [oidx t, row]
  rw [e, val84_apply]
  blk_simp
  rw [after0_17]
  frame_out
  rw [pay16_eq, pay17_eq, pay18_eq, pay19_eq, pay20_eq]
  exact (pay13_apply _ _ _ _ _ _ _ _ r l).trans (conv_apply m c t r l)

theorem arr18 (c : Dev nD) : (dats m 0 c).arrAt 18 cfg0.N = Cert.MergeRefIdeal.Read.val_main_v85 (F := Ideal) (m ((c : Thread nD τ).loc main_arg1)) (m ((c : Thread nD τ).loc main_arg5)) := by
  refine (dats m 0 c).arrAt_eq_of_covers 18 _ (by decide +kernel) fun t hf y => ?_
  obtain ⟨r, l, rfl⟩ : ∃ (r : Fin 512) (l : Fin 1024), y = ix2 r l := ⟨y 0, y 1, eq_ix2 y⟩
  have e : (((cfg0.win 18).blk t).view.emb (ix2 r l)) = ix2 (row t r) l := by blk_ext [oidx t, row]
  rw [e, val85_apply]
  blk_simp
  rw [after0_18]
  frame_out
  exact (pay14_apply _ _ r l).trans (attn_apply m c t r l)

theorem arr19 (c : Dev nD) : (dats m 0 c).arrAt 19 cfg0.N = Cert.MergeRefIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 19 _ (by decide +kernel) fun t hf y => ?_
  obtain ⟨r, l, rfl⟩ : ∃ (r : Fin 512) (l : Fin 1024), y = ix2 r l := ⟨y 0, y 1, eq_ix2 y⟩
  have e : (((cfg0.win 19).blk t).view.emb (ix2 r l)) = ix2 (row t r) l := by blk_ext [oidx t, row]
  rw [e, val86_apply]
  blk_simp
  rw [after0_19]
  frame_out
  rw [pay21_eq, pay22_eq, pay23_eq]
  exact merged_apply m c t r l

end Cert.MergeIdeal.RefValue

end
-- ==== Proof.Merge.Claims.lean ====
/- The kernel for the end of the mixer's forward pass and the reference end with the same six arrays. -/
module

public import proofs.«01_k».proof.Defs
public import proofs.«01_k».proof.Proof.Merge.Arrays
public import proofs.«01_k».proof.Proof.Gen.MergeRefIdeal.Run

@[expose] public section

set_option maxRecDepth 16384

noncomputable section

namespace Cert.Proof.MergeClaims

open Idealize.ShloMosaic Idealize.SL.Sem

theorem algebraic : Cert.algebraic_MergeIdeal_MergeRefIdeal := by
  intro m ρ m' ρ' _ agree
  refine ⟨fun c => Cert.MergeRefIdeal.Read.val_main_v69 (F := Ideal) (m ((c.tc : Thread _ _).loc Cert.MergeIdeal.main_arg0)) (m ((c.tc : Thread _ _).loc Cert.MergeIdeal.main_arg1)) (m ((c.tc : Thread _ _).loc Cert.MergeIdeal.main_arg2)) (m ((c.tc : Thread _ _).loc Cert.MergeIdeal.main_arg3)) (m ((c.tc : Thread _ _).loc Cert.MergeIdeal.main_arg4)) (m ((c.tc : Thread _ _).loc Cert.MergeIdeal.main_arg5)) (m ((c.tc : Thread _ _).loc Cert.MergeIdeal.main_arg6)),
    fun c => Cert.MergeRefIdeal.Read.val_main_v82 (F := Ideal) (m ((c.tc : Thread _ _).loc Cert.MergeIdeal.main_arg0)) (m ((c.tc : Thread _ _).loc Cert.MergeIdeal.main_arg1)) (m ((c.tc : Thread _ _).loc Cert.MergeIdeal.main_arg2)) (m ((c.tc : Thread _ _).loc Cert.MergeIdeal.main_arg3)) (m ((c.tc : Thread _ _).loc Cert.MergeIdeal.main_arg4)) (m ((c.tc : Thread _ _).loc Cert.MergeIdeal.main_arg5)) (m ((c.tc : Thread _ _).loc Cert.MergeIdeal.main_arg6)) (m ((c.tc : Thread _ _).loc Cert.MergeIdeal.main_arg7)),
    fun c => Cert.MergeRefIdeal.Read.val_main_v83 (F := Ideal) (m ((c.tc : Thread _ _).loc Cert.MergeIdeal.main_arg0)) (m ((c.tc : Thread _ _).loc Cert.MergeIdeal.main_arg3)),
    fun c => Cert.MergeRefIdeal.Read.val_main_v84 (F := Ideal) (m ((c.tc : Thread _ _).loc Cert.MergeIdeal.main_arg0)) (m ((c.tc : Thread _ _).loc Cert.MergeIdeal.main_arg3)) (m ((c.tc : Thread _ _).loc Cert.MergeIdeal.main_arg4)),
    fun c => Cert.MergeRefIdeal.Read.val_main_v85 (F := Ideal) (m ((c.tc : Thread _ _).loc Cert.MergeIdeal.main_arg1)) (m ((c.tc : Thread _ _).loc Cert.MergeIdeal.main_arg5)),
    fun c => Cert.MergeRefIdeal.Read.val_main_v86 (F := Ideal) (m ((c.tc : Thread _ _).loc Cert.MergeIdeal.main_arg0)) (m ((c.tc : Thread _ _).loc Cert.MergeIdeal.main_arg1)) (m ((c.tc : Thread _ _).loc Cert.MergeIdeal.main_arg3)) (m ((c.tc : Thread _ _).loc Cert.MergeIdeal.main_arg4)) (m ((c.tc : Thread _ _).loc Cert.MergeIdeal.main_arg5)),
    ?_, ?_⟩
  · refine (θ_run _ _ _).mono (fun r h c => ?_) (Cert.MergeIdeal.Value.run_blocks (F := Ideal) m ρ)
    obtain ⟨h0, h1, h2, h3, h4, h5, kept⟩ := h c
    exact ⟨h0.trans (Cert.MergeIdeal.RefValue.arr14 m c), h1.trans (Cert.MergeIdeal.RefValue.arr15 m c), h2.trans (Cert.MergeIdeal.RefValue.arr16 m c), h3.trans (Cert.MergeIdeal.RefValue.arr17 m c), h4.trans (Cert.MergeIdeal.RefValue.arr18 m c), h5.trans (Cert.MergeIdeal.RefValue.arr19 m c), kept⟩
  · refine (θ_run _ _ _).mono (fun r h c => ?_) (Cert.MergeRefIdeal.Value.run (F := Ideal) m' ρ')
    obtain ⟨h0, h1, h2, h3, h4, h5, kept⟩ := h c
    obtain ⟨a0, a1, a2, a3, a4, a5, a6, a7⟩ := agree c
    refine ⟨h0.trans ?_, h1.trans ?_, h2.trans ?_, h3.trans ?_, h4.trans ?_, h5.trans ?_, kept⟩
    · simp only [← a0, ← a1, ← a2, ← a3, ← a4, ← a5, ← a6]
      first | exact Cert.MergeRefIdeal.Read.val_main_v69_eq (F := Ideal) m' c | rfl
    · simp only [← a0, ← a1, ← a2, ← a3, ← a4, ← a5, ← a6, ← a7]
      first | exact Cert.MergeRefIdeal.Read.val_main_v82_eq (F := Ideal) m' c | rfl
    · simp only [← a0, ← a3]
      first | exact Cert.MergeRefIdeal.Read.val_main_v83_eq (F := Ideal) m' c | rfl
    · simp only [← a0, ← a3, ← a4]
      first | exact Cert.MergeRefIdeal.Read.val_main_v84_eq (F := Ideal) m' c | rfl
    · simp only [← a1, ← a5]
      first | exact Cert.MergeRefIdeal.Read.val_main_v85_eq (F := Ideal) m' c | rfl
    · simp only [← a0, ← a1, ← a3, ← a4, ← a5]
      first | exact Cert.MergeRefIdeal.Read.val_main_v86_eq (F := Ideal) m' c | rfl

/-- The reference runs, keeps its arguments, and has no semaphore that could be left raised. -/
theorem frame_ref : Cert.quiescent_MergeRefIdeal := fun m ρ _ =>
  (θ_run _ _ _).mono (fun r h => ⟨fun c => by
    obtain ⟨_, _, _, _, _, _, kept⟩ := h c
    exact kept, sem_eq_zero_of_no_sems rfl _⟩) (Cert.MergeRefIdeal.Value.run (F := Ideal) m ρ)

theorem preserves : Cert.preserves_Merge_MergeIdeal := trivial

end Cert.Proof.MergeClaims

end
-- ==== Proof.Prenorm.Formulas.lean ====
/- The norm before the feed-forward block, as a formula at one index. -/
module

public import proofs.«01_k».proof.Proof.Gen.PrenormRefIdeal.Read
public import proofs.«01_k».proof.Proof.Common
public import proofs.«01_k».proof.Proof.Norm
public import Idealize.ShloMosaic.Lib.Pipeline.ValueKit
public import Idealize.ShloMosaic.Lib.Pointwise

@[expose] public section

set_option maxRecDepth 16384

noncomputable section

namespace Cert.PrenormRefIdeal.Formulas

open Cert.PrenormRefIdeal Cert.PrenormRefIdeal.Read Idealize.ShloMosaic Idealize.ShloMosaic.TcCoe

variable (x0 : (⟨S8192x1024, .f32⟩ : BufTy).Contents (Elt Ideal)) (x1 : (⟨S1x1024, .f32⟩ : BufTy).Contents (Elt Ideal))

/-- The mean of a row's squares, with the small constant added. -/
def square (r : Fin 8192) : EReal := Ideal.div (∑ k : Fin 1024, x0 (ix2 r k) * x0 (ix2 r k)) Cert.Norm.width + Cert.Norm.eps
/-- The normalised row, scaled. -/
def normed (r : Fin 8192) (l : Fin 1024) : EReal := x0 (ix2 r l) * Ideal.rsqrt (square x0 r) * x1 (ix2 0 l)

theorem val12_apply (r : Fin 8192) (l : Fin 1024) : val_main_v12 (F := Ideal) x0 x1 (ix2 r l) = normed x0 x1 r l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, normed, square, Cert.Norm.width, Cert.Norm.eps]

end Cert.PrenormRefIdeal.Formulas

end
-- ==== Proof.Prenorm.Arrays.lean ====
/- What the array of normalised rows holds after the run: the reference's result, at every index. -/
module

public import proofs.«01_k».proof.Proof.Gen.PrenormIdeal.Value
public import proofs.«01_k».proof.Proof.Prenorm.Formulas
public import Idealize.ShloMosaic.Lib.Pipeline.ValueKit
public import Idealize.ShloMosaic.Lib.Pointwise
public import Idealize.ShloMosaic.Lib.Claim

@[expose] public section

set_option maxRecDepth 16384

noncomputable section

namespace Cert.PrenormIdeal.RefValue

open Cert.PrenormIdeal Cert.PrenormIdeal.Gen Idealize.ShloMosaic Idealize.ShloMosaic.TcCoe Idealize.SL.Sem
open Idealize.ShloMosaic.Pipeline (Dat)
open Cert.PrenormRefIdeal.Formulas

theorem pay1_apply (x : Vec Ideal S512x1024 .f32) (g : Vec Ideal S1x1024 .f32) (r : Fin 512) (l : Fin 1024) :
    k0_pay1 x g (ix2 r l) = x (ix2 r l) * Ideal.rsqrt (Ideal.div (∑ k : Fin 1024, x (ix2 r k) * x (ix2 r k)) Cert.Norm.width
      + Cert.Norm.eps) * g (ix2 0 l) := by
  pointwise [k0_pay1, Cert.Norm.width, Cert.Norm.eps]

variable (m : (ℓ : Loc nD τ sig) → Buf (Elt Ideal) ℓ)

/-- The block each window holds at grid point `t`. -/
theorem idx : ∀ t : Fin grid0.N, win0_0.index t = ![t.val, 0] ∧ win0_1.index t = ![0, 0] ∧ win0_2.index t = ![t.val, 0] := by
  decide +kernel

/-- Row `p` of block `t`, among all rows. -/
def row (t : Fin cfg0.N) (p : Fin 512) : Fin 8192 :=
  ⟨512 * t.val + p.val, by have := t.isLt; have h : cfg0.N = 16 := N_0; omega⟩

theorem blk0 (c : Dev nD) (t : Fin cfg0.N) (p : Fin 512) (k : Fin 1024) :
    (iblk m c 0 t : Vec Ideal S512x1024 .f32) (ix2 p k) = (m ((c : Thread nD τ).loc main_arg0)) (ix2 (row t p) k) := by
  blk_ext [iblk, V, idx t, row]
theorem blk1 (c : Dev nD) (t : Fin cfg0.N) (l : Fin 1024) :
    (iblk m c 1 t : Vec Ideal S1x1024 .f32) (ix2 0 l) = (m ((c : Thread nD τ).loc main_arg1)) (ix2 0 l) := by
  blk_ext [iblk, V, idx t]

theorem arr2 (c : Dev nD) : (dats m 0 c).arrAt 2 cfg0.N = Cert.PrenormRefIdeal.Read.val_main_v12 (F := Ideal) (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 512) (l : Fin 1024), y = ix2 r l := ⟨y 0, y 1, eq_ix2 y⟩
  have e : (((cfg0.win 2).blk t).view.emb (ix2 r l)) = ix2 (row t r) l := by blk_ext [idx t, row]
  rw [e, val12_apply, normed, square]
  blk_simp
  rw [after0_2]
  frame_out
  refine (pay1_apply _ _ r l).trans ?_
  simp only [blk0, blk1]

end Cert.PrenormIdeal.RefValue

end
-- ==== Proof.Prenorm.Claims.lean ====
/- The kernel for the norm before the first feed-forward block and the reference end with the same array. -/
module

public import proofs.«01_k».proof.Defs
public import proofs.«01_k».proof.Proof.Prenorm.Arrays
public import proofs.«01_k».proof.Proof.Gen.PrenormRefIdeal.Run

@[expose] public section

set_option maxRecDepth 16384

noncomputable section

namespace Cert.Proof.PrenormClaims

open Idealize.ShloMosaic Idealize.SL.Sem

theorem algebraic : Cert.algebraic_PrenormIdeal_PrenormRefIdeal := by
  intro m ρ m' ρ' _ agree
  refine ⟨fun c => Cert.PrenormRefIdeal.Read.val_main_v12 (F := Ideal) (m ((c.tc : Thread _ _).loc Cert.PrenormIdeal.main_arg0)) (m ((c.tc : Thread _ _).loc Cert.PrenormIdeal.main_arg1)),
    ?_, ?_⟩
  · refine (θ_run _ _ _).mono (fun r h c => ?_) (Cert.PrenormIdeal.Value.run_blocks (F := Ideal) m ρ)
    obtain ⟨h0, kept⟩ := h c
    exact ⟨h0.trans (Cert.PrenormIdeal.RefValue.arr2 m c), kept⟩
  · refine (θ_run _ _ _).mono (fun r h c => ?_) (Cert.PrenormRefIdeal.Value.run (F := Ideal) m' ρ')
    obtain ⟨h0, kept⟩ := h c
    obtain ⟨a0, a1⟩ := agree c
    refine ⟨h0.trans ?_, kept⟩
    · simp only [← a0, ← a1]
      first | exact Cert.PrenormRefIdeal.Read.val_main_v12_eq (F := Ideal) m' c | rfl

/-- The reference runs, keeps its arguments, and has no semaphore that could be left raised. -/
theorem frame_ref : Cert.quiescent_PrenormRefIdeal := fun m ρ _ =>
  (θ_run _ _ _).mono (fun r h => ⟨fun c => by
    obtain ⟨_, kept⟩ := h c
    exact kept, sem_eq_zero_of_no_sems rfl _⟩) (Cert.PrenormRefIdeal.Value.run (F := Ideal) m ρ)

theorem preserves : Cert.preserves_Prenorm_PrenormIdeal := trivial

end Cert.Proof.PrenormClaims

end
-- ==== Proof.Adam.lean ====
/- AdamW's arithmetic at one element. -/
module

public import Idealize.ShloMosaic.Lib.Pipeline.ValueKit

@[expose] public section

set_option maxRecDepth 16384

noncomputable section

namespace Cert.Adam

open Idealize.ShloMosaic

/-- The running mean of the gradient. -/
def mean (m g : EReal) : EReal := Ideal.ofBits FTy.f32 1063675494#32 * m + Ideal.ofBits FTy.f32 1036831949#32 * g
/-- The running mean of the gradient's square. -/
def meanSquare (v g : EReal) : EReal := Ideal.ofBits FTy.f32 1065336439#32 * v + Ideal.ofBits FTy.f32 981668463#32 * (g * g)
/-- The step of a weight `w` whose two running means are `m` and `v`: the first over the root of the second, both corrected
    for the steps made so far, and a part of the weight itself, times the rate. -/
def step (w m v : EReal) : EReal :=
  Ideal.ofBits FTy.f32 3129152111#32 * (Ideal.div (Ideal.div m (Ideal.ofBits FTy.f32 1059503362#32)) (Ideal.sqrt (Ideal.div v (Ideal.ofBits FTy.f32 1008933580#32))
    + Ideal.ofBits FTy.f32 841731191#32) + Ideal.ofBits FTy.f32 1008981770#32 * w)

end Cert.Adam

end
-- ==== Proof.AdamIn.Formulas.lean ====
/- The reference of the optimiser's step of a feed-forward block's input weights, as formulas at one index. -/
module

public import proofs.«01_k».proof.Proof.Gen.AdamInRefIdeal.Read
public import proofs.«01_k».proof.Proof.Adam
public import Idealize.ShloMosaic.Lib.Pipeline.ValueKit
public import Idealize.ShloMosaic.Lib.Pointwise

@[expose] public section

set_option maxRecDepth 16384

noncomputable section

namespace Cert.AdamInRefIdeal.Formulas

open Cert.AdamInRefIdeal Cert.AdamInRefIdeal.Read Idealize.ShloMosaic Idealize.ShloMosaic.TcCoe

variable (x0 : (⟨S8x704x1024, .bf16⟩ : BufTy).Contents (Elt Ideal)) (x1 : (⟨S704x1024, .f32⟩ : BufTy).Contents (Elt Ideal)) (x2 : (⟨S704x1024, .f32⟩ : BufTy).Contents (Elt Ideal)) (x3 : (⟨S704x1024, .f32⟩ : BufTy).Contents (Elt Ideal))

/-- The gradient: the sum of the eight devices' parts. -/
def grad (r : Fin 704) (l : Fin 1024) : EReal := ∑ s : Fin 8, x0 (ix3 s r l)

theorem grad_apply (r : Fin 704) (l : Fin 1024) : val_main_v1 (F := Ideal) x0 (ix2 r l) = grad x0 r l := by
  pointwise [val_main_v1, val_main_v0, val_main_cst, grad]

theorem mean_apply (r : Fin 704) (l : Fin 1024) :
    val_main_v6 (F := Ideal) x0 x2 (ix2 r l) = Cert.Adam.mean (x2 (ix2 r l)) (grad x0 r l) := by
  rw [← grad_apply]
  generalize e : val_main_v1 (F := Ideal) x0 = y
  pointwise [val_main_v6, val_main_v5, val_main_v4, val_main_v3, val_main_v2, e, val_main_cst_0, val_main_cst_1, Cert.Adam.mean]

theorem meanSquare_apply (r : Fin 704) (l : Fin 1024) :
    val_main_v12 (F := Ideal) x0 x3 (ix2 r l) = Cert.Adam.meanSquare (x3 (ix2 r l)) (grad x0 r l) := by
  rw [← grad_apply]
  generalize e : val_main_v1 (F := Ideal) x0 = y
  pointwise [val_main_v12, val_main_v11, val_main_v10, val_main_v9, val_main_v8, val_main_v7, e, val_main_cst_2, val_main_cst_3, Cert.Adam.meanSquare]

theorem step_apply (r : Fin 704) (l : Fin 1024) :
    val_main_v25 (F := Ideal) x0 x1 x2 x3 (ix2 r l) = Cert.Adam.step (x1 (ix2 r l))
      (Cert.Adam.mean (x2 (ix2 r l)) (grad x0 r l)) (Cert.Adam.meanSquare (x3 (ix2 r l)) (grad x0 r l)) := by
  rw [← mean_apply, ← meanSquare_apply]
  generalize e : val_main_v6 (F := Ideal) x0 x2 = y
  generalize f : val_main_v12 (F := Ideal) x0 x3 = z
  pointwise [val_main_v25, val_main_v24, val_main_v23, val_main_v22, val_main_v21, val_main_v20, val_main_v19, val_main_v18, val_main_v17, val_main_v16, val_main_v15, val_main_v14, val_main_v13, e, f, val_main_cst_4, val_main_cst_5, val_main_cst_6, val_main_cst_7, val_main_cst_8, Cert.Adam.step]

end Cert.AdamInRefIdeal.Formulas

end
-- ==== Proof.AdamIn.Arrays.lean ====
/- What the optimiser's step of a feed-forward block's input weights leaves after the run: the reference's four results, at every index. -/
module

public import proofs.«01_k».proof.Proof.Gen.AdamInIdeal.Value
public import proofs.«01_k».proof.Proof.AdamIn.Formulas
public import Idealize.ShloMosaic.Lib.Pipeline.ValueKit
public import Idealize.ShloMosaic.Lib.Pointwise
public import Idealize.ShloMosaic.Lib.Claim

@[expose] public section

set_option maxRecDepth 16384

noncomputable section

namespace Cert.AdamInIdeal.RefValue

open Cert.AdamInIdeal Cert.AdamInIdeal.Gen Idealize.ShloMosaic Idealize.ShloMosaic.TcCoe Idealize.SL.Sem
open Idealize.ShloMosaic.Pipeline (Dat)
open Cert.AdamInRefIdeal.Formulas

/-- A load of a whole buffer reads it. -/
theorem whole (x : Vec Ideal S352x1024 .f32) : View.ld x r0_8 = x :=
  View.ld_unit_zero (by funext a; fin_cases a <;> rfl) _ _

/-- The sum the body makes of the eight parts. -/
theorem grad_of (x0 : Vec Ideal S8x352x1024 .bf16) (x1 x2 x3 : Vec Ideal S352x1024 .f32) (p : Fin 352) (l : Fin 1024) :
    k0_pay5 x0 x1 x2 x3 (ix2 p l) = ∑ s : Fin 8, x0 (ix3 s p l) := by
  rw [Fin.sum_univ_eight]
  pointwise [k0_pay5, k0_pay4]

theorem mean_of (a b : Vec Ideal S352x1024 .f32) (p : Fin 352) (l : Fin 1024) :
    k0_pay1 a b (Scalar.ofBits (F := Ideal) .f32 0x3F666666#32) (ix2 p l) = Cert.Adam.mean (b (ix2 p l)) (a (ix2 p l)) := by
  pointwise [k0_pay1, Cert.Adam.mean]
theorem meanSquare_of (a b : Vec Ideal S352x1024 .f32) (p : Fin 352) (l : Fin 1024) :
    k0_pay2 a b (ix2 p l) = Cert.Adam.meanSquare (b (ix2 p l)) (a (ix2 p l)) := by
  pointwise [k0_pay2, Cert.Adam.meanSquare]
theorem step_of (a b v w : Vec Ideal S352x1024 .f32) (p : Fin 352) (l : Fin 1024) :
    k0_pay3 a b (Scalar.ofBits (F := Ideal) .f32 0x3F666666#32) v w (ix2 p l) = Cert.Adam.step (w (ix2 p l))
      (Cert.Adam.mean (b (ix2 p l)) (a (ix2 p l))) (Cert.Adam.meanSquare (v (ix2 p l)) (a (ix2 p l))) := by
  pointwise [k0_pay3, k0_pay1, k0_pay2, Cert.Adam.step, Cert.Adam.mean, Cert.Adam.meanSquare]

variable (m : (ℓ : Loc nD τ sig) → Buf (Elt Ideal) ℓ)

/-- The block each window holds at grid point `t`. -/
theorem idx : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

/-- Row `p` of block `t`, among all rows. -/
def row (t : Fin cfg0.N) (p : Fin 352) : Fin 704 :=
  ⟨352 * t.val + p.val, by have := t.isLt; have h : cfg0.N = 2 := N_0; omega⟩

theorem blk0 (c : Dev nD) (t : Fin cfg0.N) (s : Fin 8) (p : Fin 352) (l : Fin 1024) :
    (iblk m c 0 t : Vec Ideal S8x352x1024 .bf16) (ix3 s p l) = (m ((c : Thread nD τ).loc main_arg0)) (ix3 s (row t p) l) := by
  blk_ext [iblk, V, idx t, row]
theorem blk1 (c : Dev nD) (t : Fin cfg0.N) (p : Fin 352) (l : Fin 1024) :
    (iblk m c 1 t : Vec Ideal S352x1024 .f32) (ix2 p l) = (m ((c : Thread nD τ).loc main_arg1)) (ix2 (row t p) l) := by
  blk_ext [iblk, V, idx t, row]
theorem blk2 (c : Dev nD) (t : Fin cfg0.N) (p : Fin 352) (l : Fin 1024) :
    (iblk m c 2 t : Vec Ideal S352x1024 .f32) (ix2 p l) = (m ((c : Thread nD τ).loc main_arg2)) (ix2 (row t p) l) := by
  blk_ext [iblk, V, idx t, row]
theorem blk3 (c : Dev nD) (t : Fin cfg0.N) (p : Fin 352) (l : Fin 1024) :
    (iblk m c 3 t : Vec Ideal S352x1024 .f32) (ix2 p l) = (m ((c : Thread nD τ).loc main_arg3)) (ix2 (row t p) l) := by
  blk_ext [iblk, V, idx t, row]

/-- The sum of the eight parts of a block is the reference's gradient at the block's rows. -/
theorem grad_blk (c : Dev nD) (t : Fin cfg0.N) (p : Fin 352) (l : Fin 1024) :
    k0_pay5 (iblk m c 0 t) (iblk m c 1 t) (iblk m c 2 t) (iblk m c 3 t) (ix2 p l) = grad (m ((c : Thread nD τ).loc main_arg0)) (row t p) l :=
  (grad_of _ _ _ _ p l).trans (Finset.sum_congr rfl fun s _ => blk0 m c t s p l)

theorem arr4 (c : Dev nD) : (dats m 0 c).arrAt 4 cfg0.N = Cert.AdamInRefIdeal.Read.val_main_v1 (F := Ideal) (m ((c : Thread nD τ).loc main_arg0)) := by
  refine (dats m 0 c).arrAt_eq_of_covers 4 _ (by decide +kernel) fun t hf y => ?_
  obtain ⟨r, l, rfl⟩ : ∃ (r : Fin 352) (l : Fin 1024), y = ix2 r l := ⟨y 0, y 1, eq_ix2 y⟩
  have e : (((cfg0.win 4).blk t).view.emb (ix2 r l)) = ix2 (row t r) l := by blk_ext [idx t, row]
  rw [e, grad_apply]
  blk_simp
  rw [after0_4]
  frame_out
  exact grad_blk m c t r l

theorem arr5 (c : Dev nD) : (dats m 0 c).arrAt 5 cfg0.N = Cert.AdamInRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 352) (l : Fin 1024), y = ix2 r l := ⟨y 0, y 1, eq_ix2 y⟩
  have e : (((cfg0.win 5).blk t).view.emb (ix2 r l)) = ix2 (row t r) l := by blk_ext [idx t, row]
  rw [e, step_apply]
  blk_simp
  rw [after0_5]
  frame_out
  refine (step_of _ _ _ _ r l).trans ?_
  rw [blk1, blk2, blk3]
  rw [show _ = _ from grad_blk m c t r l]

theorem arr6 (c : Dev nD) : (dats m 0 c).arrAt 6 cfg0.N = Cert.AdamInRefIdeal.Read.val_main_v6 (F := Ideal) (m ((c : Thread nD τ).loc main_arg0)) (m ((c : Thread nD τ).loc main_arg2)) := by
  refine (dats m 0 c).arrAt_eq_of_covers 6 _ (by decide +kernel) fun t hf y => ?_
  obtain ⟨r, l, rfl⟩ : ∃ (r : Fin 352) (l : Fin 1024), y = ix2 r l := ⟨y 0, y 1, eq_ix2 y⟩
  have e : (((cfg0.win 6).blk t).view.emb (ix2 r l)) = ix2 (row t r) l := by blk_ext [idx t, row]
  rw [e, mean_apply]
  blk_simp
  rw [after0_6]
  frame_out
  refine (mean_of _ _ r l).trans ?_
  exact congrArg₂ Cert.Adam.mean (blk2 m c t r l) (grad_blk m c t r l)

theorem arr7 (c : Dev nD) : (dats m 0 c).arrAt 7 cfg0.N = Cert.AdamInRefIdeal.Read.val_main_v12 (F := Ideal) (m ((c : Thread nD τ).loc main_arg0)) (m ((c : Thread nD τ).loc main_arg3)) := by
  refine (dats m 0 c).arrAt_eq_of_covers 7 _ (by decide +kernel) fun t hf y => ?_
  obtain ⟨r, l, rfl⟩ : ∃ (r : Fin 352) (l : Fin 1024), y = ix2 r l := ⟨y 0, y 1, eq_ix2 y⟩
  have e : (((cfg0.win 7).blk t).view.emb (ix2 r l)) = ix2 (row t r) l := by blk_ext [idx t, row]
  rw [e, meanSquare_apply]
  blk_simp
  rw [after0_7]
  frame_out
  refine (meanSquare_of _ _ r l).trans ?_
  exact congrArg₂ Cert.Adam.meanSquare (blk3 m c t r l) (grad_blk m c t r l)

end Cert.AdamInIdeal.RefValue

end
-- ==== Proof.AdamIn.Claims.lean ====
/- The kernel for the optimiser's step of a feed-forward block's input weights and the reference end with the same four arrays. -/
module

public import proofs.«01_k».proof.Defs
public import proofs.«01_k».proof.Proof.AdamIn.Arrays
public import proofs.«01_k».proof.Proof.Gen.AdamInRefIdeal.Run

@[expose] public section

set_option maxRecDepth 16384

noncomputable section

namespace Cert.Proof.AdamInClaims

open Idealize.ShloMosaic Idealize.SL.Sem

theorem algebraic : Cert.algebraic_AdamInIdeal_AdamInRefIdeal := by
  intro m ρ m' ρ' _ agree
  refine ⟨fun c => Cert.AdamInRefIdeal.Read.val_main_v1 (F := Ideal) (m ((c.tc : Thread _ _).loc Cert.AdamInIdeal.main_arg0)),
    fun c => Cert.AdamInRefIdeal.Read.val_main_v25 (F := Ideal) (m ((c.tc : Thread _ _).loc Cert.AdamInIdeal.main_arg0)) (m ((c.tc : Thread _ _).loc Cert.AdamInIdeal.main_arg1)) (m ((c.tc : Thread _ _).loc Cert.AdamInIdeal.main_arg2)) (m ((c.tc : Thread _ _).loc Cert.AdamInIdeal.main_arg3)),
    fun c => Cert.AdamInRefIdeal.Read.val_main_v6 (F := Ideal) (m ((c.tc : Thread _ _).loc Cert.AdamInIdeal.main_arg0)) (m ((c.tc : Thread _ _).loc Cert.AdamInIdeal.main_arg2)),
    fun c => Cert.AdamInRefIdeal.Read.val_main_v12 (F := Ideal) (m ((c.tc : Thread _ _).loc Cert.AdamInIdeal.main_arg0)) (m ((c.tc : Thread _ _).loc Cert.AdamInIdeal.main_arg3)),
    ?_, ?_⟩
  · refine (θ_run _ _ _).mono (fun r h c => ?_) (Cert.AdamInIdeal.Value.run_blocks (F := Ideal) m ρ)
    obtain ⟨h0, h1, h2, h3, kept⟩ := h c
    exact ⟨h0.trans (Cert.AdamInIdeal.RefValue.arr4 m c), h1.trans (Cert.AdamInIdeal.RefValue.arr5 m c), h2.trans (Cert.AdamInIdeal.RefValue.arr6 m c), h3.trans (Cert.AdamInIdeal.RefValue.arr7 m c), kept⟩
  · refine (θ_run _ _ _).mono (fun r h c => ?_) (Cert.AdamInRefIdeal.Value.run (F := Ideal) m' ρ')
    obtain ⟨h0, h1, h2, h3, kept⟩ := h c
    obtain ⟨a0, a1, a2, a3⟩ := agree c
    refine ⟨h0.trans ?_, h1.trans ?_, h2.trans ?_, h3.trans ?_, kept⟩
    · simp only [← a0]
      first | exact Cert.AdamInRefIdeal.Read.val_main_v1_eq (F := Ideal) m' c | rfl
    · simp only [← a0, ← a1, ← a2, ← a3]
      first | exact Cert.AdamInRefIdeal.Read.val_main_v25_eq (F := Ideal) m' c | rfl
    · simp only [← a0, ← a2]
      first | exact Cert.AdamInRefIdeal.Read.val_main_v6_eq (F := Ideal) m' c | rfl
    · simp only [← a0, ← a3]
      first | exact Cert.AdamInRefIdeal.Read.val_main_v12_eq (F := Ideal) m' c | rfl

/-- The reference runs, keeps its arguments, and has no semaphore that could be left raised. -/
theorem frame_ref : Cert.quiescent_AdamInRefIdeal := fun m ρ _ =>
  (θ_run _ _ _).mono (fun r h => ⟨fun c => by
    obtain ⟨_, _, _, _, kept⟩ := h c
    exact kept, sem_eq_zero_of_no_sems rfl _⟩) (Cert.AdamInRefIdeal.Value.run (F := Ideal) m ρ)

theorem preserves : Cert.preserves_AdamIn_AdamInIdeal := trivial

end Cert.Proof.AdamInClaims

end
-- ==== Proof.AdamOut.Formulas.lean ====
/- The reference of the optimiser's step of a feed-forward block's output weights, as formulas at one index. -/
module

public import proofs.«01_k».proof.Proof.Gen.AdamOutRefIdeal.Read
public import proofs.«01_k».proof.Proof.Adam
public import Idealize.ShloMosaic.Lib.Pipeline.ValueKit
public import Idealize.ShloMosaic.Lib.Pointwise

@[expose] public section

set_option maxRecDepth 16384

noncomputable section

namespace Cert.AdamOutRefIdeal.Formulas

open Cert.AdamOutRefIdeal Cert.AdamOutRefIdeal.Read Idealize.ShloMosaic Idealize.ShloMosaic.TcCoe

variable (x0 : (⟨S8x352x1024, .bf16⟩ : BufTy).Contents (Elt Ideal)) (x1 : (⟨S352x1024, .f32⟩ : BufTy).Contents (Elt Ideal)) (x2 : (⟨S352x1024, .f32⟩ : BufTy).Contents (Elt Ideal)) (x3 : (⟨S352x1024, .f32⟩ : BufTy).Contents (Elt Ideal))

/-- The gradient: the sum of the eight devices' parts. -/
def grad (r : Fin 352) (l : Fin 1024) : EReal := ∑ s : Fin 8, x0 (ix3 s r l)

theorem grad_apply (r : Fin 352) (l : Fin 1024) : val_main_v1 (F := Ideal) x0 (ix2 r l) = grad x0 r l := by
  pointwise [val_main_v1, val_main_v0, val_main_cst, grad]

theorem mean_apply (r : Fin 352) (l : Fin 1024) :
    val_main_v6 (F := Ideal) x0 x2 (ix2 r l) = Cert.Adam.mean (x2 (ix2 r l)) (grad x0 r l) := by
  rw [← grad_apply]
  generalize e : val_main_v1 (F := Ideal) x0 = y
  pointwise [val_main_v6, val_main_v5, val_main_v4, val_main_v3, val_main_v2, e, val_main_cst_0, val_main_cst_1, Cert.Adam.mean]

theorem meanSquare_apply (r : Fin 352) (l : Fin 1024) :
    val_main_v12 (F := Ideal) x0 x3 (ix2 r l) = Cert.Adam.meanSquare (x3 (ix2 r l)) (grad x0 r l) := by
  rw [← grad_apply]
  generalize e : val_main_v1 (F := Ideal) x0 = y
  pointwise [val_main_v12, val_main_v11, val_main_v10, val_main_v9, val_main_v8, val_main_v7, e, val_main_cst_2, val_main_cst_3, Cert.Adam.meanSquare]

theorem step_apply (r : Fin 352) (l : Fin 1024) :
    val_main_v25 (F := Ideal) x0 x1 x2 x3 (ix2 r l) = Cert.Adam.step (x1 (ix2 r l))
      (Cert.Adam.mean (x2 (ix2 r l)) (grad x0 r l)) (Cert.Adam.meanSquare (x3 (ix2 r l)) (grad x0 r l)) := by
  rw [← mean_apply, ← meanSquare_apply]
  generalize e : val_main_v6 (F := Ideal) x0 x2 = y
  generalize f : val_main_v12 (F := Ideal) x0 x3 = z
  pointwise [val_main_v25, val_main_v24, val_main_v23, val_main_v22, val_main_v21, val_main_v20, val_main_v19, val_main_v18, val_main_v17, val_main_v16, val_main_v15, val_main_v14, val_main_v13, e, f, val_main_cst_4, val_main_cst_5, val_main_cst_6, val_main_cst_7, val_main_cst_8, Cert.Adam.step]

end Cert.AdamOutRefIdeal.Formulas

end
-- ==== Proof.AdamOut.Arrays.lean ====
/- What the optimiser's step of a feed-forward block's output weights leaves after the run: the reference's four results, at every index. -/
module

public import proofs.«01_k».proof.Proof.Gen.AdamOutIdeal.Value
public import proofs.«01_k».proof.Proof.AdamOut.Formulas
public import Idealize.ShloMosaic.Lib.Pipeline.ValueKit
public import Idealize.ShloMosaic.Lib.Pointwise
public import Idealize.ShloMosaic.Lib.Claim

@[expose] public section

set_option maxRecDepth 16384

noncomputable section

namespace Cert.AdamOutIdeal.RefValue

open Cert.AdamOutIdeal Cert.AdamOutIdeal.Gen Idealize.ShloMosaic Idealize.ShloMosaic.TcCoe Idealize.SL.Sem
open Idealize.ShloMosaic.Pipeline (Dat)
open Cert.AdamOutRefIdeal.Formulas

/-- A load of a whole buffer reads it. -/
theorem whole (x : Vec Ideal S352x1024 .f32) : View.ld x r0_8 = x :=
  View.ld_unit_zero (by funext a; fin_cases a <;> rfl) _ _

/-- The sum the body makes of the eight parts. -/
theorem grad_of (x0 : Vec Ideal S8x352x1024 .bf16) (x1 x2 x3 : Vec Ideal S352x1024 .f32) (p : Fin 352) (l : Fin 1024) :
    k0_pay5 x0 x1 x2 x3 (ix2 p l) = ∑ s : Fin 8, x0 (ix3 s p l) := by
  rw [Fin.sum_univ_eight]
  pointwise [k0_pay5, k0_pay4]

theorem mean_of (a b : Vec Ideal S352x1024 .f32) (p : Fin 352) (l : Fin 1024) :
    k0_pay1 a b (Scalar.ofBits (F := Ideal) .f32 0x3F666666#32) (ix2 p l) = Cert.Adam.mean (b (ix2 p l)) (a (ix2 p l)) := by
  pointwise [k0_pay1, Cert.Adam.mean]
theorem meanSquare_of (a b : Vec Ideal S352x1024 .f32) (p : Fin 352) (l : Fin 1024) :
    k0_pay2 a b (ix2 p l) = Cert.Adam.meanSquare (b (ix2 p l)) (a (ix2 p l)) := by
  pointwise [k0_pay2, Cert.Adam.meanSquare]
theorem step_of (a b v w : Vec Ideal S352x1024 .f32) (p : Fin 352) (l : Fin 1024) :
    k0_pay3 a b (Scalar.ofBits (F := Ideal) .f32 0x3F666666#32) v w (ix2 p l) = Cert.Adam.step (w (ix2 p l))
      (Cert.Adam.mean (b (ix2 p l)) (a (ix2 p l))) (Cert.Adam.meanSquare (v (ix2 p l)) (a (ix2 p l))) := by
  pointwise [k0_pay3, k0_pay1, k0_pay2, Cert.Adam.step, Cert.Adam.mean, Cert.Adam.meanSquare]

variable (m : (ℓ : Loc nD τ sig) → Buf (Elt Ideal) ℓ)

/-- The block each window holds at grid point `t`. -/
theorem idx : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

/-- Row `p` of block `t`, among all rows. -/
def row (t : Fin cfg0.N) (p : Fin 352) : Fin 352 :=
  ⟨352 * t.val + p.val, by have := t.isLt; have h : cfg0.N = 1 := N_0; omega⟩

theorem blk0 (c : Dev nD) (t : Fin cfg0.N) (s : Fin 8) (p : Fin 352) (l : Fin 1024) :
    (iblk m c 0 t : Vec Ideal S8x352x1024 .bf16) (ix3 s p l) = (m ((c : Thread nD τ).loc main_arg0)) (ix3 s (row t p) l) := by
  blk_ext [iblk, V, idx t, row]
theorem blk1 (c : Dev nD) (t : Fin cfg0.N) (p : Fin 352) (l : Fin 1024) :
    (iblk m c 1 t : Vec Ideal S352x1024 .f32) (ix2 p l) = (m ((c : Thread nD τ).loc main_arg1)) (ix2 (row t p) l) := by
  blk_ext [iblk, V, idx t, row]
theorem blk2 (c : Dev nD) (t : Fin cfg0.N) (p : Fin 352) (l : Fin 1024) :
    (iblk m c 2 t : Vec Ideal S352x1024 .f32) (ix2 p l) = (m ((c : Thread nD τ).loc main_arg2)) (ix2 (row t p) l) := by
  blk_ext [iblk, V, idx t, row]
theorem blk3 (c : Dev nD) (t : Fin cfg0.N) (p : Fin 352) (l : Fin 1024) :
    (iblk m c 3 t : Vec Ideal S352x1024 .f32) (ix2 p l) = (m ((c : Thread nD τ).loc main_arg3)) (ix2 (row t p) l) := by
  blk_ext [iblk, V, idx t, row]

/-- The sum of the eight parts of a block is the reference's gradient at the block's rows. -/
theorem grad_blk (c : Dev nD) (t : Fin cfg0.N) (p : Fin 352) (l : Fin 1024) :
    k0_pay5 (iblk m c 0 t) (iblk m c 1 t) (iblk m c 2 t) (iblk m c 3 t) (ix2 p l) = grad (m ((c : Thread nD τ).loc main_arg0)) (row t p) l :=
  (grad_of _ _ _ _ p l).trans (Finset.sum_congr rfl fun s _ => blk0 m c t s p l)

theorem arr4 (c : Dev nD) : (dats m 0 c).arrAt 4 cfg0.N = Cert.AdamOutRefIdeal.Read.val_main_v1 (F := Ideal) (m ((c : Thread nD τ).loc main_arg0)) := by
  refine (dats m 0 c).arrAt_eq_of_covers 4 _ (by decide +kernel) fun t hf y => ?_
  obtain ⟨r, l, rfl⟩ : ∃ (r : Fin 352) (l : Fin 1024), y = ix2 r l := ⟨y 0, y 1, eq_ix2 y⟩
  have e : (((cfg0.win 4).blk t).view.emb (ix2 r l)) = ix2 (row t r) l := by blk_ext [idx t, row]
  rw [e, grad_apply]
  blk_simp
  rw [after0_4]
  frame_out
  exact grad_blk m c t r l

theorem arr5 (c : Dev nD) : (dats m 0 c).arrAt 5 cfg0.N = Cert.AdamOutRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 352) (l : Fin 1024), y = ix2 r l := ⟨y 0, y 1, eq_ix2 y⟩
  have e : (((cfg0.win 5).blk t).view.emb (ix2 r l)) = ix2 (row t r) l := by blk_ext [idx t, row]
  rw [e, step_apply]
  blk_simp
  rw [after0_5]
  frame_out
  refine (step_of _ _ _ _ r l).trans ?_
  rw [blk1, blk2, blk3]
  rw [show _ = _ from grad_blk m c t r l]

theorem arr6 (c : Dev nD) : (dats m 0 c).arrAt 6 cfg0.N = Cert.AdamOutRefIdeal.Read.val_main_v6 (F := Ideal) (m ((c : Thread nD τ).loc main_arg0)) (m ((c : Thread nD τ).loc main_arg2)) := by
  refine (dats m 0 c).arrAt_eq_of_covers 6 _ (by decide +kernel) fun t hf y => ?_
  obtain ⟨r, l, rfl⟩ : ∃ (r : Fin 352) (l : Fin 1024), y = ix2 r l := ⟨y 0, y 1, eq_ix2 y⟩
  have e : (((cfg0.win 6).blk t).view.emb (ix2 r l)) = ix2 (row t r) l := by blk_ext [idx t, row]
  rw [e, mean_apply]
  blk_simp
  rw [after0_6]
  frame_out
  refine (mean_of _ _ r l).trans ?_
  exact congrArg₂ Cert.Adam.mean (blk2 m c t r l) (grad_blk m c t r l)

theorem arr7 (c : Dev nD) : (dats m 0 c).arrAt 7 cfg0.N = Cert.AdamOutRefIdeal.Read.val_main_v12 (F := Ideal) (m ((c : Thread nD τ).loc main_arg0)) (m ((c : Thread nD τ).loc main_arg3)) := by
  refine (dats m 0 c).arrAt_eq_of_covers 7 _ (by decide +kernel) fun t hf y => ?_
  obtain ⟨r, l, rfl⟩ : ∃ (r : Fin 352) (l : Fin 1024), y = ix2 r l := ⟨y 0, y 1, eq_ix2 y⟩
  have e : (((cfg0.win 7).blk t).view.emb (ix2 r l)) = ix2 (row t r) l := by blk_ext [idx t, row]
  rw [e, meanSquare_apply]
  blk_simp
  rw [after0_7]
  frame_out
  refine (meanSquare_of _ _ r l).trans ?_
  exact congrArg₂ Cert.Adam.meanSquare (blk3 m c t r l) (grad_blk m c t r l)

end Cert.AdamOutIdeal.RefValue

end
-- ==== Proof.AdamOut.Claims.lean ====
/- The kernel for the optimiser's step of a feed-forward block's output weights and the reference end with the same four arrays. -/
module

public import proofs.«01_k».proof.Defs
public import proofs.«01_k».proof.Proof.AdamOut.Arrays
public import proofs.«01_k».proof.Proof.Gen.AdamOutRefIdeal.Run

@[expose] public section

set_option maxRecDepth 16384

noncomputable section

namespace Cert.Proof.AdamOutClaims

open Idealize.ShloMosaic Idealize.SL.Sem

theorem algebraic : Cert.algebraic_AdamOutIdeal_AdamOutRefIdeal := by
  intro m ρ m' ρ' _ agree
  refine ⟨fun c => Cert.AdamOutRefIdeal.Read.val_main_v1 (F := Ideal) (m ((c.tc : Thread _ _).loc Cert.AdamOutIdeal.main_arg0)),
    fun c => Cert.AdamOutRefIdeal.Read.val_main_v25 (F := Ideal) (m ((c.tc : Thread _ _).loc Cert.AdamOutIdeal.main_arg0)) (m ((c.tc : Thread _ _).loc Cert.AdamOutIdeal.main_arg1)) (m ((c.tc : Thread _ _).loc Cert.AdamOutIdeal.main_arg2)) (m ((c.tc : Thread _ _).loc Cert.AdamOutIdeal.main_arg3)),
    fun c => Cert.AdamOutRefIdeal.Read.val_main_v6 (F := Ideal) (m ((c.tc : Thread _ _).loc Cert.AdamOutIdeal.main_arg0)) (m ((c.tc : Thread _ _).loc Cert.AdamOutIdeal.main_arg2)),
    fun c => Cert.AdamOutRefIdeal.Read.val_main_v12 (F := Ideal) (m ((c.tc : Thread _ _).loc Cert.AdamOutIdeal.main_arg0)) (m ((c.tc : Thread _ _).loc Cert.AdamOutIdeal.main_arg3)),
    ?_, ?_⟩
  · refine (θ_run _ _ _).mono (fun r h c => ?_) (Cert.AdamOutIdeal.Value.run_blocks (F := Ideal) m ρ)
    obtain ⟨h0, h1, h2, h3, kept⟩ := h c
    exact ⟨h0.trans (Cert.AdamOutIdeal.RefValue.arr4 m c), h1.trans (Cert.AdamOutIdeal.RefValue.arr5 m c), h2.trans (Cert.AdamOutIdeal.RefValue.arr6 m c), h3.trans (Cert.AdamOutIdeal.RefValue.arr7 m c), kept⟩
  · refine (θ_run _ _ _).mono (fun r h c => ?_) (Cert.AdamOutRefIdeal.Value.run (F := Ideal) m' ρ')
    obtain ⟨h0, h1, h2, h3, kept⟩ := h c
    obtain ⟨a0, a1, a2, a3⟩ := agree c
    refine ⟨h0.trans ?_, h1.trans ?_, h2.trans ?_, h3.trans ?_, kept⟩
    · simp only [← a0]
      first | exact Cert.AdamOutRefIdeal.Read.val_main_v1_eq (F := Ideal) m' c | rfl
    · simp only [← a0, ← a1, ← a2, ← a3]
      first | exact Cert.AdamOutRefIdeal.Read.val_main_v25_eq (F := Ideal) m' c | rfl
    · simp only [← a0, ← a2]
      first | exact Cert.AdamOutRefIdeal.Read.val_main_v6_eq (F := Ideal) m' c | rfl
    · simp only [← a0, ← a3]
      first | exact Cert.AdamOutRefIdeal.Read.val_main_v12_eq (F := Ideal) m' c | rfl

/-- The reference runs, keeps its arguments, and has no semaphore that could be left raised. -/
theorem frame_ref : Cert.quiescent_AdamOutRefIdeal := fun m ρ _ =>
  (θ_run _ _ _).mono (fun r h => ⟨fun c => by
    obtain ⟨_, _, _, _, kept⟩ := h c
    exact kept, sem_eq_zero_of_no_sems rfl _⟩) (Cert.AdamOutRefIdeal.Value.run (F := Ideal) m ρ)

theorem preserves : Cert.preserves_AdamOut_AdamOutIdeal := trivial

end Cert.Proof.AdamOutClaims

end
-- ==== Proof.AdamSquare.Formulas.lean ====
/- The reference of the optimiser's step of a square matrix, as formulas at one index. -/
module

public import proofs.«01_k».proof.Proof.Gen.AdamSquareRefIdeal.Read
public import proofs.«01_k».proof.Proof.Adam
public import Idealize.ShloMosaic.Lib.Pipeline.ValueKit
public import Idealize.ShloMosaic.Lib.Pointwise

@[expose] public section

set_option maxRecDepth 16384

noncomputable section

namespace Cert.AdamSquareRefIdeal.Formulas

open Cert.AdamSquareRefIdeal Cert.AdamSquareRefIdeal.Read Idealize.ShloMosaic Idealize.ShloMosaic.TcCoe

variable (x0 : (⟨S8x128x1024, .bf16⟩ : BufTy).Contents (Elt Ideal)) (x1 : (⟨S128x1024, .f32⟩ : BufTy).Contents (Elt Ideal)) (x2 : (⟨S128x1024, .f32⟩ : BufTy).Contents (Elt Ideal)) (x3 : (⟨S128x1024, .f32⟩ : BufTy).Contents (Elt Ideal))

/-- The gradient: the sum of the eight devices' parts. -/
def grad (r : Fin 128) (l : Fin 1024) : EReal := ∑ s : Fin 8, x0 (ix3 s r l)

theorem grad_apply (r : Fin 128) (l : Fin 1024) : val_main_v1 (F := Ideal) x0 (ix2 r l) = grad x0 r l := by
  pointwise [val_main_v1, val_main_v0, val_main_cst, grad]

theorem mean_apply (r : Fin 128) (l : Fin 1024) :
    val_main_v6 (F := Ideal) x0 x2 (ix2 r l) = Cert.Adam.mean (x2 (ix2 r l)) (grad x0 r l) := by
  rw [← grad_apply]
  generalize e : val_main_v1 (F := Ideal) x0 = y
  pointwise [val_main_v6, val_main_v5, val_main_v4, val_main_v3, val_main_v2, e, val_main_cst_0, val_main_cst_1, Cert.Adam.mean]

theorem meanSquare_apply (r : Fin 128) (l : Fin 1024) :
    val_main_v12 (F := Ideal) x0 x3 (ix2 r l) = Cert.Adam.meanSquare (x3 (ix2 r l)) (grad x0 r l) := by
  rw [← grad_apply]
  generalize e : val_main_v1 (F := Ideal) x0 = y
  pointwise [val_main_v12, val_main_v11, val_main_v10, val_main_v9, val_main_v8, val_main_v7, e, val_main_cst_2, val_main_cst_3, Cert.Adam.meanSquare]

theorem step_apply (r : Fin 128) (l : Fin 1024) :
    val_main_v25 (F := Ideal) x0 x1 x2 x3 (ix2 r l) = Cert.Adam.step (x1 (ix2 r l))
      (Cert.Adam.mean (x2 (ix2 r l)) (grad x0 r l)) (Cert.Adam.meanSquare (x3 (ix2 r l)) (grad x0 r l)) := by
  rw [← mean_apply, ← meanSquare_apply]
  generalize e : val_main_v6 (F := Ideal) x0 x2 = y
  generalize f : val_main_v12 (F := Ideal) x0 x3 = z
  pointwise [val_main_v25, val_main_v24, val_main_v23, val_main_v22, val_main_v21, val_main_v20, val_main_v19, val_main_v18, val_main_v17, val_main_v16, val_main_v15, val_main_v14, val_main_v13, e, f, val_main_cst_4, val_main_cst_5, val_main_cst_6, val_main_cst_7, val_main_cst_8, Cert.Adam.step]

end Cert.AdamSquareRefIdeal.Formulas

end
-- ==== Proof.AdamSquare.Arrays.lean ====
/- What the optimiser's step of a square matrix leaves after the run: the reference's four results, at every index. -/
module

public import proofs.«01_k».proof.Proof.Gen.AdamSquareIdeal.Value
public import proofs.«01_k».proof.Proof.AdamSquare.Formulas
public import Idealize.ShloMosaic.Lib.Pipeline.ValueKit
public import Idealize.ShloMosaic.Lib.Pointwise
public import Idealize.ShloMosaic.Lib.Claim

@[expose] public section

set_option maxRecDepth 16384

noncomputable section

namespace Cert.AdamSquareIdeal.RefValue

open Cert.AdamSquareIdeal Cert.AdamSquareIdeal.Gen Idealize.ShloMosaic Idealize.ShloMosaic.TcCoe Idealize.SL.Sem
open Idealize.ShloMosaic.Pipeline (Dat)
open Cert.AdamSquareRefIdeal.Formulas

/-- A load of a whole buffer reads it. -/
theorem whole (x : Vec Ideal S128x1024 .f32) : View.ld x r0_8 = x :=
  View.ld_unit_zero (by funext a; fin_cases a <;> rfl) _ _

/-- The sum the body makes of the eight parts. -/
theorem grad_of (x0 : Vec Ideal S8x128x1024 .bf16) (x1 x2 x3 : Vec Ideal S128x1024 .f32) (p : Fin 128) (l : Fin 1024) :
    k0_pay5 x0 x1 x2 x3 (ix2 p l) = ∑ s : Fin 8, x0 (ix3 s p l) := by
  rw [Fin.sum_univ_eight]
  pointwise [k0_pay5, k0_pay4]

theorem mean_of (a b : Vec Ideal S128x1024 .f32) (p : Fin 128) (l : Fin 1024) :
    k0_pay1 a b (Scalar.ofBits (F := Ideal) .f32 0x3F666666#32) (ix2 p l) = Cert.Adam.mean (b (ix2 p l)) (a (ix2 p l)) := by
  pointwise [k0_pay1, Cert.Adam.mean]
theorem meanSquare_of (a b : Vec Ideal S128x1024 .f32) (p : Fin 128) (l : Fin 1024) :
    k0_pay2 a b (ix2 p l) = Cert.Adam.meanSquare (b (ix2 p l)) (a (ix2 p l)) := by
  pointwise [k0_pay2, Cert.Adam.meanSquare]
theorem step_of (a b v w : Vec Ideal S128x1024 .f32) (p : Fin 128) (l : Fin 1024) :
    k0_pay3 a b (Scalar.ofBits (F := Ideal) .f32 0x3F666666#32) v w (ix2 p l) = Cert.Adam.step (w (ix2 p l))
      (Cert.Adam.mean (b (ix2 p l)) (a (ix2 p l))) (Cert.Adam.meanSquare (v (ix2 p l)) (a (ix2 p l))) := by
  pointwise [k0_pay3, k0_pay1, k0_pay2, Cert.Adam.step, Cert.Adam.mean, Cert.Adam.meanSquare]

variable (m : (ℓ : Loc nD τ sig) → Buf (Elt Ideal) ℓ)

/-- The block each window holds at grid point `t`. -/
theorem idx : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

/-- Row `p` of block `t`, among all rows. -/
def row (t : Fin cfg0.N) (p : Fin 128) : Fin 128 :=
  ⟨128 * t.val + p.val, by have := t.isLt; have h : cfg0.N = 1 := N_0; omega⟩

theorem blk0 (c : Dev nD) (t : Fin cfg0.N) (s : Fin 8) (p : Fin 128) (l : Fin 1024) :
    (iblk m c 0 t : Vec Ideal S8x128x1024 .bf16) (ix3 s p l) = (m ((c : Thread nD τ).loc main_arg0)) (ix3 s (row t p) l) := by
  blk_ext [iblk, V, idx t, row]
theorem blk1 (c : Dev nD) (t : Fin cfg0.N) (p : Fin 128) (l : Fin 1024) :
    (iblk m c 1 t : Vec Ideal S128x1024 .f32) (ix2 p l) = (m ((c : Thread nD τ).loc main_arg1)) (ix2 (row t p) l) := by
  blk_ext [iblk, V, idx t, row]
theorem blk2 (c : Dev nD) (t : Fin cfg0.N) (p : Fin 128) (l : Fin 1024) :
    (iblk m c 2 t : Vec Ideal S128x1024 .f32) (ix2 p l) = (m ((c : Thread nD τ).loc main_arg2)) (ix2 (row t p) l) := by
  blk_ext [iblk, V, idx t, row]
theorem blk3 (c : Dev nD) (t : Fin cfg0.N) (p : Fin 128) (l : Fin 1024) :
    (iblk m c 3 t : Vec Ideal S128x1024 .f32) (ix2 p l) = (m ((c : Thread nD τ).loc main_arg3)) (ix2 (row t p) l) := by
  blk_ext [iblk, V, idx t, row]

/-- The sum of the eight parts of a block is the reference's gradient at the block's rows. -/
theorem grad_blk (c : Dev nD) (t : Fin cfg0.N) (p : Fin 128) (l : Fin 1024) :
    k0_pay5 (iblk m c 0 t) (iblk m c 1 t) (iblk m c 2 t) (iblk m c 3 t) (ix2 p l) = grad (m ((c : Thread nD τ).loc main_arg0)) (row t p) l :=
  (grad_of _ _ _ _ p l).trans (Finset.sum_congr rfl fun s _ => blk0 m c t s p l)

theorem arr4 (c : Dev nD) : (dats m 0 c).arrAt 4 cfg0.N = Cert.AdamSquareRefIdeal.Read.val_main_v1 (F := Ideal) (m ((c : Thread nD τ).loc main_arg0)) := by
  refine (dats m 0 c).arrAt_eq_of_covers 4 _ (by decide +kernel) fun t hf y => ?_
  obtain ⟨r, l, rfl⟩ : ∃ (r : Fin 128) (l : Fin 1024), y = ix2 r l := ⟨y 0, y 1, eq_ix2 y⟩
  have e : (((cfg0.win 4).blk t).view.emb (ix2 r l)) = ix2 (row t r) l := by blk_ext [idx t, row]
  rw [e, grad_apply]
  blk_simp
  rw [after0_4]
  frame_out
  exact grad_blk m c t r l

theorem arr5 (c : Dev nD) : (dats m 0 c).arrAt 5 cfg0.N = Cert.AdamSquareRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 128) (l : Fin 1024), y = ix2 r l := ⟨y 0, y 1, eq_ix2 y⟩
  have e : (((cfg0.win 5).blk t).view.emb (ix2 r l)) = ix2 (row t r) l := by blk_ext [idx t, row]
  rw [e, step_apply]
  blk_simp
  rw [after0_5]
  frame_out
  refine (step_of _ _ _ _ r l).trans ?_
  rw [blk1, blk2, blk3]
  rw [show _ = _ from grad_blk m c t r l]

theorem arr6 (c : Dev nD) : (dats m 0 c).arrAt 6 cfg0.N = Cert.AdamSquareRefIdeal.Read.val_main_v6 (F := Ideal) (m ((c : Thread nD τ).loc main_arg0)) (m ((c : Thread nD τ).loc main_arg2)) := by
  refine (dats m 0 c).arrAt_eq_of_covers 6 _ (by decide +kernel) fun t hf y => ?_
  obtain ⟨r, l, rfl⟩ : ∃ (r : Fin 128) (l : Fin 1024), y = ix2 r l := ⟨y 0, y 1, eq_ix2 y⟩
  have e : (((cfg0.win 6).blk t).view.emb (ix2 r l)) = ix2 (row t r) l := by blk_ext [idx t, row]
  rw [e, mean_apply]
  blk_simp
  rw [after0_6]
  frame_out
  refine (mean_of _ _ r l).trans ?_
  exact congrArg₂ Cert.Adam.mean (blk2 m c t r l) (grad_blk m c t r l)

theorem arr7 (c : Dev nD) : (dats m 0 c).arrAt 7 cfg0.N = Cert.AdamSquareRefIdeal.Read.val_main_v12 (F := Ideal) (m ((c : Thread nD τ).loc main_arg0)) (m ((c : Thread nD τ).loc main_arg3)) := by
  refine (dats m 0 c).arrAt_eq_of_covers 7 _ (by decide +kernel) fun t hf y => ?_
  obtain ⟨r, l, rfl⟩ : ∃ (r : Fin 128) (l : Fin 1024), y = ix2 r l := ⟨y 0, y 1, eq_ix2 y⟩
  have e : (((cfg0.win 7).blk t).view.emb (ix2 r l)) = ix2 (row t r) l := by blk_ext [idx t, row]
  rw [e, meanSquare_apply]
  blk_simp
  rw [after0_7]
  frame_out
  refine (meanSquare_of _ _ r l).trans ?_
  exact congrArg₂ Cert.Adam.meanSquare (blk3 m c t r l) (grad_blk m c t r l)

end Cert.AdamSquareIdeal.RefValue

end
-- ==== Proof.AdamSquare.Claims.lean ====
/- The kernel for the optimiser's step of a square matrix and the reference end with the same four arrays. -/
module

public import proofs.«01_k».proof.Defs
public import proofs.«01_k».proof.Proof.AdamSquare.Arrays
public import proofs.«01_k».proof.Proof.Gen.AdamSquareRefIdeal.Run

@[expose] public section

set_option maxRecDepth 16384

noncomputable section

namespace Cert.Proof.AdamSquareClaims

open Idealize.ShloMosaic Idealize.SL.Sem

theorem algebraic : Cert.algebraic_AdamSquareIdeal_AdamSquareRefIdeal := by
  intro m ρ m' ρ' _ agree
  refine ⟨fun c => Cert.AdamSquareRefIdeal.Read.val_main_v1 (F := Ideal) (m ((c.tc : Thread _ _).loc Cert.AdamSquareIdeal.main_arg0)),
    fun c => Cert.AdamSquareRefIdeal.Read.val_main_v25 (F := Ideal) (m ((c.tc : Thread _ _).loc Cert.AdamSquareIdeal.main_arg0)) (m ((c.tc : Thread _ _).loc Cert.AdamSquareIdeal.main_arg1)) (m ((c.tc : Thread _ _).loc Cert.AdamSquareIdeal.main_arg2)) (m ((c.tc : Thread _ _).loc Cert.AdamSquareIdeal.main_arg3)),
    fun c => Cert.AdamSquareRefIdeal.Read.val_main_v6 (F := Ideal) (m ((c.tc : Thread _ _).loc Cert.AdamSquareIdeal.main_arg0)) (m ((c.tc : Thread _ _).loc Cert.AdamSquareIdeal.main_arg2)),
    fun c => Cert.AdamSquareRefIdeal.Read.val_main_v12 (F := Ideal) (m ((c.tc : Thread _ _).loc Cert.AdamSquareIdeal.main_arg0)) (m ((c.tc : Thread _ _).loc Cert.AdamSquareIdeal.main_arg3)),
    ?_, ?_⟩
  · refine (θ_run _ _ _).mono (fun r h c => ?_) (Cert.AdamSquareIdeal.Value.run_blocks (F := Ideal) m ρ)
    obtain ⟨h0, h1, h2, h3, kept⟩ := h c
    exact ⟨h0.trans (Cert.AdamSquareIdeal.RefValue.arr4 m c), h1.trans (Cert.AdamSquareIdeal.RefValue.arr5 m c), h2.trans (Cert.AdamSquareIdeal.RefValue.arr6 m c), h3.trans (Cert.AdamSquareIdeal.RefValue.arr7 m c), kept⟩
  · refine (θ_run _ _ _).mono (fun r h c => ?_) (Cert.AdamSquareRefIdeal.Value.run (F := Ideal) m' ρ')
    obtain ⟨h0, h1, h2, h3, kept⟩ := h c
    obtain ⟨a0, a1, a2, a3⟩ := agree c
    refine ⟨h0.trans ?_, h1.trans ?_, h2.trans ?_, h3.trans ?_, kept⟩
    · simp only [← a0]
      first | exact Cert.AdamSquareRefIdeal.Read.val_main_v1_eq (F := Ideal) m' c | rfl
    · simp only [← a0, ← a1, ← a2, ← a3]
      first | exact Cert.AdamSquareRefIdeal.Read.val_main_v25_eq (F := Ideal) m' c | rfl
    · simp only [← a0, ← a2]
      first | exact Cert.AdamSquareRefIdeal.Read.val_main_v6_eq (F := Ideal) m' c | rfl
    · simp only [← a0, ← a3]
      first | exact Cert.AdamSquareRefIdeal.Read.val_main_v12_eq (F := Ideal) m' c | rfl

/-- The reference runs, keeps its arguments, and has no semaphore that could be left raised. -/
theorem frame_ref : Cert.quiescent_AdamSquareRefIdeal := fun m ρ _ =>
  (θ_run _ _ _).mono (fun r h => ⟨fun c => by
    obtain ⟨_, _, _, _, kept⟩ := h c
    exact kept, sem_eq_zero_of_no_sems rfl _⟩) (Cert.AdamSquareRefIdeal.Value.run (F := Ideal) m ρ)

theorem preserves : Cert.preserves_AdamSquare_AdamSquareIdeal := trivial

end Cert.Proof.AdamSquareClaims

end
-- ==== Proof.AdamPle.Formulas.lean ====
/- The reference of the optimiser's step of the projection of the per-layer embedding, as formulas at one index. -/
module

public import proofs.«01_k».proof.Proof.Gen.AdamPleRefIdeal.Read
public import proofs.«01_k».proof.Proof.Adam
public import Idealize.ShloMosaic.Lib.Pipeline.ValueKit
public import Idealize.ShloMosaic.Lib.Pointwise

@[expose] public section

set_option maxRecDepth 16384

noncomputable section

namespace Cert.AdamPleRefIdeal.Formulas

open Cert.AdamPleRefIdeal Cert.AdamPleRefIdeal.Read Idealize.ShloMosaic Idealize.ShloMosaic.TcCoe

variable (x0 : (⟨S8x256x128, .bf16⟩ : BufTy).Contents (Elt Ideal)) (x1 : (⟨S256x128, .f32⟩ : BufTy).Contents (Elt Ideal)) (x2 : (⟨S256x128, .f32⟩ : BufTy).Contents (Elt Ideal)) (x3 : (⟨S256x128, .f32⟩ : BufTy).Contents (Elt Ideal))

/-- The gradient: the sum of the eight devices' parts. -/
def grad (r : Fin 256) (l : Fin 128) : EReal := ∑ s : Fin 8, x0 (ix3 s r l)

theorem grad_apply (r : Fin 256) (l : Fin 128) : val_main_v1 (F := Ideal) x0 (ix2 r l) = grad x0 r l := by
  pointwise [val_main_v1, val_main_v0, val_main_cst, grad]

theorem mean_apply (r : Fin 256) (l : Fin 128) :
    val_main_v6 (F := Ideal) x0 x2 (ix2 r l) = Cert.Adam.mean (x2 (ix2 r l)) (grad x0 r l) := by
  rw [← grad_apply]
  generalize e : val_main_v1 (F := Ideal) x0 = y
  pointwise [val_main_v6, val_main_v5, val_main_v4, val_main_v3, val_main_v2, e, val_main_cst_0, val_main_cst_1, Cert.Adam.mean]

theorem meanSquare_apply (r : Fin 256) (l : Fin 128) :
    val_main_v12 (F := Ideal) x0 x3 (ix2 r l) = Cert.Adam.meanSquare (x3 (ix2 r l)) (grad x0 r l) := by
  rw [← grad_apply]
  generalize e : val_main_v1 (F := Ideal) x0 = y
  pointwise [val_main_v12, val_main_v11, val_main_v10, val_main_v9, val_main_v8, val_main_v7, e, val_main_cst_2, val_main_cst_3, Cert.Adam.meanSquare]

theorem step_apply (r : Fin 256) (l : Fin 128) :
    val_main_v25 (F := Ideal) x0 x1 x2 x3 (ix2 r l) = Cert.Adam.step (x1 (ix2 r l))
      (Cert.Adam.mean (x2 (ix2 r l)) (grad x0 r l)) (Cert.Adam.meanSquare (x3 (ix2 r l)) (grad x0 r l)) := by
  rw [← mean_apply, ← meanSquare_apply]
  generalize e : val_main_v6 (F := Ideal) x0 x2 = y
  generalize f : val_main_v12 (F := Ideal) x0 x3 = z
  pointwise [val_main_v25, val_main_v24, val_main_v23, val_main_v22, val_main_v21, val_main_v20, val_main_v19, val_main_v18, val_main_v17, val_main_v16, val_main_v15, val_main_v14, val_main_v13, e, f, val_main_cst_4, val_main_cst_5, val_main_cst_6, val_main_cst_7, val_main_cst_8, Cert.Adam.step]

end Cert.AdamPleRefIdeal.Formulas

end
-- ==== Proof.AdamPle.Arrays.lean ====
/- What the optimiser's step of the projection of the per-layer embedding leaves after the run: the reference's four results, at every index. -/
module

public import proofs.«01_k».proof.Proof.Gen.AdamPleIdeal.Value
public import proofs.«01_k».proof.Proof.AdamPle.Formulas
public import Idealize.ShloMosaic.Lib.Pipeline.ValueKit
public import Idealize.ShloMosaic.Lib.Pointwise
public import Idealize.ShloMosaic.Lib.Claim

@[expose] public section

set_option maxRecDepth 16384

noncomputable section

namespace Cert.AdamPleIdeal.RefValue

open Cert.AdamPleIdeal Cert.AdamPleIdeal.Gen Idealize.ShloMosaic Idealize.ShloMosaic.TcCoe Idealize.SL.Sem
open Idealize.ShloMosaic.Pipeline (Dat)
open Cert.AdamPleRefIdeal.Formulas

/-- A load of a whole buffer reads it. -/
theorem whole (x : Vec Ideal S256x128 .f32) : View.ld x r0_8 = x :=
  View.ld_unit_zero (by funext a; fin_cases a <;> rfl) _ _

/-- The sum the body makes of the eight parts. -/
theorem grad_of (x0 : Vec Ideal S8x256x128 .bf16) (x1 x2 x3 : Vec Ideal S256x128 .f32) (p : Fin 256) (l : Fin 128) :
    k0_pay5 x0 x1 x2 x3 (ix2 p l) = ∑ s : Fin 8, x0 (ix3 s p l) := by
  rw [Fin.sum_univ_eight]
  pointwise [k0_pay5, k0_pay4]

theorem mean_of (a b : Vec Ideal S256x128 .f32) (p : Fin 256) (l : Fin 128) :
    k0_pay1 a b (Scalar.ofBits (F := Ideal) .f32 0x3F666666#32) (ix2 p l) = Cert.Adam.mean (b (ix2 p l)) (a (ix2 p l)) := by
  pointwise [k0_pay1, Cert.Adam.mean]
theorem meanSquare_of (a b : Vec Ideal S256x128 .f32) (p : Fin 256) (l : Fin 128) :
    k0_pay2 a b (ix2 p l) = Cert.Adam.meanSquare (b (ix2 p l)) (a (ix2 p l)) := by
  pointwise [k0_pay2, Cert.Adam.meanSquare]
theorem step_of (a b v w : Vec Ideal S256x128 .f32) (p : Fin 256) (l : Fin 128) :
    k0_pay3 a b (Scalar.ofBits (F := Ideal) .f32 0x3F666666#32) v w (ix2 p l) = Cert.Adam.step (w (ix2 p l))
      (Cert.Adam.mean (b (ix2 p l)) (a (ix2 p l))) (Cert.Adam.meanSquare (v (ix2 p l)) (a (ix2 p l))) := by
  pointwise [k0_pay3, k0_pay1, k0_pay2, Cert.Adam.step, Cert.Adam.mean, Cert.Adam.meanSquare]

variable (m : (ℓ : Loc nD τ sig) → Buf (Elt Ideal) ℓ)

/-- The block each window holds at grid point `t`. -/
theorem idx : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

/-- Row `p` of block `t`, among all rows. -/
def row (t : Fin cfg0.N) (p : Fin 256) : Fin 256 :=
  ⟨256 * t.val + p.val, by have := t.isLt; have h : cfg0.N = 1 := N_0; omega⟩

theorem blk0 (c : Dev nD) (t : Fin cfg0.N) (s : Fin 8) (p : Fin 256) (l : Fin 128) :
    (iblk m c 0 t : Vec Ideal S8x256x128 .bf16) (ix3 s p l) = (m ((c : Thread nD τ).loc main_arg0)) (ix3 s (row t p) l) := by
  blk_ext [iblk, V, idx t, row]
theorem blk1 (c : Dev nD) (t : Fin cfg0.N) (p : Fin 256) (l : Fin 128) :
    (iblk m c 1 t : Vec Ideal S256x128 .f32) (ix2 p l) = (m ((c : Thread nD τ).loc main_arg1)) (ix2 (row t p) l) := by
  blk_ext [iblk, V, idx t, row]
theorem blk2 (c : Dev nD) (t : Fin cfg0.N) (p : Fin 256) (l : Fin 128) :
    (iblk m c 2 t : Vec Ideal S256x128 .f32) (ix2 p l) = (m ((c : Thread nD τ).loc main_arg2)) (ix2 (row t p) l) := by
  blk_ext [iblk, V, idx t, row]
theorem blk3 (c : Dev nD) (t : Fin cfg0.N) (p : Fin 256) (l : Fin 128) :
    (iblk m c 3 t : Vec Ideal S256x128 .f32) (ix2 p l) = (m ((c : Thread nD τ).loc main_arg3)) (ix2 (row t p) l) := by
  blk_ext [iblk, V, idx t, row]

/-- The sum of the eight parts of a block is the reference's gradient at the block's rows. -/
theorem grad_blk (c : Dev nD) (t : Fin cfg0.N) (p : Fin 256) (l : Fin 128) :
    k0_pay5 (iblk m c 0 t) (iblk m c 1 t) (iblk m c 2 t) (iblk m c 3 t) (ix2 p l) = grad (m ((c : Thread nD τ).loc main_arg0)) (row t p) l :=
  (grad_of _ _ _ _ p l).trans (Finset.sum_congr rfl fun s _ => blk0 m c t s p l)

theorem arr4 (c : Dev nD) : (dats m 0 c).arrAt 4 cfg0.N = Cert.AdamPleRefIdeal.Read.val_main_v1 (F := Ideal) (m ((c : Thread nD τ).loc main_arg0)) := by
  refine (dats m 0 c).arrAt_eq_of_covers 4 _ (by decide +kernel) fun t hf y => ?_
  obtain ⟨r, l, rfl⟩ : ∃ (r : Fin 256) (l : Fin 128), y = ix2 r l := ⟨y 0, y 1, eq_ix2 y⟩
  have e : (((cfg0.win 4).blk t).view.emb (ix2 r l)) = ix2 (row t r) l := by blk_ext [idx t, row]
  rw [e, grad_apply]
  blk_simp
  rw [after0_4]
  frame_out
  exact grad_blk m c t r l

theorem arr5 (c : Dev nD) : (dats m 0 c).arrAt 5 cfg0.N = Cert.AdamPleRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 256) (l : Fin 128), y = ix2 r l := ⟨y 0, y 1, eq_ix2 y⟩
  have e : (((cfg0.win 5).blk t).view.emb (ix2 r l)) = ix2 (row t r) l := by blk_ext [idx t, row]
  rw [e, step_apply]
  blk_simp
  rw [after0_5]
  frame_out
  refine (step_of _ _ _ _ r l).trans ?_
  rw [blk1, blk2, blk3]
  rw [show _ = _ from grad_blk m c t r l]

theorem arr6 (c : Dev nD) : (dats m 0 c).arrAt 6 cfg0.N = Cert.AdamPleRefIdeal.Read.val_main_v6 (F := Ideal) (m ((c : Thread nD τ).loc main_arg0)) (m ((c : Thread nD τ).loc main_arg2)) := by
  refine (dats m 0 c).arrAt_eq_of_covers 6 _ (by decide +kernel) fun t hf y => ?_
  obtain ⟨r, l, rfl⟩ : ∃ (r : Fin 256) (l : Fin 128), y = ix2 r l := ⟨y 0, y 1, eq_ix2 y⟩
  have e : (((cfg0.win 6).blk t).view.emb (ix2 r l)) = ix2 (row t r) l := by blk_ext [idx t, row]
  rw [e, mean_apply]
  blk_simp
  rw [after0_6]
  frame_out
  refine (mean_of _ _ r l).trans ?_
  exact congrArg₂ Cert.Adam.mean (blk2 m c t r l) (grad_blk m c t r l)

theorem arr7 (c : Dev nD) : (dats m 0 c).arrAt 7 cfg0.N = Cert.AdamPleRefIdeal.Read.val_main_v12 (F := Ideal) (m ((c : Thread nD τ).loc main_arg0)) (m ((c : Thread nD τ).loc main_arg3)) := by
  refine (dats m 0 c).arrAt_eq_of_covers 7 _ (by decide +kernel) fun t hf y => ?_
  obtain ⟨r, l, rfl⟩ : ∃ (r : Fin 256) (l : Fin 128), y = ix2 r l := ⟨y 0, y 1, eq_ix2 y⟩
  have e : (((cfg0.win 7).blk t).view.emb (ix2 r l)) = ix2 (row t r) l := by blk_ext [idx t, row]
  rw [e, meanSquare_apply]
  blk_simp
  rw [after0_7]
  frame_out
  refine (meanSquare_of _ _ r l).trans ?_
  exact congrArg₂ Cert.Adam.meanSquare (blk3 m c t r l) (grad_blk m c t r l)

end Cert.AdamPleIdeal.RefValue

end
-- ==== Proof.AdamPle.Claims.lean ====
/- The kernel for the optimiser's step of the projection of the per-layer embedding and the reference end with the same four arrays. -/
module

public import proofs.«01_k».proof.Defs
public import proofs.«01_k».proof.Proof.AdamPle.Arrays
public import proofs.«01_k».proof.Proof.Gen.AdamPleRefIdeal.Run

@[expose] public section

set_option maxRecDepth 16384

noncomputable section

namespace Cert.Proof.AdamPleClaims

open Idealize.ShloMosaic Idealize.SL.Sem

theorem algebraic : Cert.algebraic_AdamPleIdeal_AdamPleRefIdeal := by
  intro m ρ m' ρ' _ agree
  refine ⟨fun c => Cert.AdamPleRefIdeal.Read.val_main_v1 (F := Ideal) (m ((c.tc : Thread _ _).loc Cert.AdamPleIdeal.main_arg0)),
    fun c => Cert.AdamPleRefIdeal.Read.val_main_v25 (F := Ideal) (m ((c.tc : Thread _ _).loc Cert.AdamPleIdeal.main_arg0)) (m ((c.tc : Thread _ _).loc Cert.AdamPleIdeal.main_arg1)) (m ((c.tc : Thread _ _).loc Cert.AdamPleIdeal.main_arg2)) (m ((c.tc : Thread _ _).loc Cert.AdamPleIdeal.main_arg3)),
    fun c => Cert.AdamPleRefIdeal.Read.val_main_v6 (F := Ideal) (m ((c.tc : Thread _ _).loc Cert.AdamPleIdeal.main_arg0)) (m ((c.tc : Thread _ _).loc Cert.AdamPleIdeal.main_arg2)),
    fun c => Cert.AdamPleRefIdeal.Read.val_main_v12 (F := Ideal) (m ((c.tc : Thread _ _).loc Cert.AdamPleIdeal.main_arg0)) (m ((c.tc : Thread _ _).loc Cert.AdamPleIdeal.main_arg3)),
    ?_, ?_⟩
  · refine (θ_run _ _ _).mono (fun r h c => ?_) (Cert.AdamPleIdeal.Value.run_blocks (F := Ideal) m ρ)
    obtain ⟨h0, h1, h2, h3, kept⟩ := h c
    exact ⟨h0.trans (Cert.AdamPleIdeal.RefValue.arr4 m c), h1.trans (Cert.AdamPleIdeal.RefValue.arr5 m c), h2.trans (Cert.AdamPleIdeal.RefValue.arr6 m c), h3.trans (Cert.AdamPleIdeal.RefValue.arr7 m c), kept⟩
  · refine (θ_run _ _ _).mono (fun r h c => ?_) (Cert.AdamPleRefIdeal.Value.run (F := Ideal) m' ρ')
    obtain ⟨h0, h1, h2, h3, kept⟩ := h c
    obtain ⟨a0, a1, a2, a3⟩ := agree c
    refine ⟨h0.trans ?_, h1.trans ?_, h2.trans ?_, h3.trans ?_, kept⟩
    · simp only [← a0]
      first | exact Cert.AdamPleRefIdeal.Read.val_main_v1_eq (F := Ideal) m' c | rfl
    · simp only [← a0, ← a1, ← a2, ← a3]
      first | exact Cert.AdamPleRefIdeal.Read.val_main_v25_eq (F := Ideal) m' c | rfl
    · simp only [← a0, ← a2]
      first | exact Cert.AdamPleRefIdeal.Read.val_main_v6_eq (F := Ideal) m' c | rfl
    · simp only [← a0, ← a3]
      first | exact Cert.AdamPleRefIdeal.Read.val_main_v12_eq (F := Ideal) m' c | rfl

/-- The reference runs, keeps its arguments, and has no semaphore that could be left raised. -/
theorem frame_ref : Cert.quiescent_AdamPleRefIdeal := fun m ρ _ =>
  (θ_run _ _ _).mono (fun r h => ⟨fun c => by
    obtain ⟨_, _, _, _, kept⟩ := h c
    exact kept, sem_eq_zero_of_no_sems rfl _⟩) (Cert.AdamPleRefIdeal.Value.run (F := Ideal) m ρ)

theorem preserves : Cert.preserves_AdamPle_AdamPleIdeal := trivial

end Cert.Proof.AdamPleClaims

end
-- ==== Proof.AdamConv.Formulas.lean ====
/- The reference of the optimiser's step of the convolution's taps, as formulas at one index. -/
module

public import proofs.«01_k».proof.Proof.Gen.AdamConvRefIdeal.Read
public import proofs.«01_k».proof.Proof.Adam
public import Idealize.ShloMosaic.Lib.Pipeline.ValueKit
public import Idealize.ShloMosaic.Lib.Pointwise

@[expose] public section

set_option maxRecDepth 16384

noncomputable section

namespace Cert.AdamConvRefIdeal.Formulas

open Cert.AdamConvRefIdeal Cert.AdamConvRefIdeal.Read Idealize.ShloMosaic Idealize.ShloMosaic.TcCoe

variable (x0 : (⟨S8x8x128, .f32⟩ : BufTy).Contents (Elt Ideal)) (x1 : (⟨S8x128, .f32⟩ : BufTy).Contents (Elt Ideal)) (x2 : (⟨S8x128, .f32⟩ : BufTy).Contents (Elt Ideal)) (x3 : (⟨S8x128, .f32⟩ : BufTy).Contents (Elt Ideal))

/-- The gradient: the sum of the eight devices' parts. -/
def grad (r : Fin 8) (l : Fin 128) : EReal := ∑ s : Fin 8, x0 (ix3 s r l)

theorem grad_apply (r : Fin 8) (l : Fin 128) : val_main_v0 (F := Ideal) x0 (ix2 r l) = grad x0 r l := by
  pointwise [val_main_v0, val_main_cst, grad]

theorem mean_apply (r : Fin 8) (l : Fin 128) :
    val_main_v5 (F := Ideal) x0 x2 (ix2 r l) = Cert.Adam.mean (x2 (ix2 r l)) (grad x0 r l) := by
  rw [← grad_apply]
  generalize e : val_main_v0 (F := Ideal) x0 = y
  pointwise [val_main_v5, val_main_v4, val_main_v3, val_main_v2, val_main_v1, e, val_main_cst_0, val_main_cst_1, Cert.Adam.mean]

theorem meanSquare_apply (r : Fin 8) (l : Fin 128) :
    val_main_v11 (F := Ideal) x0 x3 (ix2 r l) = Cert.Adam.meanSquare (x3 (ix2 r l)) (grad x0 r l) := by
  rw [← grad_apply]
  generalize e : val_main_v0 (F := Ideal) x0 = y
  pointwise [val_main_v11, val_main_v10, val_main_v9, val_main_v8, val_main_v7, val_main_v6, e, val_main_cst_2, val_main_cst_3, Cert.Adam.meanSquare]

theorem step_apply (r : Fin 8) (l : Fin 128) :
    val_main_v24 (F := Ideal) x0 x1 x2 x3 (ix2 r l) = Cert.Adam.step (x1 (ix2 r l))
      (Cert.Adam.mean (x2 (ix2 r l)) (grad x0 r l)) (Cert.Adam.meanSquare (x3 (ix2 r l)) (grad x0 r l)) := by
  rw [← mean_apply, ← meanSquare_apply]
  generalize e : val_main_v5 (F := Ideal) x0 x2 = y
  generalize f : val_main_v11 (F := Ideal) x0 x3 = z
  pointwise [val_main_v24, val_main_v23, val_main_v22, val_main_v21, val_main_v20, val_main_v19, val_main_v18, val_main_v17, val_main_v16, val_main_v15, val_main_v14, val_main_v13, val_main_v12, e, f, val_main_cst_4, val_main_cst_5, val_main_cst_6, val_main_cst_7, val_main_cst_8, Cert.Adam.step]

end Cert.AdamConvRefIdeal.Formulas

end
-- ==== Proof.AdamConv.Arrays.lean ====
/- What the optimiser's step of the convolution's taps leaves after the run: the reference's four results, at every index. -/
module

public import proofs.«01_k».proof.Proof.Gen.AdamConvIdeal.Value
public import proofs.«01_k».proof.Proof.AdamConv.Formulas
public import Idealize.ShloMosaic.Lib.Pipeline.ValueKit
public import Idealize.ShloMosaic.Lib.Pointwise
public import Idealize.ShloMosaic.Lib.Claim

@[expose] public section

set_option maxRecDepth 16384

noncomputable section

namespace Cert.AdamConvIdeal.RefValue

open Cert.AdamConvIdeal Cert.AdamConvIdeal.Gen Idealize.ShloMosaic Idealize.ShloMosaic.TcCoe Idealize.SL.Sem
open Idealize.ShloMosaic.Pipeline (Dat)
open Cert.AdamConvRefIdeal.Formulas

/-- A load of a whole buffer reads it. -/
theorem whole (x : Vec Ideal S8x128 .f32) : View.ld x r0_8 = x :=
  View.ld_unit_zero (by funext a; fin_cases a <;> rfl) _ _

/-- The sum the body makes of the eight parts. -/
theorem grad_of (x0 : Vec Ideal S8x8x128 .f32) (x1 x2 x3 : Vec Ideal S8x128 .f32) (p : Fin 8) (l : Fin 128) :
    k0_pay5 x0 x1 x2 x3 (ix2 p l) = ∑ s : Fin 8, x0 (ix3 s p l) := by
  rw [Fin.sum_univ_eight]
  pointwise [k0_pay5, k0_pay3]

theorem meanSquare_of (a b : Vec Ideal S8x128 .f32) (p : Fin 8) (l : Fin 128) :
    k0_pay1 a b (ix2 p l) = Cert.Adam.meanSquare (b (ix2 p l)) (a (ix2 p l)) := by
  pointwise [k0_pay1, Cert.Adam.meanSquare]
theorem step_of (a b v w : Vec Ideal S8x128 .f32) (p : Fin 8) (l : Fin 128) :
    k0_pay2 a b v w (ix2 p l) = Cert.Adam.step (w (ix2 p l)) (b (ix2 p l))
      (Cert.Adam.meanSquare (v (ix2 p l)) (a (ix2 p l))) := by
  rw [← meanSquare_of]
  generalize f : k0_pay1 a v = z
  pointwise [k0_pay2, f, Cert.Adam.step]
theorem mean_of (x0 : Vec Ideal S8x8x128 .f32) (x1 x2 x3 : Vec Ideal S8x128 .f32) (p : Fin 8) (l : Fin 128) :
    k0_pay6 x0 x1 x2 x3 (ix2 p l) = Cert.Adam.mean (x2 (ix2 p l)) (∑ s : Fin 8, x0 (ix3 s p l)) := by
  rw [← grad_of x0 x1 x2 x3, k0_pay6, whole]
  unfold k0_pay5
  generalize View.ld x0 r0_0 = a0
  generalize View.ld x0 r0_1 = a1
  generalize View.ld x0 r0_2 = a2
  generalize View.ld x0 r0_3 = a3
  generalize View.ld x0 r0_4 = a4
  generalize View.ld x0 r0_5 = a5
  generalize View.ld x0 r0_6 = a6
  generalize View.ld x0 r0_7 = a7
  generalize e : k0_pay3 a0 a1 a2 a3 a4 a5 a6 a7 = y
  pointwise [k0_pay4, e, Cert.Adam.mean]

variable (m : (ℓ : Loc nD τ sig) → Buf (Elt Ideal) ℓ)

/-- The block each window holds at grid point `t`. -/
theorem idx : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

/-- Row `p` of block `t`, among all rows. -/
def row (t : Fin cfg0.N) (p : Fin 8) : Fin 8 :=
  ⟨8 * t.val + p.val, by have := t.isLt; have h : cfg0.N = 1 := N_0; omega⟩

theorem blk0 (c : Dev nD) (t : Fin cfg0.N) (s : Fin 8) (p : Fin 8) (l : Fin 128) :
    (iblk m c 0 t : Vec Ideal S8x8x128 .f32) (ix3 s p l) = (m ((c : Thread nD τ).loc main_arg0)) (ix3 s (row t p) l) := by
  blk_ext [iblk, V, idx t, row]
theorem blk1 (c : Dev nD) (t : Fin cfg0.N) (p : Fin 8) (l : Fin 128) :
    (iblk m c 1 t : Vec Ideal S8x128 .f32) (ix2 p l) = (m ((c : Thread nD τ).loc main_arg1)) (ix2 (row t p) l) := by
  blk_ext [iblk, V, idx t, row]
theorem blk2 (c : Dev nD) (t : Fin cfg0.N) (p : Fin 8) (l : Fin 128) :
    (iblk m c 2 t : Vec Ideal S8x128 .f32) (ix2 p l) = (m ((c : Thread nD τ).loc main_arg2)) (ix2 (row t p) l) := by
  blk_ext [iblk, V, idx t, row]
theorem blk3 (c : Dev nD) (t : Fin cfg0.N) (p : Fin 8) (l : Fin 128) :
    (iblk m c 3 t : Vec Ideal S8x128 .f32) (ix2 p l) = (m ((c : Thread nD τ).loc main_arg3)) (ix2 (row t p) l) := by
  blk_ext [iblk, V, idx t, row]

/-- The sum of the eight parts of a block is the reference's gradient at the block's rows. -/
theorem grad_blk (c : Dev nD) (t : Fin cfg0.N) (p : Fin 8) (l : Fin 128) :
    k0_pay5 (iblk m c 0 t) (iblk m c 1 t) (iblk m c 2 t) (iblk m c 3 t) (ix2 p l) = grad (m ((c : Thread nD τ).loc main_arg0)) (row t p) l :=
  (grad_of _ _ _ _ p l).trans (Finset.sum_congr rfl fun s _ => blk0 m c t s p l)

theorem arr4 (c : Dev nD) : (dats m 0 c).arrAt 4 cfg0.N = Cert.AdamConvRefIdeal.Read.val_main_v0 (F := Ideal) (m ((c : Thread nD τ).loc main_arg0)) := by
  refine (dats m 0 c).arrAt_eq_of_covers 4 _ (by decide +kernel) fun t hf y => ?_
  obtain ⟨r, l, rfl⟩ : ∃ (r : Fin 8) (l : Fin 128), y = ix2 r l := ⟨y 0, y 1, eq_ix2 y⟩
  have e : (((cfg0.win 4).blk t).view.emb (ix2 r l)) = ix2 (row t r) l := by blk_ext [idx t, row]
  rw [e, grad_apply]
  blk_simp
  rw [after0_4]
  frame_out
  exact grad_blk m c t r l

theorem arr5 (c : Dev nD) : (dats m 0 c).arrAt 5 cfg0.N = Cert.AdamConvRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 8) (l : Fin 128), y = ix2 r l := ⟨y 0, y 1, eq_ix2 y⟩
  have e : (((cfg0.win 5).blk t).view.emb (ix2 r l)) = ix2 (row t r) l := by blk_ext [idx t, row]
  rw [e, step_apply]
  blk_simp
  rw [after0_5]
  frame_out
  refine (step_of _ _ _ _ r l).trans ?_
  rw [blk1, blk3]
  rw [show _ = _ from grad_blk m c t r l]
  rw [show _ = _ from (mean_of _ _ _ _ r l).trans (congrArg₂ Cert.Adam.mean (blk2 m c t r l) (Finset.sum_congr rfl fun s _ => blk0 m c t s r l))]
  rfl

theorem arr6 (c : Dev nD) : (dats m 0 c).arrAt 6 cfg0.N = Cert.AdamConvRefIdeal.Read.val_main_v5 (F := Ideal) (m ((c : Thread nD τ).loc main_arg0)) (m ((c : Thread nD τ).loc main_arg2)) := by
  refine (dats m 0 c).arrAt_eq_of_covers 6 _ (by decide +kernel) fun t hf y => ?_
  obtain ⟨r, l, rfl⟩ : ∃ (r : Fin 8) (l : Fin 128), y = ix2 r l := ⟨y 0, y 1, eq_ix2 y⟩
  have e : (((cfg0.win 6).blk t).view.emb (ix2 r l)) = ix2 (row t r) l := by blk_ext [idx t, row]
  rw [e, mean_apply]
  blk_simp
  rw [after0_6]
  frame_out
  exact (mean_of _ _ _ _ r l).trans (congrArg₂ Cert.Adam.mean (blk2 m c t r l) (Finset.sum_congr rfl fun s _ => blk0 m c t s r l))

theorem arr7 (c : Dev nD) : (dats m 0 c).arrAt 7 cfg0.N = Cert.AdamConvRefIdeal.Read.val_main_v11 (F := Ideal) (m ((c : Thread nD τ).loc main_arg0)) (m ((c : Thread nD τ).loc main_arg3)) := by
  refine (dats m 0 c).arrAt_eq_of_covers 7 _ (by decide +kernel) fun t hf y => ?_
  obtain ⟨r, l, rfl⟩ : ∃ (r : Fin 8) (l : Fin 128), y = ix2 r l := ⟨y 0, y 1, eq_ix2 y⟩
  have e : (((cfg0.win 7).blk t).view.emb (ix2 r l)) = ix2 (row t r) l := by blk_ext [idx t, row]
  rw [e, meanSquare_apply]
  blk_simp
  rw [after0_7]
  frame_out
  refine (meanSquare_of _ _ r l).trans ?_
  exact congrArg₂ Cert.Adam.meanSquare (blk3 m c t r l) (grad_blk m c t r l)

end Cert.AdamConvIdeal.RefValue

end
-- ==== Proof.AdamConv.Claims.lean ====
/- The kernel for the optimiser's step of the convolution's taps and the reference end with the same four arrays. -/
module

public import proofs.«01_k».proof.Defs
public import proofs.«01_k».proof.Proof.AdamConv.Arrays
public import proofs.«01_k».proof.Proof.Gen.AdamConvRefIdeal.Run

@[expose] public section

set_option maxRecDepth 16384

noncomputable section

namespace Cert.Proof.AdamConvClaims

open Idealize.ShloMosaic Idealize.SL.Sem

theorem algebraic : Cert.algebraic_AdamConvIdeal_AdamConvRefIdeal := by
  intro m ρ m' ρ' _ agree
  refine ⟨fun c => Cert.AdamConvRefIdeal.Read.val_main_v0 (F := Ideal) (m ((c.tc : Thread _ _).loc Cert.AdamConvIdeal.main_arg0)),
    fun c => Cert.AdamConvRefIdeal.Read.val_main_v24 (F := Ideal) (m ((c.tc : Thread _ _).loc Cert.AdamConvIdeal.main_arg0)) (m ((c.tc : Thread _ _).loc Cert.AdamConvIdeal.main_arg1)) (m ((c.tc : Thread _ _).loc Cert.AdamConvIdeal.main_arg2)) (m ((c.tc : Thread _ _).loc Cert.AdamConvIdeal.main_arg3)),
    fun c => Cert.AdamConvRefIdeal.Read.val_main_v5 (F := Ideal) (m ((c.tc : Thread _ _).loc Cert.AdamConvIdeal.main_arg0)) (m ((c.tc : Thread _ _).loc Cert.AdamConvIdeal.main_arg2)),
    fun c => Cert.AdamConvRefIdeal.Read.val_main_v11 (F := Ideal) (m ((c.tc : Thread _ _).loc Cert.AdamConvIdeal.main_arg0)) (m ((c.tc : Thread _ _).loc Cert.AdamConvIdeal.main_arg3)),
    ?_, ?_⟩
  · refine (θ_run _ _ _).mono (fun r h c => ?_) (Cert.AdamConvIdeal.Value.run_blocks (F := Ideal) m ρ)
    obtain ⟨h0, h1, h2, h3, kept⟩ := h c
    exact ⟨h0.trans (Cert.AdamConvIdeal.RefValue.arr4 m c), h1.trans (Cert.AdamConvIdeal.RefValue.arr5 m c), h2.trans (Cert.AdamConvIdeal.RefValue.arr6 m c), h3.trans (Cert.AdamConvIdeal.RefValue.arr7 m c), kept⟩
  · refine (θ_run _ _ _).mono (fun r h c => ?_) (Cert.AdamConvRefIdeal.Value.run (F := Ideal) m' ρ')
    obtain ⟨h0, h1, h2, h3, kept⟩ := h c
    obtain ⟨a0, a1, a2, a3⟩ := agree c
    refine ⟨h0.trans ?_, h1.trans ?_, h2.trans ?_, h3.trans ?_, kept⟩
    · simp only [← a0]
      first | exact Cert.AdamConvRefIdeal.Read.val_main_v0_eq (F := Ideal) m' c | rfl
    · simp only [← a0, ← a1, ← a2, ← a3]
      first | exact Cert.AdamConvRefIdeal.Read.val_main_v24_eq (F := Ideal) m' c | rfl
    · simp only [← a0, ← a2]
      first | exact Cert.AdamConvRefIdeal.Read.val_main_v5_eq (F := Ideal) m' c | rfl
    · simp only [← a0, ← a3]
      first | exact Cert.AdamConvRefIdeal.Read.val_main_v11_eq (F := Ideal) m' c | rfl

/-- The reference runs, keeps its arguments, and has no semaphore that could be left raised. -/
theorem frame_ref : Cert.quiescent_AdamConvRefIdeal := fun m ρ _ =>
  (θ_run _ _ _).mono (fun r h => ⟨fun c => by
    obtain ⟨_, _, _, _, kept⟩ := h c
    exact kept, sem_eq_zero_of_no_sems rfl _⟩) (Cert.AdamConvRefIdeal.Value.run (F := Ideal) m ρ)

theorem preserves : Cert.preserves_AdamConv_AdamConvIdeal := trivial

end Cert.Proof.AdamConvClaims

end
-- ==== Proof.AdamGains.Formulas.lean ====
/- The reference of the optimiser's step of the norms' gains, as formulas at one index. -/
module

public import proofs.«01_k».proof.Proof.Gen.AdamGainsRefIdeal.Read
public import proofs.«01_k».proof.Proof.Adam
public import Idealize.ShloMosaic.Lib.Pipeline.ValueKit
public import Idealize.ShloMosaic.Lib.Pointwise

@[expose] public section

set_option maxRecDepth 16384

noncomputable section

namespace Cert.AdamGainsRefIdeal.Formulas

open Cert.AdamGainsRefIdeal Cert.AdamGainsRefIdeal.Read Idealize.ShloMosaic Idealize.ShloMosaic.TcCoe

variable (x0 : (⟨S8x8x1024, .f32⟩ : BufTy).Contents (Elt Ideal)) (x1 : (⟨S8x1024, .f32⟩ : BufTy).Contents (Elt Ideal)) (x2 : (⟨S8x1024, .f32⟩ : BufTy).Contents (Elt Ideal)) (x3 : (⟨S8x1024, .f32⟩ : BufTy).Contents (Elt Ideal))

/-- The gradient: the sum of the eight devices' parts. -/
def grad (r : Fin 8) (l : Fin 1024) : EReal := ∑ s : Fin 8, x0 (ix3 s r l)

theorem grad_apply (r : Fin 8) (l : Fin 1024) : val_main_v0 (F := Ideal) x0 (ix2 r l) = grad x0 r l := by
  pointwise [val_main_v0, val_main_cst, grad]

theorem mean_apply (r : Fin 8) (l : Fin 1024) :
    val_main_v5 (F := Ideal) x0 x2 (ix2 r l) = Cert.Adam.mean (x2 (ix2 r l)) (grad x0 r l) := by
  rw [← grad_apply]
  generalize e : val_main_v0 (F := Ideal) x0 = y
  pointwise [val_main_v5, val_main_v4, val_main_v3, val_main_v2, val_main_v1, e, val_main_cst_0, val_main_cst_1, Cert.Adam.mean]

theorem meanSquare_apply (r : Fin 8) (l : Fin 1024) :
    val_main_v11 (F := Ideal) x0 x3 (ix2 r l) = Cert.Adam.meanSquare (x3 (ix2 r l)) (grad x0 r l) := by
  rw [← grad_apply]
  generalize e : val_main_v0 (F := Ideal) x0 = y
  pointwise [val_main_v11, val_main_v10, val_main_v9, val_main_v8, val_main_v7, val_main_v6, e, val_main_cst_2, val_main_cst_3, Cert.Adam.meanSquare]

theorem step_apply (r : Fin 8) (l : Fin 1024) :
    val_main_v24 (F := Ideal) x0 x1 x2 x3 (ix2 r l) = Cert.Adam.step (x1 (ix2 r l))
      (Cert.Adam.mean (x2 (ix2 r l)) (grad x0 r l)) (Cert.Adam.meanSquare (x3 (ix2 r l)) (grad x0 r l)) := by
  rw [← mean_apply, ← meanSquare_apply]
  generalize e : val_main_v5 (F := Ideal) x0 x2 = y
  generalize f : val_main_v11 (F := Ideal) x0 x3 = z
  pointwise [val_main_v24, val_main_v23, val_main_v22, val_main_v21, val_main_v20, val_main_v19, val_main_v18, val_main_v17, val_main_v16, val_main_v15, val_main_v14, val_main_v13, val_main_v12, e, f, val_main_cst_4, val_main_cst_5, val_main_cst_6, val_main_cst_7, val_main_cst_8, Cert.Adam.step]

end Cert.AdamGainsRefIdeal.Formulas

end
-- ==== Proof.AdamGains.Arrays.lean ====
/- What the optimiser's step of the norms' gains leaves after the run: the reference's four results, at every index. -/
module

public import proofs.«01_k».proof.Proof.Gen.AdamGainsIdeal.Value
public import proofs.«01_k».proof.Proof.AdamGains.Formulas
public import Idealize.ShloMosaic.Lib.Pipeline.ValueKit
public import Idealize.ShloMosaic.Lib.Pointwise
public import Idealize.ShloMosaic.Lib.Claim

@[expose] public section

set_option maxRecDepth 16384

noncomputable section

namespace Cert.AdamGainsIdeal.RefValue

open Cert.AdamGainsIdeal Cert.AdamGainsIdeal.Gen Idealize.ShloMosaic Idealize.ShloMosaic.TcCoe Idealize.SL.Sem
open Idealize.ShloMosaic.Pipeline (Dat)
open Cert.AdamGainsRefIdeal.Formulas

/-- A load of a whole buffer reads it. -/
theorem whole (x : Vec Ideal S8x1024 .f32) : View.ld x r0_8 = x :=
  View.ld_unit_zero (by funext a; fin_cases a <;> rfl) _ _

/-- The sum the body makes of the eight parts. -/
theorem grad_of (x0 : Vec Ideal S8x8x1024 .f32) (x1 x2 x3 : Vec Ideal S8x1024 .f32) (p : Fin 8) (l : Fin 1024) :
    k0_pay5 x0 x1 x2 x3 (ix2 p l) = ∑ s : Fin 8, x0 (ix3 s p l) := by
  rw [Fin.sum_univ_eight]
  pointwise [k0_pay5, k0_pay3]

theorem meanSquare_of (a b : Vec Ideal S8x1024 .f32) (p : Fin 8) (l : Fin 1024) :
    k0_pay1 a b (ix2 p l) = Cert.Adam.meanSquare (b (ix2 p l)) (a (ix2 p l)) := by
  pointwise [k0_pay1, Cert.Adam.meanSquare]
theorem step_of (a b v w : Vec Ideal S8x1024 .f32) (p : Fin 8) (l : Fin 1024) :
    k0_pay2 a b v w (ix2 p l) = Cert.Adam.step (w (ix2 p l)) (b (ix2 p l))
      (Cert.Adam.meanSquare (v (ix2 p l)) (a (ix2 p l))) := by
  rw [← meanSquare_of]
  generalize f : k0_pay1 a v = z
  pointwise [k0_pay2, f, Cert.Adam.step]
theorem mean_of (x0 : Vec Ideal S8x8x1024 .f32) (x1 x2 x3 : Vec Ideal S8x1024 .f32) (p : Fin 8) (l : Fin 1024) :
    k0_pay6 x0 x1 x2 x3 (ix2 p l) = Cert.Adam.mean (x2 (ix2 p l)) (∑ s : Fin 8, x0 (ix3 s p l)) := by
  rw [← grad_of x0 x1 x2 x3, k0_pay6, whole]
  unfold k0_pay5
  generalize View.ld x0 r0_0 = a0
  generalize View.ld x0 r0_1 = a1
  generalize View.ld x0 r0_2 = a2
  generalize View.ld x0 r0_3 = a3
  generalize View.ld x0 r0_4 = a4
  generalize View.ld x0 r0_5 = a5
  generalize View.ld x0 r0_6 = a6
  generalize View.ld x0 r0_7 = a7
  generalize e : k0_pay3 a0 a1 a2 a3 a4 a5 a6 a7 = y
  pointwise [k0_pay4, e, Cert.Adam.mean]

variable (m : (ℓ : Loc nD τ sig) → Buf (Elt Ideal) ℓ)

/-- The block each window holds at grid point `t`. -/
theorem idx : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

/-- Row `p` of block `t`, among all rows. -/
def row (t : Fin cfg0.N) (p : Fin 8) : Fin 8 :=
  ⟨8 * t.val + p.val, by have := t.isLt; have h : cfg0.N = 1 := N_0; omega⟩

theorem blk0 (c : Dev nD) (t : Fin cfg0.N) (s : Fin 8) (p : Fin 8) (l : Fin 1024) :
    (iblk m c 0 t : Vec Ideal S8x8x1024 .f32) (ix3 s p l) = (m ((c : Thread nD τ).loc main_arg0)) (ix3 s (row t p) l) := by
  blk_ext [iblk, V, idx t, row]
theorem blk1 (c : Dev nD) (t : Fin cfg0.N) (p : Fin 8) (l : Fin 1024) :
    (iblk m c 1 t : Vec Ideal S8x1024 .f32) (ix2 p l) = (m ((c : Thread nD τ).loc main_arg1)) (ix2 (row t p) l) := by
  blk_ext [iblk, V, idx t, row]
theorem blk2 (c : Dev nD) (t : Fin cfg0.N) (p : Fin 8) (l : Fin 1024) :
    (iblk m c 2 t : Vec Ideal S8x1024 .f32) (ix2 p l) = (m ((c : Thread nD τ).loc main_arg2)) (ix2 (row t p) l) := by
  blk_ext [iblk, V, idx t, row]
theorem blk3 (c : Dev nD) (t : Fin cfg0.N) (p : Fin 8) (l : Fin 1024) :
    (iblk m c 3 t : Vec Ideal S8x1024 .f32) (ix2 p l) = (m ((c : Thread nD τ).loc main_arg3)) (ix2 (row t p) l) := by
  blk_ext [iblk, V, idx t, row]

/-- The sum of the eight parts of a block is the reference's gradient at the block's rows. -/
theorem grad_blk (c : Dev nD) (t : Fin cfg0.N) (p : Fin 8) (l : Fin 1024) :
    k0_pay5 (iblk m c 0 t) (iblk m c 1 t) (iblk m c 2 t) (iblk m c 3 t) (ix2 p l) = grad (m ((c : Thread nD τ).loc main_arg0)) (row t p) l :=
  (grad_of _ _ _ _ p l).trans (Finset.sum_congr rfl fun s _ => blk0 m c t s p l)

theorem arr4 (c : Dev nD) : (dats m 0 c).arrAt 4 cfg0.N = Cert.AdamGainsRefIdeal.Read.val_main_v0 (F := Ideal) (m ((c : Thread nD τ).loc main_arg0)) := by
  refine (dats m 0 c).arrAt_eq_of_covers 4 _ (by decide +kernel) fun t hf y => ?_
  obtain ⟨r, l, rfl⟩ : ∃ (r : Fin 8) (l : Fin 1024), y = ix2 r l := ⟨y 0, y 1, eq_ix2 y⟩
  have e : (((cfg0.win 4).blk t).view.emb (ix2 r l)) = ix2 (row t r) l := by blk_ext [idx t, row]
  rw [e, grad_apply]
  blk_simp
  rw [after0_4]
  frame_out
  exact grad_blk m c t r l

theorem arr5 (c : Dev nD) : (dats m 0 c).arrAt 5 cfg0.N = Cert.AdamGainsRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 8) (l : Fin 1024), y = ix2 r l := ⟨y 0, y 1, eq_ix2 y⟩
  have e : (((cfg0.win 5).blk t).view.emb (ix2 r l)) = ix2 (row t r) l := by blk_ext [idx t, row]
  rw [e, step_apply]
  blk_simp
  rw [after0_5]
  frame_out
  refine (step_of _ _ _ _ r l).trans ?_
  rw [blk1, blk3]
  rw [show _ = _ from grad_blk m c t r l]
  rw [show _ = _ from (mean_of _ _ _ _ r l).trans (congrArg₂ Cert.Adam.mean (blk2 m c t r l) (Finset.sum_congr rfl fun s _ => blk0 m c t s r l))]
  rfl

theorem arr6 (c : Dev nD) : (dats m 0 c).arrAt 6 cfg0.N = Cert.AdamGainsRefIdeal.Read.val_main_v5 (F := Ideal) (m ((c : Thread nD τ).loc main_arg0)) (m ((c : Thread nD τ).loc main_arg2)) := by
  refine (dats m 0 c).arrAt_eq_of_covers 6 _ (by decide +kernel) fun t hf y => ?_
  obtain ⟨r, l, rfl⟩ : ∃ (r : Fin 8) (l : Fin 1024), y = ix2 r l := ⟨y 0, y 1, eq_ix2 y⟩
  have e : (((cfg0.win 6).blk t).view.emb (ix2 r l)) = ix2 (row t r) l := by blk_ext [idx t, row]
  rw [e, mean_apply]
  blk_simp
  rw [after0_6]
  frame_out
  exact (mean_of _ _ _ _ r l).trans (congrArg₂ Cert.Adam.mean (blk2 m c t r l) (Finset.sum_congr rfl fun s _ => blk0 m c t s r l))

theorem arr7 (c : Dev nD) : (dats m 0 c).arrAt 7 cfg0.N = Cert.AdamGainsRefIdeal.Read.val_main_v11 (F := Ideal) (m ((c : Thread nD τ).loc main_arg0)) (m ((c : Thread nD τ).loc main_arg3)) := by
  refine (dats m 0 c).arrAt_eq_of_covers 7 _ (by decide +kernel) fun t hf y => ?_
  obtain ⟨r, l, rfl⟩ : ∃ (r : Fin 8) (l : Fin 1024), y = ix2 r l := ⟨y 0, y 1, eq_ix2 y⟩
  have e : (((cfg0.win 7).blk t).view.emb (ix2 r l)) = ix2 (row t r) l := by blk_ext [idx t, row]
  rw [e, meanSquare_apply]
  blk_simp
  rw [after0_7]
  frame_out
  refine (meanSquare_of _ _ r l).trans ?_
  exact congrArg₂ Cert.Adam.meanSquare (blk3 m c t r l) (grad_blk m c t r l)

end Cert.AdamGainsIdeal.RefValue

end
-- ==== Proof.AdamGains.Claims.lean ====
/- The kernel for the optimiser's step of the norms' gains and the reference end with the same four arrays. -/
module

public import proofs.«01_k».proof.Defs
public import proofs.«01_k».proof.Proof.AdamGains.Arrays
public import proofs.«01_k».proof.Proof.Gen.AdamGainsRefIdeal.Run

@[expose] public section

set_option maxRecDepth 16384

noncomputable section

namespace Cert.Proof.AdamGainsClaims

open Idealize.ShloMosaic Idealize.SL.Sem

theorem algebraic : Cert.algebraic_AdamGainsIdeal_AdamGainsRefIdeal := by
  intro m ρ m' ρ' _ agree
  refine ⟨fun c => Cert.AdamGainsRefIdeal.Read.val_main_v0 (F := Ideal) (m ((c.tc : Thread _ _).loc Cert.AdamGainsIdeal.main_arg0)),
    fun c => Cert.AdamGainsRefIdeal.Read.val_main_v24 (F := Ideal) (m ((c.tc : Thread _ _).loc Cert.AdamGainsIdeal.main_arg0)) (m ((c.tc : Thread _ _).loc Cert.AdamGainsIdeal.main_arg1)) (m ((c.tc : Thread _ _).loc Cert.AdamGainsIdeal.main_arg2)) (m ((c.tc : Thread _ _).loc Cert.AdamGainsIdeal.main_arg3)),
    fun c => Cert.AdamGainsRefIdeal.Read.val_main_v5 (F := Ideal) (m ((c.tc : Thread _ _).loc Cert.AdamGainsIdeal.main_arg0)) (m ((c.tc : Thread _ _).loc Cert.AdamGainsIdeal.main_arg2)),
    fun c => Cert.AdamGainsRefIdeal.Read.val_main_v11 (F := Ideal) (m ((c.tc : Thread _ _).loc Cert.AdamGainsIdeal.main_arg0)) (m ((c.tc : Thread _ _).loc Cert.AdamGainsIdeal.main_arg3)),
    ?_, ?_⟩
  · refine (θ_run _ _ _).mono (fun r h c => ?_) (Cert.AdamGainsIdeal.Value.run_blocks (F := Ideal) m ρ)
    obtain ⟨h0, h1, h2, h3, kept⟩ := h c
    exact ⟨h0.trans (Cert.AdamGainsIdeal.RefValue.arr4 m c), h1.trans (Cert.AdamGainsIdeal.RefValue.arr5 m c), h2.trans (Cert.AdamGainsIdeal.RefValue.arr6 m c), h3.trans (Cert.AdamGainsIdeal.RefValue.arr7 m c), kept⟩
  · refine (θ_run _ _ _).mono (fun r h c => ?_) (Cert.AdamGainsRefIdeal.Value.run (F := Ideal) m' ρ')
    obtain ⟨h0, h1, h2, h3, kept⟩ := h c
    obtain ⟨a0, a1, a2, a3⟩ := agree c
    refine ⟨h0.trans ?_, h1.trans ?_, h2.trans ?_, h3.trans ?_, kept⟩
    · simp only [← a0]
      first | exact Cert.AdamGainsRefIdeal.Read.val_main_v0_eq (F := Ideal) m' c | rfl
    · simp only [← a0, ← a1, ← a2, ← a3]
      first | exact Cert.AdamGainsRefIdeal.Read.val_main_v24_eq (F := Ideal) m' c | rfl
    · simp only [← a0, ← a2]
      first | exact Cert.AdamGainsRefIdeal.Read.val_main_v5_eq (F := Ideal) m' c | rfl
    · simp only [← a0, ← a3]
      first | exact Cert.AdamGainsRefIdeal.Read.val_main_v11_eq (F := Ideal) m' c | rfl

/-- The reference runs, keeps its arguments, and has no semaphore that could be left raised. -/
theorem frame_ref : Cert.quiescent_AdamGainsRefIdeal := fun m ρ _ =>
  (θ_run _ _ _).mono (fun r h => ⟨fun c => by
    obtain ⟨_, _, _, _, kept⟩ := h c
    exact kept, sem_eq_zero_of_no_sems rfl _⟩) (Cert.AdamGainsRefIdeal.Value.run (F := Ideal) m ρ)

theorem preserves : Cert.preserves_AdamGains_AdamGainsIdeal := trivial

end Cert.Proof.AdamGainsClaims

end
-- ==== Proof.AdamMix.Formulas.lean ====
/- The reference of the optimiser's step of the common projection's weights, as formulas at one index. -/
module

public import proofs.«01_k».proof.Proof.Gen.AdamMixRefIdeal.Read
public import proofs.«01_k».proof.Proof.Adam
public import Idealize.ShloMosaic.Lib.Pipeline.ValueKit
public import Idealize.ShloMosaic.Lib.Pointwise

@[expose] public section

set_option maxRecDepth 16384

noncomputable section

namespace Cert.AdamMixRefIdeal.Formulas

open Cert.AdamMixRefIdeal Cert.AdamMixRefIdeal.Read Idealize.ShloMosaic Idealize.ShloMosaic.TcCoe

variable (x0 : (⟨S8x512x1024, .bf16⟩ : BufTy).Contents (Elt Ideal)) (x1 : (⟨S8x512x1024, .bf16⟩ : BufTy).Contents (Elt Ideal)) (x2 : (⟨S1024x1024, .f32⟩ : BufTy).Contents (Elt Ideal)) (x3 : (⟨S1024x1024, .f32⟩ : BufTy).Contents (Elt Ideal)) (x4 : (⟨S1024x1024, .f32⟩ : BufTy).Contents (Elt Ideal))

/-- The part of the gradient that device `s` found: its upper half of rows is in one array, its lower half in another. -/
def part (s : Fin 8) (r : Fin 1024) (l : Fin 1024) : EReal :=
  if h : r.val < 512 then x0 (ix3 s ⟨r.val, h⟩ l) else x1 (ix3 s ⟨r.val - 512, by have := r.isLt; omega⟩ l)
/-- The gradient: the sum of the eight devices' parts. -/
def grad (r : Fin 1024) (l : Fin 1024) : EReal := ∑ s : Fin 8, part x0 x1 s r l

theorem part_apply (s : Fin 8) (r : Fin 1024) (l : Fin 1024) : val_main_v0 (F := Ideal) x0 x1 (ix3 s r l) = part x0 x1 s r l := by
  pointwise [val_main_v0, part]

theorem grad_apply (r : Fin 1024) (l : Fin 1024) : val_main_v2 (F := Ideal) x0 x1 (ix2 r l) = grad x0 x1 r l := by
  unfold grad
  simp only [← part_apply]
  generalize e : val_main_v0 (F := Ideal) x0 x1 = y
  pointwise [val_main_v2, val_main_v1, val_main_cst, e]

theorem mean_apply (r : Fin 1024) (l : Fin 1024) :
    val_main_v7 (F := Ideal) x0 x1 x3 (ix2 r l) = Cert.Adam.mean (x3 (ix2 r l)) (grad x0 x1 r l) := by
  rw [← grad_apply]
  generalize e : val_main_v2 (F := Ideal) x0 x1 = y
  pointwise [val_main_v7, val_main_v6, val_main_v5, val_main_v4, val_main_v3, e, val_main_cst_0, val_main_cst_1, Cert.Adam.mean]

theorem meanSquare_apply (r : Fin 1024) (l : Fin 1024) :
    val_main_v13 (F := Ideal) x0 x1 x4 (ix2 r l) = Cert.Adam.meanSquare (x4 (ix2 r l)) (grad x0 x1 r l) := by
  rw [← grad_apply]
  generalize e : val_main_v2 (F := Ideal) x0 x1 = y
  pointwise [val_main_v13, val_main_v12, val_main_v11, val_main_v10, val_main_v9, val_main_v8, e, val_main_cst_2, val_main_cst_3, Cert.Adam.meanSquare]

theorem step_apply (r : Fin 1024) (l : Fin 1024) :
    val_main_v26 (F := Ideal) x0 x1 x2 x3 x4 (ix2 r l) = Cert.Adam.step (x2 (ix2 r l))
      (Cert.Adam.mean (x3 (ix2 r l)) (grad x0 x1 r l)) (Cert.Adam.meanSquare (x4 (ix2 r l)) (grad x0 x1 r l)) := by
  rw [← mean_apply, ← meanSquare_apply]
  generalize e : val_main_v7 (F := Ideal) x0 x1 x3 = y
  generalize f : val_main_v13 (F := Ideal) x0 x1 x4 = z
  pointwise [val_main_v26, val_main_v25, val_main_v24, val_main_v23, val_main_v22, val_main_v21, val_main_v20, val_main_v19, val_main_v18, val_main_v17, val_main_v16, val_main_v15, val_main_v14, e, f, val_main_cst_4, val_main_cst_5, val_main_cst_6, val_main_cst_7, val_main_cst_8, Cert.Adam.step]

end Cert.AdamMixRefIdeal.Formulas

end
-- ==== Proof.AdamMix.Arrays.lean ====
/- What the optimiser's step of the common projection's weights leaves after the run: the reference's four results, at every
   index. A block of 256 rows reads its parts of the gradient from the upper half's array or from the lower half's. -/
module

public import proofs.«01_k».proof.Proof.Gen.AdamMixIdeal.Value
public import proofs.«01_k».proof.Proof.AdamMix.Formulas
public import proofs.«01_k».proof.Proof.Common
public import Idealize.ShloMosaic.Lib.Pipeline.ValueKit
public import Idealize.ShloMosaic.Lib.Pointwise
public import Idealize.ShloMosaic.Lib.Claim

@[expose] public section

set_option maxRecDepth 16384

noncomputable section

namespace Cert.AdamMixIdeal.RefValue

open Cert.AdamMixIdeal Cert.AdamMixIdeal.Gen Idealize.ShloMosaic Idealize.ShloMosaic.TcCoe Idealize.SL.Sem
open Idealize.ShloMosaic.Pipeline (Dat)
open Cert.AdamMixRefIdeal.Formulas

/-- A load of a whole buffer reads it. -/
theorem whole (x : Vec Ideal S256x1024 .f32) : View.ld x r0_8 = x :=
  View.ld_unit_zero (by funext a; fin_cases a <;> rfl) _ _

/-- Whether a grid point's number has reached two, as the body asks it. -/
theorem late (n : ℕ) (h : n < 4) : Scalar.cmpi .sge (BitVec.ofNat 32 n) 2#32 = if 2 ≤ n then 1#1 else 0#1 := by
  interval_cases n <;> rfl

/-- The sum the body makes of the eight parts in the upper half's block. -/
theorem upper_of (x0 : Vec Ideal S8x256x1024 .bf16) (p : Fin 256) (l : Fin 1024) :
    k0_pay4 (View.ld x0 r0_0) (View.ld x0 r0_1) (View.ld x0 r0_2) (View.ld x0 r0_3) (View.ld x0 r0_4) (View.ld x0 r0_5)
      (View.ld x0 r0_6) (View.ld x0 r0_7) (ix2 p l) = ∑ s : Fin 8, x0 (ix3 s p l) := by
  rw [Fin.sum_univ_eight]
  pointwise [k0_pay4]

/-- The sum the body takes for the gradient. -/
theorem grad_of (i : grid0.Coords) (x0 x1 : Vec Ideal S8x256x1024 .bf16) (x2 x3 x4 : Vec Ideal S256x1024 .f32) (p : Fin 256) (l : Fin 1024) :
    k0_pay7 i x0 x1 x2 x3 x4 (ix2 p l)
      = if 2 ≤ (i 0).val then ∑ s : Fin 8, x1 (ix3 s p l) else ∑ s : Fin 8, x0 (ix3 s p l) := by
  rw [← upper_of x0 p l, Fin.sum_univ_eight]
  unfold k0_pay7
  generalize k0_pay4 (View.ld x0 r0_0) (View.ld x0 r0_1) (View.ld x0 r0_2) (View.ld x0 r0_3) (View.ld x0 r0_4) (View.ld x0 r0_5)
      (View.ld x0 r0_6) (View.ld x0 r0_7) = y
  have h := late (i 0).val (i 0).isLt
  by_cases g : 2 ≤ (i 0).val
  · rw [if_pos g] at h ⊢
    unfold k0_pay5
    rw [h]
    pointwise []
  · rw [if_neg g] at h ⊢
    unfold k0_pay5
    rw [h]
    pointwise []

theorem mean_of (a b : Vec Ideal S256x1024 .f32) (p : Fin 256) (l : Fin 1024) :
    k0_pay1 a (k0_pay6 b) (ix2 p l) = Cert.Adam.mean (b (ix2 p l)) (a (ix2 p l)) := by
  pointwise [k0_pay1, k0_pay6, Cert.Adam.mean]
theorem meanSquare_of (a b : Vec Ideal S256x1024 .f32) (p : Fin 256) (l : Fin 1024) :
    k0_pay2 a b (ix2 p l) = Cert.Adam.meanSquare (b (ix2 p l)) (a (ix2 p l)) := by
  pointwise [k0_pay2, Cert.Adam.meanSquare]
theorem step_of (a b v w : Vec Ideal S256x1024 .f32) (p : Fin 256) (l : Fin 1024) :
    k0_pay3 a (k0_pay6 b) v w (ix2 p l) = Cert.Adam.step (w (ix2 p l))
      (Cert.Adam.mean (b (ix2 p l)) (a (ix2 p l))) (Cert.Adam.meanSquare (v (ix2 p l)) (a (ix2 p l))) := by
  pointwise [k0_pay3, k0_pay1, k0_pay2, k0_pay6, Cert.Adam.step, Cert.Adam.mean, Cert.Adam.meanSquare]
theorem scaled (i : grid0.Coords) (x0 x1 : Vec Ideal S8x256x1024 .bf16) (x2 x3 x4 : Vec Ideal S256x1024 .f32) : k0_pay8 i x0 x1 x2 x3 x4 = k0_pay6 x3 := by
  rw [k0_pay8, whole]

variable (m : (ℓ : Loc nD τ sig) → Buf (Elt Ideal) ℓ)

/-- The block each window holds at grid point `t`. -/
theorem idx : ∀ t : Fin grid0.N, win0_0.index t = ![0, min t.val 1, 0] ∧ win0_1.index t = ![0, t.val - 2, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] := by
  decide +kernel
theorem coord : ∀ t : Fin grid0.N, (grid0.coords t 0).val = t.val := by decide +kernel

/-- Row `p` of block `t`, among all rows. -/
def row (t : Fin cfg0.N) (p : Fin 256) : Fin 1024 :=
  ⟨256 * t.val + p.val, by have := t.isLt; have h : cfg0.N = 4 := N_0; omega⟩

theorem blk0 (c : Dev nD) (t : Fin cfg0.N) (s : Fin 8) (p : Fin 256) (l : Fin 1024) :
    (iblk m c 0 t : Vec Ideal S8x256x1024 .bf16) (ix3 s p l) = (m ((c : Thread nD τ).loc main_arg0)) (ix3 s ⟨256 * min t.val 1 + p.val, by have := p.isLt; omega⟩ l) := by
  blk_ext [iblk, V, idx t]
theorem blk1 (c : Dev nD) (t : Fin cfg0.N) (s : Fin 8) (p : Fin 256) (l : Fin 1024) :
    (iblk m c 1 t : Vec Ideal S8x256x1024 .bf16) (ix3 s p l) = (m ((c : Thread nD τ).loc main_arg1)) (ix3 s ⟨256 * (t.val - 2) + p.val, by
      have := p.isLt; have := t.isLt; have h : cfg0.N = 4 := N_0; omega⟩ l) := by
  blk_ext [iblk, V, idx t]
theorem blk2 (c : Dev nD) (t : Fin cfg0.N) (p : Fin 256) (l : Fin 1024) :
    (iblk m c 2 t : Vec Ideal S256x1024 .f32) (ix2 p l) = (m ((c : Thread nD τ).loc main_arg2)) (ix2 (row t p) l) := by
  blk_ext [iblk, V, idx t, row]
theorem blk3 (c : Dev nD) (t : Fin cfg0.N) (p : Fin 256) (l : Fin 1024) :
    (iblk m c 3 t : Vec Ideal S256x1024 .f32) (ix2 p l) = (m ((c : Thread nD τ).loc main_arg3)) (ix2 (row t p) l) := by
  blk_ext [iblk, V, idx t, row]
theorem blk4 (c : Dev nD) (t : Fin cfg0.N) (p : Fin 256) (l : Fin 1024) :
    (iblk m c 4 t : Vec Ideal S256x1024 .f32) (ix2 p l) = (m ((c : Thread nD τ).loc main_arg4)) (ix2 (row t p) l) := by
  blk_ext [iblk, V, idx t, row]

/-- The sum of the eight parts of a block is the reference's gradient at the block's rows. -/
theorem grad_blk (c : Dev nD) (t : Fin cfg0.N) (p : Fin 256) (l : Fin 1024) :
    k0_pay7 (grid0.coords t) (iblk m c 0 t) (iblk m c 1 t) (iblk m c 2 t) (iblk m c 3 t) (iblk m c 4 t) (ix2 p l)
      = grad (m ((c : Thread nD τ).loc main_arg0)) (m ((c : Thread nD τ).loc main_arg1)) (row t p) l := by
  refine (grad_of _ _ _ _ _ _ p l).trans ?_
  rw [coord t]
  have hp := p.isLt
  have ht : t.val < 4 := by have := t.isLt; have h : cfg0.N = 4 := N_0; omega
  by_cases g : 2 ≤ t.val
  · rw [if_pos g]
    refine Finset.sum_congr rfl fun s _ => (blk1 m c t s p l).trans ?_
    unfold part
    rw [dif_neg (by simp only [row]; omega)]
    congr 2
    exact Fin.ext (by simp only [row]; omega)
  · rw [if_neg g]
    refine Finset.sum_congr rfl fun s _ => (blk0 m c t s p l).trans ?_
    unfold part
    rw [dif_pos (by simp only [row]; omega)]
    congr 2
    exact Fin.ext (by simp only [row]; omega)

theorem arr5 (c : Dev nD) : (dats m 0 c).arrAt 5 cfg0.N = Cert.AdamMixRefIdeal.Read.val_main_v2 (F := Ideal) (m ((c : Thread nD τ).loc main_arg0)) (m ((c : Thread nD τ).loc main_arg1)) := by
  refine (dats m 0 c).arrAt_eq_of_covers 5 _ (by decide +kernel) fun t hf y => ?_
  obtain ⟨r, l, rfl⟩ : ∃ (r : Fin 256) (l : Fin 1024), y = ix2 r l := ⟨y 0, y 1, eq_ix2 y⟩
  have e : (((cfg0.win 5).blk t).view.emb (ix2 r l)) = ix2 (row t r) l := by blk_ext [idx t, row]
  rw [e, grad_apply]
  blk_simp
  rw [after0_5]
  frame_out
  exact grad_blk m c t r l

theorem arr6 (c : Dev nD) : (dats m 0 c).arrAt 6 cfg0.N = Cert.AdamMixRefIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨r, l, rfl⟩ : ∃ (r : Fin 256) (l : Fin 1024), y = ix2 r l := ⟨y 0, y 1, eq_ix2 y⟩
  have e : (((cfg0.win 6).blk t).view.emb (ix2 r l)) = ix2 (row t r) l := by blk_ext [idx t, row]
  rw [e, step_apply]
  blk_simp
  rw [after0_6]
  frame_out
  rw [scaled]
  refine (step_of _ _ _ _ r l).trans ?_
  rw [blk2, blk3, blk4]
  rw [show _ = _ from grad_blk m c t r l]

theorem arr7 (c : Dev nD) : (dats m 0 c).arrAt 7 cfg0.N = Cert.AdamMixRefIdeal.Read.val_main_v7 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  obtain ⟨r, l, rfl⟩ : ∃ (r : Fin 256) (l : Fin 1024), y = ix2 r l := ⟨y 0, y 1, eq_ix2 y⟩
  have e : (((cfg0.win 7).blk t).view.emb (ix2 r l)) = ix2 (row t r) l := by blk_ext [idx t, row]
  rw [e, mean_apply]
  blk_simp
  rw [after0_7]
  frame_out
  rw [scaled]
  refine (mean_of _ _ r l).trans ?_
  exact congrArg₂ Cert.Adam.mean (blk3 m c t r l) (grad_blk m c t r l)

theorem arr8 (c : Dev nD) : (dats m 0 c).arrAt 8 cfg0.N = Cert.AdamMixRefIdeal.Read.val_main_v13 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  obtain ⟨r, l, rfl⟩ : ∃ (r : Fin 256) (l : Fin 1024), y = ix2 r l := ⟨y 0, y 1, eq_ix2 y⟩
  have e : (((cfg0.win 8).blk t).view.emb (ix2 r l)) = ix2 (row t r) l := by blk_ext [idx t, row]
  rw [e, meanSquare_apply]
  blk_simp
  rw [after0_8]
  frame_out
  refine (meanSquare_of _ _ r l).trans ?_
  exact congrArg₂ Cert.Adam.meanSquare (blk4 m c t r l) (grad_blk m c t r l)

end Cert.AdamMixIdeal.RefValue

end
-- ==== Proof.AdamMix.Claims.lean ====
/- The kernel for the optimiser's step of the common projection's weights and the reference end with the same four arrays. -/
module

public import proofs.«01_k».proof.Defs
public import proofs.«01_k».proof.Proof.AdamMix.Arrays
public import proofs.«01_k».proof.Proof.Gen.AdamMixRefIdeal.Run

@[expose] public section

set_option maxRecDepth 16384

noncomputable section

namespace Cert.Proof.AdamMixClaims

open Idealize.ShloMosaic Idealize.SL.Sem

theorem algebraic : Cert.algebraic_AdamMixIdeal_AdamMixRefIdeal := by
  intro m ρ m' ρ' _ agree
  refine ⟨fun c => Cert.AdamMixRefIdeal.Read.val_main_v2 (F := Ideal) (m ((c.tc : Thread _ _).loc Cert.AdamMixIdeal.main_arg0)) (m ((c.tc : Thread _ _).loc Cert.AdamMixIdeal.main_arg1)),
    fun c => Cert.AdamMixRefIdeal.Read.val_main_v26 (F := Ideal) (m ((c.tc : Thread _ _).loc Cert.AdamMixIdeal.main_arg0)) (m ((c.tc : Thread _ _).loc Cert.AdamMixIdeal.main_arg1)) (m ((c.tc : Thread _ _).loc Cert.AdamMixIdeal.main_arg2)) (m ((c.tc : Thread _ _).loc Cert.AdamMixIdeal.main_arg3)) (m ((c.tc : Thread _ _).loc Cert.AdamMixIdeal.main_arg4)),
    fun c => Cert.AdamMixRefIdeal.Read.val_main_v7 (F := Ideal) (m ((c.tc : Thread _ _).loc Cert.AdamMixIdeal.main_arg0)) (m ((c.tc : Thread _ _).loc Cert.AdamMixIdeal.main_arg1)) (m ((c.tc : Thread _ _).loc Cert.AdamMixIdeal.main_arg3)),
    fun c => Cert.AdamMixRefIdeal.Read.val_main_v13 (F := Ideal) (m ((c.tc : Thread _ _).loc Cert.AdamMixIdeal.main_arg0)) (m ((c.tc : Thread _ _).loc Cert.AdamMixIdeal.main_arg1)) (m ((c.tc : Thread _ _).loc Cert.AdamMixIdeal.main_arg4)),
    ?_, ?_⟩
  · refine (θ_run _ _ _).mono (fun r h c => ?_) (Cert.AdamMixIdeal.Value.run_blocks (F := Ideal) m ρ)
    obtain ⟨h0, h1, h2, h3, kept⟩ := h c
    exact ⟨h0.trans (Cert.AdamMixIdeal.RefValue.arr5 m c), h1.trans (Cert.AdamMixIdeal.RefValue.arr6 m c), h2.trans (Cert.AdamMixIdeal.RefValue.arr7 m c), h3.trans (Cert.AdamMixIdeal.RefValue.arr8 m c), kept⟩
  · refine (θ_run _ _ _).mono (fun r h c => ?_) (Cert.AdamMixRefIdeal.Value.run (F := Ideal) m' ρ')
    obtain ⟨h0, h1, h2, h3, kept⟩ := h c
    obtain ⟨a0, a1, a2, a3, a4⟩ := agree c
    refine ⟨h0.trans ?_, h1.trans ?_, h2.trans ?_, h3.trans ?_, kept⟩
    · simp only [← a0, ← a1]
      first | exact Cert.AdamMixRefIdeal.Read.val_main_v2_eq (F := Ideal) m' c | rfl
    · simp only [← a0, ← a1, ← a2, ← a3, ← a4]
      first | exact Cert.AdamMixRefIdeal.Read.val_main_v26_eq (F := Ideal) m' c | rfl
    · simp only [← a0, ← a1, ← a3]
      first | exact Cert.AdamMixRefIdeal.Read.val_main_v7_eq (F := Ideal) m' c | rfl
    · simp only [← a0, ← a1, ← a4]
      first | exact Cert.AdamMixRefIdeal.Read.val_main_v13_eq (F := Ideal) m' c | rfl

/-- The reference runs, keeps its arguments, and has no semaphore that could be left raised. -/
theorem frame_ref : Cert.quiescent_AdamMixRefIdeal := fun m ρ _ =>
  (θ_run _ _ _).mono (fun r h => ⟨fun c => by
    obtain ⟨_, _, _, _, kept⟩ := h c
    exact kept, sem_eq_zero_of_no_sems rfl _⟩) (Cert.AdamMixRefIdeal.Value.run (F := Ideal) m ρ)

theorem preserves : Cert.preserves_AdamMix_AdamMixIdeal := trivial

end Cert.Proof.AdamMixClaims

end
-- ==== Proof.Tail.Scalars.lean ====
/- The constants of the loss and of its gradient, and what they make of a sum. -/
module

public import proofs.«01_k».proof.Proof.Norm

@[expose] public section

set_option maxRecDepth 16384

noncomputable section

namespace Cert.Tail

open Idealize.ShloMosaic

/-- One. -/
def one : EReal := Ideal.ofBits FTy.f32 1065353216#32
theorem one_eq : one = ((1 : ℝ) : EReal) := by
  have e : (1065353216 >>> 23 % 256 : ℕ) = 127 := by decide
  have n : BitVec.extractLsb' 31 1 1065353216#32 = 0#1 := by decide
  simp only [one, Ideal.ofBits, Ideal.ieee]
  norm_num [e, n]
/-- Two. -/
def two : EReal := Ideal.ofBits FTy.f32 1073741824#32
theorem two_eq : two = ((2 : ℝ) : EReal) := by
  have e : (1073741824 >>> 23 % 256 : ℕ) = 128 := by decide
  have n : BitVec.extractLsb' 31 1 1073741824#32 = 0#1 := by decide
  simp only [two, Ideal.ofBits, Ideal.ieee]
  norm_num [e, n]
/-- One half. -/
def half : EReal := Ideal.ofBits FTy.f32 1056964608#32
theorem half_eq : half = ((1/2 : ℝ) : EReal) := by
  have e : (1056964608 >>> 23 % 256 : ℕ) = 126 := by decide
  have n : BitVec.extractLsb' 31 1 1056964608#32 = 0#1 := by decide
  simp only [half, Ideal.ofBits, Ideal.ieee]
  norm_num [e, n]
/-- One over the row's width. -/
def perWidth : EReal := Ideal.ofBits FTy.f32 981467136#32
theorem perWidth_eq : perWidth = ((1/1024 : ℝ) : EReal) := by
  have e : (981467136 >>> 23 % 256 : ℕ) = 117 := by decide
  have n : BitVec.extractLsb' 31 1 981467136#32 = 0#1 := by decide
  simp only [perWidth, Ideal.ofBits, Ideal.ieee]
  norm_num [e, n]
/-- One half over the row's width. -/
def halfPerWidth : EReal := Ideal.ofBits FTy.f32 973078528#32
theorem halfPerWidth_eq : halfPerWidth = ((1/2048 : ℝ) : EReal) := by
  have e : (973078528 >>> 23 % 256 : ℕ) = 116 := by decide
  have n : BitVec.extractLsb' 31 1 973078528#32 = 0#1 := by decide
  simp only [halfPerWidth, Ideal.ofBits, Ideal.ieee]
  norm_num [e, n]

/-- The derivative of half a mean of squares, as the chain rule gives it. -/
theorem slope_eq (d : EReal) : Ideal.div (half * one) Norm.width * (two * d) = d * perWidth := by
  rw [Norm.div_width, half_eq, one_eq, two_eq, perWidth_eq, ← EReal.coe_mul, ← EReal.coe_mul, ← mul_assoc, ← EReal.coe_mul, mul_comm]
  norm_num

/-- Half of the sum of the rows' means is the whole sum times one half over the width. -/
theorem loss_eq {n : ℕ} (f : Fin n → Fin 1024 → EReal) :
    half * ∑ r, Ideal.div (∑ k, f r k) Norm.width = halfPerWidth * ∑ k, ∑ r, f r k := by
  have h : (0 : ℝ) ≤ (1024 : ℝ)⁻¹ := by norm_num
  simp only [Norm.div_width]
  rw [Norm.sum_mul_coe _ h, Finset.sum_comm, mul_comm _ (((1024 : ℝ)⁻¹ : ℝ) : EReal), ← mul_assoc, half_eq, halfPerWidth_eq, ← EReal.coe_mul]
  norm_num

end Cert.Tail

end
-- ==== Proof.Tail.Formulas.lean ====
/- The loss and its gradient back to the stream before the per-layer embedding, as formulas at one index. -/
module

public import proofs.«01_k».proof.Proof.Gen.TailRefIdeal.Read
public import proofs.«01_k».proof.Proof.Common
public import proofs.«01_k».proof.Proof.Tail.Scalars
public import Idealize.ShloMosaic.Lib.Pipeline.ValueKit
public import Idealize.ShloMosaic.Lib.Pointwise

@[expose] public section

set_option maxRecDepth 16384

noncomputable section

namespace Cert.TailRefIdeal.Formulas

open Cert.TailRefIdeal Cert.TailRefIdeal.Read Idealize.ShloMosaic Idealize.ShloMosaic.TcCoe
open Cert.Tail (one two half perWidth halfPerWidth)

variable (x0 : (⟨S8192x1024, .f32⟩ : BufTy).Contents (Elt Ideal)) (x1 : (⟨S8192x1024, .bf16⟩ : BufTy).Contents (Elt Ideal)) (x2 : (⟨S8192x256, .f32⟩ : BufTy).Contents (Elt Ideal)) (x3 : (⟨S1024x1024, .bf16⟩ : BufTy).Contents (Elt Ideal))
  (x4 : (⟨S256x1024, .bf16⟩ : BufTy).Contents (Elt Ideal)) (x5 : (⟨S1x1024, .f32⟩ : BufTy).Contents (Elt Ideal)) (x6 : (⟨S1x1024, .f32⟩ : BufTy).Contents (Elt Ideal)) (x7 : (⟨S8192x1024, .f32⟩ : BufTy).Contents (Elt Ideal))

/-- The gate. -/
def gate (r : Fin 8192) (k : Fin 1024) : EReal := Ideal.logistic (∑ j : Fin 1024, x1 (ix2 r j) * x3 (ix2 j k))
/-- The embedding's projection. -/
def emb (r : Fin 8192) (k : Fin 1024) : EReal := ∑ j : Fin 256, x2 (ix2 r j) * x4 (ix2 j k)
/-- The last row of the stream. -/
def last (r : Fin 8192) (k : Fin 1024) : EReal := x0 (ix2 r k) + gate x1 x3 r k * emb x2 x4 r k
/-- A row of the stream before the embedding. -/
def stream (r : Fin 8192) (k : Fin 1024) : EReal := x0 (ix2 r k)
/-- How far the normalised row is from the target. -/
def diff (r : Fin 8192) (k : Fin 1024) : EReal :=
  last x0 x1 x2 x3 x4 r k * Norm.root (last x0 x1 x2 x3 x4 r) * x6 (ix2 0 k) - x7 (ix2 r k)
/-- One element's part of the loss. -/
def lossTerm (r : Fin 8192) (k : Fin 1024) : EReal := diff x0 x1 x2 x3 x4 x6 x7 r k * diff x0 x1 x2 x3 x4 x6 x7 r k
/-- The loss. -/
def loss : EReal := halfPerWidth * ∑ k : Fin 1024, ∑ r : Fin 8192, lossTerm x0 x1 x2 x3 x4 x6 x7 r k
/-- The gradient of the normalised row. -/
def dn (r : Fin 8192) (k : Fin 1024) : EReal := diff x0 x1 x2 x3 x4 x6 x7 r k * perWidth
/-- The gradient of the scaled row. -/
def scaled (r : Fin 8192) (k : Fin 1024) : EReal := dn x0 x1 x2 x3 x4 x6 x7 r k * x6 (ix2 0 k)
/-- A row's part of the gradient of the last norm's gains. -/
def lastGain (r : Fin 8192) (k : Fin 1024) : EReal :=
  last x0 x1 x2 x3 x4 r k * Norm.root (last x0 x1 x2 x3 x4 r) * dn x0 x1 x2 x3 x4 x6 x7 r k
/-- The gradient of the last row. -/
def dlast (r : Fin 8192) (k : Fin 1024) : EReal :=
  scaled x0 x1 x2 x3 x4 x6 x7 r k * Norm.root (last x0 x1 x2 x3 x4 r)
    + (last x0 x1 x2 x3 x4 r k * Norm.through (last x0 x1 x2 x3 x4 r) (scaled x0 x1 x2 x3 x4 x6 x7 r)
      + Norm.through (last x0 x1 x2 x3 x4 r) (scaled x0 x1 x2 x3 x4 x6 x7 r) * last x0 x1 x2 x3 x4 r k)
/-- The gradient of the embedding's projection. -/
def demb (r : Fin 8192) (k : Fin 1024) : EReal := gate x1 x3 r k * dlast x0 x1 x2 x3 x4 x6 x7 r k
/-- The gradient of what the gate is taken of. -/
def dgate (r : Fin 8192) (k : Fin 1024) : EReal :=
  dlast x0 x1 x2 x3 x4 x6 x7 r k * emb x2 x4 r k * (gate x1 x3 r k * (one - gate x1 x3 r k))
/-- The gradient of the gate's normalised row. -/
def dn3 (r : Fin 8192) (k : Fin 1024) : EReal := ∑ j : Fin 1024, dgate x0 x1 x2 x3 x4 x6 x7 r j * x3 (ix2 k j)
/-- The gradient of its scaled row. -/
def scaled3 (r : Fin 8192) (k : Fin 1024) : EReal := dn3 x0 x1 x2 x3 x4 x6 x7 r k * x5 (ix2 0 k)
/-- A row's part of the gradient of its norm's gains. -/
def gain (r : Fin 8192) (k : Fin 1024) : EReal := x0 (ix2 r k) * Norm.root (stream x0 r) * dn3 x0 x1 x2 x3 x4 x6 x7 r k
/-- The gradient of the stream before the embedding. -/
def back (r : Fin 8192) (k : Fin 1024) : EReal :=
  dlast x0 x1 x2 x3 x4 x6 x7 r k + (scaled3 x0 x1 x2 x3 x4 x5 x6 x7 r k * Norm.root (stream x0 r)
    + (x0 (ix2 r k) * Norm.through (stream x0 r) (scaled3 x0 x1 x2 x3 x4 x5 x6 x7 r)
      + Norm.through (stream x0 r) (scaled3 x0 x1 x2 x3 x4 x5 x6 x7 r) * x0 (ix2 r k)))

theorem val2_apply (r : Fin 8192) (k : Fin 1024) : val_main_v2 (F := Ideal) x1 x3 (ix2 r k) = ∑ j : Fin 1024, x1 (ix2 r j) * x3 (ix2 j k) := by
  pointwise [val_main_v2, val_main_v1, val_main_v0]
theorem val4_apply (r : Fin 8192) (k : Fin 1024) : val_main_v4 (F := Ideal) x2 x4 (ix2 r k) = emb x2 x4 r k := by
  pointwise [val_main_v4, val_main_v3, emb]
theorem val10_apply (r : Fin 8192) (k : Fin 1024) : val_main_v10 (F := Ideal) x1 x3 (ix2 r k) = gate x1 x3 r k := by
  rw [gate, ← val2_apply]
  generalize e : val_main_v2 (F := Ideal) x1 x3 = y
  pointwise [val_main_v10, val_main_v9, val_main_v8, val_main_v7, val_main_v6, val_main_v5, val_main_cst, val_main_cst_0, e, Ideal.logistic]
theorem val13_apply (r : Fin 8192) (k : Fin 1024) : val_main_v13 (F := Ideal) x1 x3 (ix2 r k) = gate x1 x3 r k * (one - gate x1 x3 r k) := by
  pointwise [val_main_v13, val_main_v12, val_main_v11, val_main_cst_1, val10_apply, one]
theorem val15_apply (r : Fin 8192) (k : Fin 1024) : val_main_v15 (F := Ideal) x0 x1 x2 x3 x4 (ix2 r k) = last x0 x1 x2 x3 x4 r k := by
  pointwise [val_main_v15, val_main_v14, val10_apply, val4_apply, last]
theorem val22_apply (r : Fin 8192) : val_main_v22 (F := Ideal) x0 x1 x2 x3 x4 (ix2 r 0) = Norm.square (last x0 x1 x2 x3 x4 r) := by
  pointwise [val_main_v22, val_main_v21, val_main_v20, val_main_v19, val_main_v18, val_main_v17, val_main_v16, val_main_cst_2, val_main_cst_3, val_main_cst_4, val15_apply, Norm.square, Norm.width, Norm.eps]
theorem val23_apply (r : Fin 8192) : val_main_v23 (F := Ideal) x0 x1 x2 x3 x4 (ix2 r 0) = Norm.root (last x0 x1 x2 x3 x4 r) := by
  pointwise [val_main_v23, val22_apply, Norm.root]
theorem val26_apply (r : Fin 8192) : val_main_v26 (F := Ideal) x0 x1 x2 x3 x4 (ix2 r 0) = Norm.minusHalf * Ideal.div (Norm.root (last x0 x1 x2 x3 x4 r)) (Norm.square (last x0 x1 x2 x3 x4 r)) := by
  pointwise [val_main_v26, val_main_v25, val_main_v24, val_main_cst_5, val23_apply, val22_apply, Norm.minusHalf]
theorem val28_apply (r : Fin 8192) (k : Fin 1024) : val_main_v28 (F := Ideal) x0 x1 x2 x3 x4 (ix2 r k) = last x0 x1 x2 x3 x4 r k * Norm.root (last x0 x1 x2 x3 x4 r) := by
  pointwise [val_main_v28, val_main_v27, val23_apply, val15_apply]
theorem val31_apply (r : Fin 8192) (k : Fin 1024) : val_main_v31 (F := Ideal) x0 x1 x2 x3 x4 x6 x7 (ix2 r k) = diff x0 x1 x2 x3 x4 x6 x7 r k := by
  pointwise [val_main_v31, val_main_v30, val_main_v29, val28_apply, diff]
theorem val39_apply  : val_main_v39 (F := Ideal) x0 x1 x2 x3 x4 x6 x7 (ix0) = loss x0 x1 x2 x3 x4 x6 x7 := by
  rw [loss, ← Cert.Tail.loss_eq]
  pointwise [val_main_v39, val_main_v38, val_main_v37, val_main_v36, val_main_v35, val_main_v32, val_main_cst_7, val_main_cst_8, val_main_cst_9, val_main_cst_10, val31_apply, lossTerm, half, Norm.width]
theorem val45_apply (r : Fin 8192) (k : Fin 1024) : val_main_v45 (F := Ideal) x0 x1 x2 x3 x4 x6 x7 (ix2 r k) = dn x0 x1 x2 x3 x4 x6 x7 r k := by
  rw [dn, ← Cert.Tail.slope_eq]
  pointwise [val_main_v45, val_main_v44, val_main_v43, val_main_v42, val_main_v41, val_main_v40, val_main_v34, val_main_v33, val_main_cst_6, val_main_cst_11, val_main_cst_12, val_main_cst_13, val31_apply, half, one, two, Norm.width]
theorem val48_apply (k : Fin 1024) : val_main_v48 (F := Ideal) x0 x1 x2 x3 x4 x6 x7 (ix2 0 k) = ∑ r : Fin 8192, lastGain x0 x1 x2 x3 x4 x6 x7 r k := by
  pointwise [val_main_v48, val_main_v47, val_main_v46, val_main_cst_14, val28_apply, val45_apply, lastGain]
theorem val50_apply (r : Fin 8192) (k : Fin 1024) : val_main_v50 (F := Ideal) x0 x1 x2 x3 x4 x6 x7 (ix2 r k) = scaled x0 x1 x2 x3 x4 x6 x7 r k := by
  pointwise [val_main_v50, val_main_v49, val45_apply, scaled]
theorem val58_apply (r : Fin 8192) : val_main_v58 (F := Ideal) x0 x1 x2 x3 x4 x6 x7 (ix2 r 0) = Norm.through (last x0 x1 x2 x3 x4 r) (scaled x0 x1 x2 x3 x4 x6 x7 r) := by
  pointwise [val_main_v58, val_main_v57, val_main_v56, val_main_v53, val_main_v52, val_main_v51, val_main_cst_15, val_main_cst_16, val26_apply, val15_apply, val50_apply, Norm.through, Norm.width]
theorem val64_apply (r : Fin 8192) (k : Fin 1024) : val_main_v64 (F := Ideal) x0 x1 x2 x3 x4 x6 x7 (ix2 r k) = dlast x0 x1 x2 x3 x4 x6 x7 r k := by
  pointwise [val_main_v64, val_main_v63, val_main_v62, val_main_v61, val_main_v60, val_main_v59, val_main_v55, val_main_v54, val_main_cst_17, val23_apply, val15_apply, val50_apply, val58_apply]
  simp only [dlast, add_assoc, Finset.univ_unique, Finset.sum_singleton, show (default : Fin 1) = 0 from rfl, val58_apply]
theorem val107_apply (r : Fin 8192) (k : Fin 1024) : val_main_v107 (F := Ideal) x0 x1 x2 x3 x4 x6 x7 (ix2 r k) = demb x0 x1 x2 x3 x4 x6 x7 r k := by
  pointwise [val_main_v107, val_main_v65, val10_apply, val64_apply, demb]
theorem val68_apply (r : Fin 8192) (k : Fin 1024) : val_main_v68 (F := Ideal) x0 x1 x2 x3 x4 x6 x7 (ix2 r k) = dgate x0 x1 x2 x3 x4 x6 x7 r k := by
  pointwise [val_main_v68, val_main_v67, val_main_v66, val64_apply, val4_apply, val13_apply, dgate]
theorem val75_apply (r : Fin 8192) : val_main_v75 (F := Ideal) x0 (ix2 r 0) = Norm.square (stream x0 r) := by
  pointwise [val_main_v75, val_main_v74, val_main_v73, val_main_v72, val_main_v71, val_main_v70, val_main_v69, val_main_cst_18, val_main_cst_19, val_main_cst_20, Norm.square, Norm.width, Norm.eps, stream]
theorem val76_apply (r : Fin 8192) : val_main_v76 (F := Ideal) x0 (ix2 r 0) = Norm.root (stream x0 r) := by
  pointwise [val_main_v76, val75_apply, Norm.root]
theorem val79_apply (r : Fin 8192) : val_main_v79 (F := Ideal) x0 (ix2 r 0) = Norm.minusHalf * Ideal.div (Norm.root (stream x0 r)) (Norm.square (stream x0 r)) := by
  pointwise [val_main_v79, val_main_v78, val_main_v77, val_main_cst_21, val76_apply, val75_apply, Norm.minusHalf]
theorem val86_apply (r : Fin 8192) (k : Fin 1024) : val_main_v86 (F := Ideal) x0 x1 x2 x3 x4 x6 x7 (ix2 r k) = dn3 x0 x1 x2 x3 x4 x6 x7 r k := by
  pointwise [val_main_v86, val_main_v85, val_main_v0, val68_apply, dn3]
theorem val89_apply (k : Fin 1024) : val_main_v89 (F := Ideal) x0 x1 x2 x3 x4 x6 x7 (ix2 0 k) = ∑ r : Fin 8192, gain x0 x1 x2 x3 x4 x6 x7 r k := by
  pointwise [val_main_v89, val_main_v88, val_main_v87, val_main_v81, val_main_v80, val_main_cst_22, val76_apply, val86_apply, gain]
theorem val91_apply (r : Fin 8192) (k : Fin 1024) : val_main_v91 (F := Ideal) x0 x1 x2 x3 x4 x5 x6 x7 (ix2 r k) = scaled3 x0 x1 x2 x3 x4 x5 x6 x7 r k := by
  pointwise [val_main_v91, val_main_v90, val86_apply, scaled3]
theorem val100_apply (r : Fin 8192) : val_main_v100 (F := Ideal) x0 x1 x2 x3 x4 x5 x6 x7 (ix2 r 0) = Norm.through (stream x0 r) (scaled3 x0 x1 x2 x3 x4 x5 x6 x7 r) := by
  pointwise [val_main_v100, val_main_v99, val_main_v98, val_main_v94, val_main_v93, val_main_v92, val_main_cst_23, val_main_cst_24, val79_apply, val91_apply, Norm.through, Norm.width, stream]
theorem val106_apply (r : Fin 8192) (k : Fin 1024) : val_main_v106 (F := Ideal) x0 x1 x2 x3 x4 x5 x6 x7 (ix2 r k) = back x0 x1 x2 x3 x4 x5 x6 x7 r k := by
  pointwise [val_main_v106, val_main_v105, val_main_v104, val_main_v103, val_main_v102, val_main_v101, val_main_v97, val_main_v96, val_main_v95, val_main_cst_25, val76_apply, val64_apply, val91_apply, val100_apply]
  simp only [back, add_assoc, Finset.univ_unique, Finset.sum_singleton, show (default : Fin 1) = 0 from rfl, val100_apply]
theorem val108_apply (k : Fin 1024) : val_main_v108 (F := Ideal) x0 x1 x2 x3 x4 x6 x7 (ix2 0 k) = loss x0 x1 x2 x3 x4 x6 x7 := by
  rw [← val39_apply]
  generalize e : val_main_v39 (F := Ideal) x0 x1 x2 x3 x4 x6 x7 = y
  pointwise [val_main_v108, e]

end Cert.TailRefIdeal.Formulas

end
-- ==== Proof.Tail.Payloads.lean ====
/- What the payloads of the kernel for the loss and its gradient are at one index. -/
module

public import proofs.«01_k».proof.Proof.Gen.TailIdeal.Value
public import proofs.«01_k».proof.Proof.Tail.Formulas
public import Idealize.ShloMosaic.Lib.Pipeline.ValueKit
public import Idealize.ShloMosaic.Lib.Pointwise
public import Idealize.ShloMosaic.Lib.Claim

@[expose] public section

set_option maxRecDepth 16384

noncomputable section

namespace Cert.TailIdeal.RefValue

open Cert.TailIdeal Cert.TailIdeal.Gen Idealize.ShloMosaic Idealize.ShloMosaic.TcCoe Idealize.SL.Sem
open Idealize.ShloMosaic.Pipeline (Dat)
open Cert.TailRefIdeal.Formulas
open Cert.Tail (one two half perWidth halfPerWidth)

theorem pay4_apply (v0 : Vec Ideal S512x1024 .bf16) (v1 : Vec Ideal S1024x1024 .bf16) (r : Fin 512) (l : Fin 1024) :
    k0_pay4 v0 v1 (ix2 r l) = Ideal.logistic (∑ j : Fin 1024, v0 (ix2 r j) * v1 (ix2 j l)) := by
  pointwise [k0_pay4]

theorem pay5_apply (v0 : Vec Ideal S512x256 .f32) (v1 : Vec Ideal S256x1024 .bf16) (r : Fin 512) (l : Fin 1024) :
    k0_pay5 v0 v1 (ix2 r l) = ∑ j : Fin 256, v0 (ix2 r j) * v1 (ix2 j l) := by
  pointwise [k0_pay5]

theorem pay6_apply (v0 : Vec Ideal S512x1024 .bf16) (v1 : Vec Ideal S1024x1024 .bf16) (v4 : Vec Ideal S512x256 .f32)
    (v6 : Vec Ideal S256x1024 .bf16) (v8 : Vec Ideal S512x1024 .f32) (r : Fin 512) (l : Fin 1024) :
    k0_pay6 v0 v1 v4 v6 v8 (ix2 r l) = v8 (ix2 r l) + k0_pay4 v0 v1 (ix2 r l) * k0_pay5 v4 v6 (ix2 r l) := by
  generalize e : k0_pay4 v0 v1 = y
  generalize f : k0_pay5 v4 v6 = z
  pointwise [k0_pay6, e, f]

theorem pay7_apply (v0 : Vec Ideal S512x1024 .bf16) (v1 : Vec Ideal S1024x1024 .bf16) (v4 : Vec Ideal S512x256 .f32)
    (v6 : Vec Ideal S256x1024 .bf16) (v8 : Vec Ideal S512x1024 .f32) (g : Vec Ideal S1x1024 .f32) (o : Vec Ideal S512x1024 .f32)
    (r : Fin 512) (l : Fin 1024) : k0_pay7 v0 v1 v4 v6 v8 g o (ix2 r l)
      = k0_pay6 v0 v1 v4 v6 v8 (ix2 r l) * Norm.root (fun k => k0_pay6 v0 v1 v4 v6 v8 (ix2 r k)) * g (ix2 0 l) - o (ix2 r l) := by
  generalize e : k0_pay6 v0 v1 v4 v6 v8 = y
  pointwise [k0_pay7, e, Norm.root, Norm.square, Norm.width, Norm.eps]

theorem pay8_apply (v0 : Vec Ideal S512x1024 .bf16) (v1 : Vec Ideal S1024x1024 .bf16) (v4 : Vec Ideal S512x256 .f32)
    (v6 : Vec Ideal S256x1024 .bf16) (v8 : Vec Ideal S512x1024 .f32) (g : Vec Ideal S1x1024 .f32) (o : Vec Ideal S512x1024 .f32)
    (l : Fin 1024) : k0_pay8 v0 v1 v4 v6 v8 g o (ix2 0 l)
      = ∑ r : Fin 512, k0_pay7 v0 v1 v4 v6 v8 g o (ix2 r l) * k0_pay7 v0 v1 v4 v6 v8 g o (ix2 r l) := by
  generalize e : k0_pay7 v0 v1 v4 v6 v8 g o = y
  pointwise [k0_pay8, e]

theorem pay12_apply (d : FVec Ideal S512x1024 .f32) (r : Fin 512) (l : Fin 1024) :
    k0_pay12 d (ix2 r l) = d (ix2 r l) * perWidth := by
  pointwise [k0_pay12, perWidth]

theorem pay13_apply (h : FVec Ideal S512x1024 .f32) (r : Fin 512) :
    k0_pay13 h (ix2 r 0) = Norm.root (fun k => h (ix2 r k)) := by
  pointwise [k0_pay13, Norm.root, Norm.square, Norm.width, Norm.eps]

theorem pay14_apply (h : FVec Ideal S512x1024 .f32) (r : Fin 512) (l : Fin 1024) :
    k0_pay14 h (ix2 r l) = h (ix2 r l) * Norm.root (fun k => h (ix2 r k)) := by
  pointwise [k0_pay14, pay13_apply]

theorem pay15_apply (h : FVec Ideal S512x1024 .f32) (g : Vec Ideal S1x1024 .f32) (d : FVec Ideal S512x1024 .f32)
    (r : Fin 512) (l : Fin 1024) : k0_pay15 h g d (ix2 r l)
      = d (ix2 r l) * perWidth * g (ix2 0 l) * Norm.root (fun k => h (ix2 r k))
        + (h (ix2 r l) * Norm.through (fun k => h (ix2 r k)) (fun k => d (ix2 r k) * perWidth * g (ix2 0 k))
          + Norm.through (fun k => h (ix2 r k)) (fun k => d (ix2 r k) * perWidth * g (ix2 0 k)) * h (ix2 r l)) := by
  have e := Norm.back_eq (fun k => h (ix2 r k)) (fun k => d (ix2 r k) * perWidth * g (ix2 0 k)) l
  rw [← e]
  pointwise [k0_pay15, pay12_apply, pay13_apply, pay14_apply, Norm.width]

theorem pay17_apply (h d : FVec Ideal S512x1024 .f32) (z : Vec Ideal S1x1024 .f32) (l : Fin 1024) :
    k0_pay17 h d z (ix2 0 l)
      = z (ix2 0 l) + ∑ x : Fin 512, d (ix2 x l) * perWidth * (h (ix2 x l) * Norm.root (fun k => h (ix2 x k))) := by
  pointwise [k0_pay17, pay12_apply, pay14_apply]

theorem pay18_apply (p h : FVec Ideal S512x1024 .f32) (g : Vec Ideal S1x1024 .f32) (d : FVec Ideal S512x1024 .f32)
    (r : Fin 512) (l : Fin 1024) : k0_pay18 p h g d (ix2 r l) = p (ix2 r l) * k0_pay15 h g d (ix2 r l) := by
  rw [mul_comm]
  generalize e : k0_pay15 h g d = y
  pointwise [k0_pay18, e]

theorem pay19_apply (p q d : FVec Ideal S512x1024 .f32) (r : Fin 512) (l : Fin 1024) :
    k0_pay19 p q d (ix2 r l) = d (ix2 r l) * q (ix2 r l) * (p (ix2 r l) * (one - p (ix2 r l))) := by
  rw [← mul_assoc]
  pointwise [k0_pay19, one]

theorem pay20_apply (p q d : FVec Ideal S512x1024 .f32) (w : Vec Ideal S1024x1024 .bf16) (r : Fin 512) (l : Fin 1024) :
    k0_pay20 p q d w (ix2 r l) = ∑ j : Fin 1024, k0_pay19 p q d (ix2 r j) * w (ix2 l j) := by
  generalize e : k0_pay19 p q d = y
  pointwise [k0_pay20, e]

theorem pay21_apply (h : Vec Ideal S512x1024 .f32) (r : Fin 512) :
    k0_pay21 h (ix2 r 0) = Norm.root (fun k => h (ix2 r k)) := by
  pointwise [k0_pay21, Norm.root, Norm.square, Norm.width, Norm.eps]

theorem pay22_apply (h : Vec Ideal S512x1024 .f32) (r : Fin 512) (l : Fin 1024) :
    k0_pay22 h (ix2 r l) = h (ix2 r l) * Norm.root (fun k => h (ix2 r k)) := by
  pointwise [k0_pay22, pay21_apply]

theorem pay2_apply (p q d : FVec Ideal S512x1024 .f32) (h : Vec Ideal S512x1024 .f32) (w : Vec Ideal S1024x1024 .bf16)
    (g : Vec Ideal S1x1024 .f32) (r : Fin 512) (l : Fin 1024) : k0_pay2 d (k0_pay23 p q h d w g) (ix2 r l)
      = d (ix2 r l) + (k0_pay20 p q d w (ix2 r l) * g (ix2 0 l) * Norm.root (fun k => h (ix2 r k))
        + (h (ix2 r l) * Norm.through (fun k => h (ix2 r k)) (fun k => k0_pay20 p q d w (ix2 r k) * g (ix2 0 k))
          + Norm.through (fun k => h (ix2 r k)) (fun k => k0_pay20 p q d w (ix2 r k) * g (ix2 0 k)) * h (ix2 r l))) := by
  generalize f : k0_pay20 p q d w = n
  have e := Norm.back_eq (fun k => h (ix2 r k)) (fun k => n (ix2 r k) * g (ix2 0 k)) l
  rw [← e]
  pointwise [k0_pay2, k0_pay23, f, pay21_apply, pay22_apply, Norm.width]

theorem pay24_apply (p q d : FVec Ideal S512x1024 .f32) (h : Vec Ideal S512x1024 .f32) (w : Vec Ideal S1024x1024 .bf16)
    (z : Vec Ideal S1x1024 .f32) (l : Fin 1024) : k0_pay1 (k0_pay24 p q h d w) (k0_pay26 z) (ix2 0 l)
      = z (ix2 0 l) + ∑ x : Fin 512, k0_pay20 p q d w (ix2 x l) * (h (ix2 x l) * Norm.root (fun k => h (ix2 x k))) := by
  generalize f : k0_pay20 p q d w = n
  pointwise [k0_pay1, k0_pay24, k0_pay26, f, pay22_apply]

theorem pay3_apply (z : Vec Ideal S1x1024 .f32) (l : Fin 1024) :
    k0_pay3 z (ix2 0 l) = halfPerWidth * ∑ k : Fin 1024, z (ix2 0 k) := by
  pointwise [k0_pay3, halfPerWidth]
  simp only [Finset.univ_unique, Finset.sum_singleton]

theorem pay11_apply (a : FVec Ideal S1x1024 .f32) (z : Vec Ideal S1x1024 .f32) (l : Fin 1024) :
    k0_pay11 a (k0_pay10 z) (ix2 0 l) = z (ix2 0 l) + a (ix2 0 l) := by
  pointwise [k0_pay11, k0_pay10]

end Cert.TailIdeal.RefValue

end
-- ==== Proof.Tail.Blocks.lean ====
/- What the kernel for the loss and its gradient holds in its windows at one grid point. -/
module

public import proofs.«01_k».proof.Proof.Tail.Payloads

@[expose] public section

set_option maxRecDepth 16384

noncomputable section

namespace Cert.TailIdeal.RefValue

open Cert.TailIdeal Cert.TailIdeal.Gen Idealize.ShloMosaic Idealize.ShloMosaic.TcCoe Idealize.SL.Sem
open Idealize.ShloMosaic.Pipeline (Dat)
open Cert.TailRefIdeal.Formulas
open Cert.Tail (one two half perWidth halfPerWidth)

variable (m : (ℓ : Loc nD τ sig) → Buf (Elt Ideal) ℓ)

/-- The block each window holds at grid point `t`. -/
theorem idx : ∀ t : Fin grid0.N, (grid0.coords t 0).val = t.val ∧ win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![t.val, 0] ∧ win0_11.index t = ![0, 0] ∧ win0_12.index t = ![0, 0] ∧ win0_13.index t = ![0, 0] := by
  decide +kernel

/-- Row `p` of block `t`, among all rows. -/
def row (t : Fin cfg0.N) (p : Fin 512) : Fin 8192 :=
  ⟨512 * t.val + p.val, by have := t.isLt; have h : cfg0.N = 16 := N_0; omega⟩

theorem blk0 (c : Dev nD) (t : Fin cfg0.N) (p : Fin 512) (k : Fin 1024) :
    (iblk m c 0 t : Vec Ideal S512x1024 .f32) (ix2 p k) = m ((c : Thread nD τ).loc main_arg0) (ix2 (row t p) k) := by
  blk_ext [iblk, V, idx t, row]
theorem blk1 (c : Dev nD) (t : Fin cfg0.N) (p : Fin 512) (k : Fin 1024) :
    (iblk m c 1 t : Vec Ideal S512x1024 .bf16) (ix2 p k) = m ((c : Thread nD τ).loc main_arg1) (ix2 (row t p) k) := by
  blk_ext [iblk, V, idx t, row]
theorem blk2 (c : Dev nD) (t : Fin cfg0.N) (p : Fin 512) (k : Fin 256) :
    (iblk m c 2 t : Vec Ideal S512x256 .f32) (ix2 p k) = m ((c : Thread nD τ).loc main_arg2) (ix2 (row t p) k) := by
  blk_ext [iblk, V, idx t, row]
theorem blk3 (c : Dev nD) (t : Fin cfg0.N) (p k : Fin 1024) :
    (iblk m c 3 t : Vec Ideal S1024x1024 .bf16) (ix2 p k) = m ((c : Thread nD τ).loc main_arg3) (ix2 p k) := by
  blk_ext [iblk, V, idx t]
theorem blk4 (c : Dev nD) (t : Fin cfg0.N) (p : Fin 256) (k : Fin 1024) :
    (iblk m c 4 t : Vec Ideal S256x1024 .bf16) (ix2 p k) = m ((c : Thread nD τ).loc main_arg4) (ix2 p k) := by
  blk_ext [iblk, V, idx t]
theorem blk5 (c : Dev nD) (t : Fin cfg0.N) (k : Fin 1024) :
    (iblk m c 5 t : Vec Ideal S1x1024 .f32) (ix2 0 k) = m ((c : Thread nD τ).loc main_arg5) (ix2 0 k) := by
  blk_ext [iblk, V, idx t]
theorem blk6 (c : Dev nD) (t : Fin cfg0.N) (k : Fin 1024) :
    (iblk m c 6 t : Vec Ideal S1x1024 .f32) (ix2 0 k) = m ((c : Thread nD τ).loc main_arg6) (ix2 0 k) := by
  blk_ext [iblk, V, idx t]
theorem blk7 (c : Dev nD) (t : Fin cfg0.N) (p : Fin 512) (k : Fin 1024) :
    (iblk m c 7 t : Vec Ideal S512x1024 .f32) (ix2 p k) = m ((c : Thread nD τ).loc main_arg7) (ix2 (row t p) k) := by
  blk_ext [iblk, V, idx t, row]

/-- The gate of block `t`. -/
def gateB (c : Dev nD) (t : Fin cfg0.N) : FVec Ideal S512x1024 .f32 :=
  k0_pay4 (iblk m c 1 t) (iblk m c 3 t)
theorem gateB_apply (c : Dev nD) (t : Fin cfg0.N) (r : Fin 512) (l : Fin 1024) :
    gateB m c t (ix2 r l) = gate (m ((c : Thread nD τ).loc main_arg1)) (m ((c : Thread nD τ).loc main_arg3)) (row t r) l := by
  rw [gateB, pay4_apply]
  simp only [blk1, blk3]
  rfl

/-- The embedding's projection of block `t`. -/
def embB (c : Dev nD) (t : Fin cfg0.N) : FVec Ideal S512x1024 .f32 :=
  k0_pay5 (iblk m c 2 t) (iblk m c 4 t)
theorem embB_apply (c : Dev nD) (t : Fin cfg0.N) (r : Fin 512) (l : Fin 1024) :
    embB m c t (ix2 r l) = emb (m ((c : Thread nD τ).loc main_arg2)) (m ((c : Thread nD τ).loc main_arg4)) (row t r) l := by
  rw [embB, pay5_apply]
  simp only [blk2, blk4]
  rfl

/-- The last rows of block `t`. -/
def lastB (c : Dev nD) (t : Fin cfg0.N) : FVec Ideal S512x1024 .f32 :=
  k0_pay6 (iblk m c 1 t) (iblk m c 3 t) (iblk m c 2 t) (iblk m c 4 t) (iblk m c 0 t)
theorem lastB_apply (c : Dev nD) (t : Fin cfg0.N) (r : Fin 512) (l : Fin 1024) :
    lastB m c t (ix2 r l) = last (m ((c : Thread nD τ).loc main_arg0)) (m ((c : Thread nD τ).loc main_arg1)) (m ((c : Thread nD τ).loc main_arg2)) (m ((c : Thread nD τ).loc main_arg3)) (m ((c : Thread nD τ).loc main_arg4)) (row t r) l := by
  rw [lastB, pay6_apply, blk0, ← gateB, ← embB, gateB_apply, embB_apply]
  rfl

/-- How far block `t` is from the target. -/
def diffB (c : Dev nD) (t : Fin cfg0.N) : FVec Ideal S512x1024 .f32 :=
  k0_pay7 (iblk m c 1 t) (iblk m c 3 t) (iblk m c 2 t) (iblk m c 4 t) (iblk m c 0 t) (iblk m c 6 t) (iblk m c 7 t)
theorem diffB_apply (c : Dev nD) (t : Fin cfg0.N) (r : Fin 512) (l : Fin 1024) :
    diffB m c t (ix2 r l) = diff (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t r) l := by
  rw [diffB, pay7_apply, ← lastB]
  simp only [lastB_apply, blk6, blk7]
  rfl

/-- The gradient of the last rows of block `t`. -/
def dlastB (c : Dev nD) (t : Fin cfg0.N) : FVec Ideal S512x1024 .f32 :=
  k0_pay15 (lastB m c t) (iblk m c 6 t) (diffB m c t)
theorem dlastB_apply (c : Dev nD) (t : Fin cfg0.N) (r : Fin 512) (l : Fin 1024) :
    dlastB m c t (ix2 r l) = dlast (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t r) l := by
  rw [dlastB, pay15_apply]
  simp only [lastB_apply, diffB_apply, blk6]
  rfl

/-- The gradient of what the gate is taken of, block `t`. -/
def dgateB (c : Dev nD) (t : Fin cfg0.N) : FVec Ideal S512x1024 .bf16 :=
  k0_pay19 (gateB m c t) (embB m c t) (dlastB m c t)
theorem dgateB_apply (c : Dev nD) (t : Fin cfg0.N) (r : Fin 512) (l : Fin 1024) :
    dgateB m c t (ix2 r l) = dgate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t r) l := by
  rw [dgateB, pay19_apply, gateB_apply, embB_apply, dlastB_apply]
  rfl

/-- The gradient of the gate's normalised rows, block `t`. -/
def dn3B (c : Dev nD) (t : Fin cfg0.N) : FVec Ideal S512x1024 .f32 :=
  k0_pay20 (gateB m c t) (embB m c t) (dlastB m c t) (iblk m c 3 t)
theorem dn3B_apply (c : Dev nD) (t : Fin cfg0.N) (r : Fin 512) (l : Fin 1024) :
    dn3B m c t (ix2 r l) = dn3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t r) l := by
  rw [dn3B, pay20_apply, ← dgateB]
  simp only [dgateB_apply, blk3]
  rfl

end Cert.TailIdeal.RefValue

end
-- ==== Proof.Tail.Rows.lean ====
/- What the row-blocked results of the kernel for the loss and its gradient hold after the run: the reference's results, at
   every index. -/
module

public import proofs.«01_k».proof.Proof.Tail.Blocks

@[expose] public section

set_option maxRecDepth 16384

noncomputable section

namespace Cert.TailIdeal.RefValue

open Cert.TailIdeal Cert.TailIdeal.Gen Idealize.ShloMosaic Idealize.ShloMosaic.TcCoe Idealize.SL.Sem
open Idealize.ShloMosaic.Pipeline (Dat)
open Cert.TailRefIdeal.Formulas
open Cert.Tail (one two half perWidth halfPerWidth)

variable (m : (ℓ : Loc nD τ sig) → Buf (Elt Ideal) ℓ)

theorem block8 (c : Dev nD) (t : Fin cfg0.N) (r : Fin 512) (l : Fin 1024) :
    (k0_pay2 (dlastB m c t) (k0_pay23 (gateB m c t) (embB m c t) (iblk m c 0 t) (dlastB m c t) (iblk m c 3 t) (iblk m c 5 t)) : Vec Ideal S512x1024 .f32) (ix2 r l) = back (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t r) l := by
  refine (pay2_apply (gateB m c t) (embB m c t) (dlastB m c t) (iblk m c 0 t) (iblk m c 3 t) (iblk m c 5 t) r l).trans ?_
  rw [← dn3B]
  simp only [dn3B_apply, dlastB_apply, blk0, blk5]
  rfl

theorem out8_apply (c : Dev nD) (t : Fin cfg0.N) (r : Fin 512) (l : Fin 1024) :
    ((outsAt0 m c t.val t.isLt).1 : Vec Ideal S512x1024 .f32) (ix2 r l) = back (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t r) l := by
  by_cases h : t.val % 16 = 0
  · rw [outsAt0_A m c t h h h (by omega)]
    frame_out
    exact block8 m c t r l
  · by_cases h' : t.val % 16 = 15
    · rw [outsAt0_C m c t h h h h']
      frame_out
      exact block8 m c t r l
    · rw [outsAt0_B m c t h h h h']
      frame_out
      exact block8 m c t r l

theorem arr8 (c : Dev nD) : (dats m 0 c).arrAt 8 cfg0.N
    = Cert.TailRefIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  obtain ⟨r, l, rfl⟩ : ∃ (r : Fin 512) (l : Fin 1024), y = ix2 r l := ⟨y 0, y 1, eq_ix2 y⟩
  have e : (((cfg0.win 8).blk t).view.emb (ix2 r l)) = ix2 (row t r) l := by blk_ext [idx t, row]
  rw [e, val106_apply]
  blk_simp
  rw [after0_8]
  exact out8_apply m c t r l

theorem block9 (c : Dev nD) (t : Fin cfg0.N) (r : Fin 512) (l : Fin 1024) :
    (dgateB m c t : Vec Ideal S512x1024 .bf16) (ix2 r l) = dgate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t r) l := by
  exact dgateB_apply m c t r l

theorem out9_apply (c : Dev nD) (t : Fin cfg0.N) (r : Fin 512) (l : Fin 1024) :
    ((outsAt0 m c t.val t.isLt).2.1 : Vec Ideal S512x1024 .bf16) (ix2 r l) = dgate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t r) l := by
  by_cases h : t.val % 16 = 0
  · rw [outsAt0_A m c t h h h (by omega)]
    frame_out
    exact block9 m c t r l
  · by_cases h' : t.val % 16 = 15
    · rw [outsAt0_C m c t h h h h']
      frame_out
      exact block9 m c t r l
    · rw [outsAt0_B m c t h h h h']
      frame_out
      exact block9 m c t r l

theorem arr9 (c : Dev nD) : (dats m 0 c).arrAt 9 cfg0.N
    = Cert.TailRefIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 9 _ (by decide +kernel) fun t hf y => ?_
  obtain ⟨r, l, rfl⟩ : ∃ (r : Fin 512) (l : Fin 1024), y = ix2 r l := ⟨y 0, y 1, eq_ix2 y⟩
  have e : (((cfg0.win 9).blk t).view.emb (ix2 r l)) = ix2 (row t r) l := by blk_ext [idx t, row]
  rw [e, val68_apply]
  blk_simp
  rw [after0_9]
  exact out9_apply m c t r l

theorem block10 (c : Dev nD) (t : Fin cfg0.N) (r : Fin 512) (l : Fin 1024) :
    (k0_pay18 (gateB m c t) (lastB m c t) (iblk m c 6 t) (diffB m c t) : Vec Ideal S512x1024 .bf16) (ix2 r l) = demb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t r) l := by
  refine (pay18_apply (gateB m c t) (lastB m c t) (iblk m c 6 t) (diffB m c t) r l).trans ?_
  rw [← dlastB, gateB_apply, dlastB_apply]
  rfl

theorem out10_apply (c : Dev nD) (t : Fin cfg0.N) (r : Fin 512) (l : Fin 1024) :
    ((outsAt0 m c t.val t.isLt).2.2.1 : Vec Ideal S512x1024 .bf16) (ix2 r l) = demb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t r) l := by
  by_cases h : t.val % 16 = 0
  · rw [outsAt0_A m c t h h h (by omega)]
    frame_out
    exact block10 m c t r l
  · by_cases h' : t.val % 16 = 15
    · rw [outsAt0_C m c t h h h h']
      frame_out
      exact block10 m c t r l
    · rw [outsAt0_B m c t h h h h']
      frame_out
      exact block10 m c t r l

theorem arr10 (c : Dev nD) : (dats m 0 c).arrAt 10 cfg0.N
    = Cert.TailRefIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 10 _ (by decide +kernel) fun t hf y => ?_
  obtain ⟨r, l, rfl⟩ : ∃ (r : Fin 512) (l : Fin 1024), y = ix2 r l := ⟨y 0, y 1, eq_ix2 y⟩
  have e : (((cfg0.win 10).blk t).view.emb (ix2 r l)) = ix2 (row t r) l := by blk_ext [idx t, row]
  rw [e, val107_apply]
  blk_simp
  rw [after0_10]
  exact out10_apply m c t r l

end Cert.TailIdeal.RefValue

end
-- ==== Proof.Tail.Sums.lean ====
/- What the added-up results of the kernel for the loss and its gradient hold after the run: the loss, and the gradients of
   two norms' gains, added up over the sixteen grid points. -/
module

public import proofs.«01_k».proof.Proof.Tail.Blocks

@[expose] public section

set_option maxRecDepth 16384

noncomputable section

namespace Cert.TailIdeal.RefValue

open Cert.TailIdeal Cert.TailIdeal.Gen Idealize.ShloMosaic Idealize.ShloMosaic.TcCoe Idealize.SL.Sem
open Idealize.ShloMosaic.Pipeline (Dat)
open Cert.TailRefIdeal.Formulas
open Cert.Tail (one two half perWidth halfPerWidth)

variable (m : (ℓ : Loc nD τ sig) → Buf (Elt Ideal) ℓ)

/-- What grid point `t` adds to the gradient of the last norm's gains. -/
def lastGainAt (c : Dev nD) (t : Fin cfg0.N) (i : S1x1024.Idx) : EReal := ∑ x : Fin 512, lastGain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t x) (i 1)

theorem lastGain_block (c : Dev nD) (t : Fin cfg0.N) (z : Vec Ideal S1x1024 .f32) (l : Fin 1024) :
    (k0_pay17 (lastB m c t) (diffB m c t) z : Vec Ideal S1x1024 .f32) (ix2 0 l) = z (ix2 0 l) + lastGainAt m c t (ix2 0 l) := by
  rw [pay17_apply, lastGainAt]
  refine congrArg _ (Finset.sum_congr rfl fun x _ => ?_)
  simp only [lastB_apply, diffB_apply]
  exact mul_comm _ _

theorem lastGain_acc (c : Dev nD) (i : S1x1024.Idx) :
    ((outsAt0 m c t0_15.val t0_15.isLt).2.2.2.2.1 : Vec Ideal S1x1024 .f32) i = 0 + ∑ p : Fin cfg0.N, lastGainAt m c p i := by
  refine Pipeline.eq_sum_fin_of_reset_step_apply_last (fun n h => ((outsAt0 m c n h).2.2.2.2.1 : Vec Ideal S1x1024 .f32)) 16
    (fun _ => (0 : EReal)) (lastGainAt m c) (fun t h i => ?_) (fun t h i => ?_) (le_of_eq N_0) t0_15 (by
      show 15 + 1 = cfg0.N; exact N_0.symm) i
  · obtain ⟨l, rfl⟩ : ∃ l : Fin 1024, i = ix2 0 l := ⟨i 1, (eq_ix2 i).trans (congrArg (ix2 · (i 1)) (Subsingleton.elim (α := Fin 1) _ _))⟩
    show (outsAt0 m c t.val t.isLt).2.2.2.2.1 _ = _
    rw [outsAt0_A m c t h h h (by omega)]
    frame_out
    refine (lastGain_block m c t (k0_pay16 (F := Ideal)) l).trans ?_
    pointwise [k0_pay16]
  · obtain ⟨l, rfl⟩ : ∃ l : Fin 1024, i = ix2 0 l := ⟨i 1, (eq_ix2 i).trans (congrArg (ix2 · (i 1)) (Subsingleton.elim (α := Fin 1) _ _))⟩
    show (outsAt0 m c t.val t.isLt).2.2.2.2.1 _ = _
    by_cases h' : t.val % 16 = 15
    · rw [outsAt0_C m c t h h h h']
      frame_out
      exact lastGain_block m c t _ l
    · rw [outsAt0_B m c t h h h h']
      frame_out
      exact lastGain_block m c t _ l

theorem arr12 (c : Dev nD) : (dats m 0 c).arrAt 12 cfg0.N
    = Cert.TailRefIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_after_last 12 t0_15 (by decide +kernel) _ fun i => ?_
  obtain ⟨l, rfl⟩ : ∃ l : Fin 1024, i = ix2 0 l := ⟨i 1, (eq_ix2 i).trans (congrArg (ix2 · (i 1)) (Subsingleton.elim (α := Fin 1) _ _))⟩
  blk_simp
  rw [after0_12, val48_apply]
  refine (lastGain_acc m c (ix2 0 l)).trans ((zero_add _).trans ?_)
  exact Cert.Common.sum_blocks 16 512 8192 rfl fun r => lastGain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) r l

/-- What grid point `t` adds to the gradient of the embedding's gains. -/
def gainAt (c : Dev nD) (t : Fin cfg0.N) (i : S1x1024.Idx) : EReal := ∑ x : Fin 512, gain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t x) (i 1)

theorem gain_block (c : Dev nD) (t : Fin cfg0.N) (z : Vec Ideal S1x1024 .f32) (l : Fin 1024) :
    (k0_pay1 (k0_pay24 (gateB m c t) (embB m c t) (iblk m c 0 t) (dlastB m c t) (iblk m c 3 t)) (k0_pay26 z) : Vec Ideal S1x1024 .f32) (ix2 0 l) = z (ix2 0 l) + gainAt m c t (ix2 0 l) := by
  rw [pay24_apply, gainAt, ← dn3B]
  refine congrArg _ (Finset.sum_congr rfl fun x _ => ?_)
  simp only [dn3B_apply, blk0]
  exact mul_comm _ _

theorem gain_acc (c : Dev nD) (i : S1x1024.Idx) :
    ((outsAt0 m c t0_15.val t0_15.isLt).2.2.2.2.2 : Vec Ideal S1x1024 .f32) i = 0 + ∑ p : Fin cfg0.N, gainAt m c p i := by
  refine Pipeline.eq_sum_fin_of_reset_step_apply_last (fun n h => ((outsAt0 m c n h).2.2.2.2.2 : Vec Ideal S1x1024 .f32)) 16
    (fun _ => (0 : EReal)) (gainAt m c) (fun t h i => ?_) (fun t h i => ?_) (le_of_eq N_0) t0_15 (by
      show 15 + 1 = cfg0.N; exact N_0.symm) i
  · obtain ⟨l, rfl⟩ : ∃ l : Fin 1024, i = ix2 0 l := ⟨i 1, (eq_ix2 i).trans (congrArg (ix2 · (i 1)) (Subsingleton.elim (α := Fin 1) _ _))⟩
    show (outsAt0 m c t.val t.isLt).2.2.2.2.2 _ = _
    rw [outsAt0_A m c t h h h (by omega)]
    frame_out
    refine (gain_block m c t (k0_pay25 (F := Ideal)) l).trans ?_
    pointwise [k0_pay25]
  · obtain ⟨l, rfl⟩ : ∃ l : Fin 1024, i = ix2 0 l := ⟨i 1, (eq_ix2 i).trans (congrArg (ix2 · (i 1)) (Subsingleton.elim (α := Fin 1) _ _))⟩
    show (outsAt0 m c t.val t.isLt).2.2.2.2.2 _ = _
    by_cases h' : t.val % 16 = 15
    · rw [outsAt0_C m c t h h h h']
      frame_out
      exact gain_block m c t _ l
    · rw [outsAt0_B m c t h h h h']
      frame_out
      exact gain_block m c t _ l

theorem arr13 (c : Dev nD) : (dats m 0 c).arrAt 13 cfg0.N
    = Cert.TailRefIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_after_last 13 t0_15 (by decide +kernel) _ fun i => ?_
  obtain ⟨l, rfl⟩ : ∃ l : Fin 1024, i = ix2 0 l := ⟨i 1, (eq_ix2 i).trans (congrArg (ix2 · (i 1)) (Subsingleton.elim (α := Fin 1) _ _))⟩
  blk_simp
  rw [after0_13, val89_apply]
  refine (gain_acc m c (ix2 0 l)).trans ((zero_add _).trans ?_)
  exact Cert.Common.sum_blocks 16 512 8192 rfl fun r => gain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) r l

/-- What grid point `t` adds to the loss. -/
def lossAt (c : Dev nD) (t : Fin cfg0.N) (i : S1x1024.Idx) : EReal := ∑ x : Fin 512, lossTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (row t x) (i 1)

/-- The squares of block `t`, added up over its rows. -/
def lossB (c : Dev nD) (t : Fin cfg0.N) : FVec Ideal S1x1024 .f32 :=
  (k0_pay8 (iblk m c 1 t) (iblk m c 3 t) (iblk m c 2 t) (iblk m c 4 t) (iblk m c 0 t) (iblk m c 6 t) (iblk m c 7 t))

theorem loss_block (c : Dev nD) (t : Fin cfg0.N) (z : Vec Ideal S1x1024 .f32) (l : Fin 1024) :
    k0_pay11 (lossB m c t) (k0_pay10 z) (ix2 0 l) = z (ix2 0 l) + lossAt m c t (ix2 0 l) := by
  rw [pay11_apply, lossAt, lossB, pay8_apply, ← diffB]
  simp only [diffB_apply]
  rfl

/-- The loss row added up to grid point `n`; the last point's own row is what it holds before it is summed. -/
def lossRow (c : Dev nD) (n : ℕ) (h : n < cfg0.N) : Vec Ideal S1x1024 .f32 :=
  if n = 15 then k0_pay11 (lossB m c ⟨n, h⟩) (k0_pay10 (outsAt0 m c (n - 1) (Nat.lt_of_le_of_lt (Nat.sub_le n 1) h)).2.2.2.1)
  else (outsAt0 m c n h).2.2.2.1

theorem loss_acc (c : Dev nD) (i : S1x1024.Idx) :
    lossRow m c t0_15.val t0_15.isLt i = 0 + ∑ p : Fin cfg0.N, lossAt m c p i := by
  refine Pipeline.eq_sum_fin_of_reset_step_apply_last (lossRow m c) 16
    (fun _ => (0 : EReal)) (lossAt m c) (fun t h i => ?_) (fun t h i => ?_) (le_of_eq N_0) t0_15 (by
      show 15 + 1 = cfg0.N; exact N_0.symm) i
  · obtain ⟨l, rfl⟩ : ∃ l : Fin 1024, i = ix2 0 l := ⟨i 1, (eq_ix2 i).trans (congrArg (ix2 · (i 1)) (Subsingleton.elim (α := Fin 1) _ _))⟩
    rw [lossRow, if_neg (by omega), outsAt0_A m c t h h h (by omega)]
    frame_out
    refine (loss_block m c t (k0_pay9 (F := Ideal)) l).trans ?_
    pointwise [k0_pay9]
  · obtain ⟨l, rfl⟩ : ∃ l : Fin 1024, i = ix2 0 l := ⟨i 1, (eq_ix2 i).trans (congrArg (ix2 · (i 1)) (Subsingleton.elim (α := Fin 1) _ _))⟩
    have ht : t.val < 16 := lt_of_lt_of_eq t.isLt N_0
    have e : ∀ hp, lossRow m c (t.val - 1) hp = (outsAt0 m c (t.val - 1) hp).2.2.2.1 := fun hp => by
      rw [lossRow, if_neg (by omega)]
    rw [e]
    by_cases h' : t.val = 15
    · rw [lossRow, if_pos h']
      exact loss_block m c t _ l
    · rw [lossRow, if_neg h', outsAt0_B m c t h h h (by omega)]
      frame_out
      exact loss_block m c t _ l

theorem out11 (c : Dev nD) : (outsAt0 m c t0_15.val t0_15.isLt).2.2.2.1 = k0_pay3 (lossRow m c t0_15.val t0_15.isLt) := by
  have h : ¬t0_15.val % 16 = 0 := by decide
  have h' : t0_15.val % 16 = 15 := by decide
  rw [outsAt0_C m c t0_15 h h h h', lossRow, if_pos (by rfl)]
  frame_out
  rfl

theorem arr11 (c : Dev nD) : (dats m 0 c).arrAt 11 cfg0.N
    = Cert.TailRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_after_last 11 t0_15 (by decide +kernel) _ fun i => ?_
  obtain ⟨l, rfl⟩ : ∃ l : Fin 1024, i = ix2 0 l := ⟨i 1, (eq_ix2 i).trans (congrArg (ix2 · (i 1)) (Subsingleton.elim (α := Fin 1) _ _))⟩
  blk_simp
  rw [after0_11, val108_apply, loss, out11]
  refine (pay3_apply _ l).trans (congrArg _ (Finset.sum_congr rfl fun k _ => ?_))
  refine (loss_acc m c (ix2 0 k)).trans ((zero_add _).trans ?_)
  exact Cert.Common.sum_blocks 16 512 8192 rfl fun r => lossTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) r k

end Cert.TailIdeal.RefValue

end
-- ==== Proof.Tail.Arrays.lean ====
/- The six result arrays of the kernel for the loss and its gradient: the row-blocked ones and the added-up ones. -/
module

public import proofs.«01_k».proof.Proof.Tail.Rows
public import proofs.«01_k».proof.Proof.Tail.Sums
-- ==== Proof.Tail.Claims.lean ====
/- The kernel for the loss and its gradient and the reference end with the same six arrays. -/
module

public import proofs.«01_k».proof.Defs
public import proofs.«01_k».proof.Proof.Tail.Arrays
public import proofs.«01_k».proof.Proof.Gen.TailRefIdeal.Run

@[expose] public section

set_option maxRecDepth 16384

noncomputable section

namespace Cert.Proof.TailClaims

open Idealize.ShloMosaic Idealize.SL.Sem

theorem algebraic : Cert.algebraic_TailIdeal_TailRefIdeal := by
  intro m ρ m' ρ' _ agree
  refine ⟨fun c => Cert.TailRefIdeal.Read.val_main_v106 (F := Ideal) (m ((c.tc : Thread _ _).loc Cert.TailIdeal.main_arg0)) (m ((c.tc : Thread _ _).loc Cert.TailIdeal.main_arg1)) (m ((c.tc : Thread _ _).loc Cert.TailIdeal.main_arg2)) (m ((c.tc : Thread _ _).loc Cert.TailIdeal.main_arg3)) (m ((c.tc : Thread _ _).loc Cert.TailIdeal.main_arg4)) (m ((c.tc : Thread _ _).loc Cert.TailIdeal.main_arg5)) (m ((c.tc : Thread _ _).loc Cert.TailIdeal.main_arg6)) (m ((c.tc : Thread _ _).loc Cert.TailIdeal.main_arg7)),
    fun c => Cert.TailRefIdeal.Read.val_main_v68 (F := Ideal) (m ((c.tc : Thread _ _).loc Cert.TailIdeal.main_arg0)) (m ((c.tc : Thread _ _).loc Cert.TailIdeal.main_arg1)) (m ((c.tc : Thread _ _).loc Cert.TailIdeal.main_arg2)) (m ((c.tc : Thread _ _).loc Cert.TailIdeal.main_arg3)) (m ((c.tc : Thread _ _).loc Cert.TailIdeal.main_arg4)) (m ((c.tc : Thread _ _).loc Cert.TailIdeal.main_arg6)) (m ((c.tc : Thread _ _).loc Cert.TailIdeal.main_arg7)),
    fun c => Cert.TailRefIdeal.Read.val_main_v107 (F := Ideal) (m ((c.tc : Thread _ _).loc Cert.TailIdeal.main_arg0)) (m ((c.tc : Thread _ _).loc Cert.TailIdeal.main_arg1)) (m ((c.tc : Thread _ _).loc Cert.TailIdeal.main_arg2)) (m ((c.tc : Thread _ _).loc Cert.TailIdeal.main_arg3)) (m ((c.tc : Thread _ _).loc Cert.TailIdeal.main_arg4)) (m ((c.tc : Thread _ _).loc Cert.TailIdeal.main_arg6)) (m ((c.tc : Thread _ _).loc Cert.TailIdeal.main_arg7)),
    fun c => Cert.TailRefIdeal.Read.val_main_v108 (F := Ideal) (m ((c.tc : Thread _ _).loc Cert.TailIdeal.main_arg0)) (m ((c.tc : Thread _ _).loc Cert.TailIdeal.main_arg1)) (m ((c.tc : Thread _ _).loc Cert.TailIdeal.main_arg2)) (m ((c.tc : Thread _ _).loc Cert.TailIdeal.main_arg3)) (m ((c.tc : Thread _ _).loc Cert.TailIdeal.main_arg4)) (m ((c.tc : Thread _ _).loc Cert.TailIdeal.main_arg6)) (m ((c.tc : Thread _ _).loc Cert.TailIdeal.main_arg7)),
    fun c => Cert.TailRefIdeal.Read.val_main_v48 (F := Ideal) (m ((c.tc : Thread _ _).loc Cert.TailIdeal.main_arg0)) (m ((c.tc : Thread _ _).loc Cert.TailIdeal.main_arg1)) (m ((c.tc : Thread _ _).loc Cert.TailIdeal.main_arg2)) (m ((c.tc : Thread _ _).loc Cert.TailIdeal.main_arg3)) (m ((c.tc : Thread _ _).loc Cert.TailIdeal.main_arg4)) (m ((c.tc : Thread _ _).loc Cert.TailIdeal.main_arg6)) (m ((c.tc : Thread _ _).loc Cert.TailIdeal.main_arg7)),
    fun c => Cert.TailRefIdeal.Read.val_main_v89 (F := Ideal) (m ((c.tc : Thread _ _).loc Cert.TailIdeal.main_arg0)) (m ((c.tc : Thread _ _).loc Cert.TailIdeal.main_arg1)) (m ((c.tc : Thread _ _).loc Cert.TailIdeal.main_arg2)) (m ((c.tc : Thread _ _).loc Cert.TailIdeal.main_arg3)) (m ((c.tc : Thread _ _).loc Cert.TailIdeal.main_arg4)) (m ((c.tc : Thread _ _).loc Cert.TailIdeal.main_arg6)) (m ((c.tc : Thread _ _).loc Cert.TailIdeal.main_arg7)),
    ?_, ?_⟩
  · refine (θ_run _ _ _).mono (fun r h c => ?_) (Cert.TailIdeal.Value.run_blocks (F := Ideal) m ρ)
    obtain ⟨h0, h1, h2, h3, h4, h5, kept⟩ := h c
    exact ⟨h0.trans (Cert.TailIdeal.RefValue.arr8 m c), h1.trans (Cert.TailIdeal.RefValue.arr9 m c), h2.trans (Cert.TailIdeal.RefValue.arr10 m c), h3.trans (Cert.TailIdeal.RefValue.arr11 m c), h4.trans (Cert.TailIdeal.RefValue.arr12 m c), h5.trans (Cert.TailIdeal.RefValue.arr13 m c), kept⟩
  · refine (θ_run _ _ _).mono (fun r h c => ?_) (Cert.TailRefIdeal.Value.run (F := Ideal) m' ρ')
    obtain ⟨h0, h1, h2, h3, h4, h5, kept⟩ := h c
    obtain ⟨a0, a1, a2, a3, a4, a5, a6, a7⟩ := agree c
    refine ⟨h0.trans ?_, h1.trans ?_, h2.trans ?_, h3.trans ?_, h4.trans ?_, h5.trans ?_, kept⟩
    · simp only [← a0, ← a1, ← a2, ← a3, ← a4, ← a5, ← a6, ← a7]
      first | exact Cert.TailRefIdeal.Read.val_main_v106_eq (F := Ideal) m' c | rfl
    · simp only [← a0, ← a1, ← a2, ← a3, ← a4, ← a6, ← a7]
      first | exact Cert.TailRefIdeal.Read.val_main_v68_eq (F := Ideal) m' c | rfl
    · simp only [← a0, ← a1, ← a2, ← a3, ← a4, ← a6, ← a7]
      first | exact Cert.TailRefIdeal.Read.val_main_v107_eq (F := Ideal) m' c | rfl
    · simp only [← a0, ← a1, ← a2, ← a3, ← a4, ← a6, ← a7]
      first | exact Cert.TailRefIdeal.Read.val_main_v108_eq (F := Ideal) m' c | rfl
    · simp only [← a0, ← a1, ← a2, ← a3, ← a4, ← a6, ← a7]
      first | exact Cert.TailRefIdeal.Read.val_main_v48_eq (F := Ideal) m' c | rfl
    · simp only [← a0, ← a1, ← a2, ← a3, ← a4, ← a6, ← a7]
      first | exact Cert.TailRefIdeal.Read.val_main_v89_eq (F := Ideal) m' c | rfl

/-- The reference runs, keeps its arguments, and has no semaphore that could be left raised. -/
theorem frame_ref : Cert.quiescent_TailRefIdeal := fun m ρ _ =>
  (θ_run _ _ _).mono (fun r h => ⟨fun c => by
    obtain ⟨_, _, _, _, _, _, kept⟩ := h c
    exact kept, sem_eq_zero_of_no_sems rfl _⟩) (Cert.TailRefIdeal.Value.run (F := Ideal) m ρ)

theorem preserves : Cert.preserves_Tail_TailIdeal := trivial

end Cert.Proof.TailClaims

end
-- ==== Proof.Wgate.Formulas.lean ====
/- The gradient of the per-layer embedding's gate's weights, as a formula at one index. -/
module

public import proofs.«01_k».proof.Proof.Gen.WgateRefIdeal.Read
public import proofs.«01_k».proof.Proof.Common
public import Idealize.ShloMosaic.Lib.Pipeline.ValueKit
public import Idealize.ShloMosaic.Lib.Pointwise

@[expose] public section

set_option maxRecDepth 16384

noncomputable section

namespace Cert.WgateRefIdeal.Formulas

open Cert.WgateRefIdeal Cert.WgateRefIdeal.Read Idealize.ShloMosaic Idealize.ShloMosaic.TcCoe

variable (x0 : (⟨S1x8192x1024, .bf16⟩ : BufTy).Contents (Elt Ideal)) (x1 : (⟨S1x8192x1024, .bf16⟩ : BufTy).Contents (Elt Ideal))

/-- What row `r` adds to the weight between columns `j` and `k`. -/
def gain (j : Fin 1024) (k : Fin 1024) (r : Fin 8192) : EReal := x0 (ix3 0 r j) * x1 (ix3 0 r k)

theorem val9_apply (j : Fin 1024) (k : Fin 1024) :
    val_main_v9 (F := Ideal) x0 x1 (ix3 0 j k) = ∑ r : Fin 8192, gain x0 x1 j k r := by
  generalize e : ∑ r : Fin 8192, gain x0 x1 j k r = G
  pointwise [val_main_v9, val_main_v8, val_main_v7, val_main_v6, val_main_v3, val_main_v2, val_main_v1, val_main_v0]
  rw [← e]
  exact Finset.sum_congr rfl fun r _ => mul_comm _ _

end Cert.WgateRefIdeal.Formulas

end
-- ==== Proof.Wgate.Arrays.lean ====
/- What the result array of the kernel for the gradient of the per-layer embedding's gate's weights holds after the run: the
   reference's result, at every index. Four grid points each add up a quarter of the rows. -/
module

public import proofs.«01_k».proof.Proof.Gen.WgateIdeal.Value
public import proofs.«01_k».proof.Proof.Wgate.Formulas
public import Idealize.ShloMosaic.Lib.Pipeline.ValueKit
public import Idealize.ShloMosaic.Lib.Pointwise
public import Idealize.ShloMosaic.Lib.Claim

@[expose] public section

set_option maxRecDepth 16384

noncomputable section

namespace Cert.WgateIdeal.RefValue

open Cert.WgateIdeal Cert.WgateIdeal.Gen Idealize.ShloMosaic Idealize.ShloMosaic.TcCoe Idealize.SL.Sem
open Idealize.ShloMosaic.Pipeline (Dat)
open Cert.WgateRefIdeal.Formulas

theorem pay2_apply (z : Vec Ideal S1024x1024 .f32) (x : Vec Ideal S1x2048x1024 .bf16) (y : Vec Ideal S1x2048x1024 .bf16)
    (j : Fin 1024) (k : Fin 1024) :
    k0_pay2 z x y (ix2 j k) = z (ix2 j k) + ∑ p : Fin 2048, x (ix3 0 p j) * y (ix3 0 p k) := by
  pointwise [k0_pay2]
theorem pay3_apply (z : Vec Ideal S1024x1024 .f32) (j : Fin 1024) (k : Fin 1024) : k0_pay3 z (ix3 0 j k) = z (ix2 j k) := by
  pointwise [k0_pay3]

variable (m : (ℓ : Loc nD τ sig) → Buf (Elt Ideal) ℓ)

/-- The block each window holds at grid point `t`. -/
theorem idx : ∀ t : Fin grid0.N, win0_0.index t = ![0, t.val, 0] ∧ win0_1.index t = ![0, t.val, 0]
    ∧ win0_2.index t = ![0, 0, 0] := by
  decide +kernel

/-- Row `p` of block `t`, among all rows. -/
def row (t : Fin cfg0.N) (p : Fin 2048) : Fin 8192 :=
  ⟨2048 * t.val + p.val, by have := t.isLt; have h : cfg0.N = 4 := N_0; omega⟩

theorem blk0 (c : Dev nD) (t : Fin cfg0.N) (p : Fin 2048) (j : Fin 1024) :
    (iblk m c 0 t : Vec Ideal S1x2048x1024 .bf16) (ix3 0 p j) = (m ((c : Thread nD τ).loc main_arg0)) (ix3 0 (row t p) j) := by
  blk_ext [iblk, V, idx t, row]
theorem blk1 (c : Dev nD) (t : Fin cfg0.N) (p : Fin 2048) (k : Fin 1024) :
    (iblk m c 1 t : Vec Ideal S1x2048x1024 .bf16) (ix3 0 p k) = (m ((c : Thread nD τ).loc main_arg1)) (ix3 0 (row t p) k) := by
  blk_ext [iblk, V, idx t, row]

/-- What grid point `t` adds. -/
def gainAt (c : Dev nD) (t : Fin cfg0.N) (i : S1024x1024.Idx) : EReal :=
  ∑ p : Fin 2048, gain (m ((c : Thread nD τ).loc main_arg0)) (m ((c : Thread nD τ).loc main_arg1)) (i 0) (i 1) (row t p)

theorem gain_block (c : Dev nD) (t : Fin cfg0.N) (z : Vec Ideal S1024x1024 .f32) (j : Fin 1024) (k : Fin 1024) :
    k0_pay2 z (iblk m c 0 t) (iblk m c 1 t) (ix2 j k) = z (ix2 j k) + gainAt m c t (ix2 j k) := by
  rw [pay2_apply, gainAt]
  simp only [blk0, blk1]
  rfl

/-- The added-up weights after the last grid point. -/
theorem acc (c : Dev nD) (i : S1024x1024.Idx) :
    ((outsAt0 m c t0_3.val t0_3.isLt).2 : Vec Ideal S1024x1024 .f32) i = 0 + ∑ p : Fin cfg0.N, gainAt m c p i := by
  refine Pipeline.eq_sum_fin_of_reset_step_apply_last (fun n h => ((outsAt0 m c n h).2 : Vec Ideal S1024x1024 .f32)) 4
    (fun _ => (0 : EReal)) (gainAt m c) (fun t h i => ?_) (fun t h i => ?_) (le_of_eq N_0) t0_3 (by
      show 3 + 1 = cfg0.N; exact N_0.symm) i
  · obtain ⟨j, k, rfl⟩ : ∃ (j : Fin 1024) (k : Fin 1024), i = ix2 j k := ⟨i 0, i 1, eq_ix2 i⟩
    show (outsAt0 m c t.val t.isLt).2 _ = _
    rw [outsAt0_A m c t h (by omega)]
    frame_out
    refine (gain_block m c t (k0_pay1 (F := Ideal)) j k).trans ?_
    pointwise [k0_pay1]
  · obtain ⟨j, k, rfl⟩ : ∃ (j : Fin 1024) (k : Fin 1024), i = ix2 j k := ⟨i 0, i 1, eq_ix2 i⟩
    show (outsAt0 m c t.val t.isLt).2 _ = _
    by_cases h' : t.val % 4 = 3
    · rw [outsAt0_C m c t h h']
      frame_out
      rw [(Memref.isWhole_whole cc0_scratch0).read_unread]
      exact gain_block m c t _ j k
    · rw [outsAt0_B m c t h h']
      frame_out
      rw [(Memref.isWhole_whole cc0_scratch0).read_unread]
      exact gain_block m c t _ j k

theorem out2 (c : Dev nD) (j : Fin 1024) (k : Fin 1024) :
    ((outsAt0 m c t0_3.val t0_3.isLt).1 : Vec Ideal S1x1024x1024 .bf16) (ix3 0 j k)
      = ((outsAt0 m c t0_3.val t0_3.isLt).2 : Vec Ideal S1024x1024 .f32) (ix2 j k) := by
  have h : ¬t0_3.val % 4 = 0 := by decide
  have h' : t0_3.val % 4 = 3 := by decide
  rw [outsAt0_C m c t0_3 h h']
  frame_out
  exact pay3_apply _ j k

theorem arr2 (c : Dev nD) : (dats m 0 c).arrAt 2 cfg0.N = Cert.WgateRefIdeal.Read.val_main_v9 (F := Ideal) (m ((c : Thread nD τ).loc main_arg0)) (m ((c : Thread nD τ).loc main_arg1)) := by
  refine (dats m 0 c).arrAt_eq_of_after_last 2 t0_3 (by decide +kernel) _ fun i => ?_
  obtain ⟨a, j, k, rfl⟩ : ∃ (a : Fin 1) (j : Fin 1024) (k : Fin 1024), i = ix3 a j k := ⟨i 0, i 1, i 2, eq_ix3 i⟩
  obtain rfl : a = 0 := Subsingleton.elim _ _
  blk_simp
  rw [after0_2, val9_apply, out2]
  refine (acc m c (ix2 j k)).trans ((zero_add _).trans ?_)
  exact Cert.Common.sum_blocks 4 2048 8192 rfl fun r => gain (m ((c : Thread nD τ).loc main_arg0)) (m ((c : Thread nD τ).loc main_arg1)) j k r

end Cert.WgateIdeal.RefValue

end
-- ==== Proof.Wgate.Claims.lean ====
/- The kernel for the gradient of the per-layer embedding's gate's weights and the reference end with the same array. -/
module

public import proofs.«01_k».proof.Defs
public import proofs.«01_k».proof.Proof.Wgate.Arrays
public import proofs.«01_k».proof.Proof.Gen.WgateRefIdeal.Run

@[expose] public section

set_option maxRecDepth 16384

noncomputable section

namespace Cert.Proof.WgateClaims

open Idealize.ShloMosaic Idealize.SL.Sem

theorem algebraic : Cert.algebraic_WgateIdeal_WgateRefIdeal := by
  intro m ρ m' ρ' _ agree
  refine ⟨fun c => Cert.WgateRefIdeal.Read.val_main_v9 (F := Ideal) (m ((c.tc : Thread _ _).loc Cert.WgateIdeal.main_arg0)) (m ((c.tc : Thread _ _).loc Cert.WgateIdeal.main_arg1)),
    ?_, ?_⟩
  · refine (θ_run _ _ _).mono (fun r h c => ?_) (Cert.WgateIdeal.Value.run_blocks (F := Ideal) m ρ)
    obtain ⟨h0, kept⟩ := h c
    exact ⟨h0.trans (Cert.WgateIdeal.RefValue.arr2 m c), kept⟩
  · refine (θ_run _ _ _).mono (fun r h c => ?_) (Cert.WgateRefIdeal.Value.run (F := Ideal) m' ρ')
    obtain ⟨h0, kept⟩ := h c
    obtain ⟨a0, a1⟩ := agree c
    refine ⟨h0.trans ?_, kept⟩
    · simp only [← a0, ← a1]
      first | exact Cert.WgateRefIdeal.Read.val_main_v9_eq (F := Ideal) m' c | rfl

/-- The reference runs, keeps its arguments, and has no semaphore that could be left raised. -/
theorem frame_ref : Cert.quiescent_WgateRefIdeal := fun m ρ _ =>
  (θ_run _ _ _).mono (fun r h => ⟨fun c => by
    obtain ⟨_, kept⟩ := h c
    exact kept, sem_eq_zero_of_no_sems rfl _⟩) (Cert.WgateRefIdeal.Value.run (F := Ideal) m ρ)

theorem preserves : Cert.preserves_Wgate_WgateIdeal := trivial

end Cert.Proof.WgateClaims

end
-- ==== Proof.Wple.Formulas.lean ====
/- The gradient of the per-layer embedding's projection's weights, as a formula at one index. -/
module

public import proofs.«01_k».proof.Proof.Gen.WpleRefIdeal.Read
public import proofs.«01_k».proof.Proof.Common
public import Idealize.ShloMosaic.Lib.Pipeline.ValueKit
public import Idealize.ShloMosaic.Lib.Pointwise

@[expose] public section

set_option maxRecDepth 16384

noncomputable section

namespace Cert.WpleRefIdeal.Formulas

open Cert.WpleRefIdeal Cert.WpleRefIdeal.Read Idealize.ShloMosaic Idealize.ShloMosaic.TcCoe

variable (x0 : (⟨S1x8192x256, .f32⟩ : BufTy).Contents (Elt Ideal)) (x1 : (⟨S1x8192x1024, .bf16⟩ : BufTy).Contents (Elt Ideal))

/-- What row `r` adds to the weight between columns `j` and `k`. -/
def gain (j : Fin 256) (k : Fin 1024) (r : Fin 8192) : EReal := x0 (ix3 0 r j) * x1 (ix3 0 r k)

theorem val8_apply (j : Fin 256) (k : Fin 1024) :
    val_main_v8 (F := Ideal) x0 x1 (ix3 0 j k) = ∑ r : Fin 8192, gain x0 x1 j k r := by
  generalize e : ∑ r : Fin 8192, gain x0 x1 j k r = G
  pointwise [val_main_v8, val_main_v7, val_main_v6, val_main_v5, val_main_v2, val_main_v1, val_main_v0]
  rw [← e]
  exact Finset.sum_congr rfl fun r _ => mul_comm _ _

end Cert.WpleRefIdeal.Formulas

end
-- ==== Proof.Wple.Arrays.lean ====
/- What the result array of the kernel for the gradient of the per-layer embedding's projection's weights holds after the run: the
   reference's result, at every index. Four grid points each add up a quarter of the rows. -/
module

public import proofs.«01_k».proof.Proof.Gen.WpleIdeal.Value
public import proofs.«01_k».proof.Proof.Wple.Formulas
public import Idealize.ShloMosaic.Lib.Pipeline.ValueKit
public import Idealize.ShloMosaic.Lib.Pointwise
public import Idealize.ShloMosaic.Lib.Claim

@[expose] public section

set_option maxRecDepth 16384

noncomputable section

namespace Cert.WpleIdeal.RefValue

open Cert.WpleIdeal Cert.WpleIdeal.Gen Idealize.ShloMosaic Idealize.ShloMosaic.TcCoe Idealize.SL.Sem
open Idealize.ShloMosaic.Pipeline (Dat)
open Cert.WpleRefIdeal.Formulas

theorem pay2_apply (z : Vec Ideal S256x1024 .f32) (x : Vec Ideal S1x2048x256 .f32) (y : Vec Ideal S1x2048x1024 .bf16)
    (j : Fin 256) (k : Fin 1024) :
    k0_pay2 z x y (ix2 j k) = z (ix2 j k) + ∑ p : Fin 2048, x (ix3 0 p j) * y (ix3 0 p k) := by
  pointwise [k0_pay2]
theorem pay3_apply (z : Vec Ideal S256x1024 .f32) (j : Fin 256) (k : Fin 1024) : k0_pay3 z (ix3 0 j k) = z (ix2 j k) := by
  pointwise [k0_pay3]

variable (m : (ℓ : Loc nD τ sig) → Buf (Elt Ideal) ℓ)

/-- The block each window holds at grid point `t`. -/
theorem idx : ∀ t : Fin grid0.N, win0_0.index t = ![0, t.val, 0] ∧ win0_1.index t = ![0, t.val, 0]
    ∧ win0_2.index t = ![0, 0, 0] := by
  decide +kernel

/-- Row `p` of block `t`, among all rows. -/
def row (t : Fin cfg0.N) (p : Fin 2048) : Fin 8192 :=
  ⟨2048 * t.val + p.val, by have := t.isLt; have h : cfg0.N = 4 := N_0; omega⟩

theorem blk0 (c : Dev nD) (t : Fin cfg0.N) (p : Fin 2048) (j : Fin 256) :
    (iblk m c 0 t : Vec Ideal S1x2048x256 .f32) (ix3 0 p j) = (m ((c : Thread nD τ).loc main_arg0)) (ix3 0 (row t p) j) := by
  blk_ext [iblk, V, idx t, row]
theorem blk1 (c : Dev nD) (t : Fin cfg0.N) (p : Fin 2048) (k : Fin 1024) :
    (iblk m c 1 t : Vec Ideal S1x2048x1024 .bf16) (ix3 0 p k) = (m ((c : Thread nD τ).loc main_arg1)) (ix3 0 (row t p) k) := by
  blk_ext [iblk, V, idx t, row]

/-- What grid point `t` adds. -/
def gainAt (c : Dev nD) (t : Fin cfg0.N) (i : S256x1024.Idx) : EReal :=
  ∑ p : Fin 2048, gain (m ((c : Thread nD τ).loc main_arg0)) (m ((c : Thread nD τ).loc main_arg1)) (i 0) (i 1) (row t p)

theorem gain_block (c : Dev nD) (t : Fin cfg0.N) (z : Vec Ideal S256x1024 .f32) (j : Fin 256) (k : Fin 1024) :
    k0_pay2 z (iblk m c 0 t) (iblk m c 1 t) (ix2 j k) = z (ix2 j k) + gainAt m c t (ix2 j k) := by
  rw [pay2_apply, gainAt]
  simp only [blk0, blk1]
  rfl

/-- The added-up weights after the last grid point. -/
theorem acc (c : Dev nD) (i : S256x1024.Idx) :
    ((outsAt0 m c t0_3.val t0_3.isLt).2 : Vec Ideal S256x1024 .f32) i = 0 + ∑ p : Fin cfg0.N, gainAt m c p i := by
  refine Pipeline.eq_sum_fin_of_reset_step_apply_last (fun n h => ((outsAt0 m c n h).2 : Vec Ideal S256x1024 .f32)) 4
    (fun _ => (0 : EReal)) (gainAt m c) (fun t h i => ?_) (fun t h i => ?_) (le_of_eq N_0) t0_3 (by
      show 3 + 1 = cfg0.N; exact N_0.symm) i
  · obtain ⟨j, k, rfl⟩ : ∃ (j : Fin 256) (k : Fin 1024), i = ix2 j k := ⟨i 0, i 1, eq_ix2 i⟩
    show (outsAt0 m c t.val t.isLt).2 _ = _
    rw [outsAt0_A m c t h (by omega)]
    frame_out
    refine (gain_block m c t (k0_pay1 (F := Ideal)) j k).trans ?_
    pointwise [k0_pay1]
  · obtain ⟨j, k, rfl⟩ : ∃ (j : Fin 256) (k : Fin 1024), i = ix2 j k := ⟨i 0, i 1, eq_ix2 i⟩
    show (outsAt0 m c t.val t.isLt).2 _ = _
    by_cases h' : t.val % 4 = 3
    · rw [outsAt0_C m c t h h']
      frame_out
      rw [(Memref.isWhole_whole cc0_scratch0).read_unread]
      exact gain_block m c t _ j k
    · rw [outsAt0_B m c t h h']
      frame_out
      rw [(Memref.isWhole_whole cc0_scratch0).read_unread]
      exact gain_block m c t _ j k

theorem out2 (c : Dev nD) (j : Fin 256) (k : Fin 1024) :
    ((outsAt0 m c t0_3.val t0_3.isLt).1 : Vec Ideal S1x256x1024 .bf16) (ix3 0 j k)
      = ((outsAt0 m c t0_3.val t0_3.isLt).2 : Vec Ideal S256x1024 .f32) (ix2 j k) := by
  have h : ¬t0_3.val % 4 = 0 := by decide
  have h' : t0_3.val % 4 = 3 := by decide
  rw [outsAt0_C m c t0_3 h h']
  frame_out
  exact pay3_apply _ j k

theorem arr2 (c : Dev nD) : (dats m 0 c).arrAt 2 cfg0.N = Cert.WpleRefIdeal.Read.val_main_v8 (F := Ideal) (m ((c : Thread nD τ).loc main_arg0)) (m ((c : Thread nD τ).loc main_arg1)) := by
  refine (dats m 0 c).arrAt_eq_of_after_last 2 t0_3 (by decide +kernel) _ fun i => ?_
  obtain ⟨a, j, k, rfl⟩ : ∃ (a : Fin 1) (j : Fin 256) (k : Fin 1024), i = ix3 a j k := ⟨i 0, i 1, i 2, eq_ix3 i⟩
  obtain rfl : a = 0 := Subsingleton.elim _ _
  blk_simp
  rw [after0_2, val8_apply, out2]
  refine (acc m c (ix2 j k)).trans ((zero_add _).trans ?_)
  exact Cert.Common.sum_blocks 4 2048 8192 rfl fun r => gain (m ((c : Thread nD τ).loc main_arg0)) (m ((c : Thread nD τ).loc main_arg1)) j k r

end Cert.WpleIdeal.RefValue

end
-- ==== Proof.Wple.Claims.lean ====
/- The kernel for the gradient of the per-layer embedding's projection's weights and the reference end with the same array. -/
module

public import proofs.«01_k».proof.Defs
public import proofs.«01_k».proof.Proof.Wple.Arrays
public import proofs.«01_k».proof.Proof.Gen.WpleRefIdeal.Run

@[expose] public section

set_option maxRecDepth 16384

noncomputable section

namespace Cert.Proof.WpleClaims

open Idealize.ShloMosaic Idealize.SL.Sem

theorem algebraic : Cert.algebraic_WpleIdeal_WpleRefIdeal := by
  intro m ρ m' ρ' _ agree
  refine ⟨fun c => Cert.WpleRefIdeal.Read.val_main_v8 (F := Ideal) (m ((c.tc : Thread _ _).loc Cert.WpleIdeal.main_arg0)) (m ((c.tc : Thread _ _).loc Cert.WpleIdeal.main_arg1)),
    ?_, ?_⟩
  · refine (θ_run _ _ _).mono (fun r h c => ?_) (Cert.WpleIdeal.Value.run_blocks (F := Ideal) m ρ)
    obtain ⟨h0, kept⟩ := h c
    exact ⟨h0.trans (Cert.WpleIdeal.RefValue.arr2 m c), kept⟩
  · refine (θ_run _ _ _).mono (fun r h c => ?_) (Cert.WpleRefIdeal.Value.run (F := Ideal) m' ρ')
    obtain ⟨h0, kept⟩ := h c
    obtain ⟨a0, a1⟩ := agree c
    refine ⟨h0.trans ?_, kept⟩
    · simp only [← a0, ← a1]
      first | exact Cert.WpleRefIdeal.Read.val_main_v8_eq (F := Ideal) m' c | rfl

/-- The reference runs, keeps its arguments, and has no semaphore that could be left raised. -/
theorem frame_ref : Cert.quiescent_WpleRefIdeal := fun m ρ _ =>
  (θ_run _ _ _).mono (fun r h => ⟨fun c => by
    obtain ⟨_, kept⟩ := h c
    exact kept, sem_eq_zero_of_no_sems rfl _⟩) (Cert.WpleRefIdeal.Value.run (F := Ideal) m ρ)

theorem preserves : Cert.preserves_Wple_WpleIdeal := trivial

end Cert.Proof.WpleClaims

end
-- ==== Proof.lean ====
module

public import proofs.«01_k».proof.Defs
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.MixerIdeal.Value
public import proofs.«01_k».proof.Proof.Gen.MixerRefIdeal.Run
public import proofs.«01_k».proof.Proof.Gen.MixerRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InIdeal.Value
public import proofs.«01_k».proof.Proof.Gen.InRefIdeal.Run
public import proofs.«01_k».proof.Proof.Gen.InRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Hid
public import proofs.«01_k».proof.Proof.Gen.Hid.Skeleton
public import proofs.«01_k».proof.Proof.Gen.Hid.Launch
public import proofs.«01_k».proof.Proof.Gen.Hid.Points
public import proofs.«01_k».proof.Proof.Gen.Hid.Frame
public import proofs.«01_k».proof.Proof.Gen.HidIdeal
public import proofs.«01_k».proof.Proof.Gen.HidIdeal.Skeleton
public import proofs.«01_k».proof.Proof.Gen.HidIdeal.Launch
public import proofs.«01_k».proof.Proof.Gen.HidIdeal.Points
public import proofs.«01_k».proof.Proof.Gen.HidIdeal.Frame
public import proofs.«01_k».proof.Proof.Gen.HidRefIdeal
public import proofs.«01_k».proof.Proof.Gen.HidIdeal.Value
public import proofs.«01_k».proof.Proof.Gen.HidRefIdeal.Run
public import proofs.«01_k».proof.Proof.Gen.HidRefIdeal.Read
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutRefIdeal
public import proofs.«01_k».proof.Proof.Gen.WoutIdeal.Value
public import proofs.«01_k».proof.Proof.Gen.WoutRefIdeal.Run
public import proofs.«01_k».proof.Proof.Gen.WoutRefIdeal.Read
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.WinRefIdeal.Run
public import proofs.«01_k».proof.Proof.Gen.WinRefIdeal.Read
public import proofs.«01_k».proof.Proof.Gen.Wmix
public import proofs.«01_k».proof.Proof.Gen.Wmix.Skeleton
public import proofs.«01_k».proof.Proof.Gen.Wmix.Launch
public import proofs.«01_k».proof.Proof.Gen.Wmix.Points
public import proofs.«01_k».proof.Proof.Gen.Wmix.Frame
public import proofs.«01_k».proof.Proof.Gen.WmixIdeal
public import proofs.«01_k».proof.Proof.Gen.WmixIdeal.Skeleton
public import proofs.«01_k».proof.Proof.Gen.WmixIdeal.Launch
public import proofs.«01_k».proof.Proof.Gen.WmixIdeal.Points
public import proofs.«01_k».proof.Proof.Gen.WmixIdeal.Frame
public import proofs.«01_k».proof.Proof.Gen.WmixRefIdeal
public import proofs.«01_k».proof.Proof.Gen.WmixRefIdeal.Run
public import proofs.«01_k».proof.Proof.Gen.WmixRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpIdeal.Value
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownIdeal.Value
public import proofs.«01_k».proof.Proof.Gen.DownRefIdeal.Run
public import proofs.«01_k».proof.Proof.Gen.DownRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.MixRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormRefIdeal
public import proofs.«01_k».proof.Proof.Gen.PrenormIdeal.Value
public import proofs.«01_k».proof.Proof.Gen.PrenormRefIdeal.Run
public import proofs.«01_k».proof.Proof.Gen.PrenormRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamSquare
public import proofs.«01_k».proof.Proof.Gen.AdamSquare.Skeleton
public import proofs.«01_k».proof.Proof.Gen.AdamSquare.Launch
public import proofs.«01_k».proof.Proof.Gen.AdamSquare.Points
public import proofs.«01_k».proof.Proof.Gen.AdamSquare.Frame
public import proofs.«01_k».proof.Proof.Gen.AdamSquareIdeal
public import proofs.«01_k».proof.Proof.Gen.AdamSquareIdeal.Skeleton
public import proofs.«01_k».proof.Proof.Gen.AdamSquareIdeal.Launch
public import proofs.«01_k».proof.Proof.Gen.AdamSquareIdeal.Points
public import proofs.«01_k».proof.Proof.Gen.AdamSquareIdeal.Frame
public import proofs.«01_k».proof.Proof.Gen.AdamSquareRefIdeal
public import proofs.«01_k».proof.Proof.Gen.AdamSquareIdeal.Value
public import proofs.«01_k».proof.Proof.Gen.AdamSquareRefIdeal.Run
public import proofs.«01_k».proof.Proof.Gen.AdamSquareRefIdeal.Read
public import proofs.«01_k».proof.Proof.Gen.AdamPle
public import proofs.«01_k».proof.Proof.Gen.AdamPle.Skeleton
public import proofs.«01_k».proof.Proof.Gen.AdamPle.Launch
public import proofs.«01_k».proof.Proof.Gen.AdamPle.Points
public import proofs.«01_k».proof.Proof.Gen.AdamPle.Frame
public import proofs.«01_k».proof.Proof.Gen.AdamPleIdeal
public import proofs.«01_k».proof.Proof.Gen.AdamPleIdeal.Skeleton
public import proofs.«01_k».proof.Proof.Gen.AdamPleIdeal.Launch
public import proofs.«01_k».proof.Proof.Gen.AdamPleIdeal.Points
public import proofs.«01_k».proof.Proof.Gen.AdamPleIdeal.Frame
public import proofs.«01_k».proof.Proof.Gen.AdamPleRefIdeal
public import proofs.«01_k».proof.Proof.Gen.AdamPleIdeal.Value
public import proofs.«01_k».proof.Proof.Gen.AdamPleRefIdeal.Run
public import proofs.«01_k».proof.Proof.Gen.AdamPleRefIdeal.Read
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvRefIdeal
public import proofs.«01_k».proof.Proof.Gen.AdamConvIdeal.Value
public import proofs.«01_k».proof.Proof.Gen.AdamConvRefIdeal.Run
public import proofs.«01_k».proof.Proof.Gen.AdamConvRefIdeal.Read
public import proofs.«01_k».proof.Proof.Gen.AdamGains
public import proofs.«01_k».proof.Proof.Gen.AdamGains.Skeleton
public import proofs.«01_k».proof.Proof.Gen.AdamGains.Launch
public import proofs.«01_k».proof.Proof.Gen.AdamGains.Points
public import proofs.«01_k».proof.Proof.Gen.AdamGains.Frame
public import proofs.«01_k».proof.Proof.Gen.AdamGainsIdeal
public import proofs.«01_k».proof.Proof.Gen.AdamGainsIdeal.Skeleton
public import proofs.«01_k».proof.Proof.Gen.AdamGainsIdeal.Launch
public import proofs.«01_k».proof.Proof.Gen.AdamGainsIdeal.Points
public import proofs.«01_k».proof.Proof.Gen.AdamGainsIdeal.Frame
public import proofs.«01_k».proof.Proof.Gen.AdamGainsRefIdeal
public import proofs.«01_k».proof.Proof.Gen.AdamGainsIdeal.Value
public import proofs.«01_k».proof.Proof.Gen.AdamGainsRefIdeal.Run
public import proofs.«01_k».proof.Proof.Gen.AdamGainsRefIdeal.Read
public import proofs.«01_k».proof.Proof.Gen.AdamMix
public import proofs.«01_k».proof.Proof.Gen.AdamMix.Skeleton
public import proofs.«01_k».proof.Proof.Gen.AdamMix.Launch
public import proofs.«01_k».proof.Proof.Gen.AdamMix.Points
public import proofs.«01_k».proof.Proof.Gen.AdamMix.Frame
public import proofs.«01_k».proof.Proof.Gen.AdamMixIdeal
public import proofs.«01_k».proof.Proof.Gen.AdamMixIdeal.Skeleton
public import proofs.«01_k».proof.Proof.Gen.AdamMixIdeal.Launch
public import proofs.«01_k».proof.Proof.Gen.AdamMixIdeal.Points
public import proofs.«01_k».proof.Proof.Gen.AdamMixIdeal.Frame
public import proofs.«01_k».proof.Proof.Gen.AdamMixRefIdeal
public import proofs.«01_k».proof.Proof.Gen.AdamMixIdeal.Value
public import proofs.«01_k».proof.Proof.Gen.AdamMixRefIdeal.Run
public import proofs.«01_k».proof.Proof.Gen.AdamMixRefIdeal.Read
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailIdeal.Value
public import proofs.«01_k».proof.Proof.Gen.TailRefIdeal.Run
public import proofs.«01_k».proof.Proof.Gen.TailRefIdeal.Read
public import proofs.«01_k».proof.Proof.Gen.Wgate
public import proofs.«01_k».proof.Proof.Gen.Wgate.Skeleton
public import proofs.«01_k».proof.Proof.Gen.Wgate.Launch
public import proofs.«01_k».proof.Proof.Gen.Wgate.Points
public import proofs.«01_k».proof.Proof.Gen.Wgate.Frame
public import proofs.«01_k».proof.Proof.Gen.WgateIdeal
public import proofs.«01_k».proof.Proof.Gen.WgateIdeal.Skeleton
public import proofs.«01_k».proof.Proof.Gen.WgateIdeal.Launch
public import proofs.«01_k».proof.Proof.Gen.WgateIdeal.Points
public import proofs.«01_k».proof.Proof.Gen.WgateIdeal.Frame
public import proofs.«01_k».proof.Proof.Gen.WgateRefIdeal
public import proofs.«01_k».proof.Proof.Gen.WgateIdeal.Value
public import proofs.«01_k».proof.Proof.Gen.WgateRefIdeal.Run
public import proofs.«01_k».proof.Proof.Gen.WgateRefIdeal.Read
public import proofs.«01_k».proof.Proof.Gen.Wple
public import proofs.«01_k».proof.Proof.Gen.Wple.Skeleton
public import proofs.«01_k».proof.Proof.Gen.Wple.Launch
public import proofs.«01_k».proof.Proof.Gen.Wple.Points
public import proofs.«01_k».proof.Proof.Gen.Wple.Frame
public import proofs.«01_k».proof.Proof.Gen.WpleIdeal
public import proofs.«01_k».proof.Proof.Gen.WpleIdeal.Skeleton
public import proofs.«01_k».proof.Proof.Gen.WpleIdeal.Launch
public import proofs.«01_k».proof.Proof.Gen.WpleIdeal.Points
public import proofs.«01_k».proof.Proof.Gen.WpleIdeal.Frame
public import proofs.«01_k».proof.Proof.Gen.WpleRefIdeal
public import proofs.«01_k».proof.Proof.Gen.WpleIdeal.Value
public import proofs.«01_k».proof.Proof.Gen.WpleRefIdeal.Run
public import proofs.«01_k».proof.Proof.Gen.WpleRefIdeal.Read
public import proofs.«01_k».proof.Proof.Mixer.Claims
public import proofs.«01_k».proof.Proof.Conv.Claims
public import proofs.«01_k».proof.Proof.In.Claims
public import proofs.«01_k».proof.Proof.Proj.Claims
public import proofs.«01_k».proof.Proof.Hid.Claims
public import proofs.«01_k».proof.Proof.Wout.Claims
public import proofs.«01_k».proof.Proof.Win.Claims
public import proofs.«01_k».proof.Proof.Wmix.Claims
public import proofs.«01_k».proof.Proof.Up.Claims
public import proofs.«01_k».proof.Proof.Down.Claims
public import proofs.«01_k».proof.Proof.Mix.Claims
public import proofs.«01_k».proof.Proof.Merge.Claims
public import proofs.«01_k».proof.Proof.Prenorm.Claims
public import proofs.«01_k».proof.Proof.AdamIn.Claims
public import proofs.«01_k».proof.Proof.AdamOut.Claims
public import proofs.«01_k».proof.Proof.AdamSquare.Claims
public import proofs.«01_k».proof.Proof.AdamPle.Claims
public import proofs.«01_k».proof.Proof.AdamConv.Claims
public import proofs.«01_k».proof.Proof.AdamGains.Claims
public import proofs.«01_k».proof.Proof.AdamMix.Claims
public import proofs.«01_k».proof.Proof.Tail.Claims
public import proofs.«01_k».proof.Proof.Wgate.Claims
public import proofs.«01_k».proof.Proof.Wple.Claims
public import Idealize.ShloMosaic.Adequacy
public import Idealize.ShloMosaic.Init

@[expose] public section

noncomputable section

namespace Cert.Proof

open Idealize.ShloMosaic Idealize.SL.Sem Cert.Mixer

theorem claim : Cert.Claim := ⟨Cert.Mixer.Gen.facts, Cert.MixerIdeal.Gen.facts, Cert.MixerRefIdeal.Gen.facts, Cert.Conv.Gen.facts, Cert.ConvIdeal.Gen.facts, Cert.ConvRefIdeal.Gen.facts, Cert.In.Gen.facts, Cert.InIdeal.Gen.facts, Cert.InRefIdeal.Gen.facts, Cert.Proj.Gen.facts, Cert.ProjIdeal.Gen.facts, Cert.ProjRefIdeal.Gen.facts, Cert.Hid.Gen.facts, Cert.HidIdeal.Gen.facts, Cert.HidRefIdeal.Gen.facts, Cert.Wout.Gen.facts, Cert.WoutIdeal.Gen.facts, Cert.WoutRefIdeal.Gen.facts, Cert.Win.Gen.facts, Cert.WinIdeal.Gen.facts, Cert.WinRefIdeal.Gen.facts, Cert.Wmix.Gen.facts, Cert.WmixIdeal.Gen.facts, Cert.WmixRefIdeal.Gen.facts, Cert.Up.Gen.facts, Cert.UpIdeal.Gen.facts, Cert.UpRefIdeal.Gen.facts, Cert.Down.Gen.facts, Cert.DownIdeal.Gen.facts, Cert.DownRefIdeal.Gen.facts, Cert.Mix.Gen.facts, Cert.MixIdeal.Gen.facts, Cert.MixRefIdeal.Gen.facts, Cert.Merge.Gen.facts, Cert.MergeIdeal.Gen.facts, Cert.MergeRefIdeal.Gen.facts, Cert.Prenorm.Gen.facts, Cert.PrenormIdeal.Gen.facts, Cert.PrenormRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamSquare.Gen.facts, Cert.AdamSquareIdeal.Gen.facts, Cert.AdamSquareRefIdeal.Gen.facts, Cert.AdamPle.Gen.facts, Cert.AdamPleIdeal.Gen.facts, Cert.AdamPleRefIdeal.Gen.facts, Cert.AdamConv.Gen.facts, Cert.AdamConvIdeal.Gen.facts, Cert.AdamConvRefIdeal.Gen.facts, Cert.AdamGains.Gen.facts, Cert.AdamGainsIdeal.Gen.facts, Cert.AdamGainsRefIdeal.Gen.facts, Cert.AdamMix.Gen.facts, Cert.AdamMixIdeal.Gen.facts, Cert.AdamMixRefIdeal.Gen.facts, Cert.Tail.Gen.facts, Cert.TailIdeal.Gen.facts, Cert.TailRefIdeal.Gen.facts, Cert.Wgate.Gen.facts, Cert.WgateIdeal.Gen.facts, Cert.WgateRefIdeal.Gen.facts, Cert.Wple.Gen.facts, Cert.WpleIdeal.Gen.facts, Cert.WpleRefIdeal.Gen.facts,
    fun m ρ _ => Cert.Mixer.Gen.frame m ρ, fun m ρ _ => Cert.MixerIdeal.Gen.frame m ρ, MixerClaims.frame_ref,
    fun m ρ _ => Cert.Conv.Gen.frame m ρ, fun m ρ _ => Cert.ConvIdeal.Gen.frame m ρ, ConvClaims.frame_ref,
    fun m ρ _ => Cert.In.Gen.frame m ρ, fun m ρ _ => Cert.InIdeal.Gen.frame m ρ, InClaims.frame_ref,
    fun m ρ _ => Cert.Proj.Gen.frame m ρ, fun m ρ _ => Cert.ProjIdeal.Gen.frame m ρ, ProjClaims.frame_ref,
    fun m ρ _ => Cert.Hid.Gen.frame m ρ, fun m ρ _ => Cert.HidIdeal.Gen.frame m ρ, HidClaims.frame_ref,
    fun m ρ _ => Cert.Wout.Gen.frame m ρ, fun m ρ _ => Cert.WoutIdeal.Gen.frame m ρ, WoutClaims.frame_ref,
    fun m ρ _ => Cert.Win.Gen.frame m ρ, fun m ρ _ => Cert.WinIdeal.Gen.frame m ρ, WinClaims.frame_ref,
    fun m ρ _ => Cert.Wmix.Gen.frame m ρ, fun m ρ _ => Cert.WmixIdeal.Gen.frame m ρ, WmixClaims.frame_ref,
    fun m ρ _ => Cert.Up.Gen.frame m ρ, fun m ρ _ => Cert.UpIdeal.Gen.frame m ρ, UpClaims.frame_ref,
    fun m ρ _ => Cert.Down.Gen.frame m ρ, fun m ρ _ => Cert.DownIdeal.Gen.frame m ρ, DownClaims.frame_ref,
    fun m ρ _ => Cert.Mix.Gen.frame m ρ, fun m ρ _ => Cert.MixIdeal.Gen.frame m ρ, MixClaims.frame_ref,
    fun m ρ _ => Cert.Merge.Gen.frame m ρ, fun m ρ _ => Cert.MergeIdeal.Gen.frame m ρ, MergeClaims.frame_ref,
    fun m ρ _ => Cert.Prenorm.Gen.frame m ρ, fun m ρ _ => Cert.PrenormIdeal.Gen.frame m ρ, PrenormClaims.frame_ref,
    fun m ρ _ => Cert.AdamIn.Gen.frame m ρ, fun m ρ _ => Cert.AdamInIdeal.Gen.frame m ρ, AdamInClaims.frame_ref,
    fun m ρ _ => Cert.AdamOut.Gen.frame m ρ, fun m ρ _ => Cert.AdamOutIdeal.Gen.frame m ρ, AdamOutClaims.frame_ref,
    fun m ρ _ => Cert.AdamSquare.Gen.frame m ρ, fun m ρ _ => Cert.AdamSquareIdeal.Gen.frame m ρ, AdamSquareClaims.frame_ref,
    fun m ρ _ => Cert.AdamPle.Gen.frame m ρ, fun m ρ _ => Cert.AdamPleIdeal.Gen.frame m ρ, AdamPleClaims.frame_ref,
    fun m ρ _ => Cert.AdamConv.Gen.frame m ρ, fun m ρ _ => Cert.AdamConvIdeal.Gen.frame m ρ, AdamConvClaims.frame_ref,
    fun m ρ _ => Cert.AdamGains.Gen.frame m ρ, fun m ρ _ => Cert.AdamGainsIdeal.Gen.frame m ρ, AdamGainsClaims.frame_ref,
    fun m ρ _ => Cert.AdamMix.Gen.frame m ρ, fun m ρ _ => Cert.AdamMixIdeal.Gen.frame m ρ, AdamMixClaims.frame_ref,
    fun m ρ _ => Cert.Tail.Gen.frame m ρ, fun m ρ _ => Cert.TailIdeal.Gen.frame m ρ, TailClaims.frame_ref,
    fun m ρ _ => Cert.Wgate.Gen.frame m ρ, fun m ρ _ => Cert.WgateIdeal.Gen.frame m ρ, WgateClaims.frame_ref,
    fun m ρ _ => Cert.Wple.Gen.frame m ρ, fun m ρ _ => Cert.WpleIdeal.Gen.frame m ρ, WpleClaims.frame_ref,
    MixerClaims.preserves, MixerClaims.algebraic,
    ConvClaims.preserves, ConvClaims.algebraic,
    InClaims.preserves, InClaims.algebraic,
    ProjClaims.preserves, ProjClaims.algebraic,
    HidClaims.preserves, HidClaims.algebraic,
    WoutClaims.preserves, WoutClaims.algebraic,
    WinClaims.preserves, WinClaims.algebraic,
    WmixClaims.preserves, WmixClaims.algebraic,
    UpClaims.preserves, UpClaims.algebraic,
    DownClaims.preserves, DownClaims.algebraic,
    MixClaims.preserves, MixClaims.algebraic,
    MergeClaims.preserves, MergeClaims.algebraic,
    PrenormClaims.preserves, PrenormClaims.algebraic,
    AdamInClaims.preserves, AdamInClaims.algebraic,
    AdamOutClaims.preserves, AdamOutClaims.algebraic,
    AdamSquareClaims.preserves, AdamSquareClaims.algebraic,
    AdamPleClaims.preserves, AdamPleClaims.algebraic,
    AdamConvClaims.preserves, AdamConvClaims.algebraic,
    AdamGainsClaims.preserves, AdamGainsClaims.algebraic,
    AdamMixClaims.preserves, AdamMixClaims.algebraic,
    TailClaims.preserves, TailClaims.algebraic,
    WgateClaims.preserves, WgateClaims.algebraic,
    WpleClaims.preserves, WpleClaims.algebraic⟩

end Cert.Proof

end
